-- ==== Defs.lean ====
def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_bwd_finite [hPre_mix_bwd_finite : Cert.Pre_mix_bwd_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))).1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))).2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))).2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))).2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))).2.2.2.2.1 = (fun _ => 1#1)
    ∧ (Cert.Pre_mix_bwd_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))).2.2.2.2.2 = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_mix_bwd_finite [hPre_mix_bwd_finite : Cert.Pre_mix_bwd_finite.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))).1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))).2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))).2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))).2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))).2.2.2.2.1 = (fun _ => 1#1)
    ∧ (Cert.Pre_mix_bwd_finite.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5))).2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.1 = (fun _ => 1#1)
    ∧ (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.1 = (fun _ => 1#1)
    ∧ (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2.2.2 = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_bwd_finite [hPre_mlp_bwd_finite : Cert.Pre_mlp_bwd_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_bwd_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).1 = (fun _ => 1#1)
    ∧ (Cert.Pre_mlp_bwd_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.1 = (fun _ => 1#1)
    ∧ (Cert.Pre_mlp_bwd_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.1 = (fun _ => 1#1)
    ∧ (Cert.Pre_mlp_bwd_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.2.1 = (fun _ => 1#1)
    ∧ (Cert.Pre_mlp_bwd_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))).2.2.2.2 = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_mlp_bwd_finite [hPre_mlp_bwd_finite : Cert.Pre_mlp_bwd_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_mlp_bwd_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).1 = (fun _ => 1#1)
    ∧ (Cert.Pre_mlp_bwd_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.1 = (fun _ => 1#1)
    ∧ (Cert.Pre_mlp_bwd_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.2.1 = (fun _ => 1#1)
    ∧ (Cert.Pre_mlp_bwd_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.2.2.1 = (fun _ => 1#1)
    ∧ (Cert.Pre_mlp_bwd_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))).2.2.2.2 = (fun _ => 1#1)

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdIdeal_ple_bwd_finite [hPre_ple_bwd_finite : Cert.Pre_ple_bwd_finite.Facts] (m : (ℓ : Loc Cert.PleBwdIdeal.nD Cert.PleBwdIdeal.τ Cert.PleBwdIdeal.sig) → Buf (Elt Ideal) ℓ) : Prop :=
  ∀ c : Dev Cert.PleBwdIdeal.nD,
    (Cert.Pre_ple_bwd_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))).1 = (fun _ => 1#1)
    ∧ (Cert.Pre_ple_bwd_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))).2.1 = (fun _ => 1#1)
    ∧ (Cert.Pre_ple_bwd_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))).2.2.1 = (fun _ => 1#1)
    ∧ (Cert.Pre_ple_bwd_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))).2.2.2.1 = (fun _ => 1#1)
    ∧ (Cert.Pre_ple_bwd_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))).2.2.2.2.1 = (fun _ => 1#1)
    ∧ (Cert.Pre_ple_bwd_finite.fn (F := Ideal) (m ((c.tc : Thread Cert.PleBwdIdeal.nD Cert.PleBwdIdeal.τ).loc Cert.PleBwdIdeal.main_arg0)) (m ((c.tc : Thread Cert.PleBwdIdeal.nD Cert.PleBwdIdeal.τ).loc Cert.PleBwdIdeal.main_arg1)) (m ((c.tc : Thread Cert.PleBwdIdeal.nD Cert.PleBwdIdeal.τ).loc Cert.PleBwdIdeal.main_arg2)) (m ((c.tc : Thread Cert.PleBwdIdeal.nD Cert.PleBwdIdeal.τ).loc Cert.PleBwdIdeal.main_arg3)) (m ((c.tc : Thread Cert.PleBwdIdeal.nD Cert.PleBwdIdeal.τ).loc Cert.PleBwdIdeal.main_arg4)) (m ((c.tc : Thread Cert.PleBwdIdeal.nD Cert.PleBwdIdeal.τ).loc Cert.PleBwdIdeal.main_arg5))).2.2.2.2.2 = (fun _ => 1#1)

def Pre_PleBwdRefIdeal (m : (ℓ : Loc Cert.PleBwdRefIdeal.nD Cert.PleBwdRefIdeal.τ Cert.PleBwdRefIdeal.sig) → Buf (Elt Ideal) ℓ) : Prop :=
  True

def Pre_PleBwdRefIdeal_ple_bwd_finite [hPre_ple_bwd_finite : Cert.Pre_ple_bwd_finite.Facts] (m : (ℓ : Loc Cert.PleBwdRefIdeal.nD Cert.PleBwdRefIdeal.τ Cert.PleBwdRefIdeal.sig) → Buf (Elt Ideal) ℓ) : Prop :=
  ∀ c : Dev Cert.PleBwdRefIdeal.nD,
    (Cert.Pre_ple_bwd_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))).1 = (fun _ => 1#1)
    ∧ (Cert.Pre_ple_bwd_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))).2.1 = (fun _ => 1#1)
    ∧ (Cert.Pre_ple_bwd_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))).2.2.1 = (fun _ => 1#1)
    ∧ (Cert.Pre_ple_bwd_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))).2.2.2.1 = (fun _ => 1#1)
    ∧ (Cert.Pre_ple_bwd_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))).2.2.2.2.1 = (fun _ => 1#1)
    ∧ (Cert.Pre_ple_bwd_finite.fn (F := Ideal) (m ((c.tc : Thread Cert.PleBwdRefIdeal.nD Cert.PleBwdRefIdeal.τ).loc Cert.PleBwdRefIdeal.main_arg0)) (m ((c.tc : Thread Cert.PleBwdRefIdeal.nD Cert.PleBwdRefIdeal.τ).loc Cert.PleBwdRefIdeal.main_arg1)) (m ((c.tc : Thread Cert.PleBwdRefIdeal.nD Cert.PleBwdRefIdeal.τ).loc Cert.PleBwdRefIdeal.main_arg2)) (m ((c.tc : Thread Cert.PleBwdRefIdeal.nD Cert.PleBwdRefIdeal.τ).loc Cert.PleBwdRefIdeal.main_arg3)) (m ((c.tc : Thread Cert.PleBwdRefIdeal.nD Cert.PleBwdRefIdeal.τ).loc Cert.PleBwdRefIdeal.main_arg4)) (m ((c.tc : Thread Cert.PleBwdRefIdeal.nD Cert.PleBwdRefIdeal.τ).loc Cert.PleBwdRefIdeal.main_arg5))).2.2.2.2.2 = (fun _ => 1#1)

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_FrontBwd (m : (ℓ : Loc Cert.FrontBwd.nD Cert.FrontBwd.τ Cert.FrontBwd.sig) → Buf (Elt Bits) ℓ) : Prop :=
  True

def Pre_FrontBwdIdeal (m : (ℓ : Loc Cert.FrontBwdIdeal.nD Cert.FrontBwdIdeal.τ Cert.FrontBwdIdeal.sig) → Buf (Elt Ideal) ℓ) : Prop :=
  True

def Pre_FrontBwdRefIdeal (m : (ℓ : Loc Cert.FrontBwdRefIdeal.nD Cert.FrontBwdRefIdeal.τ Cert.FrontBwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_MlpFwdRefIdeal (m : (ℓ : Loc Cert.MlpFwdRefIdeal.nD Cert.MlpFwdRefIdeal.τ Cert.MlpFwdRefIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdRefIdeal (m : (ℓ : Loc Cert.PleFwdRefIdeal.nD Cert.PleFwdRefIdeal.τ Cert.PleFwdRefIdeal.sig) → Buf (Elt Ideal) ℓ) : Prop :=
  True

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdIdeal_pre_mix_bwd_finite [hMixBwdIdeal : Cert.MixBwdIdeal.Facts] [hPre_mix_bwd_finite : Cert.Pre_mix_bwd_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_bwd_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_MixBwdRefIdeal_pre_mix_bwd_finite [hMixBwdRefIdeal : Cert.MixBwdRefIdeal.Facts] [hPre_mix_bwd_finite : Cert.Pre_mix_bwd_finite.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_mix_bwd_finite m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdIdeal_pre_mlp_bwd_finite [hMlpBwdIdeal : Cert.MlpBwdIdeal.Facts] [hPre_mlp_bwd_finite : Cert.Pre_mlp_bwd_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_bwd_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_MlpBwdRefIdeal_pre_mlp_bwd_finite [hMlpBwdRefIdeal : Cert.MlpBwdRefIdeal.Facts] [hPre_mlp_bwd_finite : Cert.Pre_mlp_bwd_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_mlp_bwd_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdIdeal_pre_ple_bwd_finite [hPleBwdIdeal : Cert.PleBwdIdeal.Facts] [hPre_ple_bwd_finite : Cert.Pre_ple_bwd_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal_ple_bwd_finite m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_PleBwdRefIdeal_pre_ple_bwd_finite [hPleBwdRefIdeal : Cert.PleBwdRefIdeal.Facts] [hPre_ple_bwd_finite : Cert.Pre_ple_bwd_finite.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal_ple_bwd_finite m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2)
      ∧ r.2.mem ((c.tc : Thread Cert.PleBwdRefIdeal.nD Cert.PleBwdRefIdeal.τ).loc Cert.PleBwdRefIdeal.main_arg3) = m ((c.tc : Thread Cert.PleBwdRefIdeal.nD Cert.PleBwdRefIdeal.τ).loc Cert.PleBwdRefIdeal.main_arg3)
      ∧ r.2.mem ((c.tc : Thread Cert.PleBwdRefIdeal.nD Cert.PleBwdRefIdeal.τ).loc Cert.PleBwdRefIdeal.main_arg4) = m ((c.tc : Thread Cert.PleBwdRefIdeal.nD Cert.PleBwdRefIdeal.τ).loc Cert.PleBwdRefIdeal.main_arg4)
      ∧ r.2.mem ((c.tc : Thread Cert.PleBwdRefIdeal.nD Cert.PleBwdRefIdeal.τ).loc Cert.PleBwdRefIdeal.main_arg5) = m ((c.tc : Thread Cert.PleBwdRefIdeal.nD Cert.PleBwdRefIdeal.τ).loc Cert.PleBwdRefIdeal.main_arg5))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1))
      ∧ r.2.sem = fun _ => 0)

def quiescent_FrontBwd [hFrontBwd : Cert.FrontBwd.Facts] : Prop :=
  ∀ (m : (ℓ : Loc Cert.FrontBwd.nD Cert.FrontBwd.τ Cert.FrontBwd.sig) → Buf (Elt Bits) ℓ) (g : Dev Cert.FrontBwd.nD → PrngReg), Pre_FrontBwd m →
    θ_run (Cert.FrontBwd.defs (F := Bits)) (onTc (τ := Cert.FrontBwd.τ) (Cert.FrontBwd.main (F := Bits))) ⟨m, fun _ => 0, g⟩ (fun r => (∀ c : Dev Cert.FrontBwd.nD,
      r.2.mem ((c.tc : Thread Cert.FrontBwd.nD Cert.FrontBwd.τ).loc Cert.FrontBwd.main_arg0) = m ((c.tc : Thread Cert.FrontBwd.nD Cert.FrontBwd.τ).loc Cert.FrontBwd.main_arg0)
      ∧ r.2.mem ((c.tc : Thread Cert.FrontBwd.nD Cert.FrontBwd.τ).loc Cert.FrontBwd.main_arg1) = m ((c.tc : Thread Cert.FrontBwd.nD Cert.FrontBwd.τ).loc Cert.FrontBwd.main_arg1)
      ∧ r.2.mem ((c.tc : Thread Cert.FrontBwd.nD Cert.FrontBwd.τ).loc Cert.FrontBwd.main_arg2) = m ((c.tc : Thread Cert.FrontBwd.nD Cert.FrontBwd.τ).loc Cert.FrontBwd.main_arg2)
      ∧ r.2.mem ((c.tc : Thread Cert.FrontBwd.nD Cert.FrontBwd.τ).loc Cert.FrontBwd.main_arg3) = m ((c.tc : Thread Cert.FrontBwd.nD Cert.FrontBwd.τ).loc Cert.FrontBwd.main_arg3)
      ∧ r.2.mem ((c.tc : Thread Cert.FrontBwd.nD Cert.FrontBwd.τ).loc Cert.FrontBwd.main_arg4) = m ((c.tc : Thread Cert.FrontBwd.nD Cert.FrontBwd.τ).loc Cert.FrontBwd.main_arg4)
      ∧ r.2.mem ((c.tc : Thread Cert.FrontBwd.nD Cert.FrontBwd.τ).loc Cert.FrontBwd.main_arg5) = m ((c.tc : Thread Cert.FrontBwd.nD Cert.FrontBwd.τ).loc Cert.FrontBwd.main_arg5)
      ∧ r.2.mem ((c.tc : Thread Cert.FrontBwd.nD Cert.FrontBwd.τ).loc Cert.FrontBwd.main_arg6) = m ((c.tc : Thread Cert.FrontBwd.nD Cert.FrontBwd.τ).loc Cert.FrontBwd.main_arg6)
      ∧ r.2.mem ((c.tc : Thread Cert.FrontBwd.nD Cert.FrontBwd.τ).loc Cert.FrontBwd.main_arg7) = m ((c.tc : Thread Cert.FrontBwd.nD Cert.FrontBwd.τ).loc Cert.FrontBwd.main_arg7)
      ∧ r.2.mem ((c.tc : Thread Cert.FrontBwd.nD Cert.FrontBwd.τ).loc Cert.FrontBwd.main_arg8) = m ((c.tc : Thread Cert.FrontBwd.nD Cert.FrontBwd.τ).loc Cert.FrontBwd.main_arg8)
      ∧ r.2.mem ((c.tc : Thread Cert.FrontBwd.nD Cert.FrontBwd.τ).loc Cert.FrontBwd.main_arg9) = m ((c.tc : Thread Cert.FrontBwd.nD Cert.FrontBwd.τ).loc Cert.FrontBwd.main_arg9)
      ∧ r.2.mem ((c.tc : Thread Cert.FrontBwd.nD Cert.FrontBwd.τ).loc Cert.FrontBwd.main_arg10) = m ((c.tc : Thread Cert.FrontBwd.nD Cert.FrontBwd.τ).loc Cert.FrontBwd.main_arg10)
      ∧ r.2.mem ((c.tc : Thread Cert.FrontBwd.nD Cert.FrontBwd.τ).loc Cert.FrontBwd.main_arg11) = m ((c.tc : Thread Cert.FrontBwd.nD Cert.FrontBwd.τ).loc Cert.FrontBwd.main_arg11)
      ∧ r.2.mem ((c.tc : Thread Cert.FrontBwd.nD Cert.FrontBwd.τ).loc Cert.FrontBwd.main_arg12) = m ((c.tc : Thread Cert.FrontBwd.nD Cert.FrontBwd.τ).loc Cert.FrontBwd.main_arg12)
      ∧ r.2.mem ((c.tc : Thread Cert.FrontBwd.nD Cert.FrontBwd.τ).loc Cert.FrontBwd.main_arg13) = m ((c.tc : Thread Cert.FrontBwd.nD Cert.FrontBwd.τ).loc Cert.FrontBwd.main_arg13)
      ∧ r.2.mem ((c.tc : Thread Cert.FrontBwd.nD Cert.FrontBwd.τ).loc Cert.FrontBwd.main_arg14) = m ((c.tc : Thread Cert.FrontBwd.nD Cert.FrontBwd.τ).loc Cert.FrontBwd.main_arg14)
      ∧ r.2.mem ((c.tc : Thread Cert.FrontBwd.nD Cert.FrontBwd.τ).loc Cert.FrontBwd.main_arg15) = m ((c.tc : Thread Cert.FrontBwd.nD Cert.FrontBwd.τ).loc Cert.FrontBwd.main_arg15)
      ∧ r.2.mem ((c.tc : Thread Cert.FrontBwd.nD Cert.FrontBwd.τ).loc Cert.FrontBwd.main_arg16) = m ((c.tc : Thread Cert.FrontBwd.nD Cert.FrontBwd.τ).loc Cert.FrontBwd.main_arg16)
      ∧ r.2.mem ((c.tc : Thread Cert.FrontBwd.nD Cert.FrontBwd.τ).loc Cert.FrontBwd.main_arg17) = m ((c.tc : Thread Cert.FrontBwd.nD Cert.FrontBwd.τ).loc Cert.FrontBwd.main_arg17))
      ∧ r.2.sem = fun _ => 0)

def quiescent_FrontBwdIdeal [hFrontBwdIdeal : Cert.FrontBwdIdeal.Facts] : Prop :=
  ∀ (m : (ℓ : Loc Cert.FrontBwdIdeal.nD Cert.FrontBwdIdeal.τ Cert.FrontBwdIdeal.sig) → Buf (Elt Ideal) ℓ) (g : Dev Cert.FrontBwdIdeal.nD → PrngReg), Pre_FrontBwdIdeal m →
    θ_run (Cert.FrontBwdIdeal.defs (F := Ideal)) (onTc (τ := Cert.FrontBwdIdeal.τ) (Cert.FrontBwdIdeal.main (F := Ideal))) ⟨m, fun _ => 0, g⟩ (fun r => (∀ c : Dev Cert.FrontBwdIdeal.nD,
      r.2.mem ((c.tc : Thread Cert.FrontBwdIdeal.nD Cert.FrontBwdIdeal.τ).loc Cert.FrontBwdIdeal.main_arg0) = m ((c.tc : Thread Cert.FrontBwdIdeal.nD Cert.FrontBwdIdeal.τ).loc Cert.FrontBwdIdeal.main_arg0)
      ∧ r.2.mem ((c.tc : Thread Cert.FrontBwdIdeal.nD Cert.FrontBwdIdeal.τ).loc Cert.FrontBwdIdeal.main_arg1) = m ((c.tc : Thread Cert.FrontBwdIdeal.nD Cert.FrontBwdIdeal.τ).loc Cert.FrontBwdIdeal.main_arg1)
      ∧ r.2.mem ((c.tc : Thread Cert.FrontBwdIdeal.nD Cert.FrontBwdIdeal.τ).loc Cert.FrontBwdIdeal.main_arg2) = m ((c.tc : Thread Cert.FrontBwdIdeal.nD Cert.FrontBwdIdeal.τ).loc Cert.FrontBwdIdeal.main_arg2)
      ∧ r.2.mem ((c.tc : Thread Cert.FrontBwdIdeal.nD Cert.FrontBwdIdeal.τ).loc Cert.FrontBwdIdeal.main_arg3) = m ((c.tc : Thread Cert.FrontBwdIdeal.nD Cert.FrontBwdIdeal.τ).loc Cert.FrontBwdIdeal.main_arg3)
      ∧ r.2.mem ((c.tc : Thread Cert.FrontBwdIdeal.nD Cert.FrontBwdIdeal.τ).loc Cert.FrontBwdIdeal.main_arg4) = m ((c.tc : Thread Cert.FrontBwdIdeal.nD Cert.FrontBwdIdeal.τ).loc Cert.FrontBwdIdeal.main_arg4)
      ∧ r.2.mem ((c.tc : Thread Cert.FrontBwdIdeal.nD Cert.FrontBwdIdeal.τ).loc Cert.FrontBwdIdeal.main_arg5) = m ((c.tc : Thread Cert.FrontBwdIdeal.nD Cert.FrontBwdIdeal.τ).loc Cert.FrontBwdIdeal.main_arg5)
      ∧ r.2.mem ((c.tc : Thread Cert.FrontBwdIdeal.nD Cert.FrontBwdIdeal.τ).loc Cert.FrontBwdIdeal.main_arg6) = m ((c.tc : Thread Cert.FrontBwdIdeal.nD Cert.FrontBwdIdeal.τ).loc Cert.FrontBwdIdeal.main_arg6)
      ∧ r.2.mem ((c.tc : Thread Cert.FrontBwdIdeal.nD Cert.FrontBwdIdeal.τ).loc Cert.FrontBwdIdeal.main_arg7) = m ((c.tc : Thread Cert.FrontBwdIdeal.nD Cert.FrontBwdIdeal.τ).loc Cert.FrontBwdIdeal.main_arg7)
      ∧ r.2.mem ((c.tc : Thread Cert.FrontBwdIdeal.nD Cert.FrontBwdIdeal.τ).loc Cert.FrontBwdIdeal.main_arg8) = m ((c.tc : Thread Cert.FrontBwdIdeal.nD Cert.FrontBwdIdeal.τ).loc Cert.FrontBwdIdeal.main_arg8)
      ∧ r.2.mem ((c.tc : Thread Cert.FrontBwdIdeal.nD Cert.FrontBwdIdeal.τ).loc Cert.FrontBwdIdeal.main_arg9) = m ((c.tc : Thread Cert.FrontBwdIdeal.nD Cert.FrontBwdIdeal.τ).loc Cert.FrontBwdIdeal.main_arg9)
      ∧ r.2.mem ((c.tc : Thread Cert.FrontBwdIdeal.nD Cert.FrontBwdIdeal.τ).loc Cert.FrontBwdIdeal.main_arg10) = m ((c.tc : Thread Cert.FrontBwdIdeal.nD Cert.FrontBwdIdeal.τ).loc Cert.FrontBwdIdeal.main_arg10)
      ∧ r.2.mem ((c.tc : Thread Cert.FrontBwdIdeal.nD Cert.FrontBwdIdeal.τ).loc Cert.FrontBwdIdeal.main_arg11) = m ((c.tc : Thread Cert.FrontBwdIdeal.nD Cert.FrontBwdIdeal.τ).loc Cert.FrontBwdIdeal.main_arg11)
      ∧ r.2.mem ((c.tc : Thread Cert.FrontBwdIdeal.nD Cert.FrontBwdIdeal.τ).loc Cert.FrontBwdIdeal.main_arg12) = m ((c.tc : Thread Cert.FrontBwdIdeal.nD Cert.FrontBwdIdeal.τ).loc Cert.FrontBwdIdeal.main_arg12)
      ∧ r.2.mem ((c.tc : Thread Cert.FrontBwdIdeal.nD Cert.FrontBwdIdeal.τ).loc Cert.FrontBwdIdeal.main_arg13) = m ((c.tc : Thread Cert.FrontBwdIdeal.nD Cert.FrontBwdIdeal.τ).loc Cert.FrontBwdIdeal.main_arg13)
      ∧ r.2.mem ((c.tc : Thread Cert.FrontBwdIdeal.nD Cert.FrontBwdIdeal.τ).loc Cert.FrontBwdIdeal.main_arg14) = m ((c.tc : Thread Cert.FrontBwdIdeal.nD Cert.FrontBwdIdeal.τ).loc Cert.FrontBwdIdeal.main_arg14)
      ∧ r.2.mem ((c.tc : Thread Cert.FrontBwdIdeal.nD Cert.FrontBwdIdeal.τ).loc Cert.FrontBwdIdeal.main_arg15) = m ((c.tc : Thread Cert.FrontBwdIdeal.nD Cert.FrontBwdIdeal.τ).loc Cert.FrontBwdIdeal.main_arg15)
      ∧ r.2.mem ((c.tc : Thread Cert.FrontBwdIdeal.nD Cert.FrontBwdIdeal.τ).loc Cert.FrontBwdIdeal.main_arg16) = m ((c.tc : Thread Cert.FrontBwdIdeal.nD Cert.FrontBwdIdeal.τ).loc Cert.FrontBwdIdeal.main_arg16)
      ∧ r.2.mem ((c.tc : Thread Cert.FrontBwdIdeal.nD Cert.FrontBwdIdeal.τ).loc Cert.FrontBwdIdeal.main_arg17) = m ((c.tc : Thread Cert.FrontBwdIdeal.nD Cert.FrontBwdIdeal.τ).loc Cert.FrontBwdIdeal.main_arg17))
      ∧ r.2.sem = fun _ => 0)

def quiescent_FrontBwdRefIdeal [hFrontBwdRefIdeal : Cert.FrontBwdRefIdeal.Facts] : Prop :=
  ∀ (m : (ℓ : Loc Cert.FrontBwdRefIdeal.nD Cert.FrontBwdRefIdeal.τ Cert.FrontBwdRefIdeal.sig) → Buf (Elt Ideal) ℓ) (g : Dev Cert.FrontBwdRefIdeal.nD → PrngReg), Pre_FrontBwdRefIdeal m →
    θ_run (Cert.FrontBwdRefIdeal.defs (F := Ideal)) (onTc (τ := Cert.FrontBwdRefIdeal.τ) (Cert.FrontBwdRefIdeal.main (F := Ideal))) ⟨m, fun _ => 0, g⟩ (fun r => (∀ c : Dev Cert.FrontBwdRefIdeal.nD,
      r.2.mem ((c.tc : Thread Cert.FrontBwdRefIdeal.nD Cert.FrontBwdRefIdeal.τ).loc Cert.FrontBwdRefIdeal.main_arg0) = m ((c.tc : Thread Cert.FrontBwdRefIdeal.nD Cert.FrontBwdRefIdeal.τ).loc Cert.FrontBwdRefIdeal.main_arg0)
      ∧ r.2.mem ((c.tc : Thread Cert.FrontBwdRefIdeal.nD Cert.FrontBwdRefIdeal.τ).loc Cert.FrontBwdRefIdeal.main_arg1) = m ((c.tc : Thread Cert.FrontBwdRefIdeal.nD Cert.FrontBwdRefIdeal.τ).loc Cert.FrontBwdRefIdeal.main_arg1)
      ∧ r.2.mem ((c.tc : Thread Cert.FrontBwdRefIdeal.nD Cert.FrontBwdRefIdeal.τ).loc Cert.FrontBwdRefIdeal.main_arg2) = m ((c.tc : Thread Cert.FrontBwdRefIdeal.nD Cert.FrontBwdRefIdeal.τ).loc Cert.FrontBwdRefIdeal.main_arg2)
      ∧ r.2.mem ((c.tc : Thread Cert.FrontBwdRefIdeal.nD Cert.FrontBwdRefIdeal.τ).loc Cert.FrontBwdRefIdeal.main_arg3) = m ((c.tc : Thread Cert.FrontBwdRefIdeal.nD Cert.FrontBwdRefIdeal.τ).loc Cert.FrontBwdRefIdeal.main_arg3)
      ∧ r.2.mem ((c.tc : Thread Cert.FrontBwdRefIdeal.nD Cert.FrontBwdRefIdeal.τ).loc Cert.FrontBwdRefIdeal.main_arg4) = m ((c.tc : Thread Cert.FrontBwdRefIdeal.nD Cert.FrontBwdRefIdeal.τ).loc Cert.FrontBwdRefIdeal.main_arg4)
      ∧ r.2.mem ((c.tc : Thread Cert.FrontBwdRefIdeal.nD Cert.FrontBwdRefIdeal.τ).loc Cert.FrontBwdRefIdeal.main_arg5) = m ((c.tc : Thread Cert.FrontBwdRefIdeal.nD Cert.FrontBwdRefIdeal.τ).loc Cert.FrontBwdRefIdeal.main_arg5)
      ∧ r.2.mem ((c.tc : Thread Cert.FrontBwdRefIdeal.nD Cert.FrontBwdRefIdeal.τ).loc Cert.FrontBwdRefIdeal.main_arg6) = m ((c.tc : Thread Cert.FrontBwdRefIdeal.nD Cert.FrontBwdRefIdeal.τ).loc Cert.FrontBwdRefIdeal.main_arg6)
      ∧ r.2.mem ((c.tc : Thread Cert.FrontBwdRefIdeal.nD Cert.FrontBwdRefIdeal.τ).loc Cert.FrontBwdRefIdeal.main_arg7) = m ((c.tc : Thread Cert.FrontBwdRefIdeal.nD Cert.FrontBwdRefIdeal.τ).loc Cert.FrontBwdRefIdeal.main_arg7)
      ∧ r.2.mem ((c.tc : Thread Cert.FrontBwdRefIdeal.nD Cert.FrontBwdRefIdeal.τ).loc Cert.FrontBwdRefIdeal.main_arg8) = m ((c.tc : Thread Cert.FrontBwdRefIdeal.nD Cert.FrontBwdRefIdeal.τ).loc Cert.FrontBwdRefIdeal.main_arg8)
      ∧ r.2.mem ((c.tc : Thread Cert.FrontBwdRefIdeal.nD Cert.FrontBwdRefIdeal.τ).loc Cert.FrontBwdRefIdeal.main_arg9) = m ((c.tc : Thread Cert.FrontBwdRefIdeal.nD Cert.FrontBwdRefIdeal.τ).loc Cert.FrontBwdRefIdeal.main_arg9)
      ∧ r.2.mem ((c.tc : Thread Cert.FrontBwdRefIdeal.nD Cert.FrontBwdRefIdeal.τ).loc Cert.FrontBwdRefIdeal.main_arg10) = m ((c.tc : Thread Cert.FrontBwdRefIdeal.nD Cert.FrontBwdRefIdeal.τ).loc Cert.FrontBwdRefIdeal.main_arg10)
      ∧ r.2.mem ((c.tc : Thread Cert.FrontBwdRefIdeal.nD Cert.FrontBwdRefIdeal.τ).loc Cert.FrontBwdRefIdeal.main_arg11) = m ((c.tc : Thread Cert.FrontBwdRefIdeal.nD Cert.FrontBwdRefIdeal.τ).loc Cert.FrontBwdRefIdeal.main_arg11)
      ∧ r.2.mem ((c.tc : Thread Cert.FrontBwdRefIdeal.nD Cert.FrontBwdRefIdeal.τ).loc Cert.FrontBwdRefIdeal.main_arg12) = m ((c.tc : Thread Cert.FrontBwdRefIdeal.nD Cert.FrontBwdRefIdeal.τ).loc Cert.FrontBwdRefIdeal.main_arg12)
      ∧ r.2.mem ((c.tc : Thread Cert.FrontBwdRefIdeal.nD Cert.FrontBwdRefIdeal.τ).loc Cert.FrontBwdRefIdeal.main_arg13) = m ((c.tc : Thread Cert.FrontBwdRefIdeal.nD Cert.FrontBwdRefIdeal.τ).loc Cert.FrontBwdRefIdeal.main_arg13)
      ∧ r.2.mem ((c.tc : Thread Cert.FrontBwdRefIdeal.nD Cert.FrontBwdRefIdeal.τ).loc Cert.FrontBwdRefIdeal.main_arg14) = m ((c.tc : Thread Cert.FrontBwdRefIdeal.nD Cert.FrontBwdRefIdeal.τ).loc Cert.FrontBwdRefIdeal.main_arg14)
      ∧ r.2.mem ((c.tc : Thread Cert.FrontBwdRefIdeal.nD Cert.FrontBwdRefIdeal.τ).loc Cert.FrontBwdRefIdeal.main_arg15) = m ((c.tc : Thread Cert.FrontBwdRefIdeal.nD Cert.FrontBwdRefIdeal.τ).loc Cert.FrontBwdRefIdeal.main_arg15)
      ∧ r.2.mem ((c.tc : Thread Cert.FrontBwdRefIdeal.nD Cert.FrontBwdRefIdeal.τ).loc Cert.FrontBwdRefIdeal.main_arg16) = m ((c.tc : Thread Cert.FrontBwdRefIdeal.nD Cert.FrontBwdRefIdeal.τ).loc Cert.FrontBwdRefIdeal.main_arg16)
      ∧ r.2.mem ((c.tc : Thread Cert.FrontBwdRefIdeal.nD Cert.FrontBwdRefIdeal.τ).loc Cert.FrontBwdRefIdeal.main_arg17) = m ((c.tc : Thread Cert.FrontBwdRefIdeal.nD Cert.FrontBwdRefIdeal.τ).loc Cert.FrontBwdRefIdeal.main_arg17))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ r.2.sem = fun _ => 0)

def quiescent_MlpFwdRefIdeal [hMlpFwdRefIdeal : Cert.MlpFwdRefIdeal.Facts] : Prop :=
  ∀ (m : (ℓ : Loc Cert.MlpFwdRefIdeal.nD Cert.MlpFwdRefIdeal.τ Cert.MlpFwdRefIdeal.sig) → Buf (Elt Ideal) ℓ) (g : Dev Cert.MlpFwdRefIdeal.nD → PrngReg), Pre_MlpFwdRefIdeal m →
    θ_run (Cert.MlpFwdRefIdeal.defs (F := Ideal)) (onTc (τ := Cert.MlpFwdRefIdeal.τ) (Cert.MlpFwdRefIdeal.main (F := Ideal))) ⟨m, fun _ => 0, g⟩ (fun r => (∀ c : Dev Cert.MlpFwdRefIdeal.nD,
      r.2.mem ((c.tc : Thread Cert.MlpFwdRefIdeal.nD Cert.MlpFwdRefIdeal.τ).loc Cert.MlpFwdRefIdeal.main_arg0) = m ((c.tc : Thread Cert.MlpFwdRefIdeal.nD Cert.MlpFwdRefIdeal.τ).loc Cert.MlpFwdRefIdeal.main_arg0)
      ∧ r.2.mem ((c.tc : Thread Cert.MlpFwdRefIdeal.nD Cert.MlpFwdRefIdeal.τ).loc Cert.MlpFwdRefIdeal.main_arg1) = m ((c.tc : Thread Cert.MlpFwdRefIdeal.nD Cert.MlpFwdRefIdeal.τ).loc Cert.MlpFwdRefIdeal.main_arg1)
      ∧ r.2.mem ((c.tc : Thread Cert.MlpFwdRefIdeal.nD Cert.MlpFwdRefIdeal.τ).loc Cert.MlpFwdRefIdeal.main_arg2) = m ((c.tc : Thread Cert.MlpFwdRefIdeal.nD Cert.MlpFwdRefIdeal.τ).loc Cert.MlpFwdRefIdeal.main_arg2)
      ∧ r.2.mem ((c.tc : Thread Cert.MlpFwdRefIdeal.nD Cert.MlpFwdRefIdeal.τ).loc Cert.MlpFwdRefIdeal.main_arg3) = m ((c.tc : Thread Cert.MlpFwdRefIdeal.nD Cert.MlpFwdRefIdeal.τ).loc Cert.MlpFwdRefIdeal.main_arg3))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ r.2.sem = fun _ => 0)

def quiescent_PleFwdRefIdeal [hPleFwdRefIdeal : Cert.PleFwdRefIdeal.Facts] : Prop :=
  ∀ (m : (ℓ : Loc Cert.PleFwdRefIdeal.nD Cert.PleFwdRefIdeal.τ Cert.PleFwdRefIdeal.sig) → Buf (Elt Ideal) ℓ) (g : Dev Cert.PleFwdRefIdeal.nD → PrngReg), Pre_PleFwdRefIdeal m →
    θ_run (Cert.PleFwdRefIdeal.defs (F := Ideal)) (onTc (τ := Cert.PleFwdRefIdeal.τ) (Cert.PleFwdRefIdeal.main (F := Ideal))) ⟨m, fun _ => 0, g⟩ (fun r => (∀ c : Dev Cert.PleFwdRefIdeal.nD,
      r.2.mem ((c.tc : Thread Cert.PleFwdRefIdeal.nD Cert.PleFwdRefIdeal.τ).loc Cert.PleFwdRefIdeal.main_arg0) = m ((c.tc : Thread Cert.PleFwdRefIdeal.nD Cert.PleFwdRefIdeal.τ).loc Cert.PleFwdRefIdeal.main_arg0)
      ∧ r.2.mem ((c.tc : Thread Cert.PleFwdRefIdeal.nD Cert.PleFwdRefIdeal.τ).loc Cert.PleFwdRefIdeal.main_arg1) = m ((c.tc : Thread Cert.PleFwdRefIdeal.nD Cert.PleFwdRefIdeal.τ).loc Cert.PleFwdRefIdeal.main_arg1)
      ∧ r.2.mem ((c.tc : Thread Cert.PleFwdRefIdeal.nD Cert.PleFwdRefIdeal.τ).loc Cert.PleFwdRefIdeal.main_arg2) = m ((c.tc : Thread Cert.PleFwdRefIdeal.nD Cert.PleFwdRefIdeal.τ).loc Cert.PleFwdRefIdeal.main_arg2)
      ∧ r.2.mem ((c.tc : Thread Cert.PleFwdRefIdeal.nD Cert.PleFwdRefIdeal.τ).loc Cert.PleFwdRefIdeal.main_arg3) = m ((c.tc : Thread Cert.PleFwdRefIdeal.nD Cert.PleFwdRefIdeal.τ).loc Cert.PleFwdRefIdeal.main_arg3)
      ∧ r.2.mem ((c.tc : Thread Cert.PleFwdRefIdeal.nD Cert.PleFwdRefIdeal.τ).loc Cert.PleFwdRefIdeal.main_arg4) = m ((c.tc : Thread Cert.PleFwdRefIdeal.nD Cert.PleFwdRefIdeal.τ).loc Cert.PleFwdRefIdeal.main_arg4))
      ∧ r.2.sem = fun _ => 0)

def preserves_MixBwd_MixBwdIdeal : Prop :=
  True

def algebraic_MixBwdIdeal_MixBwdRefIdeal_pre_mix_bwd_finite [hMixBwdIdeal : Cert.MixBwdIdeal.Facts] [hMixBwdRefIdeal : Cert.MixBwdRefIdeal.Facts] [hPre_mix_bwd_finite : Cert.Pre_mix_bwd_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_mix_bwd_finite m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v4_0)) (v1 : (c : Dev Cert.MixBwdIdeal.nD) → Buf (Elt Ideal) ((c.tc : Thread Cert.MixBwdIdeal.nD Cert.MixBwdIdeal.τ).loc Cert.MixBwdIdeal.main_v4_1)) (v2 : (c : Dev Cert.MixBwdIdeal.nD) → Buf (Elt Ideal) ((c.tc : Thread Cert.MixBwdIdeal.nD Cert.MixBwdIdeal.τ).loc Cert.MixBwdIdeal.main_v4_2)) (v3 : (c : Dev Cert.MixBwdIdeal.nD) → Buf (Elt Ideal) ((c.tc : Thread Cert.MixBwdIdeal.nD Cert.MixBwdIdeal.τ).loc Cert.MixBwdIdeal.main_v4_3)) (v4 : (c : Dev Cert.MixBwdIdeal.nD) → Buf (Elt Ideal) ((c.tc : Thread Cert.MixBwdIdeal.nD Cert.MixBwdIdeal.τ).loc Cert.MixBwdIdeal.main_v4_4)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v4_0) = v0 c
          ∧ r.2.mem ((c.tc : Thread Cert.MixBwdIdeal.nD Cert.MixBwdIdeal.τ).loc Cert.MixBwdIdeal.main_v4_1) = v1 c
          ∧ r.2.mem ((c.tc : Thread Cert.MixBwdIdeal.nD Cert.MixBwdIdeal.τ).loc Cert.MixBwdIdeal.main_v4_2) = v2 c
          ∧ r.2.mem ((c.tc : Thread Cert.MixBwdIdeal.nD Cert.MixBwdIdeal.τ).loc Cert.MixBwdIdeal.main_v4_3) = v3 c
          ∧ r.2.mem ((c.tc : Thread Cert.MixBwdIdeal.nD Cert.MixBwdIdeal.τ).loc Cert.MixBwdIdeal.main_v4_4) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v77) = v0 c
          ∧ r.2.mem ((c.tc : Thread Cert.MixBwdRefIdeal.nD Cert.MixBwdRefIdeal.τ).loc Cert.MixBwdRefIdeal.main_v76) = v1 c
          ∧ r.2.mem ((c.tc : Thread Cert.MixBwdRefIdeal.nD Cert.MixBwdRefIdeal.τ).loc Cert.MixBwdRefIdeal.main_v56) = v2 c
          ∧ r.2.mem ((c.tc : Thread Cert.MixBwdRefIdeal.nD Cert.MixBwdRefIdeal.τ).loc Cert.MixBwdRefIdeal.main_v78) = v3 c
          ∧ r.2.mem ((c.tc : Thread Cert.MixBwdRefIdeal.nD Cert.MixBwdRefIdeal.τ).loc Cert.MixBwdRefIdeal.main_v79) = v4 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5))

def preserves_AttnBwd_AttnBwdIdeal : Prop :=
  True

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v49_0)) (v1 : (c : Dev Cert.AttnBwdIdeal.nD) → Buf (Elt Ideal) ((c.tc : Thread Cert.AttnBwdIdeal.nD Cert.AttnBwdIdeal.τ).loc Cert.AttnBwdIdeal.main_v49_1)) (v2 : (c : Dev Cert.AttnBwdIdeal.nD) → Buf (Elt Ideal) ((c.tc : Thread Cert.AttnBwdIdeal.nD Cert.AttnBwdIdeal.τ).loc Cert.AttnBwdIdeal.main_v49_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v49_0) = v0 c
          ∧ r.2.mem ((c.tc : Thread Cert.AttnBwdIdeal.nD Cert.AttnBwdIdeal.τ).loc Cert.AttnBwdIdeal.main_v49_1) = v1 c
          ∧ r.2.mem ((c.tc : Thread Cert.AttnBwdIdeal.nD Cert.AttnBwdIdeal.τ).loc Cert.AttnBwdIdeal.main_v49_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v61) = v0 c
          ∧ r.2.mem ((c.tc : Thread Cert.AttnBwdRefIdeal.nD Cert.AttnBwdRefIdeal.τ).loc Cert.AttnBwdRefIdeal.main_v63) = v1 c
          ∧ r.2.mem ((c.tc : Thread Cert.AttnBwdRefIdeal.nD Cert.AttnBwdRefIdeal.τ).loc Cert.AttnBwdRefIdeal.main_v65) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MlpBwd_MlpBwdIdeal : Prop :=
  True

def algebraic_MlpBwdIdeal_MlpBwdRefIdeal_pre_mlp_bwd_finite [hMlpBwdIdeal : Cert.MlpBwdIdeal.Facts] [hMlpBwdRefIdeal : Cert.MlpBwdRefIdeal.Facts] [hPre_mlp_bwd_finite : Cert.Pre_mlp_bwd_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_mlp_bwd_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v6_0)) (v1 : (c : Dev Cert.MlpBwdIdeal.nD) → Buf (Elt Ideal) ((c.tc : Thread Cert.MlpBwdIdeal.nD Cert.MlpBwdIdeal.τ).loc Cert.MlpBwdIdeal.main_v6_1)) (v2 : (c : Dev Cert.MlpBwdIdeal.nD) → Buf (Elt Ideal) ((c.tc : Thread Cert.MlpBwdIdeal.nD Cert.MlpBwdIdeal.τ).loc Cert.MlpBwdIdeal.main_v6_2)) (v3 : (c : Dev Cert.MlpBwdIdeal.nD) → Buf (Elt Ideal) ((c.tc : Thread Cert.MlpBwdIdeal.nD Cert.MlpBwdIdeal.τ).loc Cert.MlpBwdIdeal.main_v6_3)) (v4 : (c : Dev Cert.MlpBwdIdeal.nD) → Buf (Elt Ideal) ((c.tc : Thread Cert.MlpBwdIdeal.nD Cert.MlpBwdIdeal.τ).loc Cert.MlpBwdIdeal.main_v6_4)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v6_0) = v0 c
          ∧ r.2.mem ((c.tc : Thread Cert.MlpBwdIdeal.nD Cert.MlpBwdIdeal.τ).loc Cert.MlpBwdIdeal.main_v6_1) = v1 c
          ∧ r.2.mem ((c.tc : Thread Cert.MlpBwdIdeal.nD Cert.MlpBwdIdeal.τ).loc Cert.MlpBwdIdeal.main_v6_2) = v2 c
          ∧ r.2.mem ((c.tc : Thread Cert.MlpBwdIdeal.nD Cert.MlpBwdIdeal.τ).loc Cert.MlpBwdIdeal.main_v6_3) = v3 c
          ∧ r.2.mem ((c.tc : Thread Cert.MlpBwdIdeal.nD Cert.MlpBwdIdeal.τ).loc Cert.MlpBwdIdeal.main_v6_4) = v4 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v50) = v0 c
          ∧ r.2.mem ((c.tc : Thread Cert.MlpBwdRefIdeal.nD Cert.MlpBwdRefIdeal.τ).loc Cert.MlpBwdRefIdeal.main_v51) = v1 c
          ∧ r.2.mem ((c.tc : Thread Cert.MlpBwdRefIdeal.nD Cert.MlpBwdRefIdeal.τ).loc Cert.MlpBwdRefIdeal.main_v52) = v2 c
          ∧ r.2.mem ((c.tc : Thread Cert.MlpBwdRefIdeal.nD Cert.MlpBwdRefIdeal.τ).loc Cert.MlpBwdRefIdeal.main_v53) = v3 c
          ∧ r.2.mem ((c.tc : Thread Cert.MlpBwdRefIdeal.nD Cert.MlpBwdRefIdeal.τ).loc Cert.MlpBwdRefIdeal.main_v54) = v4 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def preserves_PleBwd_PleBwdIdeal : Prop :=
  True

def algebraic_PleBwdIdeal_PleBwdRefIdeal_pre_ple_bwd_finite [hPleBwdIdeal : Cert.PleBwdIdeal.Facts] [hPleBwdRefIdeal : Cert.PleBwdRefIdeal.Facts] [hPre_ple_bwd_finite : Cert.Pre_ple_bwd_finite.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal_ple_bwd_finite m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)
      ∧ m' ((c.tc : Thread Cert.PleBwdRefIdeal.nD Cert.PleBwdRefIdeal.τ).loc Cert.PleBwdRefIdeal.main_arg3) = m ((c.tc : Thread Cert.PleBwdIdeal.nD Cert.PleBwdIdeal.τ).loc Cert.PleBwdIdeal.main_arg3)
      ∧ m' ((c.tc : Thread Cert.PleBwdRefIdeal.nD Cert.PleBwdRefIdeal.τ).loc Cert.PleBwdRefIdeal.main_arg4) = m ((c.tc : Thread Cert.PleBwdIdeal.nD Cert.PleBwdIdeal.τ).loc Cert.PleBwdIdeal.main_arg4)
      ∧ m' ((c.tc : Thread Cert.PleBwdRefIdeal.nD Cert.PleBwdRefIdeal.τ).loc Cert.PleBwdRefIdeal.main_arg5) = m ((c.tc : Thread Cert.PleBwdIdeal.nD Cert.PleBwdIdeal.τ).loc Cert.PleBwdIdeal.main_arg5)) →
    ∃ (v0 : (c : Dev Cert.PleBwdIdeal.nD) → Buf (Elt Ideal) ((c.tc : Thread Cert.PleBwdIdeal.nD Cert.PleBwdIdeal.τ).loc Cert.PleBwdIdeal.main_v6_0)) (v1 : (c : Dev Cert.PleBwdIdeal.nD) → Buf (Elt Ideal) ((c.tc : Thread Cert.PleBwdIdeal.nD Cert.PleBwdIdeal.τ).loc Cert.PleBwdIdeal.main_v6_1)) (v2 : (c : Dev Cert.PleBwdIdeal.nD) → Buf (Elt Ideal) ((c.tc : Thread Cert.PleBwdIdeal.nD Cert.PleBwdIdeal.τ).loc Cert.PleBwdIdeal.main_v6_2)) (v3 : (c : Dev Cert.PleBwdIdeal.nD) → Buf (Elt Ideal) ((c.tc : Thread Cert.PleBwdIdeal.nD Cert.PleBwdIdeal.τ).loc Cert.PleBwdIdeal.main_v6_3)) (v4 : (c : Dev Cert.PleBwdIdeal.nD) → Buf (Elt Ideal) ((c.tc : Thread Cert.PleBwdIdeal.nD Cert.PleBwdIdeal.τ).loc Cert.PleBwdIdeal.main_v6_4)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v6_0) = v0 c
          ∧ r.2.mem ((c.tc : Thread Cert.PleBwdIdeal.nD Cert.PleBwdIdeal.τ).loc Cert.PleBwdIdeal.main_v6_1) = v1 c
          ∧ r.2.mem ((c.tc : Thread Cert.PleBwdIdeal.nD Cert.PleBwdIdeal.τ).loc Cert.PleBwdIdeal.main_v6_2) = v2 c
          ∧ r.2.mem ((c.tc : Thread Cert.PleBwdIdeal.nD Cert.PleBwdIdeal.τ).loc Cert.PleBwdIdeal.main_v6_3) = v3 c
          ∧ r.2.mem ((c.tc : Thread Cert.PleBwdIdeal.nD Cert.PleBwdIdeal.τ).loc Cert.PleBwdIdeal.main_v6_4) = v4 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v52) = v0 c
          ∧ r.2.mem ((c.tc : Thread Cert.PleBwdRefIdeal.nD Cert.PleBwdRefIdeal.τ).loc Cert.PleBwdRefIdeal.main_v53) = v1 c
          ∧ r.2.mem ((c.tc : Thread Cert.PleBwdRefIdeal.nD Cert.PleBwdRefIdeal.τ).loc Cert.PleBwdRefIdeal.main_v54) = v2 c
          ∧ r.2.mem ((c.tc : Thread Cert.PleBwdRefIdeal.nD Cert.PleBwdRefIdeal.τ).loc Cert.PleBwdRefIdeal.main_v55) = v3 c
          ∧ r.2.mem ((c.tc : Thread Cert.PleBwdRefIdeal.nD Cert.PleBwdRefIdeal.τ).loc Cert.PleBwdRefIdeal.main_v56) = v4 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2)
          ∧ r.2.mem ((c.tc : Thread Cert.PleBwdRefIdeal.nD Cert.PleBwdRefIdeal.τ).loc Cert.PleBwdRefIdeal.main_arg3) = m' ((c.tc : Thread Cert.PleBwdRefIdeal.nD Cert.PleBwdRefIdeal.τ).loc Cert.PleBwdRefIdeal.main_arg3)
          ∧ r.2.mem ((c.tc : Thread Cert.PleBwdRefIdeal.nD Cert.PleBwdRefIdeal.τ).loc Cert.PleBwdRefIdeal.main_arg4) = m' ((c.tc : Thread Cert.PleBwdRefIdeal.nD Cert.PleBwdRefIdeal.τ).loc Cert.PleBwdRefIdeal.main_arg4)
          ∧ r.2.mem ((c.tc : Thread Cert.PleBwdRefIdeal.nD Cert.PleBwdRefIdeal.τ).loc Cert.PleBwdRefIdeal.main_arg5) = m' ((c.tc : Thread Cert.PleBwdRefIdeal.nD Cert.PleBwdRefIdeal.τ).loc Cert.PleBwdRefIdeal.main_arg5))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)) →
    ∃ (v0 : (c : Dev Cert.LossGradIdeal.nD) → Buf (Elt Ideal) ((c.tc : Thread Cert.LossGradIdeal.nD Cert.LossGradIdeal.τ).loc Cert.LossGradIdeal.main_v0_0)) (v1 : (c : Dev Cert.LossGradIdeal.nD) → Buf (Elt Ideal) ((c.tc : Thread Cert.LossGradIdeal.nD Cert.LossGradIdeal.τ).loc Cert.LossGradIdeal.main_v0_1)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v0_0) = v0 c
          ∧ r.2.mem ((c.tc : Thread Cert.LossGradIdeal.nD Cert.LossGradIdeal.τ).loc Cert.LossGradIdeal.main_v0_1) = v1 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v16) = v0 c
          ∧ r.2.mem ((c.tc : Thread Cert.LossGradRefIdeal.nD Cert.LossGradRefIdeal.τ).loc Cert.LossGradRefIdeal.main_v15) = v1 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1))

def preserves_FrontBwd_FrontBwdIdeal : Prop :=
  True

def algebraic_FrontBwdIdeal_FrontBwdRefIdeal [hFrontBwdIdeal : Cert.FrontBwdIdeal.Facts] [hFrontBwdRefIdeal : Cert.FrontBwdRefIdeal.Facts] : Prop :=
  ∀ (m : (ℓ : Loc Cert.FrontBwdIdeal.nD Cert.FrontBwdIdeal.τ Cert.FrontBwdIdeal.sig) → Buf (Elt Ideal) ℓ) (g : Dev Cert.FrontBwdIdeal.nD → PrngReg)
    (m' : (ℓ : Loc Cert.FrontBwdRefIdeal.nD Cert.FrontBwdRefIdeal.τ Cert.FrontBwdRefIdeal.sig) → Buf (Elt Ideal) ℓ) (g' : Dev Cert.FrontBwdRefIdeal.nD → PrngReg), Pre_FrontBwdIdeal m →
    (∀ c : Dev Cert.FrontBwdIdeal.nD,
      m' ((c.tc : Thread Cert.FrontBwdRefIdeal.nD Cert.FrontBwdRefIdeal.τ).loc Cert.FrontBwdRefIdeal.main_arg0) = m ((c.tc : Thread Cert.FrontBwdIdeal.nD Cert.FrontBwdIdeal.τ).loc Cert.FrontBwdIdeal.main_arg0)
      ∧ m' ((c.tc : Thread Cert.FrontBwdRefIdeal.nD Cert.FrontBwdRefIdeal.τ).loc Cert.FrontBwdRefIdeal.main_arg1) = m ((c.tc : Thread Cert.FrontBwdIdeal.nD Cert.FrontBwdIdeal.τ).loc Cert.FrontBwdIdeal.main_arg1)
      ∧ m' ((c.tc : Thread Cert.FrontBwdRefIdeal.nD Cert.FrontBwdRefIdeal.τ).loc Cert.FrontBwdRefIdeal.main_arg2) = m ((c.tc : Thread Cert.FrontBwdIdeal.nD Cert.FrontBwdIdeal.τ).loc Cert.FrontBwdIdeal.main_arg2)
      ∧ m' ((c.tc : Thread Cert.FrontBwdRefIdeal.nD Cert.FrontBwdRefIdeal.τ).loc Cert.FrontBwdRefIdeal.main_arg3) = m ((c.tc : Thread Cert.FrontBwdIdeal.nD Cert.FrontBwdIdeal.τ).loc Cert.FrontBwdIdeal.main_arg3)
      ∧ m' ((c.tc : Thread Cert.FrontBwdRefIdeal.nD Cert.FrontBwdRefIdeal.τ).loc Cert.FrontBwdRefIdeal.main_arg4) = m ((c.tc : Thread Cert.FrontBwdIdeal.nD Cert.FrontBwdIdeal.τ).loc Cert.FrontBwdIdeal.main_arg4)
      ∧ m' ((c.tc : Thread Cert.FrontBwdRefIdeal.nD Cert.FrontBwdRefIdeal.τ).loc Cert.FrontBwdRefIdeal.main_arg5) = m ((c.tc : Thread Cert.FrontBwdIdeal.nD Cert.FrontBwdIdeal.τ).loc Cert.FrontBwdIdeal.main_arg5)
      ∧ m' ((c.tc : Thread Cert.FrontBwdRefIdeal.nD Cert.FrontBwdRefIdeal.τ).loc Cert.FrontBwdRefIdeal.main_arg6) = m ((c.tc : Thread Cert.FrontBwdIdeal.nD Cert.FrontBwdIdeal.τ).loc Cert.FrontBwdIdeal.main_arg6)
      ∧ m' ((c.tc : Thread Cert.FrontBwdRefIdeal.nD Cert.FrontBwdRefIdeal.τ).loc Cert.FrontBwdRefIdeal.main_arg7) = m ((c.tc : Thread Cert.FrontBwdIdeal.nD Cert.FrontBwdIdeal.τ).loc Cert.FrontBwdIdeal.main_arg7)
      ∧ m' ((c.tc : Thread Cert.FrontBwdRefIdeal.nD Cert.FrontBwdRefIdeal.τ).loc Cert.FrontBwdRefIdeal.main_arg8) = m ((c.tc : Thread Cert.FrontBwdIdeal.nD Cert.FrontBwdIdeal.τ).loc Cert.FrontBwdIdeal.main_arg8)
      ∧ m' ((c.tc : Thread Cert.FrontBwdRefIdeal.nD Cert.FrontBwdRefIdeal.τ).loc Cert.FrontBwdRefIdeal.main_arg9) = m ((c.tc : Thread Cert.FrontBwdIdeal.nD Cert.FrontBwdIdeal.τ).loc Cert.FrontBwdIdeal.main_arg9)
      ∧ m' ((c.tc : Thread Cert.FrontBwdRefIdeal.nD Cert.FrontBwdRefIdeal.τ).loc Cert.FrontBwdRefIdeal.main_arg10) = m ((c.tc : Thread Cert.FrontBwdIdeal.nD Cert.FrontBwdIdeal.τ).loc Cert.FrontBwdIdeal.main_arg10)
      ∧ m' ((c.tc : Thread Cert.FrontBwdRefIdeal.nD Cert.FrontBwdRefIdeal.τ).loc Cert.FrontBwdRefIdeal.main_arg11) = m ((c.tc : Thread Cert.FrontBwdIdeal.nD Cert.FrontBwdIdeal.τ).loc Cert.FrontBwdIdeal.main_arg11)
      ∧ m' ((c.tc : Thread Cert.FrontBwdRefIdeal.nD Cert.FrontBwdRefIdeal.τ).loc Cert.FrontBwdRefIdeal.main_arg12) = m ((c.tc : Thread Cert.FrontBwdIdeal.nD Cert.FrontBwdIdeal.τ).loc Cert.FrontBwdIdeal.main_arg12)
      ∧ m' ((c.tc : Thread Cert.FrontBwdRefIdeal.nD Cert.FrontBwdRefIdeal.τ).loc Cert.FrontBwdRefIdeal.main_arg13) = m ((c.tc : Thread Cert.FrontBwdIdeal.nD Cert.FrontBwdIdeal.τ).loc Cert.FrontBwdIdeal.main_arg13)
      ∧ m' ((c.tc : Thread Cert.FrontBwdRefIdeal.nD Cert.FrontBwdRefIdeal.τ).loc Cert.FrontBwdRefIdeal.main_arg14) = m ((c.tc : Thread Cert.FrontBwdIdeal.nD Cert.FrontBwdIdeal.τ).loc Cert.FrontBwdIdeal.main_arg14)
      ∧ m' ((c.tc : Thread Cert.FrontBwdRefIdeal.nD Cert.FrontBwdRefIdeal.τ).loc Cert.FrontBwdRefIdeal.main_arg15) = m ((c.tc : Thread Cert.FrontBwdIdeal.nD Cert.FrontBwdIdeal.τ).loc Cert.FrontBwdIdeal.main_arg15)
      ∧ m' ((c.tc : Thread Cert.FrontBwdRefIdeal.nD Cert.FrontBwdRefIdeal.τ).loc Cert.FrontBwdRefIdeal.main_arg16) = m ((c.tc : Thread Cert.FrontBwdIdeal.nD Cert.FrontBwdIdeal.τ).loc Cert.FrontBwdIdeal.main_arg16)
      ∧ m' ((c.tc : Thread Cert.FrontBwdRefIdeal.nD Cert.FrontBwdRefIdeal.τ).loc Cert.FrontBwdRefIdeal.main_arg17) = m ((c.tc : Thread Cert.FrontBwdIdeal.nD Cert.FrontBwdIdeal.τ).loc Cert.FrontBwdIdeal.main_arg17)) →
    ∃ (v0 : (c : Dev Cert.FrontBwdIdeal.nD) → Buf (Elt Ideal) ((c.tc : Thread Cert.FrontBwdIdeal.nD Cert.FrontBwdIdeal.τ).loc Cert.FrontBwdIdeal.main_v127_2)) (v1 : (c : Dev Cert.FrontBwdIdeal.nD) → Buf (Elt Ideal) ((c.tc : Thread Cert.FrontBwdIdeal.nD Cert.FrontBwdIdeal.τ).loc Cert.FrontBwdIdeal.main_v127_3)) (v2 : (c : Dev Cert.FrontBwdIdeal.nD) → Buf (Elt Ideal) ((c.tc : Thread Cert.FrontBwdIdeal.nD Cert.FrontBwdIdeal.τ).loc Cert.FrontBwdIdeal.main_v127_4)) (v3 : (c : Dev Cert.FrontBwdIdeal.nD) → Buf (Elt Ideal) ((c.tc : Thread Cert.FrontBwdIdeal.nD Cert.FrontBwdIdeal.τ).loc Cert.FrontBwdIdeal.main_v127_12)),
      θ_run (Cert.FrontBwdIdeal.defs (F := Ideal)) (onTc (τ := Cert.FrontBwdIdeal.τ) (Cert.FrontBwdIdeal.main (F := Ideal))) ⟨m, fun _ => 0, g⟩ (fun r => ∀ c : Dev Cert.FrontBwdIdeal.nD,
          r.2.mem ((c.tc : Thread Cert.FrontBwdIdeal.nD Cert.FrontBwdIdeal.τ).loc Cert.FrontBwdIdeal.main_v127_2) = v0 c
          ∧ r.2.mem ((c.tc : Thread Cert.FrontBwdIdeal.nD Cert.FrontBwdIdeal.τ).loc Cert.FrontBwdIdeal.main_v127_3) = v1 c
          ∧ r.2.mem ((c.tc : Thread Cert.FrontBwdIdeal.nD Cert.FrontBwdIdeal.τ).loc Cert.FrontBwdIdeal.main_v127_4) = v2 c
          ∧ r.2.mem ((c.tc : Thread Cert.FrontBwdIdeal.nD Cert.FrontBwdIdeal.τ).loc Cert.FrontBwdIdeal.main_v127_12) = v3 c
          ∧ r.2.mem ((c.tc : Thread Cert.FrontBwdIdeal.nD Cert.FrontBwdIdeal.τ).loc Cert.FrontBwdIdeal.main_arg0) = m ((c.tc : Thread Cert.FrontBwdIdeal.nD Cert.FrontBwdIdeal.τ).loc Cert.FrontBwdIdeal.main_arg0)
          ∧ r.2.mem ((c.tc : Thread Cert.FrontBwdIdeal.nD Cert.FrontBwdIdeal.τ).loc Cert.FrontBwdIdeal.main_arg1) = m ((c.tc : Thread Cert.FrontBwdIdeal.nD Cert.FrontBwdIdeal.τ).loc Cert.FrontBwdIdeal.main_arg1)
          ∧ r.2.mem ((c.tc : Thread Cert.FrontBwdIdeal.nD Cert.FrontBwdIdeal.τ).loc Cert.FrontBwdIdeal.main_arg2) = m ((c.tc : Thread Cert.FrontBwdIdeal.nD Cert.FrontBwdIdeal.τ).loc Cert.FrontBwdIdeal.main_arg2)
          ∧ r.2.mem ((c.tc : Thread Cert.FrontBwdIdeal.nD Cert.FrontBwdIdeal.τ).loc Cert.FrontBwdIdeal.main_arg3) = m ((c.tc : Thread Cert.FrontBwdIdeal.nD Cert.FrontBwdIdeal.τ).loc Cert.FrontBwdIdeal.main_arg3)
          ∧ r.2.mem ((c.tc : Thread Cert.FrontBwdIdeal.nD Cert.FrontBwdIdeal.τ).loc Cert.FrontBwdIdeal.main_arg4) = m ((c.tc : Thread Cert.FrontBwdIdeal.nD Cert.FrontBwdIdeal.τ).loc Cert.FrontBwdIdeal.main_arg4)
          ∧ r.2.mem ((c.tc : Thread Cert.FrontBwdIdeal.nD Cert.FrontBwdIdeal.τ).loc Cert.FrontBwdIdeal.main_arg5) = m ((c.tc : Thread Cert.FrontBwdIdeal.nD Cert.FrontBwdIdeal.τ).loc Cert.FrontBwdIdeal.main_arg5)
          ∧ r.2.mem ((c.tc : Thread Cert.FrontBwdIdeal.nD Cert.FrontBwdIdeal.τ).loc Cert.FrontBwdIdeal.main_arg6) = m ((c.tc : Thread Cert.FrontBwdIdeal.nD Cert.FrontBwdIdeal.τ).loc Cert.FrontBwdIdeal.main_arg6)
          ∧ r.2.mem ((c.tc : Thread Cert.FrontBwdIdeal.nD Cert.FrontBwdIdeal.τ).loc Cert.FrontBwdIdeal.main_arg7) = m ((c.tc : Thread Cert.FrontBwdIdeal.nD Cert.FrontBwdIdeal.τ).loc Cert.FrontBwdIdeal.main_arg7)
          ∧ r.2.mem ((c.tc : Thread Cert.FrontBwdIdeal.nD Cert.FrontBwdIdeal.τ).loc Cert.FrontBwdIdeal.main_arg8) = m ((c.tc : Thread Cert.FrontBwdIdeal.nD Cert.FrontBwdIdeal.τ).loc Cert.FrontBwdIdeal.main_arg8)
          ∧ r.2.mem ((c.tc : Thread Cert.FrontBwdIdeal.nD Cert.FrontBwdIdeal.τ).loc Cert.FrontBwdIdeal.main_arg9) = m ((c.tc : Thread Cert.FrontBwdIdeal.nD Cert.FrontBwdIdeal.τ).loc Cert.FrontBwdIdeal.main_arg9)
          ∧ r.2.mem ((c.tc : Thread Cert.FrontBwdIdeal.nD Cert.FrontBwdIdeal.τ).loc Cert.FrontBwdIdeal.main_arg10) = m ((c.tc : Thread Cert.FrontBwdIdeal.nD Cert.FrontBwdIdeal.τ).loc Cert.FrontBwdIdeal.main_arg10)
          ∧ r.2.mem ((c.tc : Thread Cert.FrontBwdIdeal.nD Cert.FrontBwdIdeal.τ).loc Cert.FrontBwdIdeal.main_arg11) = m ((c.tc : Thread Cert.FrontBwdIdeal.nD Cert.FrontBwdIdeal.τ).loc Cert.FrontBwdIdeal.main_arg11)
          ∧ r.2.mem ((c.tc : Thread Cert.FrontBwdIdeal.nD Cert.FrontBwdIdeal.τ).loc Cert.FrontBwdIdeal.main_arg12) = m ((c.tc : Thread Cert.FrontBwdIdeal.nD Cert.FrontBwdIdeal.τ).loc Cert.FrontBwdIdeal.main_arg12)
          ∧ r.2.mem ((c.tc : Thread Cert.FrontBwdIdeal.nD Cert.FrontBwdIdeal.τ).loc Cert.FrontBwdIdeal.main_arg13) = m ((c.tc : Thread Cert.FrontBwdIdeal.nD Cert.FrontBwdIdeal.τ).loc Cert.FrontBwdIdeal.main_arg13)
          ∧ r.2.mem ((c.tc : Thread Cert.FrontBwdIdeal.nD Cert.FrontBwdIdeal.τ).loc Cert.FrontBwdIdeal.main_arg14) = m ((c.tc : Thread Cert.FrontBwdIdeal.nD Cert.FrontBwdIdeal.τ).loc Cert.FrontBwdIdeal.main_arg14)
          ∧ r.2.mem ((c.tc : Thread Cert.FrontBwdIdeal.nD Cert.FrontBwdIdeal.τ).loc Cert.FrontBwdIdeal.main_arg15) = m ((c.tc : Thread Cert.FrontBwdIdeal.nD Cert.FrontBwdIdeal.τ).loc Cert.FrontBwdIdeal.main_arg15)
          ∧ r.2.mem ((c.tc : Thread Cert.FrontBwdIdeal.nD Cert.FrontBwdIdeal.τ).loc Cert.FrontBwdIdeal.main_arg16) = m ((c.tc : Thread Cert.FrontBwdIdeal.nD Cert.FrontBwdIdeal.τ).loc Cert.FrontBwdIdeal.main_arg16)
          ∧ r.2.mem ((c.tc : Thread Cert.FrontBwdIdeal.nD Cert.FrontBwdIdeal.τ).loc Cert.FrontBwdIdeal.main_arg17) = m ((c.tc : Thread Cert.FrontBwdIdeal.nD Cert.FrontBwdIdeal.τ).loc Cert.FrontBwdIdeal.main_arg17))
      ∧ θ_run (Cert.FrontBwdRefIdeal.defs (F := Ideal)) (onTc (τ := Cert.FrontBwdRefIdeal.τ) (Cert.FrontBwdRefIdeal.main (F := Ideal))) ⟨m', fun _ => 0, g'⟩ (fun r => ∀ c : Dev Cert.FrontBwdRefIdeal.nD,
          r.2.mem ((c.tc : Thread Cert.FrontBwdRefIdeal.nD Cert.FrontBwdRefIdeal.τ).loc Cert.FrontBwdRefIdeal.main_v92) = v0 c
          ∧ r.2.mem ((c.tc : Thread Cert.FrontBwdRefIdeal.nD Cert.FrontBwdRefIdeal.τ).loc Cert.FrontBwdRefIdeal.main_v93) = v1 c
          ∧ r.2.mem ((c.tc : Thread Cert.FrontBwdRefIdeal.nD Cert.FrontBwdRefIdeal.τ).loc Cert.FrontBwdRefIdeal.main_v94) = v2 c
          ∧ r.2.mem ((c.tc : Thread Cert.FrontBwdRefIdeal.nD Cert.FrontBwdRefIdeal.τ).loc Cert.FrontBwdRefIdeal.main_v95) = v3 c
          ∧ r.2.mem ((c.tc : Thread Cert.FrontBwdRefIdeal.nD Cert.FrontBwdRefIdeal.τ).loc Cert.FrontBwdRefIdeal.main_arg0) = m' ((c.tc : Thread Cert.FrontBwdRefIdeal.nD Cert.FrontBwdRefIdeal.τ).loc Cert.FrontBwdRefIdeal.main_arg0)
          ∧ r.2.mem ((c.tc : Thread Cert.FrontBwdRefIdeal.nD Cert.FrontBwdRefIdeal.τ).loc Cert.FrontBwdRefIdeal.main_arg1) = m' ((c.tc : Thread Cert.FrontBwdRefIdeal.nD Cert.FrontBwdRefIdeal.τ).loc Cert.FrontBwdRefIdeal.main_arg1)
          ∧ r.2.mem ((c.tc : Thread Cert.FrontBwdRefIdeal.nD Cert.FrontBwdRefIdeal.τ).loc Cert.FrontBwdRefIdeal.main_arg2) = m' ((c.tc : Thread Cert.FrontBwdRefIdeal.nD Cert.FrontBwdRefIdeal.τ).loc Cert.FrontBwdRefIdeal.main_arg2)
          ∧ r.2.mem ((c.tc : Thread Cert.FrontBwdRefIdeal.nD Cert.FrontBwdRefIdeal.τ).loc Cert.FrontBwdRefIdeal.main_arg3) = m' ((c.tc : Thread Cert.FrontBwdRefIdeal.nD Cert.FrontBwdRefIdeal.τ).loc Cert.FrontBwdRefIdeal.main_arg3)
          ∧ r.2.mem ((c.tc : Thread Cert.FrontBwdRefIdeal.nD Cert.FrontBwdRefIdeal.τ).loc Cert.FrontBwdRefIdeal.main_arg4) = m' ((c.tc : Thread Cert.FrontBwdRefIdeal.nD Cert.FrontBwdRefIdeal.τ).loc Cert.FrontBwdRefIdeal.main_arg4)
          ∧ r.2.mem ((c.tc : Thread Cert.FrontBwdRefIdeal.nD Cert.FrontBwdRefIdeal.τ).loc Cert.FrontBwdRefIdeal.main_arg5) = m' ((c.tc : Thread Cert.FrontBwdRefIdeal.nD Cert.FrontBwdRefIdeal.τ).loc Cert.FrontBwdRefIdeal.main_arg5)
          ∧ r.2.mem ((c.tc : Thread Cert.FrontBwdRefIdeal.nD Cert.FrontBwdRefIdeal.τ).loc Cert.FrontBwdRefIdeal.main_arg6) = m' ((c.tc : Thread Cert.FrontBwdRefIdeal.nD Cert.FrontBwdRefIdeal.τ).loc Cert.FrontBwdRefIdeal.main_arg6)
          ∧ r.2.mem ((c.tc : Thread Cert.FrontBwdRefIdeal.nD Cert.FrontBwdRefIdeal.τ).loc Cert.FrontBwdRefIdeal.main_arg7) = m' ((c.tc : Thread Cert.FrontBwdRefIdeal.nD Cert.FrontBwdRefIdeal.τ).loc Cert.FrontBwdRefIdeal.main_arg7)
          ∧ r.2.mem ((c.tc : Thread Cert.FrontBwdRefIdeal.nD Cert.FrontBwdRefIdeal.τ).loc Cert.FrontBwdRefIdeal.main_arg8) = m' ((c.tc : Thread Cert.FrontBwdRefIdeal.nD Cert.FrontBwdRefIdeal.τ).loc Cert.FrontBwdRefIdeal.main_arg8)
          ∧ r.2.mem ((c.tc : Thread Cert.FrontBwdRefIdeal.nD Cert.FrontBwdRefIdeal.τ).loc Cert.FrontBwdRefIdeal.main_arg9) = m' ((c.tc : Thread Cert.FrontBwdRefIdeal.nD Cert.FrontBwdRefIdeal.τ).loc Cert.FrontBwdRefIdeal.main_arg9)
          ∧ r.2.mem ((c.tc : Thread Cert.FrontBwdRefIdeal.nD Cert.FrontBwdRefIdeal.τ).loc Cert.FrontBwdRefIdeal.main_arg10) = m' ((c.tc : Thread Cert.FrontBwdRefIdeal.nD Cert.FrontBwdRefIdeal.τ).loc Cert.FrontBwdRefIdeal.main_arg10)
          ∧ r.2.mem ((c.tc : Thread Cert.FrontBwdRefIdeal.nD Cert.FrontBwdRefIdeal.τ).loc Cert.FrontBwdRefIdeal.main_arg11) = m' ((c.tc : Thread Cert.FrontBwdRefIdeal.nD Cert.FrontBwdRefIdeal.τ).loc Cert.FrontBwdRefIdeal.main_arg11)
          ∧ r.2.mem ((c.tc : Thread Cert.FrontBwdRefIdeal.nD Cert.FrontBwdRefIdeal.τ).loc Cert.FrontBwdRefIdeal.main_arg12) = m' ((c.tc : Thread Cert.FrontBwdRefIdeal.nD Cert.FrontBwdRefIdeal.τ).loc Cert.FrontBwdRefIdeal.main_arg12)
          ∧ r.2.mem ((c.tc : Thread Cert.FrontBwdRefIdeal.nD Cert.FrontBwdRefIdeal.τ).loc Cert.FrontBwdRefIdeal.main_arg13) = m' ((c.tc : Thread Cert.FrontBwdRefIdeal.nD Cert.FrontBwdRefIdeal.τ).loc Cert.FrontBwdRefIdeal.main_arg13)
          ∧ r.2.mem ((c.tc : Thread Cert.FrontBwdRefIdeal.nD Cert.FrontBwdRefIdeal.τ).loc Cert.FrontBwdRefIdeal.main_arg14) = m' ((c.tc : Thread Cert.FrontBwdRefIdeal.nD Cert.FrontBwdRefIdeal.τ).loc Cert.FrontBwdRefIdeal.main_arg14)
          ∧ r.2.mem ((c.tc : Thread Cert.FrontBwdRefIdeal.nD Cert.FrontBwdRefIdeal.τ).loc Cert.FrontBwdRefIdeal.main_arg15) = m' ((c.tc : Thread Cert.FrontBwdRefIdeal.nD Cert.FrontBwdRefIdeal.τ).loc Cert.FrontBwdRefIdeal.main_arg15)
          ∧ r.2.mem ((c.tc : Thread Cert.FrontBwdRefIdeal.nD Cert.FrontBwdRefIdeal.τ).loc Cert.FrontBwdRefIdeal.main_arg16) = m' ((c.tc : Thread Cert.FrontBwdRefIdeal.nD Cert.FrontBwdRefIdeal.τ).loc Cert.FrontBwdRefIdeal.main_arg16)
          ∧ r.2.mem ((c.tc : Thread Cert.FrontBwdRefIdeal.nD Cert.FrontBwdRefIdeal.τ).loc Cert.FrontBwdRefIdeal.main_arg17) = m' ((c.tc : Thread Cert.FrontBwdRefIdeal.nD Cert.FrontBwdRefIdeal.τ).loc Cert.FrontBwdRefIdeal.main_arg17))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v4)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v28) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5))

def preserves_MlpFwd_MlpFwdIdeal : Prop :=
  True

def algebraic_MlpFwdIdeal_MlpFwdRefIdeal [hMlpFwdIdeal : Cert.MlpFwdIdeal.Facts] [hMlpFwdRefIdeal : Cert.MlpFwdRefIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.MlpFwdRefIdeal.nD Cert.MlpFwdRefIdeal.τ Cert.MlpFwdRefIdeal.sig) → Buf (Elt Ideal) ℓ) (g' : Dev Cert.MlpFwdRefIdeal.nD → PrngReg), Pre_MlpFwdIdeal m →
    (∀ c : Dev Cert.MlpFwdIdeal.nD,
      m' ((c.tc : Thread Cert.MlpFwdRefIdeal.nD Cert.MlpFwdRefIdeal.τ).loc Cert.MlpFwdRefIdeal.main_arg0) = m ((c.tc : Thread Cert.MlpFwdIdeal.nD Cert.MlpFwdIdeal.τ).loc Cert.MlpFwdIdeal.main_arg0)
      ∧ m' ((c.tc : Thread Cert.MlpFwdRefIdeal.nD Cert.MlpFwdRefIdeal.τ).loc Cert.MlpFwdRefIdeal.main_arg1) = m ((c.tc : Thread Cert.MlpFwdIdeal.nD Cert.MlpFwdIdeal.τ).loc Cert.MlpFwdIdeal.main_arg1)
      ∧ m' ((c.tc : Thread Cert.MlpFwdRefIdeal.nD Cert.MlpFwdRefIdeal.τ).loc Cert.MlpFwdRefIdeal.main_arg2) = m ((c.tc : Thread Cert.MlpFwdIdeal.nD Cert.MlpFwdIdeal.τ).loc Cert.MlpFwdIdeal.main_arg2)
      ∧ m' ((c.tc : Thread Cert.MlpFwdRefIdeal.nD Cert.MlpFwdRefIdeal.τ).loc Cert.MlpFwdRefIdeal.main_arg3) = m ((c.tc : Thread Cert.MlpFwdIdeal.nD Cert.MlpFwdIdeal.τ).loc Cert.MlpFwdIdeal.main_arg3)) →
    ∃ (v0 : (c : Dev Cert.MlpFwdIdeal.nD) → Buf (Elt Ideal) ((c.tc : Thread Cert.MlpFwdIdeal.nD Cert.MlpFwdIdeal.τ).loc Cert.MlpFwdIdeal.main_v6)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v6) = v0 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3))
      ∧ θ_run (Cert.MlpFwdRefIdeal.defs (F := Ideal)) (onTc (τ := Cert.MlpFwdRefIdeal.τ) (Cert.MlpFwdRefIdeal.main (F := Ideal))) ⟨m', fun _ => 0, g'⟩ (fun r => ∀ c : Dev Cert.MlpFwdRefIdeal.nD,
          r.2.mem ((c.tc : Thread Cert.MlpFwdRefIdeal.nD Cert.MlpFwdRefIdeal.τ).loc Cert.MlpFwdRefIdeal.main_v17) = v0 c
          ∧ r.2.mem ((c.tc : Thread Cert.MlpFwdRefIdeal.nD Cert.MlpFwdRefIdeal.τ).loc Cert.MlpFwdRefIdeal.main_arg0) = m' ((c.tc : Thread Cert.MlpFwdRefIdeal.nD Cert.MlpFwdRefIdeal.τ).loc Cert.MlpFwdRefIdeal.main_arg0)
          ∧ r.2.mem ((c.tc : Thread Cert.MlpFwdRefIdeal.nD Cert.MlpFwdRefIdeal.τ).loc Cert.MlpFwdRefIdeal.main_arg1) = m' ((c.tc : Thread Cert.MlpFwdRefIdeal.nD Cert.MlpFwdRefIdeal.τ).loc Cert.MlpFwdRefIdeal.main_arg1)
          ∧ r.2.mem ((c.tc : Thread Cert.MlpFwdRefIdeal.nD Cert.MlpFwdRefIdeal.τ).loc Cert.MlpFwdRefIdeal.main_arg2) = m' ((c.tc : Thread Cert.MlpFwdRefIdeal.nD Cert.MlpFwdRefIdeal.τ).loc Cert.MlpFwdRefIdeal.main_arg2)
          ∧ r.2.mem ((c.tc : Thread Cert.MlpFwdRefIdeal.nD Cert.MlpFwdRefIdeal.τ).loc Cert.MlpFwdRefIdeal.main_arg3) = m' ((c.tc : Thread Cert.MlpFwdRefIdeal.nD Cert.MlpFwdRefIdeal.τ).loc Cert.MlpFwdRefIdeal.main_arg3))

def preserves_PleFwd_PleFwdIdeal : Prop :=
  True

def algebraic_PleFwdIdeal_PleFwdRefIdeal [hPleFwdIdeal : Cert.PleFwdIdeal.Facts] [hPleFwdRefIdeal : Cert.PleFwdRefIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdRefIdeal.nD Cert.PleFwdRefIdeal.τ Cert.PleFwdRefIdeal.sig) → Buf (Elt Ideal) ℓ) (g' : Dev Cert.PleFwdRefIdeal.nD → PrngReg), Pre_PleFwdIdeal m →
    (∀ c : Dev Cert.PleFwdIdeal.nD,
      m' ((c.tc : Thread Cert.PleFwdRefIdeal.nD Cert.PleFwdRefIdeal.τ).loc Cert.PleFwdRefIdeal.main_arg0) = m ((c.tc : Thread Cert.PleFwdIdeal.nD Cert.PleFwdIdeal.τ).loc Cert.PleFwdIdeal.main_arg0)
      ∧ m' ((c.tc : Thread Cert.PleFwdRefIdeal.nD Cert.PleFwdRefIdeal.τ).loc Cert.PleFwdRefIdeal.main_arg1) = m ((c.tc : Thread Cert.PleFwdIdeal.nD Cert.PleFwdIdeal.τ).loc Cert.PleFwdIdeal.main_arg1)
      ∧ m' ((c.tc : Thread Cert.PleFwdRefIdeal.nD Cert.PleFwdRefIdeal.τ).loc Cert.PleFwdRefIdeal.main_arg2) = m ((c.tc : Thread Cert.PleFwdIdeal.nD Cert.PleFwdIdeal.τ).loc Cert.PleFwdIdeal.main_arg2)
      ∧ m' ((c.tc : Thread Cert.PleFwdRefIdeal.nD Cert.PleFwdRefIdeal.τ).loc Cert.PleFwdRefIdeal.main_arg3) = m ((c.tc : Thread Cert.PleFwdIdeal.nD Cert.PleFwdIdeal.τ).loc Cert.PleFwdIdeal.main_arg3)
      ∧ m' ((c.tc : Thread Cert.PleFwdRefIdeal.nD Cert.PleFwdRefIdeal.τ).loc Cert.PleFwdRefIdeal.main_arg4) = m ((c.tc : Thread Cert.PleFwdIdeal.nD Cert.PleFwdIdeal.τ).loc Cert.PleFwdIdeal.main_arg4)) →
    ∃ (v0 : (c : Dev Cert.PleFwdIdeal.nD) → Buf (Elt Ideal) ((c.tc : Thread Cert.PleFwdIdeal.nD Cert.PleFwdIdeal.τ).loc Cert.PleFwdIdeal.main_v6)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v6) = v0 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4))
      ∧ θ_run (Cert.PleFwdRefIdeal.defs (F := Ideal)) (onTc (τ := Cert.PleFwdRefIdeal.τ) (Cert.PleFwdRefIdeal.main (F := Ideal))) ⟨m', fun _ => 0, g'⟩ (fun r => ∀ c : Dev Cert.PleFwdRefIdeal.nD,
          r.2.mem ((c.tc : Thread Cert.PleFwdRefIdeal.nD Cert.PleFwdRefIdeal.τ).loc Cert.PleFwdRefIdeal.main_v22) = v0 c
          ∧ r.2.mem ((c.tc : Thread Cert.PleFwdRefIdeal.nD Cert.PleFwdRefIdeal.τ).loc Cert.PleFwdRefIdeal.main_arg0) = m' ((c.tc : Thread Cert.PleFwdRefIdeal.nD Cert.PleFwdRefIdeal.τ).loc Cert.PleFwdRefIdeal.main_arg0)
          ∧ r.2.mem ((c.tc : Thread Cert.PleFwdRefIdeal.nD Cert.PleFwdRefIdeal.τ).loc Cert.PleFwdRefIdeal.main_arg1) = m' ((c.tc : Thread Cert.PleFwdRefIdeal.nD Cert.PleFwdRefIdeal.τ).loc Cert.PleFwdRefIdeal.main_arg1)
          ∧ r.2.mem ((c.tc : Thread Cert.PleFwdRefIdeal.nD Cert.PleFwdRefIdeal.τ).loc Cert.PleFwdRefIdeal.main_arg2) = m' ((c.tc : Thread Cert.PleFwdRefIdeal.nD Cert.PleFwdRefIdeal.τ).loc Cert.PleFwdRefIdeal.main_arg2)
          ∧ r.2.mem ((c.tc : Thread Cert.PleFwdRefIdeal.nD Cert.PleFwdRefIdeal.τ).loc Cert.PleFwdRefIdeal.main_arg3) = m' ((c.tc : Thread Cert.PleFwdRefIdeal.nD Cert.PleFwdRefIdeal.τ).loc Cert.PleFwdRefIdeal.main_arg3)
          ∧ r.2.mem ((c.tc : Thread Cert.PleFwdRefIdeal.nD Cert.PleFwdRefIdeal.τ).loc Cert.PleFwdRefIdeal.main_arg4) = m' ((c.tc : Thread Cert.PleFwdRefIdeal.nD Cert.PleFwdRefIdeal.τ).loc Cert.PleFwdRefIdeal.main_arg4))

def Claim : Prop :=
  ∃ (hMixBwd : Cert.MixBwd.Facts) (hMixBwdIdeal : Cert.MixBwdIdeal.Facts) (hMixBwdRefIdeal : Cert.MixBwdRefIdeal.Facts) (hAttnBwd : Cert.AttnBwd.Facts) (hAttnBwdIdeal : Cert.AttnBwdIdeal.Facts) (hAttnBwdRefIdeal : Cert.AttnBwdRefIdeal.Facts) (hMlpBwd : Cert.MlpBwd.Facts) (hMlpBwdIdeal : Cert.MlpBwdIdeal.Facts) (hMlpBwdRefIdeal : Cert.MlpBwdRefIdeal.Facts) (hPleBwd : Cert.PleBwd.Facts) (hPleBwdIdeal : Cert.PleBwdIdeal.Facts) (hPleBwdRefIdeal : Cert.PleBwdRefIdeal.Facts) (hLossGrad : Cert.LossGrad.Facts) (hLossGradIdeal : Cert.LossGradIdeal.Facts) (hLossGradRefIdeal : Cert.LossGradRefIdeal.Facts) (hFrontBwd : Cert.FrontBwd.Facts) (hFrontBwdIdeal : Cert.FrontBwdIdeal.Facts) (hFrontBwdRefIdeal : Cert.FrontBwdRefIdeal.Facts) (hMixFwd : Cert.MixFwd.Facts) (hMixFwdIdeal : Cert.MixFwdIdeal.Facts) (hMixFwdRefIdeal : Cert.MixFwdRefIdeal.Facts) (hMlpFwd : Cert.MlpFwd.Facts) (hMlpFwdIdeal : Cert.MlpFwdIdeal.Facts) (hMlpFwdRefIdeal : Cert.MlpFwdRefIdeal.Facts) (hPleFwd : Cert.PleFwd.Facts) (hPleFwdIdeal : Cert.PleFwdIdeal.Facts) (hPleFwdRefIdeal : Cert.PleFwdRefIdeal.Facts) (hPre_mix_bwd_finite : Cert.Pre_mix_bwd_finite.Facts) (hPre_attn_bwd_finite : Cert.Pre_attn_bwd_finite.Facts) (hPre_mlp_bwd_finite : Cert.Pre_mlp_bwd_finite.Facts) (hPre_ple_bwd_finite : Cert.Pre_ple_bwd_finite.Facts),
    quiescent_MixBwd (hMixBwd := hMixBwd)
    ∧ quiescent_MixBwdIdeal (hMixBwdIdeal := hMixBwdIdeal)
    ∧ quiescent_MixBwdIdeal_pre_mix_bwd_finite (hMixBwdIdeal := hMixBwdIdeal) (hPre_mix_bwd_finite := hPre_mix_bwd_finite)
    ∧ quiescent_MixBwdRefIdeal (hMixBwdRefIdeal := hMixBwdRefIdeal)
    ∧ quiescent_MixBwdRefIdeal_pre_mix_bwd_finite (hMixBwdRefIdeal := hMixBwdRefIdeal) (hPre_mix_bwd_finite := hPre_mix_bwd_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_MlpBwd (hMlpBwd := hMlpBwd)
    ∧ quiescent_MlpBwdIdeal (hMlpBwdIdeal := hMlpBwdIdeal)
    ∧ quiescent_MlpBwdIdeal_pre_mlp_bwd_finite (hMlpBwdIdeal := hMlpBwdIdeal) (hPre_mlp_bwd_finite := hPre_mlp_bwd_finite)
    ∧ quiescent_MlpBwdRefIdeal (hMlpBwdRefIdeal := hMlpBwdRefIdeal)
    ∧ quiescent_MlpBwdRefIdeal_pre_mlp_bwd_finite (hMlpBwdRefIdeal := hMlpBwdRefIdeal) (hPre_mlp_bwd_finite := hPre_mlp_bwd_finite)
    ∧ quiescent_PleBwd (hPleBwd := hPleBwd)
    ∧ quiescent_PleBwdIdeal (hPleBwdIdeal := hPleBwdIdeal)
    ∧ quiescent_PleBwdIdeal_pre_ple_bwd_finite (hPleBwdIdeal := hPleBwdIdeal) (hPre_ple_bwd_finite := hPre_ple_bwd_finite)
    ∧ quiescent_PleBwdRefIdeal (hPleBwdRefIdeal := hPleBwdRefIdeal)
    ∧ quiescent_PleBwdRefIdeal_pre_ple_bwd_finite (hPleBwdRefIdeal := hPleBwdRefIdeal) (hPre_ple_bwd_finite := hPre_ple_bwd_finite)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_FrontBwd (hFrontBwd := hFrontBwd)
    ∧ quiescent_FrontBwdIdeal (hFrontBwdIdeal := hFrontBwdIdeal)
    ∧ quiescent_FrontBwdRefIdeal (hFrontBwdRefIdeal := hFrontBwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MlpFwd (hMlpFwd := hMlpFwd)
    ∧ quiescent_MlpFwdIdeal (hMlpFwdIdeal := hMlpFwdIdeal)
    ∧ quiescent_MlpFwdRefIdeal (hMlpFwdRefIdeal := hMlpFwdRefIdeal)
    ∧ quiescent_PleFwd (hPleFwd := hPleFwd)
    ∧ quiescent_PleFwdIdeal (hPleFwdIdeal := hPleFwdIdeal)
    ∧ quiescent_PleFwdRefIdeal (hPleFwdRefIdeal := hPleFwdRefIdeal)
    ∧ preserves_MixBwd_MixBwdIdeal
    ∧ algebraic_MixBwdIdeal_MixBwdRefIdeal_pre_mix_bwd_finite (hMixBwdIdeal := hMixBwdIdeal) (hMixBwdRefIdeal := hMixBwdRefIdeal) (hPre_mix_bwd_finite := hPre_mix_bwd_finite)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_MlpBwd_MlpBwdIdeal
    ∧ algebraic_MlpBwdIdeal_MlpBwdRefIdeal_pre_mlp_bwd_finite (hMlpBwdIdeal := hMlpBwdIdeal) (hMlpBwdRefIdeal := hMlpBwdRefIdeal) (hPre_mlp_bwd_finite := hPre_mlp_bwd_finite)
    ∧ preserves_PleBwd_PleBwdIdeal
    ∧ algebraic_PleBwdIdeal_PleBwdRefIdeal_pre_ple_bwd_finite (hPleBwdIdeal := hPleBwdIdeal) (hPleBwdRefIdeal := hPleBwdRefIdeal) (hPre_ple_bwd_finite := hPre_ple_bwd_finite)
    ∧ preserves_LossGrad_LossGradIdeal
    ∧ algebraic_LossGradIdeal_LossGradRefIdeal (hLossGradIdeal := hLossGradIdeal) (hLossGradRefIdeal := hLossGradRefIdeal)
    ∧ preserves_FrontBwd_FrontBwdIdeal
    ∧ algebraic_FrontBwdIdeal_FrontBwdRefIdeal (hFrontBwdIdeal := hFrontBwdIdeal) (hFrontBwdRefIdeal := hFrontBwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MlpFwd_MlpFwdIdeal
    ∧ algebraic_MlpFwdIdeal_MlpFwdRefIdeal (hMlpFwdIdeal := hMlpFwdIdeal) (hMlpFwdRefIdeal := hMlpFwdRefIdeal)
    ∧ preserves_PleFwd_PleFwdIdeal
    ∧ algebraic_PleFwdIdeal_PleFwdRefIdeal (hPleFwdIdeal := hPleFwdIdeal) (hPleFwdRefIdeal := hPleFwdRefIdeal)
-- ==== Pre_attn_bwd_finite.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩

class Facts : Prop where
  bcast_S_S4096x8x96 : S_.BroadcastsInDim S4096x8x96 (![] : Fin 0 → Fin S4096x8x96.rank)
  bcast_S_S4096x8x64 : S_.BroadcastsInDim S4096x8x64 (![] : Fin 0 → Fin S4096x8x64.rank)
  bcast_S_S4096x512 : S_.BroadcastsInDim S4096x512 (![] : Fin 0 → Fin S4096x512.rank)

variable [Facts]

def fn {F : FTy → Type} [FloatOps F] (main_arg0 : FVec F S4096x8x96 .f32) (main_arg1 : FVec F S4096x8x96 .f32) (main_arg2 : FVec F S4096x8x64 .f32) (main_arg3 : FVec F S4096x512 .f32) : IVec S4096x8x96 1 × IVec S4096x8x96 1 × IVec S4096x8x64 1 × IVec S4096x512 1 :=
  let main_v0 : FVec F S4096x8x96 .f32 := Host.absf main_arg0
  let main_cst : FVec F S_ .f32 := constant S_ .f32 0x7F800000#32
  let main_v1 : FVec F S4096x8x96 .f32 := broadcastInDim S4096x8x96 ![] bcast_S_S4096x8x96 main_cst
  let main_v2 : IVec S4096x8x96 1 := cmpf .olt main_v0 main_v1
  let main_v3 : FVec F S4096x8x96 .f32 := Host.absf main_arg1
  let main_cst_0 : FVec F S_ .f32 := constant S_ .f32 0x7F800000#32
  let main_v4 : FVec F S4096x8x96 .f32 := broadcastInDim S4096x8x96 ![] bcast_S_S4096x8x96 main_cst_0
  let main_v5 : IVec S4096x8x96 1 := cmpf .olt main_v3 main_v4
  let main_v6 : FVec F S4096x8x64 .f32 := Host.absf main_arg2
  let main_cst_1 : FVec F S_ .f32 := constant S_ .f32 0x7F800000#32
  let main_v7 : FVec F S4096x8x64 .f32 := broadcastInDim S4096x8x64 ![] bcast_S_S4096x8x64 main_cst_1
  let main_v8 : IVec S4096x8x64 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Pre_mix_bwd_finite.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S512 : S_.BroadcastsInDim S512 (![] : Fin 0 → Fin S512.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x512 .f32) (main_arg2 : FVec F S4096x512 .f32) (main_arg3 : FVec F S512 .f32) (main_arg4 : FVec F S512 .f32) (main_arg5 : FVec F S1024x1024 .f32) : IVec S4096x1024 1 × IVec S4096x512 1 × IVec S4096x512 1 × IVec S512 1 × IVec S512 1 × IVec S1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_mlp_bwd_finite.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S4096x1024 .f32) (main_arg2 : FVec F S1024 .f32) (main_arg3 : FVec F S1024x4096 .f32) (main_arg4 : FVec F S4096x1024 .f32) : IVec S4096x1024 1 × IVec S4096x1024 1 × IVec S1024 1 × IVec S1024x4096 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_ple_bwd_finite.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)
  bcast_S_S1024 : S_.BroadcastsInDim S1024 (![] : Fin 0 → Fin S1024.rank)
  bcast_S_S1024x1024 : S_.BroadcastsInDim S1024x1024 (![] : Fin 0 → Fin S1024x1024.rank)
  bcast_S_S256x1024 : S_.BroadcastsInDim S256x1024 (![] : Fin 0 → Fin S256x1024.rank)

variable [Facts]

def fn {F : FTy → Type} [FloatOps F] (main_arg0 : FVec F S4096x1024 .f32) (main_arg1 : FVec F S4096x1024 .f32) (main_arg2 : FVec F S4096x256 .f32) (main_arg3 : FVec F S1024 .f32) (main_arg4 : FVec F S1024x1024 .f32) (main_arg5 : FVec F S256x1024 .f32) : IVec S4096x1024 1 × IVec S4096x1024 1 × IVec S4096x256 1 × IVec S1024 1 × IVec S1024x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S256x1024 .f32 := Host.absf main_arg5
  let main_cst_4 : FVec F S_ .f32 := constant S_ .f32 0x7F800000#32
  let main_v16 : FVec F S256x1024 .f32 := broadcastInDim S256x1024 ![] bcast_S_S256x1024 main_cst_4
  let main_v17 : IVec S256x1024 1 := cmpf .olt main_v15 main_v16
  (main_v2, main_v5, main_v8, main_v11, main_v14, main_v17)
-- ==== MixBwd.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1x512 : Shape := ⟨2, ![1, 512]⟩
abbrev S8x128x1024 : Shape := ⟨3, ![8, 128, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S8x128x1024, .bf16⟩
  | .hbm, ⟨10, _⟩ => ⟨S4096x1024, .bf16⟩
  | .hbm, ⟨11, _⟩ => ⟨S4096x512, .f32⟩
  | .hbm, ⟨12, _⟩ => ⟨S4096x512, .f32⟩
  | .hbm, ⟨13, _⟩ => ⟨S1x512, .f32⟩
  | .hbm, ⟨14, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S8x128x1024, .bf16⟩
  | .local _ .vmem, ⟨9, _⟩ => ⟨S512x1024, .bf16⟩
  | .local _ .vmem, ⟨10, _⟩ => ⟨S512x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixBwdRefIdeal.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S512, .f32⟩
  | .hbm, ⟨59, _⟩ => ⟨S4096x512, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x512, .f32⟩
  | .hbm, ⟨64, _⟩ => ⟨S4096x512, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S4096x512, .f32⟩
  | .hbm, ⟨81, _⟩ => ⟨S4096x512, .f32⟩
  | .hbm, ⟨82, _⟩ => ⟨S_, .f32⟩
  | .hbm, ⟨83, _⟩ => ⟨S512, .f32⟩
  | .hbm, ⟨84, _⟩ => ⟨S4096x512, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x512, .f32⟩
  | .hbm, ⟨89, _⟩ => ⟨S4096x512, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x512, .f32⟩
  | .hbm, ⟨97, _⟩ => ⟨S4096x512, .f32⟩
  | .hbm, ⟨98, _⟩ => ⟨S4096x512, .f32⟩
  | .hbm, ⟨99, _⟩ => ⟨S4096x512, .f32⟩
  | .hbm, ⟨100, _⟩ => ⟨S4096x512, .f32⟩
  | .hbm, ⟨101, _⟩ => ⟨S4096x1024, .bf16⟩
  | .hbm, ⟨102, _⟩ => ⟨S1x512, .f32⟩
  | .hbm, ⟨103, _⟩ => ⟨S1x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== AttnBwd.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S4096x8x1 : Shape := ⟨3, ![4096, 8, 1]⟩
abbrev S4096x8x128 : Shape := ⟨3, ![4096, 8, 128]⟩
abbrev S4096x1024 : Shape := ⟨2, ![4096, 1024]⟩
abbrev S4096x8x63 : Shape := ⟨3, ![4096, 8, 63]⟩
abbrev S8x64x4096 : Shape := ⟨3, ![8, 64, 4096]⟩
abbrev S4096x128 : Shape := ⟨2, ![4096, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 74
  | .vmem => 20
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S8x4096x4096, .f32⟩
  | .hbm, ⟨8, _⟩ => ⟨S8x4096x4096, .i32⟩
  | .hbm, ⟨9, _⟩ => ⟨S8x4096x4096, .i32⟩
  | .hbm, ⟨10, _⟩ => ⟨S8x4096x4096, .i1⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S4096x8x1, .f32⟩
  | .hbm, ⟨27, _⟩ => ⟨S4096x8x128, .f32⟩
  | .hbm, ⟨28, _⟩ => ⟨S4096x1024, .f32⟩
  | .hbm, ⟨29, _⟩ => ⟨S_, .i32⟩
  | .hbm, ⟨30, _⟩ => ⟨S_, .f32⟩
  | .hbm, ⟨31, _⟩ => ⟨S4096x8x128, .f32⟩
  | .hbm, ⟨32, _⟩ => ⟨S4096x1024, .f32⟩
  | .hbm, ⟨33, _⟩ => ⟨S4096x1024, .bf16⟩
  | .hbm, ⟨34, _⟩ => ⟨S_, .i32⟩
  | .hbm, ⟨35, _⟩ => ⟨S_, .f32⟩
  | .hbm, ⟨36, _⟩ => ⟨S4096x8x128, .f32⟩
  | .hbm, ⟨37, _⟩ => ⟨S4096x1024, .f32⟩
  | .hbm, ⟨38, _⟩ => ⟨S4096x1024, .bf16⟩
  | .hbm, ⟨39, _⟩ => ⟨S_, .f32⟩
  | .hbm, ⟨40, _⟩ => ⟨S4096x8x1, .f32⟩
  | .hbm, ⟨41, _⟩ => ⟨S_, .f32⟩
  | .hbm, ⟨42, _⟩ => ⟨S4096x8x63, .f32⟩
  | .hbm, ⟨43, _⟩ => ⟨S4096x8x128, .f32⟩
  | .hbm, ⟨44, _⟩ => ⟨S4096x1024, .f32⟩
  | .hbm, ⟨45, _⟩ => ⟨S4096x1024, .bf16⟩
  | .hbm, ⟨46, _⟩ => ⟨S8x4096x4096, .f32⟩
  | .hbm, ⟨47, _⟩ => ⟨S8x4096x4096, .i32⟩
  | .hbm, ⟨48, _⟩ => ⟨S8x4096x4096, .i32⟩
  | .hbm, ⟨49, _⟩ => ⟨S8x4096x4096, .i1⟩
  | .hbm, ⟨50, _⟩ => ⟨S_, .f32⟩
  | .hbm, ⟨51, _⟩ => ⟨S_, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S8x4096x4096, .f32⟩
  | .hbm, ⟨67, _⟩ => ⟨S8x4096x4096, .f32⟩
  | .hbm, ⟨68, _⟩ => ⟨S8x64x4096, .f32⟩
  | .hbm, ⟨69, _⟩ => ⟨S4096x8x64, .f32⟩
  | .hbm, ⟨70, _⟩ => ⟨S4096x512, .f32⟩
  | .hbm, ⟨71, _⟩ => ⟨S4096x1024, .f32⟩
  | .hbm, ⟨72, _⟩ => ⟨S4096x1024, .f32⟩
  | .hbm, ⟨73, _⟩ => ⟨S4096x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .bf16⟩
  | _, _ => ⟨S4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_call1_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_call2_v0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call3_v0 : Ref sig .tc := ⟨.hbm, 51, rfl⟩
abbrev main_call3_v1 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_v49_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_14 : BitVec 32 := 0#32
  let c8_i32 : BitVec 32 := 8#32
  let v38 : BitVec 32 := Scalar.addi c0_i32_14 c8_i32
  let c1_i32_15 : BitVec 32 := 1#32
  ⟨c0_i32_14, v38, c1_i32_15⟩
def k0_mult1 (k0_t1 : Fin k0_t1_loop.trips) : BitVec 32 :=
  let c0_i32_14 : BitVec 32 := 0#32
  let c1_i32_15 : BitVec 32 := 1#32
  let arg12 : BitVec 32 := Scf.iv c0_i32_14 c1_i32_15 k0_t1
  let c512_i32_372 : BitVec 32 := 512#32
  let v929 : BitVec 32 := Scalar.muli arg12 c512_i32_372
  v929
def k0_off1 (k0_t1 : Fin k0_t1_loop.trips) : Fin 2 → Nat :=
  let c0_i32_14 : BitVec 32 := 0#32
  let c1_i32_15 : BitVec 32 := 1#32
  let arg12 : BitVec 32 := Scf.iv c0_i32_14 c1_i32_15 k0_t1
  let c512_i32_372 : BitVec 32 := 512#32
  let v929 : BitVec 32 := Scalar.muli arg12 c512_i32_372
  let v930 : BitVec 32 := v929
  let v931 : Index := Scalar.indexCast v930
  let c0_373 : Index := 0#32
  ![v931.toNat, 0]
def k0_mult2 : BitVec 32 :=
  let c0_i32_17 : BitVec 32 := 0#32
  let c8_i32_18 : BitVec 32 := 8#32
  let v39 : BitVec 32 := Scalar.muli c0_i32_17 c8_i32_18
  let c0_i32_19 : BitVec 32 := 0#32
  let v40 : BitVec 32 := Scalar.addi v39 c0_i32_19
  let c512_i32 : BitVec 32 := 512#32
  let v41 : BitVec 32 := Scalar.muli v40 c512_i32
  v41
def k0_mult3 : BitVec 32 :=
  let c0_i32_17 : BitVec 32 := 0#32
  let c8_i32_18 : BitVec 32 := 8#32
  let v39 : BitVec 32 := Scalar.muli c0_i32_17 c8_i32_18
  let c1_i32_20 : BitVec 32 := 1#32
  let v43 : BitVec 32 := Scalar.addi v39 c1_i32_20
  let c512_i32_21 : BitVec 32 := 512#32
  let v44 : BitVec 32 := Scalar.muli v43 c512_i32_21
  v44
def k0_mult4 : BitVec 32 :=
  let c0_i32_17 : BitVec 32 := 0#32
  let c8_i32_18 : BitVec 32 := 8#32
  let v39 : BitVec 32 := Scalar.muli c0_i32_17 c8_i32_18
  let c2_i32_22 : BitVec 32 := 2#32
  let v46 : BitVec 32 := Scalar.addi v39 c2_i32_22
  let c512_i32_23 : BitVec 32 := 512#32
  let v47 : BitVec 32 := Scalar.muli v46 c512_i32_23
  v47
def k0_mult5 : BitVec 32 :=
  let c0_i32_17 : BitVec 32 := 0#32
  let c8_i32_18 : BitVec 32 := 8#32
  let v39 : BitVec 32 := Scalar.muli c0_i32_17 c8_i32_18
  let c3_i32 : BitVec 32 := 3#32
  let v49 : BitVec 32 := Scalar.addi v39 c3_i32
  let c512_i32_24 : BitVec 32 := 512#32
  let v50 : BitVec 32 := Scalar.muli v49 c512_i32_24
  v50
def k0_mult6 : BitVec 32 :=
  let c0_i32_17 : BitVec 32 := 0#32
  let c8_i32_18 : BitVec 32 := 8#32
  let v39 : BitVec 32 := Scalar.muli c0_i32_17 c8_i32_18
  let c4_i32 : BitVec 32 := 4#32
  let v52 : BitVec 32 := Scalar.addi v39 c4_i32
  let c512_i32_25 : BitVec 32 := 512#32
  let v53 : BitVec 32 := Scalar.muli v52 c512_i32_25
  v53
def k0_mult7 : BitVec 32 :=
  let c0_i32_17 : BitVec 32 := 0#32
  let c8_i32_18 : BitVec 32 := 8#32
  let v39 : BitVec 32 := Scalar.muli c0_i32_17 c8_i32_18
  let c5_i32 : BitVec 32 := 5#32
  let v55 : BitVec 32 := Scalar.addi v39 c5_i32
  let c512_i32_26 : BitVec 32 := 512#32
  let v56 : BitVec 32 := Scalar.muli v55 c512_i32_26
  v56
def k0_mult8 : BitVec 32 :=
  let c0_i32_17 : BitVec 32 := 0#32
  let c8_i32_18 : BitVec 32 := 8#32
  let v39 : BitVec 32 := Scalar.muli c0_i32_17 c8_i32_18
  let c6_i32 : BitVec 32 := 6#32
  let v58 : BitVec 32 := Scalar.addi v39 c6_i32
  let c512_i32_27 : BitVec 32 := 512#32
  let v59 : BitVec 32 := Scalar.muli v58 c512_i32_27
  v59
def k0_mult9 : BitVec 32 :=
  let c0_i32_17 : BitVec 32 := 0#32
  let c8_i32_18 : BitVec 32 := 8#32
  let v39 : BitVec 32 := Scalar.muli c0_i32_17 c8_i32_18
  let c7_i32 : BitVec 32 := 7#32
  let v61 : BitVec 32 := Scalar.addi v39 c7_i32
  let c512_i32_28 : BitVec 32 := 512#32
  let v62 : BitVec 32 := Scalar.muli v61 c512_i32_28
  v62
def k0_off2 (c0_i32_19 : BitVec 32) : Fin 2 → Nat :=
  let c0_i32_17 : BitVec 32 := 0#32
  let c8_i32_18 : BitVec 32 := 8#32
  let v39 : BitVec 32 := Scalar.muli c0_i32_17 c8_i32_18
  let v40 : BitVec 32 := Scalar.addi v39 c0_i32_19
  let c512_i32 : BitVec 32 := 512#32
  let v41 : BitVec 32 := Scalar.muli v40 c512_i32
  let v42 : BitVec 32 := v41
  let v64 : Index := Scalar.indexCast v42
  let c0_29 : Index := 0#32
  ![v64.toNat, 0]
def k0_mult10 : BitVec 32 :=
  let c0_i32_17 : BitVec 32 := 0#32
  let c8_i32_18 : BitVec 32 := 8#32
  let v39 : BitVec 32 := Scalar.muli c0_i32_17 c8_i32_18
  let c0_i32_47 : BitVec 32 := 0#32
  let v114 : BitVec 32 := Scalar.addi v39 c0_i32_47
  let c512_i32_48 : BitVec 32 := 512#32
  let v115 : BitVec 32 := Scalar.muli v114 c512_i32_48
  v115
def k0_mult11 : BitVec 32 :=
  let c0_i32_17 : BitVec 32 := 0#32
  let c8_i32_18 : BitVec 32 := 8#32
  let v39 : BitVec 32 := Scalar.muli c0_i32_17 c8_i32_18
  let c0_i32_46 : BitVec 32 := 0#32
  let v113 : BitVec 32 := Scalar.addi v39 c0_i32_46
  let c512_i32_53 : BitVec 32 := 512#32
  let v124 : BitVec 32 := Scalar.muli v113 c512_i32_53
  v124
def k0_mult12 : BitVec 32 :=
  let c0_i32_17 : BitVec 32 := 0#32
  let c8_i32_18 : BitVec 32 := 8#32
  let v39 : BitVec 32 := Scalar.muli c0_i32_17 c8_i32_18
  let c1_i32_65 : BitVec 32 := 1#32
  let v159 : BitVec 32 := Scalar.addi v39 c1_i32_65
  let c512_i32_66 : BitVec 32 := 512#32
  let v160 : BitVec 32 := Scalar.muli v159 c512_i32_66
  v160
def k0_mult13 : BitVec 32 :=
  let c0_i32_17 : BitVec 32 := 0#32
  let c8_i32_18 : BitVec 32 := 8#32
  let v39 : BitVec 32 := Scalar.muli c0_i32_17 c8_i32_18
  let c1_i32_64 : BitVec 32 := 1#32
  let v158 : BitVec 32 := Scalar.addi v39 c1_i32_64
  let c512_i32_73 : BitVec 32 := 512#32
  let v171 : BitVec 32 := Scalar.muli v158 c512_i32_73
  v171
def k0_mult14 : BitVec 32 :=
  let c0_i32_17 : BitVec 32 := 0#32
  let c8_i32_18 : BitVec 32 := 8#32
  let v39 : BitVec 32 := Scalar.muli c0_i32_17 c8_i32_18
  let c2_i32_88 : BitVec 32 := 2#32
  let v218 : BitVec 32 := Scalar.addi v39 c2_i32_88
  let c512_i32_89 : BitVec 32 := 512#32
  let v219 : BitVec 32 := Scalar.muli v218 c512_i32_89
  v219
def k0_mult15 : BitVec 32 :=
  let c0_i32_17 : BitVec 32 := 0#32
  let c8_i32_18 : BitVec 32 := 8#32
  let v39 : BitVec 32 := Scalar.muli c0_i32_17 c8_i32_18
  let c2_i32_87 : BitVec 32 := 2#32
  let v217 : BitVec 32 := Scalar.addi v39 c2_i32_87
  let c512_i32_98 : BitVec 32 := 512#32
  let v232 : BitVec 32 := Scalar.muli v217 c512_i32_98
  v232
def k0_mult16 : BitVec 32 :=
  let c0_i32_17 : BitVec 32 := 0#32
  let c8_i32_18 : BitVec 32 := 8#32
  let v39 : BitVec 32 := Scalar.muli c0_i32_17 c8_i32_18
  let c3_i32_116 : BitVec 32 := 3#32
  let v291 : BitVec 32 := Scalar.addi v39 c3_i32_116
  let c512_i32_117 : BitVec 32 := 512#32
  let v292 : BitVec 32 := Scalar.muli v291 c512_i32_117
  v292
def k0_mult17 : BitVec 32 :=
  let c0_i32_17 : BitVec 32 := 0#32
  let c8_i32_18 : BitVec 32 := 8#32
  let v39 : BitVec 32 := Scalar.muli c0_i32_17 c8_i32_18
  let c3_i32_115 : BitVec 32 := 3#32
  let v290 : BitVec 32 := Scalar.addi v39 c3_i32_115
  let c512_i32_128 : BitVec 32 := 512#32
  let v307 : BitVec 32 := Scalar.muli v290 c512_i32_128
  v307
def k0_mult18 : BitVec 32 :=
  let c0_i32_17 : BitVec 32 := 0#32
  let c8_i32_18 : BitVec 32 := 8#32
  let v39 : BitVec 32 := Scalar.muli c0_i32_17 c8_i32_18
  let c4_i32_149 : BitVec 32 := 4#32
  let v378 : BitVec 32 := Scalar.addi v39 c4_i32_149
  let c512_i32_150 : BitVec 32 := 512#32
  let v379 : BitVec 32 := Scalar.muli v378 c512_i32_150
  v379
def k0_mult19 : BitVec 32 :=
  let c0_i32_17 : BitVec 32 := 0#32
  let c8_i32_18 : BitVec 32 := 8#32
  let v39 : BitVec 32 := Scalar.muli c0_i32_17 c8_i32_18
  let c4_i32_148 : BitVec 32 := 4#32
  let v377 : BitVec 32 := Scalar.addi v39 c4_i32_148
  let c512_i32_163 : BitVec 32 := 512#32
  let v396 : BitVec 32 := Scalar.muli v377 c512_i32_163
  v396
def k0_mult20 : BitVec 32 :=
  let c0_i32_17 : BitVec 32 := 0#32
  let c8_i32_18 : BitVec 32 := 8#32
  let v39 : BitVec 32 := Scalar.muli c0_i32_17 c8_i32_18
  let c5_i32_187 : BitVec 32 := 5#32
  let v479 : BitVec 32 := Scalar.addi v39 c5_i32_187
  let c512_i32_188 : BitVec 32 := 512#32
  let v480 : BitVec 32 := Scalar.muli v479 c512_i32_188
  v480
def k0_mult21 : BitVec 32 :=
  let c0_i32_17 : BitVec 32 := 0#32
  let c8_i32_18 : BitVec 32 := 8#32
  let v39 : BitVec 32 := Scalar.muli c0_i32_17 c8_i32_18
  let c5_i32_186 : BitVec 32 := 5#32
  let v478 : BitVec 32 := Scalar.addi v39 c5_i32_186
  let c512_i32_203 : BitVec 32 := 512#32
  let v499 : BitVec 32 := Scalar.muli v478 c512_i32_203
  v499
def k0_mult22 : BitVec 32 :=
  let c0_i32_17 : BitVec 32 := 0#32
  let c8_i32_18 : BitVec 32 := 8#32
  let v39 : BitVec 32 := Scalar.muli c0_i32_17 c8_i32_18
  let c6_i32_230 : BitVec 32 := 6#32
  let v594 : BitVec 32 := Scalar.addi v39 c6_i32_230
  let c512_i32_231 : BitVec 32 := 512#32
  let v595 : BitVec 32 := Scalar.muli v594 c512_i32_231
  v595
def k0_mult23 : BitVec 32 :=
  let c0_i32_17 : BitVec 32 := 0#32
  let c8_i32_18 : BitVec 32 := 8#32
  let v39 : BitVec 32 := Scalar.muli c0_i32_17 c8_i32_18
  let c6_i32_229 : BitVec 32 := 6#32
  let v593 : BitVec 32 := Scalar.addi v39 c6_i32_229
  let c512_i32_248 : BitVec 32 := 512#32
  let v616 : BitVec 32 := Scalar.muli v593 c512_i32_248
  v616
def k0_mult24 : BitVec 32 :=
  let c0_i32_17 : BitVec 32 := 0#32
  let c8_i32_18 : BitVec 32 := 8#32
  let v39 : BitVec 32 := Scalar.muli c0_i32_17 c8_i32_18
  let c7_i32_278 : BitVec 32 := 7#32
  let v723 : BitVec 32 := Scalar.addi v39 c7_i32_278
  let c512_i32_279 : BitVec 32 := 512#32
  let v724 : BitVec 32 := Scalar.muli v723 c512_i32_279
  v724
def k0_mult25 : BitVec 32 :=
  let c0_i32_17 : BitVec 32 := 0#32
  let c8_i32_18 : BitVec 32 := 8#32
  let v39 : BitVec 32 := Scalar.muli c0_i32_17 c8_i32_18
  let c7_i32_277 : BitVec 32 := 7#32
  let v722 : BitVec 32 := Scalar.addi v39 c7_i32_277
  let c512_i32_298 : BitVec 32 := 512#32
  let v747 : BitVec 32 := Scalar.muli v722 c512_i32_298
  v747
def k0_mult26 : BitVec 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c7_i32_331 : BitVec 32 := 7#32
  let v866 : BitVec 32 := Scalar.minsi v865 c7_i32_331
  let c512_i32_332 : BitVec 32 := 512#32
  let v867 : BitVec 32 := Scalar.muli v866 c512_i32_332
  v867
def k0_off3 : Fin 2 → Nat :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c7_i32_331 : BitVec 32 := 7#32
  let v866 : BitVec 32 := Scalar.minsi v865 c7_i32_331
  let c512_i32_332 : BitVec 32 := 512#32
  let v867 : BitVec 32 := Scalar.muli v866 c512_i32_332
  let v868 : BitVec 32 := v867
  let v869 : Index := Scalar.indexCast v868
  let c0_333 : Index := 0#32
  ![v869.toNat, 0]
@[reducible] def k0_t2_loop : Scf.Loop 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c8_i32_351 : BitVec 32 := 8#32
  let v890 : BitVec 32 := Scalar.subi c8_i32_351 v865
  let c1_i32_352 : BitVec 32 := 1#32
  let v892 : BitVec 32 := Scalar.divsi v890 c1_i32_352
  let v893 : BitVec 32 := Scalar.muli v892 c1_i32_352
  let v894 : BitVec 32 := Scalar.addi v865 v893
  let c1_i32_353 : BitVec 32 := 1#32
  ⟨v865, v894, c1_i32_353⟩
def k0_mult27 (k0_t2 : Fin k0_t2_loop.trips) : BitVec 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c1_i32_353 : BitVec 32 := 1#32
  let arg12 : BitVec 32 := Scf.iv v865 c1_i32_353 k0_t2
  let c1_i32_372 : BitVec 32 := 1#32
  let v929 : BitVec 32 := Scalar.addi arg12 c1_i32_372
  let c7_i32_373 : BitVec 32 := 7#32
  let v930 : BitVec 32 := Scalar.minsi v929 c7_i32_373
  let c512_i32_374 : BitVec 32 := 512#32
  let v931 : BitVec 32 := Scalar.muli v930 c512_i32_374
  v931
def k0_off4 (k0_t2 : Fin k0_t2_loop.trips) : Fin 2 → Nat :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c1_i32_353 : BitVec 32 := 1#32
  let arg12 : BitVec 32 := Scf.iv v865 c1_i32_353 k0_t2
  let c1_i32_372 : BitVec 32 := 1#32
  let v929 : BitVec 32 := Scalar.addi arg12 c1_i32_372
  let c7_i32_373 : BitVec 32 := 7#32
  let v930 : BitVec 32 := Scalar.minsi v929 c7_i32_373
  let c512_i32_374 : BitVec 32 := 512#32
  let v931 : BitVec 32 := Scalar.muli v930 c512_i32_374
  let v932 : BitVec 32 := v931
  let v933 : Index := Scalar.indexCast v932
  let c0_375 : Index := 0#32
  ![v933.toNat, 0]
def k0_mult28 (k0_t2 : Fin k0_t2_loop.trips) : BitVec 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c1_i32_353 : BitVec 32 := 1#32
  let arg12 : BitVec 32 := Scf.iv v865 c1_i32_353 k0_t2
  let c512_i32_393 : BitVec 32 := 512#32
  let v954 : BitVec 32 := Scalar.muli arg12 c512_i32_393
  v954
def k0_off5 (k0_t2 : Fin k0_t2_loop.trips) : Fin 2 → Nat :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c1_i32_353 : BitVec 32 := 1#32
  let arg12 : BitVec 32 := Scf.iv v865 c1_i32_353 k0_t2
  let c512_i32_393 : BitVec 32 := 512#32
  let v954 : BitVec 32 := Scalar.muli arg12 c512_i32_393
  let v955 : BitVec 32 := v954
  let v956 : Index := Scalar.indexCast v955
  let c0_394 : Index := 0#32
  ![v956.toNat, 0]
@[reducible] def k0_t3_loop : Scf.Loop 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c8_i32_351 : BitVec 32 := 8#32
  let v890 : BitVec 32 := Scalar.subi c8_i32_351 v865
  let c1_i32_352 : BitVec 32 := 1#32
  let v892 : BitVec 32 := Scalar.divsi v890 c1_i32_352
  let v893 : BitVec 32 := Scalar.muli v892 c1_i32_352
  let v894 : BitVec 32 := Scalar.addi v865 v893
  let v891 : BitVec 32 := Scalar.addi v865 v890
  let c1_i32_354 : BitVec 32 := 1#32
  ⟨v894, v891, c1_i32_354⟩
def k0_mult29 (k0_t3 : Fin k0_t3_loop.trips) : BitVec 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c8_i32_351 : BitVec 32 := 8#32
  let v890 : BitVec 32 := Scalar.subi c8_i32_351 v865
  let c1_i32_352 : BitVec 32 := 1#32
  let v892 : BitVec 32 := Scalar.divsi v890 c1_i32_352
  let v893 : BitVec 32 := Scalar.muli v892 c1_i32_352
  let v894 : BitVec 32 := Scalar.addi v865 v893
  let c1_i32_354 : BitVec 32 := 1#32
  let arg12 : BitVec 32 := Scf.iv v894 c1_i32_354 k0_t3
  let c1_i32_372 : BitVec 32 := 1#32
  let v929 : BitVec 32 := Scalar.addi arg12 c1_i32_372
  let c7_i32_373 : BitVec 32 := 7#32
  let v930 : BitVec 32 := Scalar.minsi v929 c7_i32_373
  let c512_i32_374 : BitVec 32 := 512#32
  let v931 : BitVec 32 := Scalar.muli v930 c512_i32_374
  v931
def k0_off6 (k0_t3 : Fin k0_t3_loop.trips) : Fin 2 → Nat :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c8_i32_351 : BitVec 32 := 8#32
  let v890 : BitVec 32 := Scalar.subi c8_i32_351 v865
  let c1_i32_352 : BitVec 32 := 1#32
  let v892 : BitVec 32 := Scalar.divsi v890 c1_i32_352
  let v893 : BitVec 32 := Scalar.muli v892 c1_i32_352
  let v894 : BitVec 32 := Scalar.addi v865 v893
  let c1_i32_354 : BitVec 32 := 1#32
  let arg12 : BitVec 32 := Scf.iv v894 c1_i32_354 k0_t3
  let c1_i32_372 : BitVec 32 := 1#32
  let v929 : BitVec 32 := Scalar.addi arg12 c1_i32_372
  let c7_i32_373 : BitVec 32 := 7#32
  let v930 : BitVec 32 := Scalar.minsi v929 c7_i32_373
  let c512_i32_374 : BitVec 32 := 512#32
  let v931 : BitVec 32 := Scalar.muli v930 c512_i32_374
  let v932 : BitVec 32 := v931
  let v933 : Index := Scalar.indexCast v932
  let c0_375 : Index := 0#32
  ![v933.toNat, 0]
def k0_mult30 (k0_t3 : Fin k0_t3_loop.trips) : BitVec 32 :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c8_i32_351 : BitVec 32 := 8#32
  let v890 : BitVec 32 := Scalar.subi c8_i32_351 v865
  let c1_i32_352 : BitVec 32 := 1#32
  let v892 : BitVec 32 := Scalar.divsi v890 c1_i32_352
  let v893 : BitVec 32 := Scalar.muli v892 c1_i32_352
  let v894 : BitVec 32 := Scalar.addi v865 v893
  let c1_i32_354 : BitVec 32 := 1#32
  let arg12 : BitVec 32 := Scf.iv v894 c1_i32_354 k0_t3
  let c512_i32_393 : BitVec 32 := 512#32
  let v954 : BitVec 32 := Scalar.muli arg12 c512_i32_393
  v954
def k0_off7 (k0_t3 : Fin k0_t3_loop.trips) : Fin 2 → Nat :=
  let c0_i32_17 : BitVec 32 := 0#32
  let c8_i32_18 : BitVec 32 := 8#32
  let v39 : BitVec 32 := Scalar.muli c0_i32_17 c8_i32_18
  let c8_i32_330 : BitVec 32 := 8#32
  let v865 : BitVec 32 := Scalar.addi v39 c8_i32_330
  let c8_i32_351 : BitVec 32 := 8#32
  let v890 : BitVec 32 := Scalar.subi c8_i32_351 v865
  let c1_i32_352 : BitVec 32 := 1#32
  let v892 : BitVec 32 := Scalar.divsi v890 c1_i32_352
  let v893 : BitVec 32 := Scalar.muli v892 c1_i32_352
  let v894 : BitVec 32 := Scalar.addi v865 v893
  let c1_i32_354 : BitVec 32 := 1#32
  let arg12 : BitVec 32 := Scf.iv v894 c1_i32_354 k0_t3
  let c512_i32_393 : BitVec 32 := 512#32
  let v954 : BitVec 32 := Scalar.muli arg12 c512_i32_393
  let v955 : BitVec 32 := v954
  let v956 : Index := Scalar.indexCast v955
  let c0_394 : Index := 0#32
  ![v956.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_4 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnBwdRefIdeal.lean ====
abbrev S4096x8x96 : Shape := ⟨3, ![4096, 8, 96]⟩
abbrev S4096x8x64 : Shape := ⟨3, ![4096, 8, 64]⟩
abbrev S4096x512 : Shape := ⟨2, ![4096, 512]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S8x64x4096 : Shape := ⟨3, ![8, 64, 4096]⟩
abbrev S8x4096x96 : Shape := ⟨3, ![8, 4096, 96]⟩
abbrev S4096x8x128 : Shape := ⟨3, ![4096, 8, 128]⟩
abbrev S4096x1024 : Shape := ⟨2, ![4096, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x8x96, .f32⟩
  | .hbm, ⟨1, _⟩ => ⟨S4096x8x96, .f32⟩
  | .hbm, ⟨2, _⟩ => ⟨S4096x8x64, .f32⟩
  | .hbm, ⟨3, _⟩ => ⟨S4096x512, .f32⟩
  | .hbm, ⟨4, _⟩ => ⟨S_, .f32⟩
  | .hbm, ⟨5, _⟩ => ⟨S4096x8x96, .f32⟩
  | .hbm, ⟨6, _⟩ => ⟨S4096x8x96, .f32⟩
  | .hbm, ⟨7, _⟩ => ⟨S8x4096x4096, .f32⟩
  | .hbm, ⟨8, _⟩ => ⟨S8x4096x4096, .i32⟩
  | .hbm, ⟨9, _⟩ => ⟨S8x4096x4096, .i32⟩
  | .hbm, ⟨10, _⟩ => ⟨S8x4096x4096, .i1⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .i1⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .i1⟩
  | .hbm, ⟨31, _⟩ => ⟨S_, .f32⟩
  | .hbm, ⟨32, _⟩ => ⟨S8x4096, .f32⟩
  | .hbm, ⟨33, _⟩ => ⟨S8x4096, .i1⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x64x4096, .f32⟩
  | .hbm, ⟨56, _⟩ => ⟨S4096x8x64, .f32⟩
  | .hbm, ⟨57, _⟩ => ⟨S4096x512, .f32⟩
  | .hbm, ⟨58, _⟩ => ⟨S4096x8x64, .f32⟩
  | .hbm, ⟨59, _⟩ => ⟨S8x64x4096, .f32⟩
  | .hbm, ⟨60, _⟩ => ⟨S8x4096x4096, .f32⟩
  | .hbm, ⟨61, _⟩ => ⟨S8x64x4096, .f32⟩
  | .hbm, ⟨62, _⟩ => ⟨S4096x8x64, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S_, .f32⟩
  | .hbm, ⟨73, _⟩ => ⟨S8x4096, .f32⟩
  | .hbm, ⟨74, _⟩ => ⟨S8x4096x4096, .f32⟩
  | .hbm, ⟨75, _⟩ => ⟨S8x4096x4096, .f32⟩
  | .hbm, ⟨76, _⟩ => ⟨S8x4096x4096, .f32⟩
  | .hbm, ⟨77, _⟩ => ⟨S_, .f32⟩
  | .hbm, ⟨78, _⟩ => ⟨S8x4096x4096, .f32⟩
  | .hbm, ⟨79, _⟩ => ⟨S8x4096x4096, .f32⟩
  | .hbm, ⟨80, _⟩ => ⟨S8x4096x96, .f32⟩
  | .hbm, ⟨81, _⟩ => ⟨S4096x8x96, .f32⟩
  | .hbm, ⟨82, _⟩ => ⟨S8x4096x96, .f32⟩
  | .hbm, ⟨83, _⟩ => ⟨S4096x8x96, .f32⟩
  | .hbm, ⟨84, _⟩ => ⟨S_, .i32⟩
  | .hbm, ⟨85, _⟩ => ⟨S_, .f32⟩
  | .hbm, ⟨86, _⟩ => ⟨S4096x8x128, .f32⟩
  | .hbm, ⟨87, _⟩ => ⟨S4096x1024, .f32⟩
  | .hbm, ⟨88, _⟩ => ⟨S_, .i32⟩
  | .hbm, ⟨89, _⟩ => ⟨S_, .f32⟩
  | .hbm, ⟨90, _⟩ => ⟨S4096x8x128, .f32⟩
  | .hbm, ⟨91, _⟩ => ⟨S4096x1024, .f32⟩
  | .hbm, ⟨92, _⟩ => ⟨S_, .i32⟩
  | .hbm, ⟨93, _⟩ => ⟨S_, .f32⟩
  | .hbm, ⟨94, _⟩ => ⟨S4096x8x128, .f32⟩
  | .hbm, ⟨95, _⟩ => ⟨S4096x1024, .f32⟩
  | _, _ => ⟨S4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6_0 : Ref sig .tc := ⟨.hbm, 14, rfl⟩
abbrev main_call0_cst : Ref sig .tc := ⟨.hbm, 15, rfl⟩
abbrev main_v6_1 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c : Ref sig .tc := ⟨.hbm, 84, rfl⟩
abbrev main_call2_v0 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_call3_v0 : Ref sig .tc := ⟨.hbm, 89, rfl⟩
abbrev main_v62 : Ref sig .tc := ⟨.hbm, 90, rfl⟩
abbrev main_v63 : Ref sig .tc := ⟨.hbm, 91, rfl⟩
abbrev main_c_14 : Ref sig .tc := ⟨.hbm, 92, rfl⟩
abbrev main_call4_v0 : Ref sig .tc := ⟨.hbm, 93, rfl⟩
abbrev main_v64 : Ref sig .tc := ⟨.hbm, 94, rfl⟩
abbrev main_v65 : Ref sig .tc := ⟨.hbm, 95, rfl⟩

abbrev nD : Nat := 1
abbrev τ : Topo := Topo.v7x

variable {F : FTy → Type} [FloatOps F]
-- ==== MlpBwd.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4096x4096 : Shape := ⟨2, ![4096, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x1024, .bf16⟩
  | .hbm, ⟨10, _⟩ => ⟨S8x512x1024, .bf16⟩
  | .hbm, ⟨11, _⟩ => ⟨S4096x1024, .f32⟩
  | .hbm, ⟨12, _⟩ => ⟨S4096x4096, .bf16⟩
  | .hbm, ⟨13, _⟩ => ⟨S4096x4096, .bf16⟩
  | .hbm, ⟨14, _⟩ => ⟨S4096x1024, .bf16⟩
  | .hbm, ⟨15, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S8x1024x512, .bf16⟩
  | .local _ .vmem, ⟨6, _⟩ => ⟨S8x512x1024, .bf16⟩
  | .local _ .vmem, ⟨7, _⟩ => ⟨S256x1024, .f32⟩
  | .local _ .vmem, ⟨8, _⟩ => ⟨S256x1024, .f32⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpBwdRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x4096, .bf16⟩
  | .hbm, ⟨72, _⟩ => ⟨S4096x4096, .bf16⟩
  | .hbm, ⟨73, _⟩ => ⟨S4096x1024, .bf16⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== PleBwd.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S8x128x1024 : Shape := ⟨3, ![8, 128, 1024]⟩
abbrev S256x8x128 : Shape := ⟨3, ![256, 8, 128]⟩
abbrev S8x256x128 : Shape := ⟨3, ![8, 256, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x128 : Shape := ⟨2, ![512, 128]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S8x128x1024, .bf16⟩
  | .hbm, ⟨9, _⟩ => ⟨S256x1024, .bf16⟩
  | .hbm, ⟨10, _⟩ => ⟨S256x8x128, .bf16⟩
  | .hbm, ⟨11, _⟩ => ⟨S8x256x128, .bf16⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S1x1024, .f32⟩
  | .local _ .vmem, ⟨7, _⟩ => ⟨S8x128x1024, .bf16⟩
  | .local _ .vmem, ⟨8, _⟩ => ⟨S8x256x128, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleBwdRefIdeal.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S4096x1024, .bf16⟩
  | .hbm, ⟨73, _⟩ => ⟨S4096x1024, .bf16⟩
  | .hbm, ⟨74, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== LossGrad.lean ====
abbrev S4096x1024 : Shape := ⟨2, ![4096, 1024]⟩
abbrev S8x128 : Shape := ⟨2, ![8, 128]⟩
abbrev S256x1024 : Shape := ⟨2, ![256, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128, .f32⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossGradRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x1024, .f32⟩
  | .hbm, ⟨26, _⟩ => ⟨S4096x1024, .f32⟩
  | .hbm, ⟨27, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_cst_6 : Ref sig .tc := ⟨.hbm, 19, rfl⟩
abbrev main_v10 : Ref sig .tc := ⟨.hbm, 20, rfl⟩
abbrev main_v11 : Ref sig .tc := ⟨.hbm, 21, rfl⟩
abbrev main_cst_7 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== FrontBwd.lean ====
abbrev S4096x1024 : Shape := ⟨2, ![4096, 1024]⟩
abbrev S4096 : Shape := ⟨1, ![4096]⟩
abbrev S4096x8x96 : Shape := ⟨3, ![4096, 8, 96]⟩
abbrev S4096x8x64 : Shape := ⟨3, ![4096, 8, 64]⟩
abbrev S4096x512 : Shape := ⟨2, ![4096, 512]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S64 : Shape := ⟨1, ![64]⟩
abbrev S32 : Shape := ⟨1, ![32]⟩
abbrev S3x512 : Shape := ⟨2, ![3, 512]⟩
abbrev S1024x8x276 : Shape := ⟨3, ![1024, 8, 276]⟩
abbrev S8x1024x276 : Shape := ⟨3, ![8, 1024, 276]⟩
abbrev S_ : Shape := ⟨0, ![]⟩
abbrev S1024x64 : Shape := ⟨2, ![1024, 64]⟩
abbrev S1x1024x276 : Shape := ⟨3, ![1, 1024, 276]⟩
abbrev S1024x276 : Shape := ⟨2, ![1024, 276]⟩
abbrev S1024x88 : Shape := ⟨2, ![1024, 88]⟩
abbrev S1024x156 : Shape := ⟨2, ![1024, 156]⟩
abbrev S1024x32 : Shape := ⟨2, ![1024, 32]⟩
abbrev S1024x2304 : Shape := ⟨2, ![1024, 2304]⟩
abbrev S384x8x96 : Shape := ⟨3, ![384, 8, 96]⟩
abbrev S384x8x128 : Shape := ⟨3, ![384, 8, 128]⟩
abbrev S8x384x128 : Shape := ⟨3, ![8, 384, 128]⟩
abbrev S256x8x128 : Shape := ⟨3, ![256, 8, 128]⟩
abbrev S8x256x128 : Shape := ⟨3, ![8, 256, 128]⟩
abbrev S1x1024 : Shape := ⟨2, ![1, 1024]⟩
abbrev S1x384 : Shape := ⟨2, ![1, 384]⟩
abbrev S4x384x128 : Shape := ⟨3, ![4, 384, 128]⟩
abbrev S4x384x256 : Shape := ⟨3, ![4, 384, 256]⟩
abbrev S1x256 : Shape := ⟨2, ![1, 256]⟩
abbrev S4x256x128 : Shape := ⟨3, ![4, 256, 128]⟩
abbrev S4x256x256 : Shape := ⟨3, ![4, 256, 256]⟩
abbrev S128 : Shape := ⟨1, ![128]⟩
abbrev S8x512 : Shape := ⟨2, ![8, 512]⟩
abbrev S4096x1 : Shape := ⟨2, ![4096, 1]⟩
abbrev S4096x2304 : Shape := ⟨2, ![4096, 2304]⟩
abbrev S4096x8x128 : Shape := ⟨3, ![4096, 8, 128]⟩
abbrev S16 : Shape := ⟨1, ![16]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S256x1 : Shape := ⟨2, ![256, 1]⟩
abbrev S256x256 : Shape := ⟨2, ![256, 256]⟩
abbrev S4096x384 : Shape := ⟨2, ![4096, 384]⟩
abbrev S4096x256 : Shape := ⟨2, ![4096, 256]⟩
abbrev S1x128 : Shape := ⟨2, ![1, 128]⟩
abbrev S256x2304 : Shape := ⟨2, ![256, 2304]⟩
abbrev S8x2304 : Shape := ⟨2, ![8, 2304]⟩
abbrev S256x512 : Shape := ⟨2, ![256, 512]⟩
abbrev S256x128 : Shape := ⟨2, ![256, 128]⟩
abbrev S256x384 : Shape := ⟨2, ![256, 384]⟩
abbrev S264x512 : Shape := ⟨2, ![264, 512]⟩
abbrev S1x384x256 : Shape := ⟨3, ![1, 384, 256]⟩
abbrev S384x256 : Shape := ⟨2, ![384, 256]⟩
abbrev S1x256x256 : Shape := ⟨3, ![1, 256, 256]⟩
abbrev S1x512 : Shape := ⟨2, ![1, 512]⟩
abbrev S512 : Shape := ⟨1, ![512]⟩
abbrev S5x512 : Shape := ⟨2, ![5, 512]⟩

abbrev nBuf : Space → Nat
  | .hbm => 239
  | .vmem => 56
  | .smem => 0
  | _ => 0

abbrev hbmTy0_0 (i : Nat) : BufTy := match i % 128 with
  | 0 => ⟨S4096x1024, .f32⟩
  | 1 => ⟨S4096, .i32⟩
  | 2 => ⟨S4096x1024, .f32⟩
  | 3 => ⟨S4096x8x96, .f32⟩
  | 4 => ⟨S4096x8x96, .f32⟩
  | 5 => ⟨S4096x8x64, .f32⟩
  | 6 => ⟨S4096x512, .f32⟩
  | 7 => ⟨S1024, .f32⟩
  | 8 => ⟨S1024x2208, .f32⟩
  | 9 => ⟨S384, .f32⟩
  | 10 => ⟨S384x768, .f32⟩
  | 11 => ⟨S256, .f32⟩
  | 12 => ⟨S256x1024, .f32⟩
  | 13 => ⟨S64, .f32⟩
  | 14 => ⟨S32, .f32⟩
  | 15 => ⟨S64, .f32⟩
  | 16 => ⟨S32, .f32⟩
  | 17 => ⟨S3x512, .f32⟩
  | 18 => ⟨S1024x8x276, .f32⟩
  | 19 => ⟨S8x1024x276, .f32⟩
  | 20 => ⟨S_, .f32⟩
  | 21 => ⟨S1024x64, .f32⟩
  | 22 => ⟨S1x1024x276, .f32⟩
  | 23 => ⟨S1024x276, .f32⟩
  | 24 => ⟨S1x1024x276, .f32⟩
  | 25 => ⟨S1024x276, .f32⟩
  | 26 => ⟨S1x1024x276, .f32⟩
  | 27 => ⟨S1024x276, .f32⟩
  | 28 => ⟨S1024x88, .f32⟩
  | 29 => ⟨S1x1024x276, .f32⟩
  | 30 => ⟨S1024x276, .f32⟩
  | 31 => ⟨S1024x156, .f32⟩
  | 32 => ⟨S1x1024x276, .f32⟩
  | 33 => ⟨S1024x276, .f32⟩
  | 34 => ⟨S1x1024x276, .f32⟩
  | 35 => ⟨S1024x276, .f32⟩
  | 36 => ⟨S1x1024x276, .f32⟩
  | 37 => ⟨S1024x276, .f32⟩
  | 38 => ⟨S1x1024x276, .f32⟩
  | 39 => ⟨S1024x276, .f32⟩
  | 40 => ⟨S1x1024x276, .f32⟩
  | 41 => ⟨S1024x276, .f32⟩
  | 42 => ⟨S1x1024x276, .f32⟩
  | 43 => ⟨S1024x276, .f32⟩
  | 44 => ⟨S1024x32, .f32⟩
  | 45 => ⟨S1024x32, .f32⟩
  | 46 => ⟨S1024x2304, .f32⟩
  | 47 => ⟨S384x8x96, .f32⟩
  | 48 => ⟨S_, .i32⟩
  | 49 => ⟨S_, .f32⟩
  | 50 => ⟨S384x8x128, .f32⟩
  | 51 => ⟨S8x384x128, .f32⟩
  | 52 => ⟨S8x384x128, .bf16⟩
  | 53 => ⟨S256x8x128, .f32⟩
  | 54 => ⟨S8x256x128, .f32⟩
  | 55 => ⟨S8x256x128, .bf16⟩
  | 56 => ⟨S1x1024, .f32⟩
  | 57 => ⟨S1024x2304, .bf16⟩
  | 58 => ⟨S1x384, .f32⟩
  | 59 => ⟨S4x384x128, .bf16⟩
  | 60 => ⟨S4x384x128, .bf16⟩
  | 61 => ⟨S4x384x256, .bf16⟩
  | 62 => ⟨S1x256, .f32⟩
  | 63 => ⟨S4x256x128, .bf16⟩
  | 64 => ⟨S4x256x128, .bf16⟩
  | 65 => ⟨S4x256x256, .bf16⟩
  | 66 => ⟨S_, .f32⟩
  | 67 => ⟨S32, .f32⟩
  | 68 => ⟨S128, .f32⟩
  | 69 => ⟨S256, .f32⟩
  | 70 => ⟨S1x256, .f32⟩
  | 71 => ⟨S_, .f32⟩
  | 72 => ⟨S32, .f32⟩
  | 73 => ⟨S128, .f32⟩
  | 74 => ⟨S256, .f32⟩
  | 75 => ⟨S1x256, .f32⟩
  | 76 => ⟨S_, .i32⟩
  | 77 => ⟨S_, .f32⟩
  | 78 => ⟨S8x512, .f32⟩
  | 79 => ⟨S4096x1024, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S_, .f32⟩
  | 87 => ⟨S4096x1, .f32⟩
  | 88 => ⟨S4096x1, .f32⟩
  | 89 => ⟨S4096x1, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S4096x2304, .f32⟩
  | 96 => ⟨S_, .i32⟩
  | 97 => ⟨S_, .f32⟩
  | 98 => ⟨S4096x8x128, .f32⟩
  | 99 => ⟨S4096x1024, .f32⟩
  | 100 => ⟨S_, .i32⟩
  | 101 => ⟨S_, .f32⟩
  | 102 => ⟨S4096x8x128, .f32⟩
  | 103 => ⟨S4096x1024, .f32⟩
  | 104 => ⟨S_, .i32⟩
  | 105 => ⟨S_, .f32⟩
  | 106 => ⟨S4096x8x128, .f32⟩
  | 107 => ⟨S4096x1024, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S4096, .f32⟩
  | 125 => ⟨S4096x1, .f32⟩
  | 126 => ⟨S1x16, .f32⟩
  | 127 => ⟨S4096x16, .f32⟩
  | _ => ⟨S4096x1024, .f32⟩

abbrev hbmTy0_1 (i : Nat) : BufTy := match i % 128 with
  | 0 => ⟨S4096x16, .f32⟩
  | 1 => ⟨S4096x16, .f32⟩
  | 2 => ⟨S4096x16, .f32⟩
  | 3 => ⟨S4096x16, .f32⟩
  | 4 => ⟨S_, .f32⟩
  | 5 => ⟨S4096x64, .f32⟩
  | 6 => ⟨S_, .f32⟩
  | 7 => ⟨S4096x64, .f32⟩
  | 8 => ⟨S4096x32, .f32⟩
  | 9 => ⟨S4096x128, .f32⟩
  | 10 => ⟨S4096x16, .f32⟩
  | 11 => ⟨S4096x32, .f32⟩
  | 12 => ⟨S4096x128, .f32⟩
  | 13 => ⟨S256, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S256, .i32⟩
  | 21 => ⟨S256, .i32⟩
  | 22 => ⟨S_, .i32⟩
  | 23 => ⟨S256, .i32⟩
  | 24 => ⟨S256, .i1⟩
  | 25 => ⟨S_, .i32⟩
  | 26 => ⟨S256, .i32⟩
  | 27 => ⟨S256, .i1⟩
  | 28 => ⟨S_, .i32⟩
  | 29 => ⟨S_, .i1⟩
  | 30 => ⟨S256, .i1⟩
  | 31 => ⟨S256, .i1⟩
  | 32 => ⟨S256, .i1⟩
  | 33 => ⟨S256, .i32⟩
  | 34 => ⟨S256, .i32⟩
  | 35 => ⟨S256, .i32⟩
  | 36 => ⟨S_, .i32⟩
  | 37 => ⟨S_, .i32⟩
  | 38 => ⟨S256, .i32⟩
  | 39 => ⟨S256, .i32⟩
  | 40 => ⟨S256, .i32⟩
  | 41 => ⟨S_, .i32⟩
  | 42 => ⟨S256, .i32⟩
  | 43 => ⟨S256, .i1⟩
  | 44 => ⟨S256, .i32⟩
  | 45 => ⟨S256, .i32⟩
  | 46 => ⟨S_, .i32⟩
  | 47 => ⟨S256, .i32⟩
  | 48 => ⟨S256, .i1⟩
  | 49 => ⟨S256, .i1⟩
  | 50 => ⟨S_, .i32⟩
  | 51 => ⟨S256, .i32⟩
  | 52 => ⟨S256, .i32⟩
  | 53 => ⟨S256, .i32⟩
  | 54 => ⟨S_, .i32⟩
  | 55 => ⟨S256, .i32⟩
  | 56 => ⟨S256, .i1⟩
  | 57 => ⟨S_, .i32⟩
  | 58 => ⟨S256, .i32⟩
  | 59 => ⟨S256, .i1⟩
  | 60 => ⟨S_, .i32⟩
  | 61 => ⟨S_, .i32⟩
  | 62 => ⟨S256, .i32⟩
  | 63 => ⟨S256, .i32⟩
  | 64 => ⟨S256, .i32⟩
  | 65 => ⟨S_, .i32⟩
  | 66 => ⟨S256, .i32⟩
  | 67 => ⟨S256, .i32⟩
  | 68 => ⟨S_, .i32⟩
  | 69 => ⟨S256, .i32⟩
  | 70 => ⟨S256, .i32⟩
  | 71 => ⟨S256, .i32⟩
  | 72 => ⟨S256, .i32⟩
  | 73 => ⟨S_, .i32⟩
  | 74 => ⟨S256, .i32⟩
  | 75 => ⟨S256, .i1⟩
  | 76 => ⟨S_, .i32⟩
  | 77 => ⟨S256, .i32⟩
  | 78 => ⟨S256, .i1⟩
  | 79 => ⟨S_, .f32⟩
  | 80 => ⟨S_, .f32⟩
  | 81 => ⟨S256, .f32⟩
  | 82 => ⟨S256, .f32⟩
  | 83 => ⟨S256, .f32⟩
  | 84 => ⟨S_, .f32⟩
  | 85 => ⟨S256, .f32⟩
  | 86 => ⟨S256, .f32⟩
  | 87 => ⟨S256x1, .i32⟩
  | 88 => ⟨S1x256, .i32⟩
  | 89 => ⟨S256x256, .i32⟩
  | 90 => ⟨S256x256, .i32⟩
  | 91 => ⟨S256x256, .i1⟩
  | 92 => ⟨S1x256, .f32⟩
  | 93 => ⟨S_, .f32⟩
  | 94 => ⟨S256x256, .f32⟩
  | 95 => ⟨S256x256, .f32⟩
  | 96 => ⟨S256x256, .f32⟩
  | 97 => ⟨S256x256, .bf16⟩
  | 98 => ⟨S4096x1024, .f32⟩
  | 99 => ⟨S4096x2304, .bf16⟩
  | 100 => ⟨S4096x1024, .bf16⟩
  | 101 => ⟨S4096x384, .bf16⟩
  | 102 => ⟨S4096x256, .bf16⟩
  | 103 => ⟨S4096x1024, .bf16⟩
  | 104 => ⟨S4096x1024, .bf16⟩
  | 105 => ⟨S1x1024, .f32⟩
  | 106 => ⟨S1x384, .f32⟩
  | 107 => ⟨S1x256, .f32⟩
  | 108 => ⟨S1x128, .f32⟩
  | 109 => ⟨S1x128, .f32⟩
  | 110 => ⟨S8x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x2304, .f32⟩
  | .local _ .vmem, ⟨3, _⟩ => ⟨S256x2304, .f32⟩
  | .local _ .vmem, ⟨4, _⟩ => ⟨S8x2304, .f32⟩
  | .local _ .vmem, ⟨5, _⟩ => ⟨S8x2304, .f32⟩
  | .local _ .vmem, ⟨6, _⟩ => ⟨S8x2304, .f32⟩
  | .local _ .vmem, ⟨7, _⟩ => ⟨S8x2304, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S1x1024, .f32⟩
  | .local _ .vmem, ⟨21, _⟩ => ⟨S1024x2304, .bf16⟩
  | .local _ .vmem, ⟨22, _⟩ => ⟨S1x384, .f32⟩
  | .local _ .vmem, ⟨23, _⟩ => ⟨S4x384x256, .bf16⟩
  | .local _ .vmem, ⟨24, _⟩ => ⟨S1x256, .f32⟩
  | .local _ .vmem, ⟨25, _⟩ => ⟨S4x256x256, .bf16⟩
  | .local _ .vmem, ⟨26, _⟩ => ⟨S1x256, .f32⟩
  | .local _ .vmem, ⟨27, _⟩ => ⟨S1x256, .f32⟩
  | .local _ .vmem, ⟨28, _⟩ => ⟨S8x512, .f32⟩
  | .local _ .vmem, ⟨29, _⟩ => ⟨S256x256, .bf16⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x1024, .f32⟩
  | .local _ .vmem, ⟨35, _⟩ => ⟨S256x1024, .f32⟩
  | .local _ .vmem, ⟨36, _⟩ => ⟨S256x2304, .bf16⟩
  | .local _ .vmem, ⟨37, _⟩ => ⟨S256x2304, .bf16⟩
  | .local _ .vmem, ⟨38, _⟩ => ⟨S256x1024, .bf16⟩
  | .local _ .vmem, ⟨39, _⟩ => ⟨S256x1024, .bf16⟩
  | .local _ .vmem, ⟨40, _⟩ => ⟨S256x384, .bf16⟩
  | .local _ .vmem, ⟨41, _⟩ => ⟨S256x384, .bf16⟩
  | .local _ .vmem, ⟨42, _⟩ => ⟨S256x256, .bf16⟩
  | .local _ .vmem, ⟨43, _⟩ => ⟨S256x256, .bf16⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S1x1024, .f32⟩
  | .local _ .vmem, ⟨49, _⟩ => ⟨S1x384, .f32⟩
  | .local _ .vmem, ⟨50, _⟩ => ⟨S1x256, .f32⟩
  | .local _ .vmem, ⟨51, _⟩ => ⟨S1x128, .f32⟩
  | .local _ .vmem, ⟨52, _⟩ => ⟨S1x128, .f32⟩
  | .local _ .vmem, ⟨53, _⟩ => ⟨S8x512, .f32⟩
  | .local _ .vmem, ⟨54, _⟩ => ⟨S264x512, .f32⟩
  | .local _ .vmem, ⟨55, _⟩ => ⟨S264x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_1 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_2 : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_6 : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_c_7 : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_c_8 : Ref sig .tc := ⟨.hbm, 104, rfl⟩
abbrev main_call4_v0 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_9 : Ref sig .tc := ⟨.hbm, 109, rfl⟩
abbrev main_v75 : Ref sig .tc := ⟨.hbm, 110, rfl⟩
abbrev main_v76 : Ref sig .tc := ⟨.hbm, 111, rfl⟩
abbrev main_cst_10 : Ref sig .tc := ⟨.hbm, 112, rfl⟩
abbrev main_v77 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_v80 : Ref sig .tc := ⟨.hbm, 117, rfl⟩
abbrev main_cst_12 : Ref sig .tc := ⟨.hbm, 118, rfl⟩
abbrev main_v81 : Ref sig .tc := ⟨.hbm, 119, rfl⟩
abbrev main_v82 : Ref sig .tc := ⟨.hbm, 120, rfl⟩
abbrev main_cst_13 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_cst_15 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_16 : Ref sig .tc := ⟨.hbm, 142, rfl⟩
abbrev main_call5_v0 : Ref sig .tc := ⟨.hbm, 143, rfl⟩
abbrev main_call5_c : Ref sig .tc := ⟨.hbm, 144, rfl⟩
abbrev main_call5_v1 : Ref sig .tc := ⟨.hbm, 145, rfl⟩
abbrev main_call5_c_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_c_1 : Ref sig .tc := ⟨.hbm, 150, rfl⟩
abbrev main_call5_v5 : Ref sig .tc := ⟨.hbm, 151, rfl⟩
abbrev main_call5_v6 : Ref sig .tc := ⟨.hbm, 152, rfl⟩
abbrev main_call5_c_2 : Ref sig .tc := ⟨.hbm, 153, rfl⟩
abbrev main_call5_v7 : Ref sig .tc := ⟨.hbm, 154, rfl⟩
abbrev main_call5_v8 : Ref sig .tc := ⟨.hbm, 155, rfl⟩
abbrev main_call5_c_3 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_v12 : Ref sig .tc := ⟨.hbm, 160, rfl⟩
abbrev main_call5_v13 : Ref sig .tc := ⟨.hbm, 161, rfl⟩
abbrev main_call5_v14 : Ref sig .tc := ⟨.hbm, 162, rfl⟩
abbrev main_v101 : Ref sig .tc := ⟨.hbm, 163, rfl⟩
abbrev main_c_17 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_call6_v5 : Ref sig .tc := ⟨.hbm, 170, rfl⟩
abbrev main_call6_v6 : Ref sig .tc := ⟨.hbm, 171, rfl⟩
abbrev main_call6_v7 : Ref sig .tc := ⟨.hbm, 172, rfl⟩
abbrev main_call6_v8 : Ref sig .tc := ⟨.hbm, 173, rfl⟩
abbrev main_call6_c : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_c_0 : Ref sig .tc := ⟨.hbm, 178, rfl⟩
abbrev main_call6_v12 : Ref sig .tc := ⟨.hbm, 179, rfl⟩
abbrev main_call6_v13 : Ref sig .tc := ⟨.hbm, 180, rfl⟩
abbrev main_v102 : Ref sig .tc := ⟨.hbm, 181, rfl⟩
abbrev main_c_18 : Ref sig .tc := ⟨.hbm, 182, rfl⟩
abbrev main_v103 : Ref sig .tc := ⟨.hbm, 183, rfl⟩
abbrev main_v104 : Ref sig .tc := ⟨.hbm, 184, rfl⟩
abbrev main_c_19 : Ref sig .tc := ⟨.hbm, 185, rfl⟩
abbrev main_v105 : Ref sig .tc := ⟨.hbm, 186, rfl⟩
abbrev main_v106 : Ref sig .tc := ⟨.hbm, 187, rfl⟩
abbrev main_c_20 : Ref sig .tc := ⟨.hbm, 188, rfl⟩
abbrev main_c_21 : Ref sig .tc := ⟨.hbm, 189, rfl⟩
abbrev main_call7_v0 : Ref sig .tc := ⟨.hbm, 190, rfl⟩
abbrev main_call7_v1 : Ref sig .tc := ⟨.hbm, 191, rfl⟩
abbrev main_v107 : Ref sig .tc := ⟨.hbm, 192, rfl⟩
abbrev main_c_22 : Ref sig .tc := ⟨.hbm, 193, rfl⟩
abbrev main_call8_v0 : Ref sig .tc := ⟨.hbm, 194, rfl⟩
abbrev main_v108 : Ref sig .tc := ⟨.hbm, 195, rfl⟩
abbrev main_c_23 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_c_24 : Ref sig .tc := ⟨.hbm, 201, rfl⟩
abbrev main_v113 : Ref sig .tc := ⟨.hbm, 202, rfl⟩
abbrev main_v114 : Ref sig .tc := ⟨.hbm, 203, rfl⟩
abbrev main_c_25 : Ref sig .tc := ⟨.hbm, 204, rfl⟩
abbrev main_v115 : Ref sig .tc := ⟨.hbm, 205, rfl⟩
abbrev main_v116 : Ref sig .tc := ⟨.hbm, 206, rfl⟩
abbrev main_cst_26 : Ref sig .tc := ⟨.hbm, 207, rfl⟩
abbrev main_cst_27 : Ref sig .tc := ⟨.hbm, 208, rfl⟩
abbrev main_call9_v0 : Ref sig .tc := ⟨.hbm, 209, rfl⟩
abbrev main_call9_v1 : Ref sig .tc := ⟨.hbm, 210, rfl⟩
abbrev main_v117 : Ref sig .tc := ⟨.hbm, 211, rfl⟩
abbrev main_cst_28 : Ref sig .tc := ⟨.hbm, 212, rfl⟩
abbrev main_call10_v0 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_cst_29 : Ref sig .tc := ⟨.hbm, 221, rfl⟩
abbrev main_call11_v0 : Ref sig .tc := ⟨.hbm, 222, rfl⟩
abbrev main_call11_v1 : Ref sig .tc := ⟨.hbm, 223, rfl⟩
abbrev main_v125 : Ref sig .tc := ⟨.hbm, 224, rfl⟩
abbrev main_v126 : Ref sig .tc := ⟨.hbm, 225, rfl⟩
abbrev main_v127_0 : Ref sig .tc := ⟨.hbm, 226, rfl⟩
abbrev main_v127_1 : Ref sig .tc := ⟨.hbm, 227, rfl⟩
abbrev main_v127_2 : Ref sig .tc := ⟨.hbm, 228, rfl⟩
abbrev main_v127_3 : Ref sig .tc := ⟨.hbm, 229, rfl⟩
abbrev main_v127_4 : Ref sig .tc := ⟨.hbm, 230, rfl⟩
abbrev main_v127_5 : Ref sig .tc := ⟨.hbm, 231, rfl⟩
abbrev main_v127_6 : Ref sig .tc := ⟨.hbm, 232, rfl⟩
abbrev main_v127_7 : Ref sig .tc := ⟨.hbm, 233, rfl⟩
abbrev main_v127_8 : Ref sig .tc := ⟨.hbm, 234, rfl⟩
abbrev main_v127_9 : Ref sig .tc := ⟨.hbm, 235, rfl⟩
abbrev main_v127_10 : Ref sig .tc := ⟨.hbm, 236, rfl⟩
abbrev main_v127_11 : Ref sig .tc := ⟨.hbm, 237, rfl⟩
abbrev main_v127_12 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_stg27_0 : Ref sig .tc := ⟨.vmem, 44, rfl⟩
abbrev cc0_stg27_1 : Ref sig .tc := ⟨.vmem, 45, rfl⟩
abbrev cc0_stg28_0 : Ref sig .tc := ⟨.vmem, 46, rfl⟩
abbrev cc0_stg28_1 : Ref sig .tc := ⟨.vmem, 47, rfl⟩
abbrev cc0_stg29_0 : Ref sig .tc := ⟨.vmem, 48, rfl⟩
abbrev cc0_stg30_0 : Ref sig .tc := ⟨.vmem, 49, rfl⟩
abbrev cc0_stg31_0 : Ref sig .tc := ⟨.vmem, 50, rfl⟩
abbrev cc0_stg32_0 : Ref sig .tc := ⟨.vmem, 51, rfl⟩
abbrev cc0_stg33_0 : Ref sig .tc := ⟨.vmem, 52, rfl⟩
abbrev cc0_stg34_0 : Ref sig .tc := ⟨.vmem, 53, rfl⟩
abbrev cc0_scratch0 : Ref sig .tc := ⟨.vmem, 54, rfl⟩
abbrev cc0_scratch1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc0_sem26_0 : DmaSem sig := 42
abbrev cc0_sem26_1 : DmaSem sig := 43
abbrev cc0_sem27_0 : DmaSem sig := 44
abbrev cc0_sem27_1 : DmaSem sig := 45
abbrev cc0_sem28_0 : DmaSem sig := 46
abbrev cc0_sem28_1 : DmaSem sig := 47
abbrev cc0_sem29_0 : DmaSem sig := 48
abbrev cc0_sem30_0 : DmaSem sig := 49
abbrev cc0_sem31_0 : DmaSem sig := 50
abbrev cc0_sem32_0 : DmaSem sig := 51
abbrev cc0_sem33_0 : DmaSem sig := 52
abbrev cc0_sem34_0 : DmaSem sig := 53

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2304 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x384x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2304 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x384 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x384 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S8x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== FrontBwdRefIdeal.lean ====
abbrev S4096x1024 : Shape := ⟨2, ![4096, 1024]⟩
abbrev S4096 : Shape := ⟨1, ![4096]⟩
abbrev S4096x8x96 : Shape := ⟨3, ![4096, 8, 96]⟩
abbrev S4096x8x64 : Shape := ⟨3, ![4096, 8, 64]⟩
abbrev S4096x512 : Shape := ⟨2, ![4096, 512]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S64 : Shape := ⟨1, ![64]⟩
abbrev S32 : Shape := ⟨1, ![32]⟩
abbrev S3x512 : Shape := ⟨2, ![3, 512]⟩
abbrev S_ : Shape := ⟨0, ![]⟩
abbrev S4096x1 : Shape := ⟨2, ![4096, 1]⟩
abbrev S1x1024 : Shape := ⟨2, ![1, 1024]⟩
abbrev S4096x2208 : Shape := ⟨2, ![4096, 2208]⟩
abbrev S4096x384 : Shape := ⟨2, ![4096, 384]⟩
abbrev S1x384 : Shape := ⟨2, ![1, 384]⟩
abbrev S4096x256 : Shape := ⟨2, ![4096, 256]⟩
abbrev S1x256 : Shape := ⟨2, ![1, 256]⟩
abbrev S2x512 : Shape := ⟨2, ![2, 512]⟩
abbrev S4098x512 : Shape := ⟨2, ![4098, 512]⟩
abbrev S1x512 : Shape := ⟨2, ![1, 512]⟩
abbrev S512 : Shape := ⟨1, ![512]⟩
abbrev S8x512 : Shape := ⟨2, ![8, 512]⟩

abbrev nBuf : Space → Nat
  | .hbm => 136
  | .vmem => 0
  | .smem => 0
  | _ => 0

abbrev hbmTy0_0 (i : Nat) : BufTy := match i % 128 with
  | 0 => ⟨S4096x1024, .f32⟩
  | 1 => ⟨S4096, .i32⟩
  | 2 => ⟨S4096x1024, .f32⟩
  | 3 => ⟨S4096x8x96, .f32⟩
  | 4 => ⟨S4096x8x96, .f32⟩
  | 5 => ⟨S4096x8x64, .f32⟩
  | 6 => ⟨S4096x512, .f32⟩
  | 7 => ⟨S1024, .f32⟩
  | 8 => ⟨S1024x2208, .f32⟩
  | 9 => ⟨S384, .f32⟩
  | 10 => ⟨S384x768, .f32⟩
  | 11 => ⟨S256, .f32⟩
  | 12 => ⟨S256x1024, .f32⟩
  | 13 => ⟨S64, .f32⟩
  | 14 => ⟨S32, .f32⟩
  | 15 => ⟨S64, .f32⟩
  | 16 => ⟨S32, .f32⟩
  | 17 => ⟨S3x512, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S4096x2208, .f32⟩
  | 35 => ⟨S4096x384, .f32⟩
  | 36 => ⟨S4096x384, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1, .f32⟩
  | 47 => ⟨S4096x384, .f32⟩
  | 48 => ⟨S4096x384, .f32⟩
  | 49 => ⟨S1x384, .f32⟩
  | 50 => ⟨S4096x384, .f32⟩
  | 51 => ⟨S4096x384, .f32⟩
  | 52 => ⟨S4096x256, .f32⟩
  | 53 => ⟨S4096x256, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x256, .f32⟩
  | 65 => ⟨S4096x256, .f32⟩
  | 66 => ⟨S1x256, .f32⟩
  | 67 => ⟨S4096x256, .f32⟩
  | 68 => ⟨S4096x256, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S2x512, .f32⟩
  | 75 => ⟨S4098x512, .f32⟩
  | 76 => ⟨S1x512, .f32⟩
  | 77 => ⟨S512, .f32⟩
  | 78 => ⟨S4096x512, .f32⟩
  | 79 => ⟨S1x512, .f32⟩
  | 80 => ⟨S4096x512, .f32⟩
  | 81 => ⟨S4096x512, .f32⟩
  | 82 => ⟨S_, .f32⟩
  | 83 => ⟨S4096x512, .f32⟩
  | 84 => ⟨S4096x512, .f32⟩
  | 85 => ⟨S1x512, .f32⟩
  | 86 => ⟨S512, .f32⟩
  | 87 => ⟨S4096x512, .f32⟩
  | 88 => ⟨S1x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S4096x512, .f32⟩
  | 95 => ⟨S1x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S_, .f32⟩
  | 103 => ⟨S512, .f32⟩
  | 104 => ⟨S1x512, .f32⟩
  | 105 => ⟨S_, .f32⟩
  | 106 => ⟨S512, .f32⟩
  | 107 => ⟨S1x512, .f32⟩
  | 108 => ⟨S_, .f32⟩
  | 109 => ⟨S3x512, .f32⟩
  | 110 => ⟨S4096x512, .f32⟩
  | 111 => ⟨S_, .f32⟩
  | 112 => ⟨S512, .f32⟩
  | 113 => ⟨S1x512, .f32⟩
  | 114 => ⟨S_, .f32⟩
  | 115 => ⟨S512, .f32⟩
  | 116 => ⟨S1x512, .f32⟩
  | 117 => ⟨S_, .f32⟩
  | 118 => ⟨S3x512, .f32⟩
  | 119 => ⟨S3x512, .f32⟩
  | 120 => ⟨S4096x512, .f32⟩
  | 121 => ⟨S_, .f32⟩
  | 122 => ⟨S512, .f32⟩
  | 123 => ⟨S1x512, .f32⟩
  | 124 => ⟨S_, .f32⟩
  | 125 => ⟨S512, .f32⟩
  | 126 => ⟨S1x512, .f32⟩
  | 127 => ⟨S_, .f32⟩
  | _ => ⟨S4096x1024, .f32⟩

abbrev hbmTy0_1 (i : Nat) : BufTy := match i % 128 with
  | 0 => ⟨S3x512, .f32⟩
  | 1 => ⟨S3x512, .f32⟩
  | 2 => ⟨S4096x1024, .bf16⟩
  | 3 => ⟨S4096x384, .bf16⟩
  | 4 => ⟨S4096x256, .bf16⟩
  | 5 => ⟨S_, .i32⟩
  | 6 => ⟨S_, .f32⟩
  | 7 => ⟨S8x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_10 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_cst_13 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_v89 : Ref sig .tc := ⟨.hbm, 126, rfl⟩
abbrev main_cst_18 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c : Ref sig .tc := ⟨.hbm, 133, rfl⟩
abbrev main_call0_v0 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== MixFwd.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S1x512 : Shape := ⟨2, ![1, 512]⟩
abbrev S8x128x1024 : Shape := ⟨3, ![8, 128, 1024]⟩
abbrev S512x1024 : Shape := ⟨2, ![512, 1024]⟩
abbrev S512x512 : Shape := ⟨2, ![512, 512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S8x128x1024, .bf16⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S8x128x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFwdRefIdeal.lean ====
abbrev S4096x1024 : Shape := ⟨2, ![4096, 1024]⟩
abbrev S4096x512 : Shape := ⟨2, ![4096, 512]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S1x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x1024, .f32⟩
  | .hbm, ⟨39, _⟩ => ⟨S4096x1024, .f32⟩
  | .hbm, ⟨40, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== MlpFwd.lean ====
abbrev S4096x1024 : Shape := ⟨2, ![4096, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S256x1024 : Shape := ⟨2, ![256, 1024]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x1024, .bf16⟩
  | .hbm, ⟨9, _⟩ => ⟨S8x512x1024, .bf16⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024x512, .bf16⟩
  | .local _ .vmem, ⟨4, _⟩ => ⟨S8x512x1024, .bf16⟩
  | .local _ .vmem, ⟨5, _⟩ => ⟨S256x1024, .f32⟩
  | .local _ .vmem, ⟨6, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpFwdRefIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== PleFwd.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S8x128x1024 : Shape := ⟨3, ![8, 128, 1024]⟩
abbrev S256x8x128 : Shape := ⟨3, ![256, 8, 128]⟩
abbrev S8x256x128 : Shape := ⟨3, ![8, 256, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256x128 : Shape := ⟨3, ![1, 256, 128]⟩
abbrev S256x128 : Shape := ⟨2, ![256, 128]⟩
abbrev S512x128 : Shape := ⟨2, ![512, 128]⟩

abbrev nBuf : Space → Nat
  | .hbm => 12
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S8x128x1024, .bf16⟩
  | .hbm, ⟨8, _⟩ => ⟨S256x1024, .bf16⟩
  | .hbm, ⟨9, _⟩ => ⟨S256x8x128, .bf16⟩
  | .hbm, ⟨10, _⟩ => ⟨S8x256x128, .bf16⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S8x128x1024, .bf16⟩
  | .local _ .vmem, ⟨6, _⟩ => ⟨S8x256x128, .bf16⟩
  | .local _ .vmem, ⟨7, _⟩ => ⟨S512x1024, .f32⟩
  | .local _ .vmem, ⟨8, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleFwdRefIdeal.lean ====
abbrev S4096x1024 : Shape := ⟨2, ![4096, 1024]⟩
abbrev S4096x256 : Shape := ⟨2, ![4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Reals.lean ====
/- Finite elements: the operations of an ideal program on real numbers, and the words of the constants that occur. -/
module

public import Idealize.ShloMosaic.Lib.Pointwise

@[expose] public section

set_option maxRecDepth 16384

noncomputable section

open Idealize.ShloMosaic

namespace Cert.Reals

/-- The constant the norms add to a mean square: the rational of its float word. -/
def eps : ℝ := 8796093 / 8796093022208

theorem eps_pos : 0 < eps := by unfold eps; norm_num

/-- The word of the norms' constant. -/
theorem word_eps : Ideal.ofBits .f32 0x358637BD#32 = ((eps : ℝ) : EReal) := by
  unfold eps
  simp [Ideal.ofBits, Ideal.ieee, -EReal.coe_mul]
  norm_num

theorem word_512 : Ideal.ofBits .f32 0x44000000#32 = ((512 : ℝ) : EReal) := by
  simp [Ideal.ofBits, Ideal.ieee, -EReal.coe_mul]
  norm_num

theorem word_1024 : Ideal.ofBits .f32 0x44800000#32 = ((1024 : ℝ) : EReal) := by
  simp [Ideal.ofBits, Ideal.ieee, -EReal.coe_mul]
  norm_num

theorem word_two : Ideal.ofBits .f32 0x40000000#32 = ((2 : ℝ) : EReal) := by
  simp [Ideal.ofBits, Ideal.ieee, -EReal.coe_mul]
  norm_num

theorem word_half : Ideal.ofBits .f32 0x3F000000#32 = ((1 / 2 : ℝ) : EReal) := by
  simp [Ideal.ofBits, Ideal.ieee, -EReal.coe_mul]
  norm_num

theorem word_neg_half : Ideal.ofBits .f32 0xBF000000#32 = ((-(1 / 2) : ℝ) : EReal) := by
  simp [Ideal.ofBits, Ideal.ieee, -EReal.coe_mul]
  norm_num

/-- A quotient of real numbers. -/
theorem div_real {b : ℝ} (hb : b ≠ 0) (a : ℝ) : Ideal.div (a : EReal) (b : EReal) = ((a / b : ℝ) : EReal) := by
  rw [Ideal.div_coe hb, ← EReal.coe_mul, mul_one_div]

/-- A sum of real numbers. -/
theorem sum_real {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The larger of a real number and zero. -/
theorem max_real (a : ℝ) : max (a : EReal) 0 = ((max a 0 : ℝ) : EReal) := (EReal.coe_strictMono.monotone.map_max (a := a) (b := 0)).symm

/-- The gate of a real number. -/
def gate (a : ℝ) : ℝ := 1 / (1 + Real.exp (-a))

theorem logistic_real (a : ℝ) : Ideal.logistic (a : EReal) = ((gate a : ℝ) : EReal) := by
  have h : (1 + Real.exp (-a) : ℝ) ≠ 0 := (add_pos one_pos (Real.exp_pos _)).ne'
  rw [Ideal.logistic, ← EReal.coe_neg, Ideal.exp_coe, ← EReal.coe_one, ← EReal.coe_add, div_real h, gate]

/-- The gate as its lines write it. -/
theorem gate_lines (a : ℝ) : Ideal.div 1 (1 + Ideal.exp (-(a : EReal))) = ((gate a : ℝ) : EReal) := logistic_real a

/-- The reciprocal root of a positive real number. -/
theorem rsqrt_real {b : ℝ} (hb : 0 < b) : Ideal.rsqrt (b : EReal) = (((√b)⁻¹ : ℝ) : EReal) := by
  rw [Ideal.rsqrt_coe, if_neg hb.not_gt, if_neg hb.ne']

theorem eps_ne {a : ℝ} (ha : 0 ≤ a) : a + eps ≠ 0 := (add_pos_of_nonneg_of_pos ha eps_pos).ne'

theorem pos_512 : (0 : ℝ) < 512 := by norm_num

theorem pos_1024 : (0 : ℝ) < 1024 := by norm_num

/-- A quotient by the width 512. -/
theorem div_512 (a : ℝ) : Ideal.div (a : EReal) ((512 : ℝ) : EReal) = ((a / 512 : ℝ) : EReal) := div_real pos_512.ne' a

/-- A quotient by the width 1024. -/
theorem div_1024 (a : ℝ) : Ideal.div (a : EReal) ((1024 : ℝ) : EReal) = ((a / 1024 : ℝ) : EReal) := div_real pos_1024.ne' a

/-- The mean of the squares of a row plus the norms' constant. -/
def meanSq {n : ℕ} (N : ℝ) (x : Fin n → ℝ) : ℝ := (∑ k, x k * x k) / N + eps

/-- The norm's factor of a row. -/
def inv {n : ℕ} (N : ℝ) (x : Fin n → ℝ) : ℝ := (√(meanSq N x))⁻¹

theorem meanSq_pos {n : ℕ} {N : ℝ} (hN : 0 < N) (x : Fin n → ℝ) : 0 < meanSq N x :=
  add_pos_of_nonneg_of_pos (div_nonneg (Finset.sum_nonneg fun k _ => mul_self_nonneg _) hN.le) eps_pos

/-- The factor over the mean square is the factor's cube. -/
theorem inv_div {n : ℕ} {N : ℝ} (hN : 0 < N) (x : Fin n → ℝ) : inv N x / meanSq N x = inv N x * (inv N x * inv N x) := by
  have h := meanSq_pos hN x
  have hs : √(meanSq N x) * √(meanSq N x) = meanSq N x := Real.mul_self_sqrt h.le
  have hn : √(meanSq N x) ≠ 0 := (Real.sqrt_pos.2 h).ne'
  unfold inv
  rw [div_eq_mul_inv, ← mul_inv (√(meanSq N x)) (√(meanSq N x)), hs]

/-- The gradient of the norm with respect to its row, as it is written by hand. -/
def normBwd {n : ℕ} (N : ℝ) (x g dy : Fin n → ℝ) (c : Fin n) : ℝ :=
  inv N x * (dy c * g c - x c * inv N x * ((∑ k, dy k * g k * (x k * inv N x)) / N))

/-- What the derivative of the norm's lines sums over a row. -/
def normDot {n : ℕ} (N : ℝ) (x g dy : Fin n → ℝ) : ℝ :=
  (∑ k, x k * (dy k * g k)) * (-(1 / 2) * (inv N x / meanSq N x)) / N

/-- The gradient by hand is the derivative's. -/
theorem normBwd_eq {n : ℕ} {N : ℝ} (hN : 0 < N) (x g dy : Fin n → ℝ) (c : Fin n) :
    normBwd N x g dy c = dy c * g c * inv N x + (normDot N x g dy * x c + x c * normDot N x g dy) := by
  have hs : ∑ k, dy k * g k * (x k * inv N x) = (∑ k, x k * (dy k * g k)) * inv N x := by
    rw [Finset.sum_mul]
    exact Finset.sum_congr rfl fun k _ => by ring
  unfold normBwd normDot
  rw [inv_div hN, hs]
  ring

/-- The quotient of a real number by a row's mean square. -/
theorem div_meanSq {n : ℕ} {N : ℝ} (hN : 0 < N) (x : Fin n → ℝ) (a : ℝ) :
    Ideal.div (a : EReal) (((∑ k, x k * x k) / N + eps : ℝ) : EReal) = ((a / meanSq N x : ℝ) : EReal) :=
  div_real (meanSq_pos hN x).ne' a

/-- The norm's factor of a row of real numbers. -/
theorem rsqrt_meanSq {n : ℕ} {N : ℝ} (hN : 0 < N) (x : Fin n → ℝ) :
    Ideal.rsqrt (((∑ k, x k * x k) / N + eps : ℝ) : EReal) = ((inv N x : ℝ) : EReal) :=
  rsqrt_real (meanSq_pos hN x)

end Cert.Reals
-- ==== Proof.MixSpec.lean ====
/- The output projection's backward over real numbers. -/
module

public import proofs.«01_k».proof.Proof.Reals

@[expose] public section

noncomputable section

open Cert.Reals

namespace Cert.MixSpec

variable {n : ℕ}

/-- The cotangent of the joined norms. -/
def cot (dx : Fin n → Fin 1024 → ℝ) (w : Fin 1024 → Fin 1024 → ℝ) (i : Fin n) (c : Fin 1024) : ℝ := ∑ k, dx i k * w c k

/-- Its first half, the attention's. -/
def cotAttn (dx : Fin n → Fin 1024 → ℝ) (w : Fin 1024 → Fin 1024 → ℝ) (i : Fin n) (c : Fin 512) : ℝ := cot dx w i ⟨c, by omega⟩

/-- Its second half, the convolution's. -/
def cotConv (dx : Fin n → Fin 1024 → ℝ) (w : Fin 1024 → Fin 1024 → ℝ) (i : Fin n) (c : Fin 512) : ℝ := cot dx w i ⟨512 + c, by omega⟩

/-- The two norms side by side. -/
def joined (a b : Fin n → Fin 512 → ℝ) (g h : Fin 512 → ℝ) (i : Fin n) (c : Fin 1024) : ℝ :=
  if hc : (c : ℕ) < 512 then a i ⟨c, hc⟩ * inv 512 (a i) * g ⟨c, hc⟩ else b i ⟨c - 512, by omega⟩ * inv 512 (b i) * h ⟨c - 512, by omega⟩

/-- A gain's gradient: the sum over the rows. -/
def gain (dy a : Fin n → Fin 512 → ℝ) (c : Fin 512) : ℝ := ∑ i, dy i c * (a i c * inv 512 (a i))

end Cert.MixSpec
-- ==== Proof.MixRef.lean ====
/- The derivative of the output projection's lines, read at an index over real numbers. -/
module

public import proofs.«01_k».proof.Proof.Gen.MixBwdRefIdeal.Read
public import proofs.«01_k».proof.Proof.MixSpec

@[expose] public section

set_option maxRecDepth 16384

noncomputable section

open Idealize.ShloMosaic Idealize.ShloMosaic.TcCoe Idealize.SL.Sem
open Cert.Reals Cert.MixSpec

namespace Cert.MixRef

open Cert.MixBwdRefIdeal Cert.MixBwdRefIdeal.Gen Cert.MixBwdRefIdeal.Read

variable {x0 : FVec Ideal S4096x1024 .f32} {x1 x2 : FVec Ideal S4096x512 .f32} {x3 x4 : FVec Ideal S512 .f32} {x5 : FVec Ideal S1024x1024 .f32}
variable {dx : Fin 4096 → Fin 1024 → ℝ} {a b : Fin 4096 → Fin 512 → ℝ} {g h : Fin 512 → ℝ} {w : Fin 1024 → Fin 1024 → ℝ}

/-- The norm's factor. -/
theorem factor (h1 : ∀ i c, x1 (ix2 i c) = a i c) (i : Fin 4096) (z : Fin 1) :
    val_main_v7 (F := Ideal) x1 (ix2 i z) = inv 512 (a i) := by
  pointwise [val_main_v7, val_main_v6, val_main_v5, val_main_v4, val_main_v3, val_main_v2, val_main_v1, val_main_v0, val_main_cst, val_main_cst_0,
    val_main_cst_1, h1, word_512, word_eps]
  simp only [← EReal.coe_mul, sum_real, ← EReal.coe_add, div_512, rsqrt_meanSq pos_512]

/-- Half the factor over the mean square, negated. -/
theorem slope (h1 : ∀ i c, x1 (ix2 i c) = a i c) (i : Fin 4096) (z : Fin 1) :
    val_main_v10 (F := Ideal) x1 (ix2 i z) = ((-(1 / 2) * (inv 512 (a i) / meanSq 512 (a i)) : ℝ) : EReal) := by
  pointwise [val_main_v10, val_main_v9, val_main_cst_2, val_main_v8, factor h1, val_main_v6, val_main_v5, val_main_v4, val_main_v3, val_main_v2,
    val_main_v1, val_main_v0, val_main_cst, val_main_cst_0, val_main_cst_1, h1, word_512, word_eps, word_neg_half]
  simp only [← EReal.coe_mul, sum_real, ← EReal.coe_add, div_512, div_meanSq pos_512]

/-- The two norms divide by the same factor. -/
theorem factor_conv : val_main_v23 (F := Ideal) x2 = val_main_v7 x2 := rfl

theorem slope_conv : val_main_v26 (F := Ideal) x2 = val_main_v10 x2 := rfl

/-- The cotangent of the joined norms, as a product with the transposed weight. -/
theorem cot_at (h0 : ∀ i c, x0 (ix2 i c) = dx i c) (h5 : ∀ i c, x5 (ix2 i c) = w i c) (i : Fin 4096) (c : Fin 1024) :
    val_main_v34 (F := Ideal) x0 x5 (ix2 i c) = cot dx w i c := by
  pointwise [val_main_v34, h0, h5]
  simp only [← EReal.coe_mul, sum_real, cot]

/-- The cotangent of the first norm, times its gain. -/
theorem gained (h0 : ∀ i c, x0 (ix2 i c) = dx i c) (h3 : ∀ c, x3 (ix1 c) = g c) (h5 : ∀ i c, x5 (ix2 i c) = w i c) (i : Fin 4096) (c : Fin 512) :
    val_main_v61 (F := Ideal) x0 x3 x5 (ix2 i c) = ((cotAttn dx w i c * g c : ℝ) : EReal) := by
  pointwise [val_main_v61, val_main_v60, val_main_v13, val_main_v35, cot_at h0 h5, h3]
  simp only [← EReal.coe_mul, cotAttn]

/-- The cotangent of the second norm, times its gain. -/
theorem gained_conv (h0 : ∀ i c, x0 (ix2 i c) = dx i c) (h4 : ∀ c, x4 (ix1 c) = h c) (h5 : ∀ i c, x5 (ix2 i c) = w i c) (i : Fin 4096) (c : Fin 512) :
    val_main_v41 (F := Ideal) x0 x4 x5 (ix2 i c) = ((cotConv dx w i c * h c : ℝ) : EReal) := by
  pointwise [val_main_v41, val_main_v40, val_main_v29, val_main_v36, cot_at h0 h5, h4]
  simp only [← EReal.coe_mul, cotConv]

/-- The row's sum in the derivative of the first norm. -/
theorem dot (h0 : ∀ i c, x0 (ix2 i c) = dx i c) (h1 : ∀ i c, x1 (ix2 i c) = a i c) (h3 : ∀ c, x3 (ix1 c) = g c) (h5 : ∀ i c, x5 (ix2 i c) = w i c)
    (i : Fin 4096) :
    val_main_v71 (F := Ideal) x0 x1 x3 x5 (ix1 i) = normDot 512 (a i) g (cotAttn dx w i) := by
  pointwise [val_main_v71, val_main_v70, val_main_v69, val_main_v68, val_main_v65, val_main_v64, val_main_v63, gained h0 h3 h5, slope h1,
    val_main_cst_14, val_main_cst_15, val_main_cst_16, h1, word_512]
  simp only [← EReal.coe_mul, sum_real, ← EReal.coe_add, div_512, normDot, Fin.sum_univ_one]

/-- The row's sum in the derivative of the second norm. -/
theorem dot_conv (h0 : ∀ i c, x0 (ix2 i c) = dx i c) (h2 : ∀ i c, x2 (ix2 i c) = b i c) (h4 : ∀ c, x4 (ix1 c) = h c) (h5 : ∀ i c, x5 (ix2 i c) = w i c)
    (i : Fin 4096) :
    val_main_v51 (F := Ideal) x0 x2 x4 x5 (ix1 i) = normDot 512 (b i) h (cotConv dx w i) := by
  pointwise [val_main_v51, val_main_v50, val_main_v49, val_main_v48, val_main_v45, val_main_v44, val_main_v43, gained_conv h0 h4 h5, slope_conv,
    slope h2, val_main_cst_9, val_main_cst_10, val_main_cst_11, h2, word_512]
  simp only [← EReal.coe_mul, sum_real, ← EReal.coe_add, div_512, normDot, Fin.sum_univ_one]

/-- The derivative with respect to the attention's output. -/
theorem dattn (h0 : ∀ i c, x0 (ix2 i c) = dx i c) (h1 : ∀ i c, x1 (ix2 i c) = a i c) (h3 : ∀ c, x3 (ix1 c) = g c) (h5 : ∀ i c, x5 (ix2 i c) = w i c)
    (i : Fin 4096) (c : Fin 512) :
    val_main_v76 (F := Ideal) x0 x1 x3 x5 (ix2 i c) = normBwd 512 (a i) g (cotAttn dx w i) c := by
  pointwise [val_main_v76, val_main_v75, val_main_v74, val_main_v73, val_main_v72, val_main_v67, val_main_v66, gained h0 h3 h5, factor h1,
    dot h0 h1 h3 h5, h1]
  rw [normBwd_eq pos_512]
  simp only [← EReal.coe_mul, ← EReal.coe_add, EReal.coe_eq_coe_iff]
  ring

/-- The derivative with respect to the convolution's output. -/
theorem dconv (h0 : ∀ i c, x0 (ix2 i c) = dx i c) (h2 : ∀ i c, x2 (ix2 i c) = b i c) (h4 : ∀ c, x4 (ix1 c) = h c) (h5 : ∀ i c, x5 (ix2 i c) = w i c)
    (i : Fin 4096) (c : Fin 512) :
    val_main_v56 (F := Ideal) x0 x2 x4 x5 (ix2 i c) = normBwd 512 (b i) h (cotConv dx w i) c := by
  pointwise [val_main_v56, val_main_v55, val_main_v54, val_main_v53, val_main_v52, val_main_v47, val_main_v46, gained_conv h0 h4 h5, factor_conv,
    factor h2, dot_conv h0 h2 h4 h5, h2]
  rw [normBwd_eq pos_512]
  simp only [← EReal.coe_mul, ← EReal.coe_add, EReal.coe_eq_coe_iff]
  ring

/-- The derivative with respect to the first gain. -/
theorem dgain (h0 : ∀ i c, x0 (ix2 i c) = dx i c) (h1 : ∀ i c, x1 (ix2 i c) = a i c) (h5 : ∀ i c, x5 (ix2 i c) = w i c) (z : Fin 1) (c : Fin 512) :
    val_main_v78 (F := Ideal) x0 x1 x5 (ix2 z c) = gain (cotAttn dx w) a c := by
  pointwise [val_main_v78, val_main_v62, val_main_v59, val_main_v58, val_main_v57, val_main_v12, val_main_v11, factor h1, val_main_v35,
    cot_at h0 h5, h1, val_main_cst_12, val_main_cst_13]
  simp only [← EReal.coe_mul, sum_real, Fin.sum_univ_one, EReal.coe_eq_coe_iff]
  exact Finset.sum_congr rfl fun i _ => mul_comm _ _

/-- The derivative with respect to the second gain. -/
theorem dgain_conv (h0 : ∀ i c, x0 (ix2 i c) = dx i c) (h2 : ∀ i c, x2 (ix2 i c) = b i c) (h5 : ∀ i c, x5 (ix2 i c) = w i c) (z : Fin 1) (c : Fin 512) :
    val_main_v79 (F := Ideal) x0 x2 x5 (ix2 z c) = gain (cotConv dx w) b c := by
  pointwise [val_main_v79, val_main_v42, val_main_v39, val_main_v38, val_main_v37, val_main_v28, val_main_v27, factor_conv, factor h2, val_main_v36,
    cot_at h0 h5, h2, val_main_cst_7, val_main_cst_8]
  simp only [← EReal.coe_mul, sum_real, Fin.sum_univ_one, EReal.coe_eq_coe_iff]
  exact Finset.sum_congr rfl fun i _ => mul_comm _ _

/-- The two norms side by side. -/
theorem joined (h1 : ∀ i c, x1 (ix2 i c) = a i c) (h2 : ∀ i c, x2 (ix2 i c) = b i c) (h3 : ∀ c, x3 (ix1 c) = g c) (h4 : ∀ c, x4 (ix1 c) = h c)
    (i : Fin 4096) (c : Fin 1024) :
    val_main_v77 (F := Ideal) x1 x2 x3 x4 (ix2 i c) = MixSpec.joined a b g h i c := by
  pointwise [val_main_v77, val_main_v32, val_main_v31, val_main_v30, val_main_v29, val_main_v28, val_main_v27, val_main_v15, val_main_v14, val_main_v13,
    val_main_v12, val_main_v11, factor_conv, factor h1, factor h2, h1, h2, h3, h4]
  unfold MixSpec.joined
  split <;> simp only [← EReal.coe_mul]

variable (m : (ℓ : Loc nD τ sig) → Buf (Elt Ideal) ℓ) (ρ : Dev nD → PrngReg)

/-- The derivative's program ends with these stages in its results. -/
theorem run : θ_run defs (onTc (τ := τ) (main (F := Ideal))) ⟨m, fun _ => 0, ρ⟩ fun r => ∀ c : Dev nD,
    r.2.mem ((c.tc : Thread nD τ).loc main_v77) = val_main_v77 (F := Ideal) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v76) = val_main_v76 (F := Ideal) (m ((c.tc : Thread nD τ).loc main_arg0)) (m ((c.tc : Thread nD τ).loc main_arg1)) (m ((c.tc : Thread nD τ).loc main_arg3)) (m ((c.tc : Thread nD τ).loc main_arg5))
    ∧ r.2.mem ((c.tc : Thread nD τ).loc main_v56) = val_main_v56 (F := Ideal) (m ((c.tc : Thread nD τ).loc main_arg0)) (m ((c.tc : Thread nD τ).loc main_arg2)) (m ((c.tc : Thread nD τ).loc main_arg4)) (m ((c.tc : Thread nD τ).loc main_arg5))
    ∧ r.2.mem ((c.tc : Thread nD τ).loc main_v78) = val_main_v78 (F := Ideal) (m ((c.tc : Thread nD τ).loc main_arg0)) (m ((c.tc : Thread nD τ).loc main_arg1)) (m ((c.tc : Thread nD τ).loc main_arg5))
    ∧ r.2.mem ((c.tc : Thread nD τ).loc main_v79) = val_main_v79 (F := Ideal) (m ((c.tc : Thread nD τ).loc main_arg0)) (m ((c.tc : Thread nD τ).loc main_arg2)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => by
    obtain ⟨r0, r1, r2, r3, r4, kept⟩ := h c
    exact ⟨r0.trans (val_main_v77_eq _ _ _ _), r1.trans (val_main_v76_eq _ _), r2.trans (val_main_v56_eq _ _), r3.trans (val_main_v78_eq _ _ _),
      r4.trans (val_main_v79_eq _ _ _), kept⟩) (Cert.MixBwdRefIdeal.Value.run m ρ)

end Cert.MixRef
-- ==== Proof.MixBlock.lean ====
/- What one block of the output projection's backward stores, over real numbers. -/
module

public import proofs.«01_k».proof.Proof.Gen.MixBwdIdeal.Skeleton
public import proofs.«01_k».proof.Proof.MixSpec

@[expose] public section

set_option maxRecDepth 16384

noncomputable section

open Idealize.ShloMosaic Idealize.ShloMosaic.TcCoe Idealize.SL.Sem
open Cert.Reals Cert.MixSpec

namespace Cert.MixBlock

open Cert.MixBwdIdeal Cert.MixBwdIdeal.Gen

variable {x0 : FVec Ideal S512x1024 .f32} {x1 x2 : FVec Ideal S512x512 .f32} {x3 x4 : FVec Ideal S1x512 .f32} {x5 : FVec Ideal S8x128x1024 .bf16}
variable {dx : Fin 512 → Fin 1024 → ℝ} {a b : Fin 512 → Fin 512 → ℝ} {g h : Fin 512 → ℝ} {w : Fin 1024 → Fin 1024 → ℝ}

/-- The cotangent of a block's joined norms: a product with the weight, whose rows come as eight stacked groups. -/
theorem cot_at (h0 : ∀ i c, x0 (ix2 i c) = dx i c) (h5 : ∀ (n : Fin 8) (r : Fin 128) c, x5 (ix3 n r c) = w ⟨128 * n + r, by omega⟩ c)
    (i : Fin 512) (c : Fin 1024) :
    k0_pay9 (F := Ideal) (k0_pay7 x0) (k0_pay8 x5) (ix2 i c) = cot dx w i c := by
  have hc : ∀ k, x5 (ix3 ⟨c / 128, by omega⟩ ⟨c % 128, by omega⟩ k) = w c k := fun k => by
    rw [h5]
    exact congrArg (fun e => ((w e k : ℝ) : EReal)) (Fin.ext (Nat.div_add_mod _ _))
  pointwise [k0_pay9, k0_pay8, k0_pay7, h0, hc]
  simp only [← EReal.coe_mul, sum_real, cot]

/-- The norm's factor of a block's row. -/
theorem factor (h1 : ∀ i c, x1 (ix2 i c) = a i c) (i : Fin 512) (z : Fin 1) : k0_pay11 (F := Ideal) x1 (ix2 i z) = inv 512 (a i) := by
  pointwise [k0_pay11, h1, word_512, word_eps]
  simp only [← EReal.coe_mul, sum_real, ← EReal.coe_add, div_512, rsqrt_meanSq pos_512]

theorem factor_conv : k0_pay17 (F := Ideal) x2 = k0_pay11 x2 := rfl

/-- The gradient of the first norm's rows. -/
theorem dattn (h0 : ∀ i c, x0 (ix2 i c) = dx i c) (h1 : ∀ i c, x1 (ix2 i c) = a i c) (h3 : ∀ z c, x3 (ix2 z c) = g c)
    (h5 : ∀ (n : Fin 8) (r : Fin 128) c, x5 (ix3 n r c) = w ⟨128 * n + r, by omega⟩ c) (i : Fin 512) (c : Fin 512) :
    k0_pay14 (F := Ideal) x1 (k0_pay7 x0) (k0_pay8 x5) x3 (ix2 i c)
      = normBwd 512 (a i) g (cotAttn dx w i) c := by
  pointwise [k0_pay14, k0_pay12, k0_pay10, factor h1, cot_at h0 h5, h1, h3, word_512]
  simp only [← EReal.coe_mul, ← EReal.coe_sub, sum_real, div_512, normBwd, cotAttn, cotConv]

/-- The gradient of the second norm's rows. -/
theorem dconv (h0 : ∀ i c, x0 (ix2 i c) = dx i c) (h2 : ∀ i c, x2 (ix2 i c) = b i c) (h4 : ∀ z c, x4 (ix2 z c) = h c)
    (h5 : ∀ (n : Fin 8) (r : Fin 128) c, x5 (ix3 n r c) = w ⟨128 * n + r, by omega⟩ c) (i : Fin 512) (c : Fin 512) :
    k0_pay1 (F := Ideal) (k0_pay15 x4) (k0_pay16 (k0_pay7 x0) (k0_pay8 x5)) (k0_pay17 x2) (k0_pay18 x2) (ix2 i c)
      = normBwd 512 (b i) h (cotConv dx w i) c := by
  pointwise [k0_pay1, k0_pay15, k0_pay16, k0_pay18, factor_conv, factor h2, cot_at h0 h5, h2, h4, word_512]
  simp only [← EReal.coe_mul, ← EReal.coe_sub, sum_real, div_512, normBwd, cotAttn, cotConv]

/-- What a block adds to the first gain's gradient. -/
theorem dgain (h0 : ∀ i c, x0 (ix2 i c) = dx i c) (h1 : ∀ i c, x1 (ix2 i c) = a i c)
    (h5 : ∀ (n : Fin 8) (r : Fin 128) c, x5 (ix3 n r c) = w ⟨128 * n + r, by omega⟩ c) (acc : FVec Ideal S1x512 .f32) (z : Fin 1) (c : Fin 512) :
    k0_pay3 (F := Ideal) (k0_pay13 x1 (k0_pay7 x0) (k0_pay8 x5)) acc (ix2 z c)
      = acc (ix2 z c) + (gain (cotAttn dx w) a c : EReal) := by
  pointwise [k0_pay3, k0_pay13, k0_pay12, k0_pay10, factor h1, cot_at h0 h5, h1]
  simp only [← EReal.coe_mul, sum_real, gain, cotAttn]

/-- What a block adds to the second gain's gradient. -/
theorem dgain_conv (h0 : ∀ i c, x0 (ix2 i c) = dx i c) (h2 : ∀ i c, x2 (ix2 i c) = b i c)
    (h5 : ∀ (n : Fin 8) (r : Fin 128) c, x5 (ix3 n r c) = w ⟨128 * n + r, by omega⟩ c) (acc : FVec Ideal S1x512 .f32) (z : Fin 1) (c : Fin 512) :
    k0_pay5 (F := Ideal) (k0_pay19 x2 (k0_pay7 x0) (k0_pay8 x5)) acc (ix2 z c)
      = acc (ix2 z c) + (gain (cotConv dx w) b c : EReal) := by
  pointwise [k0_pay5, k0_pay19, k0_pay18, k0_pay16, factor_conv, factor h2, cot_at h0 h5, h2]
  simp only [← EReal.coe_mul, sum_real, gain, cotConv]

theorem zero (j) : k0_pay2 (F := Ideal) j = 0 := by pointwise [k0_pay2]

theorem zero_conv (j) : k0_pay4 (F := Ideal) j = 0 := by pointwise [k0_pay4]

/-- A block's two norms side by side. -/
theorem joined (h1 : ∀ i c, x1 (ix2 i c) = a i c) (h2 : ∀ i c, x2 (ix2 i c) = b i c) (h3 : ∀ z c, x3 (ix2 z c) = g c) (h4 : ∀ z c, x4 (ix2 z c) = h c)
    (i : Fin 512) (c : Fin 1024) :
    k0_pay6 (F := Ideal) x1 x2 x3 x4 (ix2 i c) = MixSpec.joined a b g h i c := by
  pointwise [k0_pay6, h1, h2, h3, h4, word_512, word_eps]
  simp only [← EReal.coe_mul, sum_real, ← EReal.coe_add, div_512, rsqrt_meanSq pos_512]
  unfold MixSpec.joined
  split <;> rfl

end Cert.MixBlock
-- ==== Proof.MixArray.lean ====
/- The arrays the output projection's backward leaves, over real numbers. -/
module

public import proofs.«01_k».proof.Proof.Gen.MixBwdIdeal.Value
public import proofs.«01_k».proof.Proof.MixBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.MixSpec

namespace Cert.MixArray

open Cert.MixBwdIdeal Cert.MixBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0, 0] ∧ win0_6.index t = ![t.val, 0] ∧ win0_7.index t = ![t.val, 0] ∧ win0_8.index t = ![t.val, 0]
    ∧ win0_9.index t = ![0, 0] ∧ win0_10.index t = ![0, 0] ∧ t.val < 8 :=
  (by decide +kernel : ∀ t : Fin grid0.N, _)

/-- A row of a block, as a row of its array. -/
abbrev row (t : Fin cfg0.N) (i : Fin 512) : Fin 4096 := ⟨t.val * 512 + i, by have := (idx t).2.2.2.2.2.2.2.2.2.2.2; omega⟩

variable {m} {c : Dev nD}
variable {dx : Fin 4096 → Fin 1024 → ℝ} {a b : Fin 4096 → Fin 512 → ℝ} {g h : Fin 512 → ℝ} {w : Fin 1024 → Fin 1024 → ℝ}

theorem blk0 (h0 : ∀ i k, m ((c : Thread nD τ).loc main_arg0) (ix2 i k) = (dx i k : EReal)) (t : Fin cfg0.N) (i k) :
    (show FVec Ideal S512x1024 .f32 from iblk m c 0 t) (ix2 i k) = dx (row t i) k := by
  rw [← h0]; blk_ext [iblk, V, idx t]

theorem blk1 (h1 : ∀ i k, m ((c : Thread nD τ).loc main_arg1) (ix2 i k) = (a i k : EReal)) (t : Fin cfg0.N) (i k) :
    (show FVec Ideal S512x512 .f32 from iblk m c 1 t) (ix2 i k) = a (row t i) k := by
  rw [← h1]; blk_ext [iblk, V, idx t]

theorem blk2 (h2 : ∀ i k, m ((c : Thread nD τ).loc main_arg2) (ix2 i k) = (b i k : EReal)) (t : Fin cfg0.N) (i k) :
    (show FVec Ideal S512x512 .f32 from iblk m c 2 t) (ix2 i k) = b (row t i) k := by
  rw [← h2]; blk_ext [iblk, V, idx t]

theorem blk3 (h3 : ∀ k, m ((c : Thread nD τ).loc main_arg3) (ix1 k) = (g k : EReal)) (t : Fin cfg0.N) (z k) :
    (show FVec Ideal S1x512 .f32 from iblk m c 3 t) (ix2 z k) = g k := by
  rw [← h3]; blk_point [iblk, V, idx t]

theorem blk4 (h4 : ∀ k, m ((c : Thread nD τ).loc main_arg4) (ix1 k) = (h k : EReal)) (t : Fin cfg0.N) (z k) :
    (show FVec Ideal S1x512 .f32 from iblk m c 4 t) (ix2 z k) = h k := by
  rw [← h4]; blk_point [iblk, V, idx t]

theorem blk5 (h5 : ∀ i k, m ((c : Thread nD τ).loc main_arg5) (ix2 i k) = (w i k : EReal)) (t : Fin cfg0.N) (n : Fin 8) (r : Fin 128) (k) :
    (show FVec Ideal S8x128x1024 .bf16 from iblk m c 5 t) (ix3 n r k) = w ⟨128 * n + r, by omega⟩ k := by
  rw [← h5]; blk_point [iblk, V, idx t]

section Left

variable (m c)

/-- What a point leaves for the joined norms. -/
theorem left6 (t : Fin cfg0.N) :
    (outsAt0 m c t.val t.isLt).1 = k0_pay6 (iblk m c 1 t) (iblk m c 2 t) (iblk m c 3 t) (iblk m c 4 t) := by
  by_cases ht : t.val % 8 = 0
  · rw [outsAt0_A m c t ht ht]; frame_out
  · rw [outsAt0_B m c t ht ht]; frame_out

/-- What a point leaves for the attention's gradient. -/
theorem left7 (t : Fin cfg0.N) :
    (outsAt0 m c t.val t.isLt).2.1 = k0_pay14 (iblk m c 1 t) (k0_pay7 (iblk m c 0 t)) (k0_pay8 (iblk m c 5 t)) (iblk m c 3 t) := by
  by_cases ht : t.val % 8 = 0
  · rw [outsAt0_A m c t ht ht]; frame_out
  · rw [outsAt0_B m c t ht ht]; frame_out

/-- What a point leaves for the convolution's gradient. -/
theorem left8 (t : Fin cfg0.N) :
    (outsAt0 m c t.val t.isLt).2.2.1 = k0_pay1 (k0_pay15 (iblk m c 4 t)) (k0_pay16 (k0_pay7 (iblk m c 0 t)) (k0_pay8 (iblk m c 5 t)))
      (k0_pay17 (iblk m c 2 t)) (k0_pay18 (iblk m c 2 t)) := by
  by_cases ht : t.val % 8 = 0
  · rw [outsAt0_A m c t ht ht]; frame_out
  · rw [outsAt0_B m c t ht ht]; frame_out

end Left

/-- The joined norms. -/
theorem final6 (h1 : ∀ i k, m ((c : Thread nD τ).loc main_arg1) (ix2 i k) = (a i k : EReal)) (h2 : ∀ i k, m ((c : Thread nD τ).loc main_arg2) (ix2 i k) = (b i k : EReal))
    (h3 : ∀ k, m ((c : Thread nD τ).loc main_arg3) (ix1 k) = (g k : EReal)) (h4 : ∀ k, m ((c : Thread nD τ).loc main_arg4) (ix1 k) = (h k : EReal)) :
    (dats m 0 c).arrAt 6 (cfgs 0).N = fun j => (joined a b g h (j 0) (j 1) : EReal) := by
  refine (dats m 0 c).arrAt_eq_of_covers 6 _ (by decide +kernel) fun t _ y => ?_
  have e : (win0_6.blk t).view.emb y = ix2 (row t (y 0)) (y 1) := by blk_ext [idx t]
  blk_simp
  rw [after0_6, left6, e, eq_ix2 y]
  exact MixBlock.joined (blk1 h1 t) (blk2 h2 t) (blk3 h3 t) (blk4 h4 t) (y 0) (y 1)

/-- The attention's gradient. -/
theorem final7 (h0 : ∀ i k, m ((c : Thread nD τ).loc main_arg0) (ix2 i k) = (dx i k : EReal)) (h1 : ∀ i k, m ((c : Thread nD τ).loc main_arg1) (ix2 i k) = (a i k : EReal))
    (h3 : ∀ k, m ((c : Thread nD τ).loc main_arg3) (ix1 k) = (g k : EReal)) (h5 : ∀ i k, m ((c : Thread nD τ).loc main_arg5) (ix2 i k) = (w i k : EReal)) :
    (dats m 0 c).arrAt 7 (cfgs 0).N = fun j => (normBwd 512 (a (j 0)) g (cotAttn dx w (j 0)) (j 1) : EReal) := by
  refine (dats m 0 c).arrAt_eq_of_covers 7 _ (by decide +kernel) fun t _ y => ?_
  have e : (win0_7.blk t).view.emb y = ix2 (row t (y 0)) (y 1) := by blk_ext [idx t]
  blk_simp
  rw [after0_7, left7, e, eq_ix2 y]
  exact MixBlock.dattn (blk0 h0 t) (blk1 h1 t) (blk3 h3 t) (blk5 h5 t) (y 0) (y 1)

/-- The convolution's gradient. -/
theorem final8 (h0 : ∀ i k, m ((c : Thread nD τ).loc main_arg0) (ix2 i k) = (dx i k : EReal)) (h2 : ∀ i k, m ((c : Thread nD τ).loc main_arg2) (ix2 i k) = (b i k : EReal))
    (h4 : ∀ k, m ((c : Thread nD τ).loc main_arg4) (ix1 k) = (h k : EReal)) (h5 : ∀ i k, m ((c : Thread nD τ).loc main_arg5) (ix2 i k) = (w i k : EReal)) :
    (dats m 0 c).arrAt 8 (cfgs 0).N = fun j => (normBwd 512 (b (j 0)) h (cotConv dx w (j 0)) (j 1) : EReal) := by
  refine (dats m 0 c).arrAt_eq_of_covers 8 _ (by decide +kernel) fun t _ y => ?_
  have e : (win0_8.blk t).view.emb y = ix2 (row t (y 0)) (y 1) := by blk_ext [idx t]
  blk_simp
  rw [after0_8, left8, e, eq_ix2 y]
  exact MixBlock.dconv (blk0 h0 t) (blk2 h2 t) (blk4 h4 t) (blk5 h5 t) (y 0) (y 1)

/-- The eight points' sums over their rows are the sum over all rows. -/
theorem sum_points (dy a : Fin 4096 → Fin 512 → ℝ) (k : Fin 512) :
    ∑ p : Fin cfg0.N, (gain (fun i => dy (row p i)) (fun i => a (row p i)) k : EReal) = gain dy a k := by
  rw [sum_real, EReal.coe_eq_coe_iff]
  exact Fin.sum_mul_add_congr fun s k hl => rfl

/-- The first gain's gradient. -/
theorem final9 (h0 : ∀ i k, m ((c : Thread nD τ).loc main_arg0) (ix2 i k) = (dx i k : EReal)) (h1 : ∀ i k, m ((c : Thread nD τ).loc main_arg1) (ix2 i k) = (a i k : EReal))
    (h5 : ∀ i k, m ((c : Thread nD τ).loc main_arg5) (ix2 i k) = (w i k : EReal)) :
    (dats m 0 c).arrAt 9 (cfgs 0).N = fun j => (gain (cotAttn dx w) a (j 1) : EReal) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0)
    (fun p j => (gain (cotAttn (fun i => dx (row p i)) w) (fun i => a (row p i)) (j 1) : EReal))
    (fun t h j => by
      rw [outsAt0_A m c t h h, eq_ix2 j]; frame_out
      exact (MixBlock.dgain (blk0 h0 t) (blk1 h1 t) (blk5 h5 t) k0_pay2 (j 0) (j 1)).trans (by rw [MixBlock.zero]; rfl))
    (fun t h j => by
      rw [outsAt0_B m c t h h, eq_ix2 j]; frame_out
      exact MixBlock.dgain (blk0 h0 t) (blk1 h1 t) (blk5 h5 t) _ (j 0) (j 1))
    (le_of_eq N_0) t0_7 rfl j, zero_add]
  exact sum_points (cotAttn dx w) a (j 1)

/-- The second gain's gradient. -/
theorem final10 (h0 : ∀ i k, m ((c : Thread nD τ).loc main_arg0) (ix2 i k) = (dx i k : EReal)) (h2 : ∀ i k, m ((c : Thread nD τ).loc main_arg2) (ix2 i k) = (b i k : EReal))
    (h5 : ∀ i k, m ((c : Thread nD τ).loc main_arg5) (ix2 i k) = (w i k : EReal)) :
    (dats m 0 c).arrAt 10 (cfgs 0).N = fun j => (gain (cotConv dx w) b (j 1) : EReal) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0)
    (fun p j => (gain (cotConv (fun i => dx (row p i)) w) (fun i => b (row p i)) (j 1) : EReal))
    (fun t h j => by
      rw [outsAt0_A m c t h h, eq_ix2 j]; frame_out
      exact (MixBlock.dgain_conv (blk0 h0 t) (blk2 h2 t) (blk5 h5 t) k0_pay4 (j 0) (j 1)).trans (by rw [MixBlock.zero_conv]; rfl))
    (fun t h j => by
      rw [outsAt0_B m c t h h, eq_ix2 j]; frame_out
      exact MixBlock.dgain_conv (blk0 h0 t) (blk2 h2 t) (blk5 h5 t) _ (j 0) (j 1))
    (le_of_eq N_0) t0_7 rfl j, zero_add]
  exact sum_points (cotConv dx w) b (j 1)

end Cert.MixArray
-- ==== Proof.Finite.lean ====
/- The preconditions: an array whose elements are all finite is an array of real numbers. -/
module

public import Idealize.ShloMosaic.Lib.Pointwise

@[expose] public section

set_option maxRecDepth 16384

noncomputable section

open Idealize.ShloMosaic

namespace Cert.Finite

theorem word_inf : Ideal.ofBits .f32 0x7F800000#32 = ⊤ := by
  simp [Ideal.ofBits, Ideal.ieee]

/-- An extended real whose absolute value is below infinity is a real number. -/
theorem real_of_abs {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- The stated test of an array, read at an index. -/
theorem real_at {s : Shape} {x : FVec Ideal s .f32} {hb : (⟨0, ![]⟩ : Shape).BroadcastsInDim s (![] : Fin 0 → Fin s.rank)}
    (h : cmpf .olt (Host.absf x) (broadcastInDim s ![] hb (constant (F := Ideal) ⟨0, ![]⟩ .f32 0x7F800000#32)) = fun _ => 1#1) (i : s.Idx) :
    ∃ r : ℝ, x i = (r : EReal) := by
  have hi := congrFun h i
  exact real_of_abs (word_inf ▸ hi)

/-- A finite vector. -/
theorem real1 {n : ℕ} {x : FVec Ideal ⟨1, ![n]⟩ .f32} {hb : (⟨0, ![]⟩ : Shape).BroadcastsInDim ⟨1, ![n]⟩ (![] : Fin 0 → Fin 1)}
    (h : cmpf .olt (Host.absf x) (broadcastInDim ⟨1, ![n]⟩ ![] hb (constant (F := Ideal) ⟨0, ![]⟩ .f32 0x7F800000#32)) = fun _ => 1#1) :
    ∃ f : Fin n → ℝ, ∀ i, x (ix1 i) = (f i : EReal) := by
  choose f hf using real_at h
  exact ⟨fun i => f (ix1 i), fun i => hf _⟩

/-- A finite matrix. -/
theorem real2 {n k : ℕ} {x : FVec Ideal ⟨2, ![n, k]⟩ .f32} {hb : (⟨0, ![]⟩ : Shape).BroadcastsInDim ⟨2, ![n, k]⟩ (![] : Fin 0 → Fin 2)}
    (h : cmpf .olt (Host.absf x) (broadcastInDim ⟨2, ![n, k]⟩ ![] hb (constant (F := Ideal) ⟨0, ![]⟩ .f32 0x7F800000#32)) = fun _ => 1#1) :
    ∃ f : Fin n → Fin k → ℝ, ∀ i j, x (ix2 i j) = (f i j : EReal) := by
  choose f hf using real_at h
  exact ⟨fun i j => f (ix2 i j), fun i j => hf _⟩

/-- A finite array of three dimensions. -/
theorem real3 {n k l : ℕ} {x : FVec Ideal ⟨3, ![n, k, l]⟩ .f32} {hb : (⟨0, ![]⟩ : Shape).BroadcastsInDim ⟨3, ![n, k, l]⟩ (![] : Fin 0 → Fin 3)}
    (h : cmpf .olt (Host.absf x) (broadcastInDim ⟨3, ![n, k, l]⟩ ![] hb (constant (F := Ideal) ⟨0, ![]⟩ .f32 0x7F800000#32)) = fun _ => 1#1) :
    ∃ f : Fin n → Fin k → Fin l → ℝ, ∀ i j z, x (ix3 i j z) = (f i j z : EReal) := by
  choose f hf using real_at h
  exact ⟨fun i j z => f (ix3 i j z), fun i j z => hf _⟩

end Cert.Finite
-- ==== Proof.MixClaim.lean ====
/- The output projection's backward against the derivative of the problem's lines: the same arrays on finite arguments. -/
module

public import proofs.«01_k».proof.Defs
public import proofs.«01_k».proof.Proof.Gen.MixBwdIdeal
public import proofs.«01_k».proof.Proof.Gen.MixBwdRefIdeal
public import proofs.«01_k».proof.Proof.Gen.Pre_mix_bwd_finite
public import proofs.«01_k».proof.Proof.MixRef
public import proofs.«01_k».proof.Proof.MixArray
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.MixClaim

/-- The derivative's program keeps its arguments; it has no semaphore. -/
theorem frame : Cert.quiescent_MixBwdRefIdeal := fun m ρ _ =>
  (θ_run Cert.MixBwdRefIdeal.defs _ _).mono (fun r h => ⟨fun c => (h c).2.2.2.2.2, sem_eq_zero_of_no_sems (by decide) r.2⟩) (MixRef.run m ρ)

/-- The kernel's five arrays are the derivative's. -/
theorem value : Cert.algebraic_MixBwdIdeal_MixBwdRefIdeal_pre_mix_bwd_finite := by
  intro m ρ m' ρ' hpre hagree
  refine ⟨_, _, _, _, _, Cert.MixBwdIdeal.Value.run_blocks (F := Ideal) m ρ, (θ_run Cert.MixBwdRefIdeal.defs _ _).mono (fun r h c => ?_) (MixRef.run m' ρ')⟩
  obtain ⟨r0, r1, r2, r3, r4, kept⟩ := h c
  obtain ⟨e0, e1, e2, e3, e4, e5⟩ := hagree c
  obtain ⟨p0, p1, p2, p3, p4, p5⟩ := hpre c
  obtain ⟨dx, h0⟩ := Finite.real2 p0
  obtain ⟨a, h1⟩ := Finite.real2 p1
  obtain ⟨b, h2⟩ := Finite.real2 p2
  obtain ⟨ga, h3⟩ := Finite.real1 p3
  obtain ⟨gc, h4⟩ := Finite.real1 p4
  obtain ⟨w, h5⟩ := Finite.real2 p5
  have k0 := fun i j => (congrFun e0 (ix2 i j)).trans (h0 i j)
  have k1 := fun i j => (congrFun e1 (ix2 i j)).trans (h1 i j)
  have k2 := fun i j => (congrFun e2 (ix2 i j)).trans (h2 i j)
  have k3 := fun i => (congrFun e3 (ix1 i)).trans (h3 i)
  have k4 := fun i => (congrFun e4 (ix1 i)).trans (h4 i)
  have k5 := fun i j => (congrFun e5 (ix2 i j)).trans (h5 i j)
  refine ⟨r0.trans ?_, r1.trans ?_, r2.trans ?_, r3.trans ?_, r4.trans ?_, kept⟩
  · refine Eq.trans (funext fun j => ?_) (MixArray.final6 h1 h2 h3 h4).symm
    rw [eq_ix2 j]; exact MixRef.joined k1 k2 k3 k4 _ _
  · refine Eq.trans (funext fun j => ?_) (MixArray.final7 h0 h1 h3 h5).symm
    rw [eq_ix2 j]; exact MixRef.dattn k0 k1 k3 k5 _ _
  · refine Eq.trans (funext fun j => ?_) (MixArray.final8 h0 h2 h4 h5).symm
    rw [eq_ix2 j]; exact MixRef.dconv k0 k2 k4 k5 _ _
  · refine Eq.trans (funext fun j => ?_) (MixArray.final9 h0 h1 h5).symm
    rw [eq_ix2 j]; exact MixRef.dgain k0 k1 k5 _ _
  · refine Eq.trans (funext fun j => ?_) (MixArray.final10 h0 h2 h5).symm
    rw [eq_ix2 j]; exact MixRef.dgain_conv k0 k2 k5 _ _

end Cert.MixClaim
-- ==== Proof.AttnLoop.lean ====
module

public import proofs.«01_k».proof.Proof.Gen.AttnBwdIdeal.Frame
public import proofs.«01_k».proof.Proof.Gen.AttnBwdIdeal.Skeleton
public import Idealize.ShloMosaic.Lib.Exec
public import Idealize.ShloMosaic.Lib.WholeRead
public import Idealize.ShloMosaic.Lib.WritesUnit
public import Idealize.ShloMosaic.Lib.Pointwise

@[expose] public section

set_option warn.classDefReducibility false
set_option maxRecDepth 16384

noncomputable section

namespace Cert.AttnLoop

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # The first loop of the attention backward body: row block by row block it fills the two scratch arrays -/

/-- The 512 rows of row block `j`. -/
def rows {α : Type} (x : S4096x128.Idx → α) (j : Fin 8) : S512x128.Idx → α := fun i =>
  x (ix2 (⟨512 * j.val + (i 0).val, by have := (i 0).isLt; have := j.isLt; simp at *; omega⟩ : Fin 4096) (i 1 : Fin 128))

/-- The array whose row blocks are given. -/
def ofRows {α : Type} (b : Fin 8 → S512x128.Idx → α) : S4096x128.Idx → α := fun y =>
  b ⟨(y 0).val / 512, by have := (y 0).isLt; simp at *; omega⟩ (ix2 (⟨(y 0).val % 512, Nat.mod_lt _ (by decide)⟩ : Fin 512) (y 1 : Fin 128))

/-- Row block `j` of the array so built is the block given for `j`. -/
theorem rows_ofRows {α : Type} (b : Fin 8 → S512x128.Idx → α) (j : Fin 8) : rows (ofRows b) j = b j := by
  funext i
  have h0 : (i 0).val < 512 := (i 0).isLt
  have e1 : (512 * j.val + (i 0).val) / 512 = j.val := by omega
  have e2 : (512 * j.val + (i 0).val) % 512 = (i 0).val := by omega
  show b ⟨(512 * j.val + (i 0).val) / 512, _⟩ (ix2 (⟨(512 * j.val + (i 0).val) % 512, _⟩ : Fin 512) (i 1 : Fin 128)) = b j i
  have : (⟨(512 * j.val + (i 0).val) / 512, by omega⟩ : Fin 8) = j := Fin.ext e1
  rw [this]
  congr 1
  funext a
  refine Fin.cases ?_ (fun a => Fin.cases ?_ (fun a => a.elim0) a) a
  · exact Fin.ext e2
  · rfl

/-- A load of the rows of block `j` of a whole array. -/
theorem load_rows {κ : Kind} {sp : Space} {e : EltTy} {m : Memref sig κ sp S4096x128 e} (h : m.IsWhole) (x : Vec F S4096x128 e)
    (j : Fin 8) {off : Fin 2 → ℕ} (ho : off = ![512 * j.val, 0]) (inb : ∀ a, off a + S512x128.size a ≤ S4096x128.size a) :
    View.readAt (Elt F) m.view (Rect.unit (s := S4096x128) off S512x128.size inb).toLoadRect (h.unread x) = rows x j := by
  subst ho
  funext i
  rw [h.readAt_unread]
  unfold rows
  congr 1
  funext a
  refine Fin.cases ?_ (fun a => Fin.cases ?_ (fun a => a.elim0) a) a
  · exact Fin.ext (by simp [LoadRect.idx, Rect.toLoadRect, Rect.unit, ix2])
  · exact Fin.ext (by simp [LoadRect.idx, Rect.toLoadRect, Rect.unit, ix2])

/-- The rectangle of row block `k`. -/
abbrev blk (k : Fin k0_t1_loop.trips) : Rect S4096x128 := Rect.unit (s := S4096x128) (k0_off1 k) S512x128.size (k0_off1_inb k)

/-- The row block of trip `k`. -/
abbrev nth (k : Fin k0_t1_loop.trips) : Fin 8 := ⟨k.val, k.isLt⟩

/-- The pieces the trips before `k` store, one whole row block each, newest first. -/
def pieces {e : EltTy} (b : Fin 8 → S512x128.Idx → Elt F e) : ℕ → List (View.Piece (Elt F) S4096x128 e)
  | 0 => []
  | k + 1 => if h : k < k0_t1_loop.trips then ⟨blk ⟨k, h⟩, b (nth ⟨k, h⟩)⟩ :: pieces b k else pieces b k

theorem pieces_succ {e : EltTy} (b : Fin 8 → S512x128.Idx → Elt F e) (k : Fin k0_t1_loop.trips) :
    pieces (F := F) b (k.val + 1) = ⟨blk k, b (nth k)⟩ :: pieces b k.val := by
  rw [pieces]; exact dif_pos k.isLt

/-- The pieces agree with the array built from the blocks. -/
theorem pieces_read {e : EltTy} {κ : Kind} {sp : Space} {m : Memref sig κ sp S4096x128 e} (h : m.IsWhole) (G : m.view.ty.Contents (Elt F))
    (b : Fin 8 → S512x128.Idx → Elt F e) (k : ℕ) (hk : k ≤ 8) (y : S4096x128.Idx) (hy : (y 0).val < 512 * k) :
    m.view.read (Elt F) (m.view.writes (Elt F) G (pieces b k)) y = ofRows b y := by
  induction k with
  | zero => omega
  | succ k ih =>
    have hk' : k < k0_t1_loop.trips := hk
    have hp := pieces_succ (F := F) b ⟨k, hk'⟩
    simp only at hp
    rw [hp]
    have hoff : k0_off1 ⟨k, hk'⟩ = ![512 * k, 0] := k0_off1_eq ⟨k, hk'⟩
    by_cases hlt : (y 0).val < 512 * k
    · rw [View.read_writes_cons_rows_of_not_mem m.view G (o := 512 * k) (W := 512) _ _ _ y hoff rfl (Or.inl hlt)]
      exact ih (by omega) hlt
    · have hq : (y 0).val / 512 = k := by omega
      refine (View.read_writes_cons_rows_of_mem m.view G (o := 512 * k) (k0_off1_inb ⟨k, hk'⟩) (b (nth ⟨k, hk'⟩)) (pieces b k) y
        (ix2 (⟨(y 0).val % 512, Nat.mod_lt _ (by decide)⟩ : Fin 512) (y 1 : Fin 128)) hoff
        (by show (y 0).val = 512 * k + (y 0).val % 512; omega) rfl).trans ?_
      unfold ofRows
      rw [show (⟨(y 0).val / 512, by omega⟩ : Fin 8) = nth ⟨k, hk'⟩ from Fin.ext hq]

/-- After the last trip the array holds the blocks. -/
theorem pieces_all {e : EltTy} {κ : Kind} {sp : Space} {m : Memref sig κ sp S4096x128 e} (h : m.IsWhole) (G : m.view.ty.Contents (Elt F))
    (b : Fin 8 → S512x128.Idx → Elt F e) : m.view.writes (Elt F) G (pieces b 8) = h.unread (ofRows b) :=
  h.eq_unread (funext fun y => pieces_read h G b 8 le_rfl y (by have := (y 0).isLt; simpa using this))

/-- What the loop puts into the first scratch array: block by block the row sums of the masked product. -/
def delta (v33 : IVec S512x128 1) (o d : Vec F S4096x128 .f32) : Vec F S4096x128 .f32 :=
  ofRows fun j => k0_pay114 v33 (rows d j) (rows o j)

/-- What the loop puts into the second: block by block the cotangent moved into the upper lanes. -/
def moved (v0 : IVec S512x128 32) (v16 : IVec S512x128 1) (d : Vec F S4096x128 .f32) : Vec F S4096x128 .bf16 :=
  ofRows fun j => k0_pay115 v0 v16 (rows d j)

/-- Before trip `k`: the two arrays read are as they were, the scratch arrays hold the blocks of the trips before `k`. -/
def inv (c : Dev nD) (arg4 : Memref sig .tc .vmem S4096x128 .f32) (harg4 : arg4.IsWhole) (arg5 : Memref sig .tc .vmem S4096x128 .f32) (harg5 : arg5.IsWhole)
    (arg10 : Memref sig .tc .vmem S4096x128 .f32) (arg11 : Memref sig .tc .vmem S4096x128 .bf16) (v0 : IVec S512x128 32) (v16 : IVec S512x128 1) (v33 : IVec S512x128 1)
    (o d : Vec F S4096x128 .f32) (G10 : arg10.view.ty.Contents (Elt F)) (G11 : arg11.view.ty.Contents (Elt F)) (k : ℕ) (_ : PUnit) : sProp 𝕄 :=
  iprop((arg4.view.loc (c : Thread nD τ) ↦[arg4.view.set]{fullShare} harg4.unread o) ∗ (arg5.view.loc (c : Thread nD τ) ↦[arg5.view.set]{fullShare} harg5.unread d)
    ∗ (∃ f, (arg10.view.loc (c : Thread nD τ) ↦[arg10.view.set]{fullShare} f) ∗ ⌜f = arg10.view.writes (Elt F) G10 (pieces (fun j => k0_pay114 v33 (rows d j) (rows o j)) k)⌝)
    ∗ (∃ f, (arg11.view.loc (c : Thread nD τ) ↦[arg11.view.set]{fullShare} f) ∗ ⌜f = arg11.view.writes (Elt F) G11 (pieces (fun j => k0_pay115 v0 v16 (rows d j)) k)⌝))

set_option maxHeartbeats 800000 in
/-- The first loop by its invariant. -/
@[sl_loop] def loopInv (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .bf16) (harg11 : arg11.IsWhole) (v0 : IVec S512x128 32) (v16 : IVec S512x128 1) (v33 : IVec S512x128 1)
    (o d : Vec F S4096x128 .f32) (G10 : arg10.view.ty.Contents (Elt F)) (G11 : arg11.view.ty.Contents (Elt F)) :
    LoopInv (M := 𝕄) Idealize.ShloMosaic.frame (wpE (defs₀ (F := F)) Variants.none (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 v0 v16 v33) where
  inv := inv c arg4 harg4 arg5 harg5 arg10 arg11 v0 v16 v33 o d G10 G11
  step k acc := by
    have hk : k.val < 8 := k.isLt
    unfold inv k0_t1_body
    iintro ⟨HR4, HR5, ⟨%f10, HW10, %h10⟩, ⟨%f11, HW11, %h11⟩⟩
    subst h10 h11
    sl_exec
    sl_step
    isplitl [HR4]; · iexact HR4
    isplitl [HR5]; · iexact HR5
    isplitl [HW10]
    · iexists _; isplitl [HW10]; · iexact HW10
      ipureintro
      rw [pieces_succ]
      simp only [load_rows harg4 o (nth k) (k0_off1_eq k), load_rows harg5 d (nth k) (k0_off1_eq k)]
    · iexists _; isplitl [HW11]; · iexact HW11
      ipureintro
      rw [pieces_succ]
      simp only [load_rows harg5 d (nth k) (k0_off1_eq k)]

/-- What the body goes on from after the loop: both scratch arrays filled. -/
instance loopExit (c : Dev nD) (E : Set ℕ) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .bf16) (harg11 : arg11.IsWhole) (v0 : IVec S512x128 32) (v16 : IVec S512x128 1) (v33 : IVec S512x128 1)
    (o d : Vec F S4096x128 .f32) (G10 : arg10.view.ty.Contents (Elt F)) (G11 : arg11.view.ty.Contents (Elt F)) :
    LoopExit (loopInv (F := F) c E i arg1 harg1 arg2 harg2 arg3 harg3 arg4 harg4 arg5 harg5 arg6 harg6 arg7 harg7 arg8 harg8 arg9 harg9 arg10 harg10 arg11 harg11 v0 v16 v33 o d G10 G11) where
  post _ := iprop((arg4.view.loc (c : Thread nD τ) ↦[arg4.view.set]{fullShare} harg4.unread o) ∗ (arg5.view.loc (c : Thread nD τ) ↦[arg5.view.set]{fullShare} harg5.unread d)
    ∗ (arg10.view.loc (c : Thread nD τ) ↦[arg10.view.set]{fullShare} harg10.unread (delta v33 o d))
    ∗ (arg11.view.loc (c : Thread nD τ) ↦[arg11.view.set]{fullShare} harg11.unread (moved v0 v16 d)))
  exit _ := by
    show inv c arg4 harg4 arg5 harg5 arg10 arg11 v0 v16 v33 o d G10 G11 8 _ ⊢ _
    unfold inv
    iintro ⟨HR4, HR5, ⟨%f10, HW10, %h10⟩, ⟨%f11, HW11, %h11⟩⟩
    rw [pieces_all harg10] at h10
    rw [pieces_all harg11] at h11
    subst h10 h11
    isplitl [HR4]; · iexact HR4
    isplitl [HR5]; · iexact HR5
    isplitl [HW10]; · iexact HW10
    iexact HW11

end Cert.AttnLoop

end
-- ==== Proof.AttnStep.lean ====
module

public import proofs.«01_k».proof.Proof.AttnLoop
public import Idealize.ShloMosaic.Lib.Pipeline.ReadBack
public import Idealize.ShloMosaic.Lib.Pipeline.RowLoads

@[expose] public section

set_option maxRecDepth 16384

noncomputable section

namespace Cert.AttnStep

open Cert.AttnBwdIdeal Cert.AttnBwdIdeal.Gen Cert.AttnLoop
open Idealize.ShloMosaic Idealize.ShloMosaic.TcCoe Idealize.ShloMosaic.Tactic

variable {F : FTy → Type} [FloatOps F]

/-! # What the attention backward body stores, row block by row block -/

/-- A row block at its own shape. -/
def same {e : EltTy} (x : Vec F S512x128 e) : Vec F S512x128 e := shapeCast S512x128 x shapeCasts_S512x128_S512x128

/-- One row number per row, on every lane of a block of 512 columns. -/
def wide (x : Vec F S512x128 .f32) : FVec F S512x512 .f32 :=
  concatenate S512x512 1 [⟨S512x128, x⟩, ⟨S512x128, x⟩, ⟨S512x128, x⟩, ⟨S512x128, x⟩] concatenates_S512x128_S512x128_S512x128_S512x128_S512x512_d1

/-- The products of all rows of `x` with all rows of `y`. -/
def dots (x y : FVec F S512x128 .bf16) : FVec F S512x512 .f32 :=
  matmul dot_S512x128_S512x128_S512x512_1_1_0_0_n_n none x y (constant S512x512 .f32 0x00000000#32)

/-- The mask of a block on the diagonal. -/
def below : IVec S512x512 1 :=
  cmpi .sle (iota .tc S512x512 32 [1] iota_S512x512_d1_w32) (iota .tc S512x512 32 [0] iota_S512x512_d0_w32)

/-- The probabilities of a block below the diagonal. -/
def probOff (q k : Vec F S512x128 .bf16) (l : Vec F S512x128 .f32) : FVec F S512x512 .f32 :=
  exp (subf (dots (same q) (same k)) (wide (same l)))

/-- The probabilities of a block on the diagonal. -/
def probOn (q k : Vec F S512x128 .bf16) (l : Vec F S512x128 .f32) : FVec F S512x512 .f32 :=
  exp (subf (select below (dots (same q) (same k)) (broadcast S512x512 (Scalar.ofBits .f32 0xFF800000#32))) (wide (same l)))

/-- The cotangent of a block's scores. -/
def dscore (p : FVec F S512x512 .f32) (kv db : Vec F S512x128 .bf16) (dl : Vec F S512x128 .f32) : FVec F S512x512 .bf16 :=
  truncf .bf16 (mulf p (subf (dots db (same kv)) (wide dl))) bitsLt_bf16_f32

/-- The product summed over a block's rows. -/
def down (x : FVec F S512x512 .bf16) (y : FVec F S512x128 .bf16) : FVec F S512x128 .f32 :=
  matmul dot_S512x512_S512x128_S512x128_0_0_1_1_n_n none x y (constant S512x128 .f32 0x00000000#32)

/-- The product summed over a block's columns. -/
def along (x : FVec F S512x512 .bf16) (y : FVec F S512x128 .bf16) : FVec F S512x128 .f32 :=
  matmul dot_S512x512_S512x128_S512x128_1_0_0_1_n_n none x y (constant S512x128 .f32 0x00000000#32)

/-- Row block `n`. -/
abbrev at8 (n : ℕ) : Fin 8 := Fin.ofNat 8 n

section
variable (q k kv db : Fin 8 → Vec F S512x128 .bf16) (l dl : Fin 8 → Vec F S512x128 .f32)

/-- The probabilities of query block `b` against key block `a`. -/
def prob (a b : ℕ) : FVec F S512x512 .f32 :=
  match a == b with
  | true => probOn (q (at8 b)) (k (at8 a)) (l (at8 b))
  | false => probOff (q (at8 b)) (k (at8 a)) (l (at8 b))

/-- The cotangent of the scores of query block `b` against key block `a`. -/
def ds (a b : ℕ) : FVec F S512x512 .bf16 :=
  dscore (prob q k l a b) (kv (at8 a)) (db (at8 b)) (dl (at8 b))

/-- Key block `a`'s gradient after `n` query blocks. -/
def dkAcc (a : ℕ) : ℕ → FVec F S512x128 .f32
  | 0 => k0_pay132
  | n + 1 => addf (dkAcc a n) (down (ds q k kv db l dl a (a + n)) (same (q (at8 (a + n)))))

/-- Value block `a`'s gradient after `n` query blocks. -/
def dkvAcc (a : ℕ) : ℕ → FVec F S512x128 .f32
  | 0 => k0_pay132
  | n + 1 => addf (dkvAcc a n) (down (truncf .bf16 (prob q k l a (a + n)) bitsLt_bf16_f32) (db (at8 (a + n))))

/-- Query block `b`'s gradient over the key blocks up to `n`. -/
def dqAcc (b : ℕ) : ℕ → FVec F S512x128 .f32
  | 0 => along (ds q k kv db l dl 0 b) (same (k (at8 0)))
  | n + 1 => addf (dqAcc b n) (along (ds q k kv db l dl (n + 1) b) (same (k (at8 (n + 1)))))

/-- The queries' gradient. -/
def dq : Vec F S4096x128 .f32 := ofRows fun j =>
  addf (same (F := F) (e := .f32) (broadcast S512x128 (Scalar.ofBits .f32 0x00000000#32))) (dqAcc q k kv db l dl j.val j.val)

/-- The keys' gradient. -/
def dk : Vec F S4096x128 .f32 := ofRows fun j => dkAcc q k kv db l dl j.val (8 - j.val)

/-- The values' gradient. -/
def dkv : Vec F S4096x128 .f32 := ofRows fun j => dkvAcc q k db l j.val (8 - j.val)
end

/-! ## Loads and stores of row blocks -/

theorem inb8 : ∀ n : Fin 8, ∀ a, (![512 * n.val, 0] : Fin 2 → ℕ) a + S512x128.size a ≤ S4096x128.size a := by decide

/-- The eight row blocks a buffer's loads read. -/
def loads {κ : Kind} {sp : Space} {e : EltTy} (m : Memref sig κ sp S4096x128 e) (f : m.view.ty.Contents (Elt F)) (j : Fin 8) : Vec F S512x128 e :=
  View.readAt (Elt F) m.view (Rect.unit (s := S4096x128) ![512 * j.val, 0] S512x128.size (inb8 j)).toLoadRect f

theorem loads_eq {κ : Kind} {sp : Space} {e : EltTy} {m : Memref sig κ sp S4096x128 e} (h : m.IsWhole) (x : Vec F S4096x128 e) :
    loads m (h.unread x) = rows x := funext fun j => load_rows h x j rfl _

/-- The pieces of the row blocks below `n`, newest first, over older pieces. -/
def stack {e : EltTy} (b : Fin 8 → S512x128.Idx → Elt F e) (inb : ∀ n : Fin 8, ∀ a, (![512 * n.val, 0] : Fin 2 → ℕ) a + S512x128.size a ≤ S4096x128.size a)
    (rest : List (View.Piece (Elt F) S4096x128 e)) : ℕ → List (View.Piece (Elt F) S4096x128 e)
  | 0 => rest
  | n + 1 => ⟨Rect.unit (s := S4096x128) ![512 * (at8 n).val, 0] S512x128.size (inb (at8 n)), b (at8 n)⟩ :: stack b inb rest n

/-- Eight row blocks stored one after another are the whole array. -/
theorem read_stack {κ : Kind} {sp : Space} {e : EltTy} (v : View sig κ sp S4096x128 e) (G : v.ty.Contents (Elt F)) (b : Fin 8 → S512x128.Idx → Elt F e)
    (inb : ∀ n : Fin 8, ∀ a, (![512 * n.val, 0] : Fin 2 → ℕ) a + S512x128.size a ≤ S4096x128.size a) (rest : List (View.Piece (Elt F) S4096x128 e))
    (n : ℕ) (hn : n ≤ 8) (y : S4096x128.Idx) (hy : (y 0).val < 512 * n) :
    v.read (Elt F) (v.writes (Elt F) G (stack b inb rest n)) y = ofRows b y := by
  induction n with
  | zero => omega
  | succ n ih =>
    have h8 : (at8 n).val = n := Nat.mod_eq_of_lt (by omega)
    have hoff : (![512 * (at8 n).val, 0] : Fin 2 → ℕ) = ![512 * n, 0] := by rw [h8]
    rw [stack]
    by_cases hlt : (y 0).val < 512 * n
    · rw [View.read_writes_cons_rows_of_not_mem v G (o := 512 * n) (W := 512) _ _ _ y hoff rfl (Or.inl hlt)]
      exact ih (by omega) hlt
    · have hq : (y 0).val / 512 = n := by omega
      refine (View.read_writes_cons_rows_of_mem v G (o := 512 * n) (inb (at8 n)) (b (at8 n)) (stack b inb rest n) y
        (ix2 (⟨(y 0).val % 512, Nat.mod_lt _ (by decide)⟩ : Fin 512) (y 1 : Fin 128)) hoff
        (by show (y 0).val = 512 * n + (y 0).val % 512; omega) rfl).trans ?_
      unfold ofRows
      rw [show (⟨(y 0).val / 512, by have := (y 0).isLt; simp at *; omega⟩ : Fin 8) = at8 n from Fin.ext (hq.trans h8.symm)]

/-- The same with the eight pieces written out. -/
theorem read_eight {κ : Kind} {sp : Space} {e : EltTy} (v : View sig κ sp S4096x128 e) (G : v.ty.Contents (Elt F)) (b : Fin 8 → S512x128.Idx → Elt F e)
    {L : List (View.Piece (Elt F) S4096x128 e)} (rest : List (View.Piece (Elt F) S4096x128 e)) (hL : L = stack b inb8 rest 8) :
    v.read (Elt F) (v.writes (Elt F) G L) = ofRows b := by
  subst hL
  exact funext fun y => read_stack v G b inb8 rest 8 le_rfl y (by have := (y 0).isLt; simpa using this)

/-- The fill of the whole array with zeros. -/
def fill : View.Piece (Elt F) S4096x128 .f32 := ⟨Rect.unit (s := S4096x128) ![0, 0] S4096x128.size inb_S4096x128_S4096x128_0_0, k0_pay113⟩

/-- A row block not stored yet reads zeros. -/
theorem read_fill {κ : Kind} {sp : Space} (v : View sig κ sp S4096x128 .f32) (b : Fin 8 → S512x128.Idx → Elt F .f32) (n : ℕ) (j : Fin 8) (hn : n ≤ j.val) :
    v.readCov (stack b inb8 [fill] n) (Rect.unit (s := S4096x128) ![512 * j.val, 0] S512x128.size (inb8 j)).toLoadRect
      = broadcast S512x128 (Scalar.ofBits .f32 0x00000000#32) := by
  induction n with
  | zero =>
    have h0 : (![0, 0] : Fin 2 → ℕ) = fun _ => 0 := by decide
    have hc : View.canon [fill (F := F)] = k0_pay113 :=
      View.canon_cons_unit_zero (Val := Elt F) (e := .f32) (S := S4096x128) (off := ![0, 0]) h0 inb_S4096x128_S4096x128_0_0 k0_pay113 []
    rw [stack, View.readCov_eq_canon', hc]
    rfl
  | succ n ih =>
    have h8 : (at8 n).val = n := Nat.mod_eq_of_lt (by omega)
    exact (View.readCov_cons_of_rows_disjoint v (512 * (at8 n).val) (512 * j.val) (Or.inl (by omega)) (b (at8 n)) _ _ _).trans (ih (by omega))

section
variable {κ : Kind} {sp : Space} (v : View sig κ sp S4096x128 .f32) (a : Fin 8 → FVec F S512x128 .f32)

/-- The stores of the first `n` row blocks, each the sum of what it finds there and its own block. -/
def onto : ℕ → List (View.Piece (Elt F) S4096x128 .f32)
  | 0 => [fill]
  | n + 1 => ⟨Rect.unit (s := S4096x128) ![512 * (at8 n).val, 0] S512x128.size (inb8 (at8 n)),
      addf (same (e := .f32) (v.readCov (onto n) (Rect.unit (s := S4096x128) ![512 * (at8 n).val, 0] S512x128.size (inb8 (at8 n))).toLoadRect)) (a (at8 n))⟩ :: onto n

theorem onto_eq (n : ℕ) (hn : n ≤ 8) :
    onto v a n = stack (fun j => addf (same (F := F) (e := .f32) (broadcast S512x128 (Scalar.ofBits .f32 0x00000000#32))) (a j)) inb8 [fill] n := by
  induction n with
  | zero => rfl
  | succ n ih =>
    have h8 : (at8 n).val = n := Nat.mod_eq_of_lt (by omega)
    rw [onto, stack, ih (by omega), read_fill v _ n (at8 n) h8.ge]
end

end Cert.AttnStep

end
-- ==== Proof.AttnRun.lean ====
module

public import proofs.«01_k».proof.Proof.AttnStep
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.AttnRun

open Cert.AttnBwdIdeal Cert.AttnBwdIdeal.Gen Cert.AttnLoop Cert.AttnStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem no_t2 : k0_t2_loop.trips = 0 := Nat.le_zero.mp k0_t2_abs.2.1
theorem no_t3 : k0_t3_loop.trips = 0 := Nat.le_zero.mp k0_t3_abs.2.1

/-- The first scratch array of a grid point. -/
def deltaOf (i : grid0.Coords) (o d : Vec F S4096x128 .f32) : Vec F S4096x128 .f32 := delta (k0_pay112 i) o d

/-- The second. -/
def dobOf (i : grid0.Coords) (d : Vec F S4096x128 .f32) : Vec F S4096x128 .bf16 :=
  moved (iota .tc S512x128 32 [1] iota_S512x128_d1_w32) (k0_pay111 i) d

set_option maxHeartbeats 4000000 in
theorem run (c : Dev nD) (i : grid0.Coords) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S4096x128 .bf16) (harg11 : arg11.IsWhole) (x0 x1 x2 : Vec F S4096x128 .bf16) (x3 x4 x5 : Vec F S4096x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (dq (rows x0) (rows x1) (rows x2) (rows (dobOf i x4)) (rows x5) (rows (deltaOf i x3 x4))) ∗ owns (c : Thread nD τ) arg8 fullShare (dk (rows x0) (rows x1) (rows x2) (rows (dobOf i x4)) (rows x5) (rows (deltaOf i x3 x4))) ∗ owns (c : Thread nD τ) arg9 fullShare (dkv (rows x0) (rows x1) (rows (dobOf i x4)) (rows x5)) ∗ (∃ d, owns (c : Thread nD τ) arg10 fullShare d) ∗ (∃ d, owns (c : Thread nD τ) arg11 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11) K := by
    intro E K
    simp only [cc0_attn_bwd_eq_skeleton]; unfold cc0_attn_bwd_skel
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    have htr2 := no_t2
    have htr3 := no_t3
    sl_exec
    sl_step
    have e1 : loads arg1 (harg1.unread x0) = rows x0 := loads_eq harg1 x0
    have e2 : loads arg2 (harg2.unread x1) = rows x1 := loads_eq harg2 x1
    have e3 : loads arg3 (harg3.unread x2) = rows x2 := loads_eq harg3 x2
    have e6 : loads arg6 (harg6.unread x5) = rows x5 := loads_eq harg6 x5
    have e10 : loads arg10 (harg10.unread (deltaOf i x3 x4)) = rows (deltaOf i x3 x4) := loads_eq harg10 _
    have e11 : loads arg11 (harg11.unread (dobOf i x4)) = rows (dobOf i x4) := loads_eq harg11 _
    iapply Hk
    isplitl [H0]; · iexists _; isplitr; · ipureintro; exact harg1.read_unread _
                    iexact H0
    isplitl [H1]; · iexists _; isplitr; · ipureintro; exact harg2.read_unread _
                    iexact H1
    isplitl [H2]; · iexists _; isplitr; · ipureintro; exact harg3.read_unread _
                    iexact H2
    isplitl [HL0]; · iexists _; isplitr; · ipureintro; exact harg4.read_unread _
                     iexact HL0
    isplitl [HL1]; · iexists _; isplitr; · ipureintro; exact harg5.read_unread _
                     iexact HL1
    isplitl [H5]; · iexists _; isplitr; · ipureintro; exact harg6.read_unread _
                    iexact H5
    isplitl [H6]
    · iexists _; isplitr; swap; · iexact H6
      ipureintro
      rw [← e1, ← e2, ← e10, ← e11, ← e3, ← e6]
      refine read_eight _ _ _ [fill] (Eq.trans ?_ (onto_eq arg7.view _ 8 le_rfl))
      rfl
    isplitl [H7]
    · iexists _; isplitr; swap; · iexact H7
      ipureintro
      rw [← e1, ← e2, ← e10, ← e11, ← e3, ← e6]
      refine read_eight _ _ _ [] ?_
      rfl
    isplitl [H8]
    · iexists _; isplitr; swap; · iexact H8
      ipureintro
      rw [← e1, ← e2, ← e11, ← e6]
      refine read_eight _ _ _ [] ?_
      rfl
    isplitl [HL2]; · iexists _; iexists _; isplitr; swap; · iexact HL2
                     ipureintro; rfl
    iexists _; iexists _; isplitr; swap; · iexact HL3
    ipureintro; rfl

end Cert.AttnRun

end
-- ==== Proof.AttnDat.lean ====
module

public import proofs.«01_k».proof.Proof.AttnRun
public import Idealize.ShloMosaic.Lib.Claim

@[expose] public section

set_option maxRecDepth 16384

noncomputable section

namespace Cert.AttnDat

open Cert.AttnBwdIdeal Cert.AttnBwdIdeal.Gen Cert.AttnLoop Cert.AttnStep Cert.AttnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch of the attention backward kernel, with the contents of its three results -/

/-- The row blocks of the second scratch array at a grid point. -/
abbrev dobAt (c : Dev nD) (t : Fin cfg0.N) : Fin 8 → Vec F S512x128 .bf16 := rows (dobOf (grid0.coords t) (iblk m c 4 t))

/-- The row blocks of the first. -/
abbrev deltaAt (c : Dev nD) (t : Fin cfg0.N) : Fin 8 → Vec F S512x128 .f32 := rows (deltaOf (grid0.coords t) (iblk m c 3 t) (iblk m c 4 t))

/-- The queries' gradient of a grid point's head. -/
def dqAt (c : Dev nD) (t : Fin cfg0.N) : Vec F S4096x128 .f32 :=
  dq (rows (iblk m c 0 t)) (rows (iblk m c 1 t)) (rows (iblk m c 2 t)) (dobAt m c t) (rows (iblk m c 5 t)) (deltaAt m c t)

/-- The keys'. -/
def dkAt (c : Dev nD) (t : Fin cfg0.N) : Vec F S4096x128 .f32 :=
  dk (rows (iblk m c 0 t)) (rows (iblk m c 1 t)) (rows (iblk m c 2 t)) (dobAt m c t) (rows (iblk m c 5 t)) (deltaAt m c t)

/-- The values'. -/
def dkvAt (c : Dev nD) (t : Fin cfg0.N) : Vec F S4096x128 .f32 :=
  dkv (rows (iblk m c 0 t)) (rows (iblk m c 1 t)) (dobAt m c t) (rows (iblk m c 5 t))

/-- The arrays as the launch finds them, and what every grid point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t
    | ⟨7, _⟩ => dkAt m c t
    | ⟨8, _⟩ => dkvAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dqAt m c t := by dsimp only [dats]
theorem after_7 (c : Dev nD) (t : Fin cfg0.N) : (dats m 0 c).after 7 t = dkAt m c t := by dsimp only [dats]
theorem after_8 (c : Dev nD) (t : Fin cfg0.N) : (dats m 0 c).after 8 t = dkvAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

abbrev buf0 (t : Fin cfg0.N) : Memref sig .tc .vmem S4096x128 .bf16 := win0_0.stage (cfg0.slots t 0)
abbrev buf1 (t : Fin cfg0.N) : Memref sig .tc .vmem S4096x128 .bf16 := win0_1.stage (cfg0.slots t 1)
abbrev buf2 (t : Fin cfg0.N) : Memref sig .tc .vmem S4096x128 .bf16 := win0_2.stage (cfg0.slots t 2)
abbrev buf3 (t : Fin cfg0.N) : Memref sig .tc .vmem S4096x128 .f32 := win0_3.stage (cfg0.slots t 3)
abbrev buf4 (t : Fin cfg0.N) : Memref sig .tc .vmem S4096x128 .f32 := win0_4.stage (cfg0.slots t 4)
abbrev buf5 (t : Fin cfg0.N) : Memref sig .tc .vmem S4096x128 .f32 := win0_5.stage (cfg0.slots t 5)
abbrev buf6 (t : Fin cfg0.N) : Memref sig .tc .vmem S4096x128 .f32 := win0_6.stage (cfg0.slots t 6)
abbrev buf7 (t : Fin cfg0.N) : Memref sig .tc .vmem S4096x128 .f32 := win0_7.stage (cfg0.slots t 7)
abbrev buf8 (t : Fin cfg0.N) : Memref sig .tc .vmem S4096x128 .f32 := win0_8.stage (cfg0.slots t 8)
abbrev scr0 : Memref sig .tc .vmem S4096x128 .f32 := Memref.whole cc0_scratch0
abbrev scr1 : Memref sig .tc .vmem S4096x128 .bf16 := Memref.whole cc0_scratch1

/-- What the launch keeps between grid points: the two scratch arrays at some contents and the generator register. -/
theorem kept (c : Dev nD) : (Pipeline.ΦA spec0 c : sProp 𝕄)
    = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- What a grid point's body is called with. -/
def pre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- What it returns. -/
def post (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 800000 in
/-- The body at any grid point. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, kept]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- Every run ends, with the arrays at what the grid points leave and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.AttnDat

end
-- ==== Proof.AttnSpec.lean ====
/- The attention's backward of one head over real numbers. -/
module

public import proofs.«01_k».proof.Proof.Reals

@[expose] public section

noncomputable section

open Cert.Reals

namespace Cert.AttnSpec

variable (q k kv db : Fin 4096 → Fin 128 → ℝ)

/-- The score of a query against a key. -/
def score (r c : Fin 4096) : ℝ := ∑ l, q r l * k c l

/-- Its weight: nothing for a later key. -/
def weight (r c : Fin 4096) : ℝ := if c ≤ r then Real.exp (score q k r c) else 0

/-- A query's weights together. -/
def total (r : Fin 4096) : ℝ := ∑ c, weight q k r c

/-- A query's probabilities. -/
def prob (r c : Fin 4096) : ℝ := weight q k r c / total q k r

/-- The cotangent of a probability. -/
def dprob (r c : Fin 4096) : ℝ := ∑ l, db r l * kv c l

/-- The mean of a query's cotangents under its probabilities. -/
def mean (r : Fin 4096) : ℝ := ∑ c, prob q k r c * dprob kv db r c

/-- The cotangent of a score. -/
def dscore (r c : Fin 4096) : ℝ := prob q k r c * (dprob kv db r c - mean q k kv db r)

/-- The gradient of the queries. -/
def dq (r : Fin 4096) (l : Fin 128) : ℝ := ∑ c, dscore q k kv db r c * k c l

/-- The gradient of the keys. -/
def dk (c : Fin 4096) (l : Fin 128) : ℝ := ∑ r, dscore q k kv db r c * q r l

/-- The gradient of the values. -/
def dkv (c : Fin 4096) (l : Fin 128) : ℝ := ∑ r, prob q k r c * db r l

theorem weight_nonneg (r c : Fin 4096) : 0 ≤ weight q k r c := by
  unfold weight; split
  · exact (Real.exp_pos _).le
  · exact le_rfl

theorem total_pos (r : Fin 4096) : 0 < total q k r :=
  Finset.sum_pos' (fun c _ => weight_nonneg q k r c) ⟨r, Finset.mem_univ r, by unfold weight; rw [if_pos le_rfl]; exact Real.exp_pos _⟩

/-- The probability from the logarithm of the total. -/
theorem prob_of_log {r c : Fin 4096} (h : c ≤ r) : Real.exp (score q k r c - Real.log (total q k r)) = prob q k r c := by
  rw [Real.exp_sub, Real.exp_log (total_pos q k r), prob, weight, if_pos h]

theorem prob_later {r c : Fin 4096} (h : ¬c ≤ r) : prob q k r c = 0 := by rw [prob, weight, if_neg h, zero_div]

theorem dscore_later {r c : Fin 4096} (h : ¬c ≤ r) : dscore q k kv db r c = 0 := by rw [dscore, prob_later q k h, zero_mul]

/-- The mean as a product of the cotangent with the attention's output. -/
theorem mean_eq (r : Fin 4096) : mean q k kv db r = ∑ l, db r l * ∑ c, prob q k r c * kv c l := by
  simp only [mean, dprob, Finset.mul_sum]
  rw [Finset.sum_comm]
  exact Finset.sum_congr rfl fun l _ => Finset.sum_congr rfl fun c _ => by ring

/-! ## The heads' rows on 128 lanes -/

/-- The factor on the queries: the rational of its float word. -/
def scale : ℝ := 13698540 / 134217728

theorem word_scale : Idealize.ShloMosaic.Ideal.ofBits .f32 0x3DD105EC#32 = ((scale : ℝ) : EReal) := by
  unfold scale
  simp [Idealize.ShloMosaic.Ideal.ofBits, Idealize.ShloMosaic.Ideal.ieee, -EReal.coe_mul]
  norm_num

/-- Head `h` of a query or key array, zeros on the last lanes. -/
def low (f : Fin 4096 → Fin 8 → Fin 96 → ℝ) (h : Fin 8) (r : Fin 4096) (l : Fin 128) : ℝ := if hl : l.val < 96 then f r h ⟨l, hl⟩ else 0

/-- The queries with their factor. -/
def scaled (f : Fin 4096 → Fin 8 → Fin 96 → ℝ) (r : Fin 4096) (h : Fin 8) (l : Fin 96) : ℝ := f r h l * scale

/-- Head `h` of the values on the last 64 lanes, a one on the first. -/
def upper (f : Fin 4096 → Fin 8 → Fin 64 → ℝ) (h : Fin 8) (r : Fin 4096) (l : Fin 128) : ℝ :=
  if hl : 64 ≤ l.val then f r h ⟨l - 64, by omega⟩ else if l.val = 0 then 1 else 0

/-- Head `h` of the output's cotangent on the last 64 lanes. -/
def moved (f : Fin 4096 → Fin 512 → ℝ) (h : Fin 8) (r : Fin 4096) (l : Fin 128) : ℝ :=
  if hl : 64 ≤ l.val then f r ⟨64 * h + (l - 64), by omega⟩ else 0

theorem low_lt (f : Fin 4096 → Fin 8 → Fin 96 → ℝ) (h : Fin 8) (r : Fin 4096) (l : Fin 128) (hl : l.val < 96) : low f h r l = f r h ⟨l, hl⟩ := dif_pos hl

theorem low_ge (f : Fin 4096 → Fin 8 → Fin 96 → ℝ) (h : Fin 8) (r : Fin 4096) (l : Fin 128) (hl : ¬l.val < 96) : low f h r l = 0 := dif_neg hl

theorem moved_ge (f : Fin 4096 → Fin 512 → ℝ) (h : Fin 8) (r : Fin 4096) (l : Fin 128) (hl : 64 ≤ l.val) :
    moved f h r l = f r ⟨h * 64 + (l - 64), by omega⟩ :=
  (dif_pos hl).trans (congrArg (f r) (Fin.ext (congrArg (· + (l.val - 64)) (Nat.mul_comm 64 h.val))))

theorem moved_lt (f : Fin 4096 → Fin 512 → ℝ) (h : Fin 8) (r : Fin 4096) (l : Fin 128) (hl : ¬64 ≤ l.val) : moved f h r l = 0 := dif_neg hl

theorem sum_low (f : Fin 128 → ℝ) (hf : ∀ l : Fin 128, ¬l.val < 96 → f l = 0) : ∑ l, f l = ∑ l : Fin 96, f ⟨l, by omega⟩ := by
  rw [show ∑ l, f l = ∑ l : Fin (96 + 32), f l from rfl, Fin.sum_univ_add]
  rw [show ∑ l : Fin 32, f (Fin.natAdd 96 l) = 0 from Finset.sum_eq_zero fun l _ => hf _ (by simp), add_zero]
  rfl

theorem sum_upper (f : Fin 128 → ℝ) (hf : ∀ l : Fin 128, ¬64 ≤ l.val → f l = 0) : ∑ l, f l = ∑ l : Fin 64, f ⟨64 + l, by omega⟩ := by
  rw [show ∑ l, f l = ∑ l : Fin (64 + 64), f l from rfl, Fin.sum_univ_add]
  rw [show ∑ l : Fin 64, f (Fin.castAdd 64 l) = 0 from Finset.sum_eq_zero fun l _ => hf _ (by simp), zero_add]
  rfl

theorem score_low (f g : Fin 4096 → Fin 8 → Fin 96 → ℝ) (h : Fin 8) (r c : Fin 4096) : score (low f h) (low g h) r c = ∑ l, f r h l * g c h l := by
  rw [score, sum_low _ fun l hl => by rw [low, dif_neg hl, zero_mul]]
  exact Finset.sum_congr rfl fun l _ => by rw [low, low, dif_pos l.isLt, dif_pos l.isLt]

/-- A sum against the cotangent's lanes. -/
theorem sum_moved (d : Fin 4096 → Fin 512 → ℝ) (h : Fin 8) (r : Fin 4096) (g : Fin 128 → ℝ) :
    ∑ l, moved d h r l * g l = ∑ l : Fin 64, d r ⟨64 * h + l, by omega⟩ * g ⟨64 + l, by omega⟩ := by
  rw [sum_upper _ fun l hl => by rw [moved, dif_neg hl, zero_mul]]
  refine Finset.sum_congr rfl fun l _ => ?_
  rw [moved, dif_pos (Nat.le_add_right 64 l)]
  exact congrArg (fun e => d r e * _) (Fin.ext (by show 64 * h.val + (64 + l.val - 64) = 64 * h.val + l.val; omega))

theorem upper_at (v : Fin 4096 → Fin 8 → Fin 64 → ℝ) (h : Fin 8) (c : Fin 4096) (l : Fin 64) : upper v h c ⟨64 + l, by omega⟩ = v c h l := by
  rw [upper, dif_pos (Nat.le_add_right 64 l)]
  exact congrArg (v c h) (Fin.ext (by show 64 + l.val - 64 = l.val; omega))

theorem dprob_upper (v : Fin 4096 → Fin 8 → Fin 64 → ℝ) (d : Fin 4096 → Fin 512 → ℝ) (h : Fin 8) (r c : Fin 4096) :
    dprob (upper v h) (moved d h) r c = ∑ l : Fin 64, d r ⟨64 * h + l, by omega⟩ * v c h l := by
  rw [dprob, sum_moved]
  exact Finset.sum_congr rfl fun l _ => by rw [upper_at]

/-- The mean, from cotangents and exponentials that carry a common factor. -/
theorem mean_scaled (E : ℝ) (hE : E ≠ 0) (r c : Fin 4096) :
    (dprob kv db r c / (total q k r * E)
        + -∑ x, dprob kv db r x * (1 / (total q k r * E * (total q k r * E))) * (weight q k r x * E)) * (weight q k r c * E)
      = dscore q k kv db r c := by
  have ht := (total_pos q k r).ne'
  have hs : ∑ x, dprob kv db r x * (1 / (total q k r * E * (total q k r * E))) * (weight q k r x * E) = mean q k kv db r / (total q k r * E) := by
    rw [mean, Finset.sum_div]
    refine Finset.sum_congr rfl fun x _ => ?_
    rw [prob]
    field_simp
  rw [hs, dscore, prob]
  field_simp
  ring

section
variable (a b : Fin 4096 → Fin 8 → Fin 96 → ℝ) (v : Fin 4096 → Fin 8 → Fin 64 → ℝ) (d : Fin 4096 → Fin 512 → ℝ)

/-- All heads' gradients of the queries, 128 lanes each. -/
def allQ (r : Fin 4096) (j : Fin 1024) : ℝ :=
  dq (low (scaled a) ⟨j / 128, by omega⟩) (low b ⟨j / 128, by omega⟩) (upper v ⟨j / 128, by omega⟩) (moved d ⟨j / 128, by omega⟩) r ⟨j % 128, by omega⟩

/-- Of the keys. -/
def allK (r : Fin 4096) (j : Fin 1024) : ℝ :=
  dk (low (scaled a) ⟨j / 128, by omega⟩) (low b ⟨j / 128, by omega⟩) (upper v ⟨j / 128, by omega⟩) (moved d ⟨j / 128, by omega⟩) r ⟨j % 128, by omega⟩

/-- Of the values. -/
def allV (r : Fin 4096) (j : Fin 1024) : ℝ :=
  dkv (low (scaled a) ⟨j / 128, by omega⟩) (low b ⟨j / 128, by omega⟩) (moved d ⟨j / 128, by omega⟩) r ⟨j % 128, by omega⟩
end

end Cert.AttnSpec
-- ==== Proof.AttnRef.lean ====
/- The attention's backward as the derivative of its forward lines, over real numbers. -/
module

public import proofs.«01_k».proof.Proof.AttnSpec
public import proofs.«01_k».proof.Proof.Gen.AttnBwdRefIdeal.Read
public import Idealize.ShloMosaic.Lib.Pointwise
public import Mathlib.Data.Finset.Fold
public import Idealize.ShloMosaic.PureOps.Ideal.Laws

@[expose] public section

set_option maxRecDepth 16384

noncomputable section

open Idealize.ShloMosaic Idealize.ShloMosaic.TcCoe Idealize.SL.Sem
open Cert.Reals Cert.AttnSpec

namespace Cert.AttnRef

open Cert.AttnBwdRefIdeal Cert.AttnBwdRefIdeal.Read

theorem word_bot : Ideal.ofBits .f32 0xFF800000#32 = ⊥ := by simp [Ideal.ofBits, Ideal.ieee]

theorem word_zero : FloatOps.sitofp (F := Ideal) .f32 (0#32) = (0 : EReal) := by
  simp [FloatOps.sitofp]

theorem sle_at (a b : Fin 4096) : IntOp.cmpi .sle (BitVec.ofNat 32 (a : ℕ)) (BitVec.ofNat 32 (b : ℕ)) = if a ≤ b then 1#1 else 0#1 := by
  have ha : (BitVec.ofNat 32 (a : ℕ)).toInt = (a : ℕ) := by rw [BitVec.toInt_ofNat']; have := a.isLt; simp [Int.bmod]; omega
  have hb : (BitVec.ofNat 32 (b : ℕ)).toInt = (b : ℕ) := by rw [BitVec.toInt_ofNat']; have := b.isLt; simp [Int.bmod]; omega
  have h : (BitVec.ofNat 32 (a : ℕ)).sle (BitVec.ofNat 32 (b : ℕ)) = decide (a ≤ b) := by
    rw [BitVec.sle_eq_decide, ha, hb]
    exact decide_eq_decide.mpr (by rw [Int.ofNat_le]; exact Iff.rfl)
  by_cases hle : a ≤ b <;> simp [IntOp.cmpi, h, hle]

/-- A greatest element over a finite set is a real number when no member is infinite and one is real. -/
theorem fold_real {ι : Type} (s : Finset ι) (f : ι → EReal) (hf : ∀ i, f i ≠ ⊤) (i : ι) (hi : i ∈ s) (hb : f i ≠ ⊥) :
    ∃ t : ℝ, s.fold max ⊥ f = t := by
  have h1 : s.fold max ⊥ f < ⊤ := (Finset.fold_max_lt _).mpr ⟨bot_lt_top, fun j _ => lt_top_iff_ne_top.mpr (hf j)⟩
  have h2 : ⊥ < s.fold max ⊥ f := (Finset.lt_fold_max _).mpr (Or.inr ⟨i, hi, bot_lt_iff_ne_bot.mpr hb⟩)
  exact ⟨_, (EReal.coe_toReal h1.ne h2.ne').symm⟩

variable {x0 x1 : FVec Ideal S4096x8x96 .f32} {x2 : FVec Ideal S4096x8x64 .f32} {x3 : FVec Ideal S4096x512 .f32}
variable {a b : Fin 4096 → Fin 8 → Fin 96 → ℝ} {v : Fin 4096 → Fin 8 → Fin 64 → ℝ} {d : Fin 4096 → Fin 512 → ℝ}

section
variable (h0 : ∀ r h l, x0 (ix3 r h l) = a r h l) (h1 : ∀ r h l, x1 (ix3 r h l) = b r h l)
include h0 h1

/-- A score. -/
theorem score_at (h : Fin 8) (r c : Fin 4096) : val_main_v2 (F := Ideal) x0 x1 (ix3 h r c) = score (low (scaled a) h) (low b h) r c := by
  rw [score_low]
  pointwise [val_main_v2, val_main_v1, val_main_v0, val_main_cst, word_scale, h0, h1]
  simp only [← EReal.coe_mul, sum_real, scaled]

/-- A score behind the mask. -/
theorem masked_at (h : Fin 8) (r c : Fin 4096) :
    val_main_v6_0 (F := Ideal) x0 x1 (ix3 h r c) = if c ≤ r then (score (low (scaled a) h) (low b h) r c : EReal) else ⊥ := by
  pointwise [val_main_v6_0, val_main_v5, val_main_v4, val_main_v3, val_main_call0_v1, val_main_call0_v0, val_main_cst_0, score_at h0 h1, sle_at, word_bot]
  split <;> rfl

/-- A row's greatest score is a real number. -/
theorem top_at : ∃ t : Fin 8 → Fin 4096 → ℝ, ∀ h r, val_main_v7 (F := Ideal) x0 x1 (ix2 h r) = t h r := by
  have key : ∀ (h : Fin 8) (r : Fin 4096), ∃ t : ℝ, val_main_v7 (F := Ideal) x0 x1 (ix2 h r) = t := fun h r => by
    rw [val_main_v7, Host.reduce_eq_fold]
    rw [show val_main_cst_1 (F := Ideal) _ = ⊥ from word_bot]
    refine fold_real _ _ (fun i => ?_) (ix3 h r r) ?_ ?_
    · rw [show val_main_v6_0 (F := Ideal) x0 x1 i = _ from (congrArg _ (eq_ix3 i)).trans (masked_at h0 h1 (i 0) (i 1) (i 2))]
      split
      · exact EReal.coe_ne_top _
      · exact bot_ne_top
    · refine Finset.mem_filter.mpr ⟨Finset.mem_univ _, ?_⟩
      funext e
      refine Fin.ext ?_
      match e with
      | ⟨0, _⟩ => exact Shape.ReducesTo.drop_apply_val_of_eq Gen.reducesTo_S8x4096x4096_S8x4096_d2 (ix3 h r r) 0 0
      | ⟨1, _⟩ => exact Shape.ReducesTo.drop_apply_val_of_eq Gen.reducesTo_S8x4096x4096_S8x4096_d2 (ix3 h r r) 1 1
    · rw [masked_at h0 h1, if_pos le_rfl]
      exact EReal.coe_ne_bot _
  choose t ht using key
  exact ⟨t, ht⟩

section
variable {t : Fin 8 → Fin 4096 → ℝ} (ht : ∀ h r, val_main_v7 (F := Ideal) x0 x1 (ix2 h r) = t h r)
include ht

omit h0 h1 in
/-- The greatest score against minus infinity. -/
theorem top_again (h : Fin 8) (r : Fin 4096) : val_main_v14 (F := Ideal) x0 x1 (ix2 h r) = t h r := by
  rw [val_main_v14_apply, val_main_v13_apply, val_main_cst_3_apply, ht]
  refine (congrArg (max · _) word_bot).trans (max_eq_right bot_le)

omit h0 h1 in
/-- What a row's scores are shifted by. -/
theorem shift_at (h : Fin 8) (r c : Fin 4096) : val_main_v25 (F := Ideal) x0 x1 (ix3 h r c) = t h r := by
  pointwise [val_main_v25, val_main_v24, top_again ht]

/-- A row's exponentials. -/
theorem exp_at (h : Fin 8) (r c : Fin 4096) :
    val_main_v27 (F := Ideal) x0 x1 (ix3 h r c) = ((weight (low (scaled a) h) (low b h) r c * Real.exp (-t h r) : ℝ) : EReal) := by
  pointwise [val_main_v27, val_main_v26, shift_at ht, masked_at h0 h1]
  rw [weight]
  by_cases hc : c ≤ r
  · rw [if_pos hc, if_pos hc, ← EReal.coe_sub, Ideal.exp_coe, sub_eq_add_neg, Real.exp_add]
  · rw [if_neg hc, if_neg hc, EReal.bot_sub, Ideal.exp_bot, zero_mul, EReal.coe_zero]

/-- Their sum. -/
theorem sum_at (h : Fin 8) (r : Fin 4096) :
    val_main_v28 (F := Ideal) x0 x1 (ix2 h r) = ((total (low (scaled a) h) (low b h) r * Real.exp (-t h r) : ℝ) : EReal) := by
  pointwise [val_main_v28, val_main_cst_9, exp_at h0 h1 ht]
  rw [sum_real, total, Finset.sum_mul]

omit h0 h1 ht in
/-- Nothing about the sum is lost in the quotients. -/
theorem sum_ne (a b : Fin 4096 → Fin 8 → Fin 96 → ℝ) (t : Fin 8 → Fin 4096 → ℝ) (h : Fin 8) (r : Fin 4096) : total (low (scaled a) h) (low b h) r * Real.exp (-t h r) ≠ 0 :=
  (mul_pos (total_pos _ _ r) (Real.exp_pos _)).ne'

/-- A row's probabilities. -/
theorem prob_at (h : Fin 8) (r c : Fin 4096) :
    val_main_v31 (F := Ideal) x0 x1 (ix3 h r c) = prob (low (scaled a) h) (low b h) r c := by
  pointwise [val_main_v31, val_main_v30, val_main_v29, exp_at h0 h1 ht, sum_at h0 h1 ht]
  rw [div_real (sum_ne a b t h r), prob, mul_div_mul_right _ _ (Real.exp_pos _).ne']

section
variable (h2 : ∀ r h l, x2 (ix3 r h l) = v r h l)
include h2

/-- The attention's output. -/
theorem out_at (r : Fin 4096) (j : Fin 512) :
    val_main_v37 (F := Ideal) x0 x1 x2 (ix2 r j)
      = ((∑ c, prob (low (scaled a) ⟨j / 64, by omega⟩) (low b ⟨j / 64, by omega⟩) r c * v c ⟨j / 64, by omega⟩ ⟨j % 64, by omega⟩ : ℝ) : EReal) := by
  pointwise [val_main_v37, val_main_v36, val_main_v35, prob_at h0 h1 ht, h2]
  simp only [← EReal.coe_mul, sum_real]
  exact congrArg _ (Finset.sum_congr rfl fun c _ => mul_comm _ _)

variable (h3 : ∀ r j, x3 (ix2 r j) = d r j)
include h3

omit h0 h1 ht in
/-- The cotangents of a row's probabilities. -/
theorem dprob_at (h : Fin 8) (r c : Fin 4096) :
    val_main_v40 (F := Ideal) x2 x3 (ix3 h r c) = dprob (upper v h) (moved d h) r c := by
  rw [dprob_upper]
  pointwise [val_main_v40, val_main_v39, val_main_v38, h2, h3]
  simp only [← EReal.coe_mul, sum_real]
  exact congrArg _ (Finset.sum_congr rfl fun l _ => congrArg (fun e => d r e * v c h l) (Fin.ext (congrArg (· + l.val) (Nat.mul_comm h.val 64))))

/-- The cotangents of a row's scores. -/
theorem dscore_at (h : Fin 8) (r c : Fin 4096) :
    val_main_v55 (F := Ideal) x0 x1 x2 x3 (ix3 h r c) = dscore (low (scaled a) h) (low b h) (upper v h) (moved d h) r c := by
  have hz := sum_ne a b t h r
  have hzz := mul_ne_zero hz hz
  pointwise [val_main_v55, val_main_v5, val_main_v4, val_main_v3, val_main_v54, val_main_v53, val_main_v52, val_main_v51, val_main_v50, val_main_v49, val_main_v48,
    val_main_v47, val_main_v46, val_main_v45, val_main_v44, val_main_v43, val_main_v34, val_main_v33, val_main_v32, val_main_v29, val_main_cst_10, val_main_cst_11, val_main_cst_12,
    val_main_call1_v0, val_main_call1_cst, exp_at h0 h1 ht, sum_at h0 h1 ht, dprob_at h2 h3, sle_at]
  simp only [Fin.sum_univ_one, ← EReal.coe_mul, ← EReal.coe_one, div_real hzz, div_real hz, sum_real, ← EReal.coe_neg, ← EReal.coe_add]
  by_cases hc : c ≤ r
  · rw [if_pos hc]
    refine congrArg ((↑) : ℝ → EReal) ?_
    exact mean_scaled _ _ _ _ _ (Real.exp_pos _).ne' r c
  · rw [if_neg hc, dscore_later _ _ _ _ hc]
    exact EReal.coe_zero.symm

/-- The gradient of the queries. -/
theorem dq_at (r : Fin 4096) (j : Fin 1024) : val_main_v61 (F := Ideal) x0 x1 x2 x3 (ix2 r j) = allQ a b v d r j := by
  rw [allQ, AttnSpec.dq]
  pointwise [val_main_v61, val_main_v60, val_main_v59, val_main_v58, val_main_call2_v0, val_main_c, dscore_at h0 h1 ht h2 h3, h1]
  simp only [← EReal.coe_mul, sum_real, word_zero, ← EReal.coe_zero]
  split
  · rename_i hj
    refine congrArg ((↑) : ℝ → EReal) (Finset.sum_congr rfl fun x _ => ?_)
    exact congrArg (_ * ·) (low_lt b ⟨j / 128, by omega⟩ x ⟨j % 128, by omega⟩ hj.2).symm
  · rename_i hj
    refine congrArg ((↑) : ℝ → EReal) (Finset.sum_eq_zero fun x _ => ?_).symm
    exact (congrArg (_ * ·) (low_ge b ⟨j / 128, by omega⟩ x ⟨j % 128, by omega⟩ fun hl => hj ⟨by omega, hl⟩)).trans (mul_zero _)

/-- The gradient of the keys. -/
theorem dk_at (r : Fin 4096) (j : Fin 1024) : val_main_v63 (F := Ideal) x0 x1 x2 x3 (ix2 r j) = allK a b v d r j := by
  rw [allK, AttnSpec.dk]
  pointwise [val_main_v63, val_main_v62, val_main_v57, val_main_v56, val_main_call3_v0, val_main_c_13, dscore_at h0 h1 ht h2 h3, h0, val_main_v1, val_main_v0, val_main_cst, word_scale]
  simp only [← EReal.coe_mul, sum_real, word_zero, ← EReal.coe_zero]
  split
  · rename_i hj
    refine congrArg ((↑) : ℝ → EReal) (Finset.sum_congr rfl fun x _ => ?_)
    exact congrArg (_ * ·) (low_lt (scaled a) ⟨j / 128, by omega⟩ x ⟨j % 128, by omega⟩ hj.2).symm
  · rename_i hj
    refine congrArg ((↑) : ℝ → EReal) (Finset.sum_eq_zero fun x _ => ?_).symm
    exact (congrArg (_ * ·) (low_ge (scaled a) ⟨j / 128, by omega⟩ x ⟨j % 128, by omega⟩ fun hl => hj ⟨by omega, hl⟩)).trans (mul_zero _)

/-- The gradient of the values. -/
theorem dv_at (r : Fin 4096) (j : Fin 1024) : val_main_v65 (F := Ideal) x0 x1 x3 (ix2 r j) = allV a b d r j := by
  rw [allV, AttnSpec.dkv]
  pointwise [val_main_v65, val_main_v64, val_main_v42, val_main_v41, val_main_v39, val_main_v38, val_main_call4_v0, val_main_c_14, prob_at h0 h1 ht, h3]
  simp only [← EReal.coe_mul, sum_real, word_zero, ← EReal.coe_zero]
  split
  · rename_i hj
    refine congrArg ((↑) : ℝ → EReal) (Finset.sum_congr rfl fun x _ => ?_)
    exact (mul_comm _ _).trans (congrArg (_ * ·) (moved_ge d ⟨j / 128, by omega⟩ x ⟨j % 128, by omega⟩ hj.2.1).symm)
  · rename_i hj
    refine congrArg ((↑) : ℝ → EReal) (Finset.sum_eq_zero fun x _ => ?_).symm
    exact (congrArg (_ * ·) (moved_lt d ⟨j / 128, by omega⟩ x ⟨j % 128, by omega⟩ fun hl => hj ⟨by omega, hl, by omega⟩)).trans (mul_zero _)
end
end
end

end Cert.AttnRef
-- ==== Proof.AttnHost.lean ====
/- What the host line hands the attention backward kernel. -/
module

public import proofs.«01_k».proof.Proof.AttnDat
public import proofs.«01_k».proof.Proof.AttnRef

@[expose] public section

set_option maxRecDepth 16384

noncomputable section

open Idealize.ShloMosaic Idealize.ShloMosaic.TcCoe Idealize.ShloMosaic.StableHlo Idealize.SL.Sem
open Cert.Reals Cert.AttnSpec

namespace Cert.AttnHost

open Cert.AttnBwdIdeal Cert.AttnBwdIdeal.Gen

/-- An array of heads of 96 lanes, widened to 128 and laid side by side. -/
def widened (x : FVec Ideal S4096x8x96 .f32) : FVec Ideal S4096x1024 .bf16 :=
  truncf .bf16 (shapeCast S4096x1024 (pad S4096x8x128 ![0, 0, 0] ![0, 0, 32] ![0, 0, 0] x (sitofp (F := Ideal) .f32 (constantI S_ 32 0#32)) pads_S4096x8x96_S4096x8x128_000_000_0320 h_S_)
    shapeCasts_S4096x8x128_S4096x1024) bitsLt_bf16_f32

/-- The values' heads behind a one and 63 zeros. -/
def joined (x : FVec Ideal S4096x8x64 .f32) : FVec Ideal S4096x1024 .bf16 :=
  truncf .bf16 (shapeCast S4096x1024 (concatenate S4096x8x128 2 [⟨S4096x8x1, broadcastInDim S4096x8x1 ![] bcast_S_S4096x8x1 (constant (F := Ideal) S_ .f32 0x3F800000#32)⟩,
    ⟨S4096x8x63, broadcastInDim S4096x8x63 ![] bcast_S_S4096x8x63 (constant (F := Ideal) S_ .f32 0x00000000#32)⟩, ⟨S4096x8x64, x⟩] concatenates_S4096x8x1_S4096x8x63_S4096x8x64_S4096x8x128_d2)
    shapeCasts_S4096x8x128_S4096x1024) bitsLt_bf16_f32

section
variable (s : FVec Ideal S8x4096x4096 .f32) (y : FVec Ideal S8x4096 .f32)

/-- The scores less their row's greatest. -/
def lowered : FVec Ideal S8x4096x4096 .f32 :=
  subf s (broadcastInDim S8x4096x4096 ![0, 1, 2] bcast_S8x4096x1_S8x4096x4096_0_1_2
    (broadcastInDim S8x4096x1 ![0, 1] bcast_S8x4096_S8x4096x1_0_1 y))

/-- The sum of their exponentials. -/
def summed : FVec Ideal S8x4096 .f32 :=
  Host.reduceAdd (Host.exp (lowered s y)) (constant S_ .f32 0x00000000#32) reducesTo_S8x4096x4096_S8x4096_d2 h_S_

/-- The logarithm of a row's weights together, on 128 lanes for each head. -/
def logged : FVec Ideal S4096x1024 .f32 :=
  shapeCast S4096x1024 (broadcastInDim S4096x8x128 ![0, 1, 2] bcast_S4096x8x1_S4096x8x128_0_1_2 (transpose S4096x8x1 [1, 0, 2]
    (addf (broadcastInDim S8x4096x1 ![0, 1] bcast_S8x4096_S8x4096x1_0_1 y)
      (Host.log (broadcastInDim S8x4096x1 ![0, 1] bcast_S8x4096_S8x4096x1_0_1 (summed s y)))) transposes_S8x4096x1_S4096x8x1_1_0_2)) shapeCasts_S4096x8x128_S4096x1024
end

section
variable (m : (ℓ : Loc nD τ sig) → Buf (Elt Ideal) ℓ) (c : Dev nD)

theorem V_o : V m c main_v48 = Cert.AttnBwdRefIdeal.Read.val_main_v37 (F := Ideal) (m ((c.tc : Thread nD τ).loc main_arg0)) (m ((c.tc : Thread nD τ).loc main_arg1))
    (m ((c.tc : Thread nD τ).loc main_arg2)) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

theorem V_l : V m c main_v18
    = logged (Cert.AttnBwdRefIdeal.Read.val_main_v6_0 (F := Ideal) (m ((c.tc : Thread nD τ).loc main_arg0)) (m ((c.tc : Thread nD τ).loc main_arg1)))
      (Cert.AttnBwdRefIdeal.Read.val_main_v7 (F := Ideal) (m ((c.tc : Thread nD τ).loc main_arg0)) (m ((c.tc : Thread nD τ).loc main_arg1))) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

theorem V_q : V m c main_v21 = widened (Cert.AttnBwdRefIdeal.Read.val_main_v1 (F := Ideal) (m ((c.tc : Thread nD τ).loc main_arg0))) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

theorem V_k : V m c main_v24 = widened (m ((c.tc : Thread nD τ).loc main_arg1)) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl

theorem V_kv : V m c main_v29 = joined (m ((c.tc : Thread nD τ).loc main_arg2)) := by
  simp only [V, hostOps0, hostOps0_1, hostOps0_2, hostOps0_3, hostOps0_4, hostOps0_5, hostOps0_6, hostOps0_7, hostOps0_8, List.flatten_cons, List.flatten_nil,
    List.append_nil, List.cons_append, List.nil_append, TRef.binary, TRef.nullary, TRef.ternary, TRef.unary, TRef.toBuf, TRef.ofBuf, cast_eq]
  after_results_simp
  rfl
end

variable {x0 x1 : FVec Ideal S4096x8x96 .f32} {x2 : FVec Ideal S4096x8x64 .f32}
variable {a b : Fin 4096 → Fin 8 → Fin 96 → ℝ} {v : Fin 4096 → Fin 8 → Fin 64 → ℝ}

theorem widened_at (h1 : ∀ r h l, x1 (ix3 r h l) = b r h l) (r : Fin 4096) (j : Fin 1024) :
    widened x1 (ix2 r j) = low b ⟨j / 128, by omega⟩ r ⟨j % 128, by omega⟩ := by
  pointwise [widened, h1, AttnRef.word_zero]
  split
  · rename_i hj
    exact congrArg _ (low_lt b ⟨j / 128, by omega⟩ r ⟨j % 128, by omega⟩ hj.2).symm
  · rename_i hj
    exact (congrArg ((↑) : ℝ → EReal) (low_ge b ⟨j / 128, by omega⟩ r ⟨j % 128, by omega⟩ fun hl => hj ⟨by omega, hl⟩)).symm

theorem joined_at (h2 : ∀ r h l, x2 (ix3 r h l) = v r h l) (r : Fin 4096) (j : Fin 1024) :
    joined x2 (ix2 r j) = upper v ⟨j / 128, by omega⟩ r ⟨j % 128, by omega⟩ := by
  pointwise [joined, h2]
  unfold upper
  split
  · rename_i hj
    rw [dif_neg (show ¬64 ≤ j.val % 128 by omega), if_pos (show j.val % 128 = 0 by omega), EReal.coe_one]
  · split
    · rw [dif_neg (show ¬64 ≤ j.val % 128 by omega), if_neg (show ¬j.val % 128 = 0 by omega), EReal.coe_zero]
    · rw [dif_pos (show 64 ≤ j.val % 128 by omega)]
      exact congrArg (fun e => ((v r ⟨j / 128, by omega⟩ e : ℝ) : EReal)) (Fin.ext (by show j.val % 128 - 1 - 63 = j.val % 128 - 64; omega))

theorem logged_at {s : FVec Ideal S8x4096x4096 .f32} {y : FVec Ideal S8x4096 .f32} {t : Fin 8 → Fin 4096 → ℝ} {q k : Fin 8 → Fin 4096 → Fin 128 → ℝ}
    (hm : ∀ h r c, s (ix3 h r c) = if c ≤ r then (score (q h) (k h) r c : EReal) else ⊥) (ht : ∀ h r, y (ix2 h r) = t h r) (r : Fin 4096) (j : Fin 1024) :
    logged s y (ix2 r j) = (Real.log (total (q ⟨j / 128, by omega⟩) (k ⟨j / 128, by omega⟩) r) : ℝ) := by
  have he : ∀ h r c, Host.exp (lowered s y) (ix3 h r c) = ((weight (q h) (k h) r c * Real.exp (-t h r) : ℝ) : EReal) := fun h r c => by
    pointwise [lowered, ht, hm]
    rw [weight]
    by_cases hc : c ≤ r
    · rw [if_pos hc, if_pos hc, ← EReal.coe_sub, Ideal.exp_coe, sub_eq_add_neg, Real.exp_add]
    · rw [if_neg hc, if_neg hc, EReal.bot_sub, Ideal.exp_bot, zero_mul, EReal.coe_zero]
  have hs : ∀ h r, summed s y (ix2 h r) = ((total (q h) (k h) r * Real.exp (-t h r) : ℝ) : EReal) := fun h r => by
    pointwise [summed, he]
    rw [sum_real, total, Finset.sum_mul]
  pointwise [logged, ht, hs]
  have hp := total_pos (q ⟨j / 128, by omega⟩) (k ⟨j / 128, by omega⟩) r
  have he := Real.exp_pos (-t ⟨j / 128, by omega⟩ r)
  rw [Ideal.log_coe, if_neg (mul_pos hp he).not_ge, ← EReal.coe_add, Real.log_mul hp.ne' he.ne', Real.log_exp]
  exact congrArg ((↑) : ℝ → EReal) (by ring)

end Cert.AttnHost
-- ==== Proof.AttnBlock.lean ====
/- The row blocks of one head's gradients, over real numbers. -/
module

public import proofs.«01_k».proof.Proof.AttnStep
public import proofs.«01_k».proof.Proof.AttnSpec
public import Idealize.ShloMosaic.Lib.Pointwise

@[expose] public section

set_option maxRecDepth 16384

noncomputable section

open Idealize.ShloMosaic Idealize.ShloMosaic.TcCoe Idealize.SL.Sem
open Cert.Reals Cert.AttnSpec

namespace Cert.AttnBlock

open Cert.AttnBwdIdeal Cert.AttnBwdIdeal.Gen Cert.AttnLoop
open Cert.AttnStep (same wide dots below probOff probOn down along at8)

/-- Row `i` of row block `b`. -/
def gl (b : Fin 8) (i : Fin 512) : Fin 4096 := ⟨512 * b.val + i.val, by omega⟩

theorem at8_val (j : Fin 8) : at8 j.val = j := Fin.ext (Nat.mod_eq_of_lt j.isLt)

theorem rows_of (r : Fin 4096) : ∃ j i, r = gl j i :=
  ⟨⟨r.val / 512, by omega⟩, ⟨r.val % 512, Nat.mod_lt _ (by decide)⟩, Fin.ext (Nat.div_add_mod r.val 512).symm⟩

theorem later {n : ℕ} {j : Fin 8} {i c : Fin 512} (h : j.val < n ∧ n < 8) : ¬gl (at8 n) c ≤ gl j i := by
  have h8 : (at8 n).val = n := Nat.mod_eq_of_lt h.2
  show ¬512 * (at8 n).val + c.val ≤ 512 * j.val + i.val
  omega

theorem earlier {n : ℕ} {j : Fin 8} {i c : Fin 512} (h : n < j.val) : ¬gl j c ≤ gl (at8 n) i := by
  have h8 : (at8 n).val = n := Nat.mod_eq_of_lt (h.trans j.isLt)
  show ¬512 * j.val + c.val ≤ 512 * (at8 n).val + i.val
  omega

/-- A sum over the rows, block by block. -/
theorem sum_rows (f : Fin 4096 → ℝ) : ∑ r, f r = ∑ n ∈ Finset.range 8, ∑ i, f (gl (at8 n) i) := by
  rw [Finset.sum_range (fun n => ∑ i, f (gl (at8 n) i))]
  simp only [at8_val]
  rw [Fin.sum_univ_tiles 8 512 rfl]
  exact Finset.sum_congr rfl fun j _ => Finset.sum_congr rfl fun i _ => congrArg f (Fin.ext (congrArg (· + i.val) (Nat.mul_comm j.val 512)))

/-- The blocks after `j` adding nothing. -/
theorem sum_upto (j : Fin 8) (f : Fin 4096 → ℝ) (h : ∀ n, j.val < n ∧ n < 8 → ∑ i, f (gl (at8 n) i) = 0) :
    ∑ r, f r = ∑ n ∈ Finset.range (j.val + 1), ∑ i, f (gl (at8 n) i) := by
  rw [sum_rows]
  refine (Finset.sum_subset (Finset.range_subset_range.mpr (by omega)) fun n hn hn' => h n ?_).symm
  simp only [Finset.mem_range] at hn hn'
  omega

/-- The blocks before `j` adding nothing. -/
theorem sum_from (j : Fin 8) (f : Fin 4096 → ℝ) (h : ∀ n, n < j.val → ∑ i, f (gl (at8 n) i) = 0) :
    ∑ r, f r = ∑ n ∈ Finset.range (8 - j.val), ∑ i, f (gl (at8 (j.val + n)) i) := by
  have h8 : 8 = j.val + (8 - j.val) := by omega
  rw [sum_rows]
  conv_lhs => rw [h8]
  rw [Finset.sum_range_add, Finset.sum_eq_zero fun n hn => h n (Finset.mem_range.mp hn), zero_add]

theorem ofRows_at {α : Type} (b : Fin 8 → S512x128.Idx → α) (j : Fin 8) (i : Fin 512) (z : Fin 128) : ofRows b (ix2 (gl j i) z) = b j (ix2 i z) := by
  have hj : (⟨(512 * j.val + i.val) / 512, by omega⟩ : Fin 8) = j := Fin.ext (by show (512 * j.val + i.val) / 512 = j.val; omega)
  have hi : (⟨(512 * j.val + i.val) % 512, Nat.mod_lt _ (by decide)⟩ : Fin 512) = i := Fin.ext (by show (512 * j.val + i.val) % 512 = i.val; omega)
  show b ⟨(512 * j.val + i.val) / 512, _⟩ (ix2 ⟨(512 * j.val + i.val) % 512, _⟩ z) = _
  rw [hj, hi]

theorem word_bot : Ideal.ofBits .f32 0xFF800000#32 = ⊥ := by simp [Ideal.ofBits, Ideal.ieee]

theorem same_at {e : EltTy} (x : Vec Ideal S512x128 e) : same (F := Ideal) x = x := by
  funext y
  rw [eq_ix2 y]
  pointwise [same]

theorem wide_at (x : Vec Ideal S512x128 .f32) (a : Fin 512 → ℝ) (h : ∀ i z, x (ix2 i z) = a i) (i c : Fin 512) : wide (F := Ideal) x (ix2 i c) = a i := by
  pointwise [wide, h]
  simp

theorem below_at (i c : Fin 512) : below (ix2 i c) = if c ≤ i then 1#1 else 0#1 := by
  pointwise [below]
  have hc : (BitVec.ofNat 32 (c : ℕ)).toInt = (c : ℕ) := by rw [BitVec.toInt_ofNat']; have := c.isLt; simp [Int.bmod]; omega
  have hi : (BitVec.ofNat 32 (i : ℕ)).toInt = (i : ℕ) := by rw [BitVec.toInt_ofNat']; have := i.isLt; simp [Int.bmod]; omega
  have h : (BitVec.ofNat 32 (c : ℕ)).sle (BitVec.ofNat 32 (i : ℕ)) = decide (c ≤ i) := by
    rw [BitVec.sle_eq_decide, hc, hi]
    exact decide_eq_decide.mpr (by rw [Int.ofNat_le]; exact Iff.rfl)
  by_cases hle : c ≤ i
  · simp [IntOp.cmpi, h, hle]
  · simp [IntOp.cmpi, h, hle]

theorem dots_at {x y : FVec Ideal S512x128 .bf16} {a b : Fin 512 → Fin 128 → ℝ} (hx : ∀ i l, x (ix2 i l) = a i l) (hy : ∀ i l, y (ix2 i l) = b i l) (i c : Fin 512) :
    dots (F := Ideal) x y (ix2 i c) = ((∑ l, a i l * b c l : ℝ) : EReal) := by
  pointwise [dots, hx, hy]
  simp only [← EReal.coe_mul, sum_real]

theorem down_at {x : FVec Ideal S512x512 .bf16} {y : FVec Ideal S512x128 .bf16} {a : Fin 512 → Fin 512 → ℝ} {b : Fin 512 → Fin 128 → ℝ}
    (hx : ∀ i c, x (ix2 i c) = a i c) (hy : ∀ i l, y (ix2 i l) = b i l) (c : Fin 512) (l : Fin 128) :
    down (F := Ideal) x y (ix2 c l) = ((∑ i, a i c * b i l : ℝ) : EReal) := by
  pointwise [down, hx, hy]
  simp only [← EReal.coe_mul, sum_real]

theorem along_at {x : FVec Ideal S512x512 .bf16} {y : FVec Ideal S512x128 .bf16} {a : Fin 512 → Fin 512 → ℝ} {b : Fin 512 → Fin 128 → ℝ}
    (hx : ∀ i c, x (ix2 i c) = a i c) (hy : ∀ i l, y (ix2 i l) = b i l) (i : Fin 512) (l : Fin 128) :
    along (F := Ideal) x y (ix2 i l) = ((∑ c, a i c * b c l : ℝ) : EReal) := by
  pointwise [along, hx, hy]
  simp only [← EReal.coe_mul, sum_real]

variable {q k kv db : Fin 8 → Vec Ideal S512x128 .bf16} {l dl : Fin 8 → Vec Ideal S512x128 .f32}
variable {Q K KV DB : Fin 4096 → Fin 128 → ℝ}

/-- A block of probabilities at or below the diagonal. -/
theorem prob_at (hq : ∀ j i z, q j (ix2 i z) = Q (gl j i) z) (hk : ∀ j i z, k j (ix2 i z) = K (gl j i) z)
    (hl : ∀ j i z, l j (ix2 i z) = (Real.log (total Q K (gl j i)) : ℝ)) {a b : ℕ} (hab : a ≤ b) (hb : b < 8) (i c : Fin 512) :
    AttnStep.prob (F := Ideal) q k l a b (ix2 i c) = prob Q K (gl (at8 b) i) (gl (at8 a) c) := by
  have hs := fun j j' => dots_at (hq j) (hk j')
  have hw := fun j => wide_at (l j) (fun i => Real.log (total Q K (gl j i))) (hl j)
  have ha8 : (at8 a).val = a := Nat.mod_eq_of_lt (by omega)
  have hb8 : (at8 b).val = b := Nat.mod_eq_of_lt hb
  rcases Nat.lt_or_eq_of_le hab with h | h
  · have hc : gl (at8 a) c ≤ gl (at8 b) i := by show 512 * (at8 a).val + c.val ≤ 512 * (at8 b).val + i.val; omega
    rw [AttnStep.prob, show (a == b) = false by simpa using h.ne]
    show probOff (F := Ideal) _ _ _ _ = _
    pointwise [probOff, same_at, hs, hw]
    rw [← prob_of_log Q K hc, ← EReal.coe_sub, Ideal.exp_coe]
    rfl
  · subst h
    rw [AttnStep.prob, show (a == a) = true by simp]
    show probOn (F := Ideal) _ _ _ _ = _
    pointwise [probOn, same_at, hs, hw, below_at]
    by_cases hci : c ≤ i
    · have hc : gl (at8 a) c ≤ gl (at8 a) i := Nat.add_le_add_left hci _
      rw [if_pos hci, ← prob_of_log Q K hc]
      show Ideal.exp (((_ : ℝ) : EReal) - _) = _
      rw [← EReal.coe_sub, Ideal.exp_coe]
      rfl
    · have hc : ¬gl (at8 a) c ≤ gl (at8 a) i := fun h => hci (Nat.le_of_add_le_add_left h)
      rw [if_neg hci, prob_later Q K hc]
      show Ideal.exp (Ideal.ofBits .f32 0xFF800000#32 - _) = _
      rw [word_bot, EReal.bot_sub, Ideal.exp_bot]
      rfl

/-- A block of the scores' cotangents. -/
theorem ds_at (hq : ∀ j i z, q j (ix2 i z) = Q (gl j i) z) (hk : ∀ j i z, k j (ix2 i z) = K (gl j i) z)
    (hkv : ∀ j i z, kv j (ix2 i z) = KV (gl j i) z) (hdb : ∀ j i z, db j (ix2 i z) = DB (gl j i) z)
    (hl : ∀ j i z, l j (ix2 i z) = (Real.log (total Q K (gl j i)) : ℝ)) (hdl : ∀ j i z, dl j (ix2 i z) = mean Q K KV DB (gl j i))
    {a b : ℕ} (hab : a ≤ b) (hb : b < 8) (i c : Fin 512) :
    AttnStep.ds (F := Ideal) q k kv db l dl a b (ix2 i c) = dscore Q K KV DB (gl (at8 b) i) (gl (at8 a) c) := by
  have hp := prob_at hq hk hl hab hb
  have hd := fun j j' => dots_at (hdb j) (hkv j')
  have hw := fun j => wide_at (dl j) (fun i => mean Q K KV DB (gl j i)) (hdl j)
  rw [AttnStep.ds]
  pointwise [AttnStep.dscore, same_at, hp, hd, hw]
  rw [← EReal.coe_sub, ← EReal.coe_mul]
  rfl

section
variable (hq : ∀ j i z, q j (ix2 i z) = Q (gl j i) z) (hk : ∀ j i z, k j (ix2 i z) = K (gl j i) z)
  (hkv : ∀ j i z, kv j (ix2 i z) = KV (gl j i) z) (hdb : ∀ j i z, db j (ix2 i z) = DB (gl j i) z)
  (hl : ∀ j i z, l j (ix2 i z) = (Real.log (total Q K (gl j i)) : ℝ)) (hdl : ∀ j i z, dl j (ix2 i z) = mean Q K KV DB (gl j i))

include hq hk hl hdb hkv hdl

theorem dkAcc_at (a n : ℕ) (hn : a + n ≤ 8) (c : Fin 512) (z : Fin 128) :
    AttnStep.dkAcc (F := Ideal) q k kv db l dl a n (ix2 c z)
      = ((∑ b ∈ Finset.range n, ∑ i, dscore Q K KV DB (gl (at8 (a + b)) i) (gl (at8 a) c) * Q (gl (at8 (a + b)) i) z : ℝ) : EReal) := by
  induction n with
  | zero => pointwise [AttnStep.dkAcc, k0_pay132]; simp
  | succ n ih =>
    have hd := ds_at hq hk hkv hdb hl hdl (Nat.le_add_right a n) (by omega)
    rw [Finset.sum_range_succ, EReal.coe_add, ← ih (by omega), AttnStep.dkAcc]
    refine congrArg₂ (· + ·) rfl ?_
    exact down_at hd (by rw [same_at]; exact hq (at8 (a + n))) c z

theorem dqAcc_at (b n : ℕ) (hn : n ≤ b) (hb : b < 8) (i : Fin 512) (z : Fin 128) :
    AttnStep.dqAcc (F := Ideal) q k kv db l dl b n (ix2 i z)
      = ((∑ a ∈ Finset.range (n + 1), ∑ c, dscore Q K KV DB (gl (at8 b) i) (gl (at8 a) c) * K (gl (at8 a) c) z : ℝ) : EReal) := by
  induction n with
  | zero =>
    rw [Finset.sum_range_one]
    exact along_at (ds_at hq hk hkv hdb hl hdl (Nat.zero_le b) hb) (by rw [same_at]; exact hk (at8 0)) i z
  | succ n ih =>
    rw [Finset.sum_range_succ, EReal.coe_add, ← ih (by omega), AttnStep.dqAcc]
    refine congrArg₂ (· + ·) rfl ?_
    exact along_at (ds_at hq hk hkv hdb hl hdl hn hb) (by rw [same_at]; exact hk (at8 (n + 1))) i z

omit hkv hdl in
theorem dkvAcc_at (a n : ℕ) (hn : a + n ≤ 8) (c : Fin 512) (z : Fin 128) :
    AttnStep.dkvAcc (F := Ideal) q k db l a n (ix2 c z)
      = ((∑ b ∈ Finset.range n, ∑ i, AttnSpec.prob Q K (gl (at8 (a + b)) i) (gl (at8 a) c) * DB (gl (at8 (a + b)) i) z : ℝ) : EReal) := by
  induction n with
  | zero => pointwise [AttnStep.dkvAcc, k0_pay132]; simp
  | succ n ih =>
    have hd := prob_at hq hk hl (Nat.le_add_right a n) (by omega : a + n < 8)
    rw [Finset.sum_range_succ, EReal.coe_add, ← ih (by omega), AttnStep.dkvAcc]
    refine congrArg₂ (· + ·) rfl ?_
    exact down_at (fun i c => hd i c) (hdb (at8 (a + n))) c z

/-- A head's gradient of the queries. -/
theorem dq_at (r : Fin 4096) (z : Fin 128) : AttnStep.dq (F := Ideal) q k kv db l dl (ix2 r z) = AttnSpec.dq Q K KV DB r z := by
  obtain ⟨j, i, rfl⟩ : ∃ j i, r = gl j i := rows_of r
  rw [AttnStep.dq, ofRows_at]
  pointwise [same_at, dqAcc_at hq hk hkv hdb hl hdl j.val j.val le_rfl j.isLt]
  rw [AttnSpec.dq, sum_upto j _ fun n hn => Finset.sum_eq_zero fun c _ => ?_]
  · simp [at8_val]
  · rw [dscore_later Q K KV DB (later hn), zero_mul]

/-- A head's gradient of the keys. -/
theorem dk_at (r : Fin 4096) (z : Fin 128) : AttnStep.dk (F := Ideal) q k kv db l dl (ix2 r z) = AttnSpec.dk Q K KV DB r z := by
  obtain ⟨j, i, rfl⟩ : ∃ j i, r = gl j i := rows_of r
  rw [AttnStep.dk, ofRows_at, dkAcc_at hq hk hkv hdb hl hdl j.val (8 - j.val) (by omega), AttnSpec.dk,
    sum_from j _ fun n hn => Finset.sum_eq_zero fun c _ => ?_]
  · simp only [at8_val]
  · rw [dscore_later Q K KV DB (earlier hn), zero_mul]

omit hkv hdl in
/-- A head's gradient of the values. -/
theorem dkv_at (r : Fin 4096) (z : Fin 128) : AttnStep.dkv (F := Ideal) q k db l (ix2 r z) = AttnSpec.dkv Q K DB r z := by
  obtain ⟨j, i, rfl⟩ : ∃ j i, r = gl j i := rows_of r
  rw [AttnStep.dkv, ofRows_at, dkvAcc_at hq hk hdb hl j.val (8 - j.val) (by omega), AttnSpec.dkv,
    sum_from j _ fun n hn => Finset.sum_eq_zero fun c _ => ?_]
  · simp only [at8_val]
  · rw [prob_later Q K (earlier hn), zero_mul]
end

end Cert.AttnBlock
-- ==== Proof.AttnArray.lean ====
/- The arrays the attention's backward kernel leaves, over real numbers. -/
module

public import proofs.«01_k».proof.Proof.AttnHost
public import proofs.«01_k».proof.Proof.AttnBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.AttnSpec Cert.AttnBlock

namespace Cert.AttnArray

open Cert.AttnBwdIdeal Cert.AttnBwdIdeal.Gen Cert.AttnDat

theorem idx : ∀ t : Fin cfg0.N, win0_0.index t = ![0, t.val] ∧ win0_1.index t = ![0, t.val] ∧ win0_2.index t = ![0, t.val] ∧ win0_3.index t = ![0, t.val / 2]
    ∧ win0_4.index t = ![0, t.val / 2] ∧ win0_5.index t = ![0, t.val] ∧ win0_6.index t = ![0, t.val] ∧ win0_7.index t = ![0, t.val] ∧ win0_8.index t = ![0, t.val]
    ∧ (grid0.coords t 0).val = t.val ∧ t.val < 8 :=
  (by decide +kernel : ∀ t : Fin grid0.N, _)

/-- A grid point's head. -/
abbrev hd (t : Fin cfg0.N) : Fin 8 := ⟨t.val, (idx t).2.2.2.2.2.2.2.2.2.2⟩

/-- A lane of a head, among all the heads' lanes. -/
abbrev lane (t : Fin cfg0.N) (z : Fin 128) : Fin 1024 := ⟨t.val * 128 + z, by have := (idx t).2.2.2.2.2.2.2.2.2.2; omega⟩

/-- A lane of a pair of heads. -/
abbrev half (t : Fin cfg0.N) (z : Fin 128) : Fin 512 := ⟨t.val / 2 * 128 + z, by have := (idx t).2.2.2.2.2.2.2.2.2.2; omega⟩

theorem lane_div (t : Fin cfg0.N) (z : Fin 128) (h : (t.val * 128 + z.val) / 128 < 8) : (⟨(t.val * 128 + z.val) / 128, h⟩ : Fin 8) = hd t := Fin.ext (by show (t.val * 128 + z.val) / 128 = t.val; omega)
theorem lane_mod (t : Fin cfg0.N) (z : Fin 128) (h : (t.val * 128 + z.val) % 128 < 128) : (⟨(t.val * 128 + z.val) % 128, h⟩ : Fin 128) = z := Fin.ext (by show (t.val * 128 + z.val) % 128 = z.val; omega)

/-- The mask of an even head. -/
theorem even_at (t : Fin cfg0.N) (i : Fin 512) (z : Fin 128) : k0_pay111 (grid0.coords t) (ix2 i z) = if t.val % 2 = 0 then 1#1 else 0#1 := by
  have e := (idx t).2.2.2.2.2.2.2.2.2.1
  pointwise [k0_pay111, e]
  clear e; decide +kernel +revert

/-- The mask of a head's own lanes. -/
theorem own_at (t : Fin cfg0.N) (i : Fin 512) (z : Fin 128) : k0_pay112 (grid0.coords t) (ix2 i z) = if (z.val < 64 ↔ t.val % 2 = 0) then 1#1 else 0#1 := by
  have e := (idx t).2.2.2.2.2.2.2.2.2.1
  pointwise [k0_pay112, e]
  clear e; decide +kernel +revert

variable {d o : FVec Ideal S4096x128 .f32} {f g : Fin 4096 → Fin 512 → ℝ}

theorem sge_at (z : Fin 128) : IntOp.cmpi .sge (BitVec.ofNat 32 z.val) 64#32 = if 64 ≤ z.val then 1#1 else 0#1 := by decide +kernel +revert

/-- The cotangent's half of a head, on the upper lanes. -/
theorem dob_at (t : Fin cfg0.N) (hd' : ∀ r z, d (ix2 r z) = f r (half t z)) (j : Fin 8) (i : Fin 512) (z : Fin 128) :
    (show FVec Ideal S512x128 .bf16 from AttnLoop.rows (AttnRun.dobOf (F := Ideal) (grid0.coords t) d) j) (ix2 i z) = moved f (hd t) (gl j i) z := by
  have hr : ∀ i z, AttnLoop.rows d j (ix2 i z) = f (gl j i) (half t z) := fun i z => hd' (gl j i) z
  rw [AttnRun.dobOf, AttnLoop.moved, AttnLoop.rows_ofRows]
  pointwise [k0_pay115, hr, even_at, sge_at]
  have hp := t.val.mod_two_eq_zero_or_one
  by_cases hz : 64 ≤ z.val
  · rw [if_pos hz, moved_ge f _ _ _ hz]
    rcases hp with hp | hp
    · rw [if_pos hp]
      exact congrArg (fun e => ((f (gl j i) e : ℝ) : EReal)) (Fin.ext (by show t.val / 2 * 128 + (z.val + 128 - 64) % 128 = t.val * 64 + (z.val - 64); omega))
    · rw [if_neg (by omega)]
      exact congrArg (fun e => ((f (gl j i) e : ℝ) : EReal)) (Fin.ext (by show t.val / 2 * 128 + z.val = t.val * 64 + (z.val - 64); omega))
  · rw [if_neg hz, moved_lt f _ _ _ hz]
    rfl

/-- The rows' sums over a head's own lanes. -/
theorem delta_at (t : Fin cfg0.N) (hd' : ∀ r z, d (ix2 r z) = f r (half t z)) (ho : ∀ r z, o (ix2 r z) = g r (half t z)) (j : Fin 8) (i : Fin 512) (z : Fin 128) :
    (show FVec Ideal S512x128 .f32 from AttnLoop.rows (AttnRun.deltaOf (F := Ideal) (grid0.coords t) o d) j) (ix2 i z) = ((∑ l : Fin 64, f (gl j i) ⟨64 * (hd t).val + l, by omega⟩ * g (gl j i) ⟨64 * (hd t).val + l, by omega⟩ : ℝ) : EReal) := by
  have hr : ∀ i z, AttnLoop.rows d j (ix2 i z) = f (gl j i) (half t z) := fun i z => hd' (gl j i) z
  have hs : ∀ i z, AttnLoop.rows o j (ix2 i z) = g (gl j i) (half t z) := fun i z => ho (gl j i) z
  rw [AttnRun.deltaOf, AttnLoop.delta, AttnLoop.rows_ofRows]
  pointwise [k0_pay114, hr, hs, own_at]
  have take : ∀ x y : EReal, Scalar.select 1#1 x y = x := fun _ _ => rfl
  have drop : ∀ x y : EReal, Scalar.select 0#1 x y = y := fun _ _ => rfl
  rcases t.val.mod_two_eq_zero_or_one with hp | hp
  · simp only [hp, if_true, Nat.one_ne_zero, iff_true, iff_false, if_false, take, drop, Finset.sum_const_zero, add_zero, ← EReal.coe_mul, sum_real]
    refine congrArg ((↑) : ℝ → EReal) (Finset.sum_congr rfl fun x _ => ?_)
    have e : half t ⟨x.val, by omega⟩ = ⟨64 * (hd t).val + x, by omega⟩ := Fin.ext (by show t.val / 2 * 128 + x.val = 64 * t.val + x.val; omega)
    rw [e]
  · simp only [hp, if_true, Nat.one_ne_zero, iff_false, if_false, not_true, not_false_eq_true, take, drop, Finset.sum_const_zero, zero_add, ← EReal.coe_mul, sum_real]
    refine congrArg ((↑) : ℝ → EReal) (Finset.sum_congr rfl fun x _ => ?_)
    have e : half t ⟨64 + x.val, by omega⟩ = ⟨64 * (hd t).val + x, by omega⟩ := Fin.ext (by show t.val / 2 * 128 + (64 + x.val) = 64 * t.val + x.val; omega)
    rw [e]

section
theorem read0 (A : FVec Ideal S4096x1024 .bf16) (t : Fin cfg0.N) (r z) : (show FVec Ideal S4096x128 .bf16 from (win0_0.blk t).view.read (Elt Ideal) A) (ix2 r z) = A (ix2 r (lane t z)) := by
  blk_ext [idx t]

theorem read1 (A : FVec Ideal S4096x1024 .bf16) (t : Fin cfg0.N) (r z) : (show FVec Ideal S4096x128 .bf16 from (win0_1.blk t).view.read (Elt Ideal) A) (ix2 r z) = A (ix2 r (lane t z)) := by
  blk_ext [idx t]

theorem read2 (A : FVec Ideal S4096x1024 .bf16) (t : Fin cfg0.N) (r z) : (show FVec Ideal S4096x128 .bf16 from (win0_2.blk t).view.read (Elt Ideal) A) (ix2 r z) = A (ix2 r (lane t z)) := by
  blk_ext [idx t]

theorem read3 (A : FVec Ideal S4096x512 .f32) (t : Fin cfg0.N) (r z) : (show FVec Ideal S4096x128 .f32 from (win0_3.blk t).view.read (Elt Ideal) A) (ix2 r z) = A (ix2 r (half t z)) := by
  blk_ext [idx t]

theorem read4 (A : FVec Ideal S4096x512 .f32) (t : Fin cfg0.N) (r z) : (show FVec Ideal S4096x128 .f32 from (win0_4.blk t).view.read (Elt Ideal) A) (ix2 r z) = A (ix2 r (half t z)) := by
  blk_ext [idx t]

theorem read5 (A : FVec Ideal S4096x1024 .f32) (t : Fin cfg0.N) (r z) : (show FVec Ideal S4096x128 .f32 from (win0_5.blk t).view.read (Elt Ideal) A) (ix2 r z) = A (ix2 r (lane t z)) := by
  blk_ext [idx t]

variable (m : (ℓ : Loc nD τ sig) → Buf (Elt Ideal) ℓ) (c : Dev nD)

theorem blk0 (t : Fin cfg0.N) (r z) : (show FVec Ideal S4096x128 .bf16 from iblk m c 0 t) (ix2 r z) = (show FVec Ideal S4096x1024 .bf16 from V m c main_v21) (ix2 r (lane t z)) :=
  read0 (V m c main_v21) t r z

theorem blk1 (t : Fin cfg0.N) (r z) : (show FVec Ideal S4096x128 .bf16 from iblk m c 1 t) (ix2 r z) = (show FVec Ideal S4096x1024 .bf16 from V m c main_v24) (ix2 r (lane t z)) :=
  read1 (V m c main_v24) t r z

theorem blk2 (t : Fin cfg0.N) (r z) : (show FVec Ideal S4096x128 .bf16 from iblk m c 2 t) (ix2 r z) = (show FVec Ideal S4096x1024 .bf16 from V m c main_v29) (ix2 r (lane t z)) :=
  read2 (V m c main_v29) t r z

theorem blk3 (t : Fin cfg0.N) (r z) : (show FVec Ideal S4096x128 .f32 from iblk m c 3 t) (ix2 r z) = (show FVec Ideal S4096x512 .f32 from V m c main_v48) (ix2 r (half t z)) :=
  read3 (V m c main_v48) t r z

theorem blk4 (t : Fin cfg0.N) (r z) : (show FVec Ideal S4096x128 .f32 from iblk m c 4 t) (ix2 r z) = (show FVec Ideal S4096x512 .f32 from V m c main_arg3) (ix2 r (half t z)) :=
  read4 (V m c main_arg3) t r z

theorem blk5 (t : Fin cfg0.N) (r z) : (show FVec Ideal S4096x128 .f32 from iblk m c 5 t) (ix2 r z) = (show FVec Ideal S4096x1024 .f32 from V m c main_v18) (ix2 r (lane t z)) :=
  read5 (V m c main_v18) t r z

end

variable {m : (ℓ : Loc nD τ sig) → Buf (Elt Ideal) ℓ} {c : Dev nD}
variable {a b : Fin 4096 → Fin 8 → Fin 96 → ℝ} {v : Fin 4096 → Fin 8 → Fin 64 → ℝ} {w : Fin 4096 → Fin 512 → ℝ}
variable (h0 : ∀ r h l, m ((c : Thread nD τ).loc main_arg0) (ix3 r h l) = (a r h l : EReal)) (h1 : ∀ r h l, m ((c : Thread nD τ).loc main_arg1) (ix3 r h l) = (b r h l : EReal))
  (h2 : ∀ r h l, m ((c : Thread nD τ).loc main_arg2) (ix3 r h l) = (v r h l : EReal)) (h3 : ∀ r j, m ((c : Thread nD τ).loc main_arg3) (ix2 r j) = (w r j : EReal))

include h0 in
theorem scaled_at (r h l) : Cert.AttnBwdRefIdeal.Read.val_main_v1 (F := Ideal) (m ((c : Thread nD τ).loc main_arg0)) (ix3 r h l) = (scaled a r h l : EReal) := by
  pointwise [Cert.AttnBwdRefIdeal.Read.val_main_v1, Cert.AttnBwdRefIdeal.Read.val_main_v0, Cert.AttnBwdRefIdeal.Read.val_main_cst, word_scale, h0]
  rw [← EReal.coe_mul, scaled]

include h0 in
theorem q_at (t : Fin cfg0.N) (j i z) : (show FVec Ideal S512x128 .bf16 from AttnLoop.rows (iblk m c 0 t) j) (ix2 i z) = (low (scaled a) (hd t) (gl j i) z : EReal) := by
  refine (blk0 m c t (gl j i) z).trans ?_
  rw [AttnHost.V_q]
  refine (AttnHost.widened_at (scaled_at h0) (gl j i) (lane t z)).trans ?_
  rw [lane_div, lane_mod]

include h1 in
theorem k_at (t : Fin cfg0.N) (j i z) : (show FVec Ideal S512x128 .bf16 from AttnLoop.rows (iblk m c 1 t) j) (ix2 i z) = (low b (hd t) (gl j i) z : EReal) := by
  refine (blk1 m c t (gl j i) z).trans ?_
  rw [AttnHost.V_k]
  refine (AttnHost.widened_at h1 (gl j i) (lane t z)).trans ?_
  rw [lane_div, lane_mod]

include h2 in
theorem kv_at (t : Fin cfg0.N) (j i z) : (show FVec Ideal S512x128 .bf16 from AttnLoop.rows (iblk m c 2 t) j) (ix2 i z) = (upper v (hd t) (gl j i) z : EReal) := by
  refine (blk2 m c t (gl j i) z).trans ?_
  rw [AttnHost.V_kv]
  refine (AttnHost.joined_at h2 (gl j i) (lane t z)).trans ?_
  rw [lane_div, lane_mod]

include h3 in
theorem cot_at (t : Fin cfg0.N) (r z) : (show FVec Ideal S4096x128 .f32 from iblk m c 4 t) (ix2 r z) = (w r (half t z) : EReal) := by
  refine (blk4 m c t r z).trans ?_
  rw [V_main_arg3]
  exact h3 _ _

include h3 in
theorem db_at (t : Fin cfg0.N) (j i z) : (show FVec Ideal S512x128 .bf16 from dobAt m c t j) (ix2 i z) = (moved w (hd t) (gl j i) z : EReal) :=
  dob_at t (cot_at h3 t) j i z

include h0 h1 in
theorem l_at (t : Fin cfg0.N) (j i z) : (show FVec Ideal S512x128 .f32 from AttnLoop.rows (iblk m c 5 t) j) (ix2 i z)
    = (Real.log (total (low (scaled a) (hd t)) (low b (hd t)) (gl j i)) : ℝ) := by
  obtain ⟨u, hu⟩ := AttnRef.top_at h0 h1
  refine (blk5 m c t (gl j i) z).trans ?_
  rw [AttnHost.V_l]
  refine (AttnHost.logged_at (q := low (scaled a)) (k := low b) (AttnRef.masked_at h0 h1) hu (gl j i) (lane t z)).trans ?_
  rw [lane_div]

include h0 h1 h2 h3 in
theorem dl_at (t : Fin cfg0.N) (j i z) : (show FVec Ideal S512x128 .f32 from deltaAt m c t j) (ix2 i z)
    = (mean (low (scaled a) (hd t)) (low b (hd t)) (upper v (hd t)) (moved w (hd t)) (gl j i) : ℝ) := by
  obtain ⟨u, hu⟩ := AttnRef.top_at h0 h1
  refine (delta_at (g := fun r j => ∑ c, prob (low (scaled a) ⟨j / 64, by omega⟩) (low b ⟨j / 64, by omega⟩) r c * v c ⟨j / 64, by omega⟩ ⟨j % 64, by omega⟩) t (cot_at h3 t)
    (fun r z => (blk3 m c t r z).trans ?_) j i z).trans ?_
  · rw [AttnHost.V_o]
    exact AttnRef.out_at h0 h1 hu h2 r (half t z)
  · rw [mean_eq, sum_moved]
    refine congrArg ((↑) : ℝ → EReal) (Finset.sum_congr rfl fun l _ => ?_)
    have e1 : (⟨(64 * (hd t).val + l.val) / 64, by omega⟩ : Fin 8) = hd t := Fin.ext (by show (64 * t.val + l.val) / 64 = t.val; omega)
    have e2 : (⟨(64 * (hd t).val + l.val) % 64, by omega⟩ : Fin 64) = l := Fin.ext (by show (64 * t.val + l.val) % 64 = l.val; omega)
    simp only [upper_at, e1, e2]

theorem allQ_lane (t : Fin cfg0.N) (r : Fin 4096) (z : Fin 128) :
    allQ a b v w r (lane t z) = dq (low (scaled a) (hd t)) (low b (hd t)) (upper v (hd t)) (moved w (hd t)) r z := by
  simp only [allQ, lane_div, lane_mod]

theorem allK_lane (t : Fin cfg0.N) (r : Fin 4096) (z : Fin 128) :
    allK a b v w r (lane t z) = dk (low (scaled a) (hd t)) (low b (hd t)) (upper v (hd t)) (moved w (hd t)) r z := by
  simp only [allK, lane_div, lane_mod]

theorem allV_lane (t : Fin cfg0.N) (r : Fin 4096) (z : Fin 128) : allV a b w r (lane t z) = dkv (low (scaled a) (hd t)) (low b (hd t)) (moved w (hd t)) r z := by
  simp only [allV, lane_div, lane_mod]

include h0 h1 h2 h3

/-- The gradient of the queries. -/
theorem final6 : (dats m 0 c).arrAt 6 cfg0.N = fun j => (allQ a b v w (j 0) (j 1) : EReal) := by
  refine (dats m 0 c).arrAt_eq_of_covers 6 _ (by decide +kernel) fun t _ y => ?_
  have e : (win0_6.blk t).view.emb y = ix2 (y 0) (lane t (y 1)) := by blk_ext [idx t]
  blk_simp
  rw [after_6, e, eq_ix2 y]
  refine (dq_at (q_at h0 t) (k_at h1 t) (kv_at h2 t) (db_at h3 t) (l_at h0 h1 t) (dl_at h0 h1 h2 h3 t) (y 0) (y 1)).trans ?_
  exact congrArg ((↑) : ℝ → EReal) (allQ_lane t (y 0) (y 1)).symm

/-- Of the keys. -/
theorem final7 : (dats m 0 c).arrAt 7 cfg0.N = fun j => (allK a b v w (j 0) (j 1) : EReal) := by
  refine (dats m 0 c).arrAt_eq_of_covers 7 _ (by decide +kernel) fun t _ y => ?_
  have e : (win0_7.blk t).view.emb y = ix2 (y 0) (lane t (y 1)) := by blk_ext [idx t]
  blk_simp
  rw [after_7, e, eq_ix2 y]
  refine (dk_at (q_at h0 t) (k_at h1 t) (kv_at h2 t) (db_at h3 t) (l_at h0 h1 t) (dl_at h0 h1 h2 h3 t) (y 0) (y 1)).trans ?_
  exact congrArg ((↑) : ℝ → EReal) (allK_lane t (y 0) (y 1)).symm

omit h2 in
/-- Of the values. -/
theorem final8 : (dats m 0 c).arrAt 8 cfg0.N = fun j => (allV a b w (j 0) (j 1) : EReal) := by
  refine (dats m 0 c).arrAt_eq_of_covers 8 _ (by decide +kernel) fun t _ y => ?_
  have e : (win0_8.blk t).view.emb y = ix2 (y 0) (lane t (y 1)) := by blk_ext [idx t]
  blk_simp
  rw [after_8, e, eq_ix2 y]
  refine (dkv_at (q_at h0 t) (k_at h1 t) (db_at h3 t) (l_at h0 h1 t) (y 0) (y 1)).trans ?_
  exact congrArg ((↑) : ℝ → EReal) (allV_lane t (y 0) (y 1)).symm

end Cert.AttnArray
-- ==== Proof.AttnClaim.lean ====
/- The attention's backward: its kernel against the derivative. -/
module

public import proofs.«01_k».proof.Defs
public import proofs.«01_k».proof.Proof.Gen.AttnBwdRefIdeal.Run
public import proofs.«01_k».proof.Proof.Gen.Pre_attn_bwd_finite
public import proofs.«01_k».proof.Proof.AttnArray
public import proofs.«01_k».proof.Proof.Finite
public import Idealize.ShloMosaic.Init

@[expose] public section

set_option maxRecDepth 16384

noncomputable section

open Idealize.ShloMosaic Idealize.ShloMosaic.TcCoe Idealize.SL.Sem

namespace Cert.AttnClaim

section Kernel
open Cert.AttnBwdIdeal Cert.AttnBwdIdeal.Gen Cert.AttnDat

variable (m : (ℓ : Loc nD τ sig) → Buf (Elt Ideal) ℓ) (ρ : Dev nD → PrngReg)

/-- The kernel's run, with its three arrays. -/
theorem kernel : θ_run defs (onTc (τ := τ) (main (F := Ideal))) ⟨m, fun _ => 0, ρ⟩ fun r => ∀ c : Dev nD,
    r.2.mem ((c.tc : Thread nD τ).loc main_v49_0) = (dats m 0 c).arrAt 6 cfg0.N
    ∧ r.2.mem ((c.tc : Thread nD τ).loc main_v49_1) = (dats m 0 c).arrAt 7 cfg0.N
    ∧ r.2.mem ((c.tc : Thread nD τ).loc main_v49_2) = (dats m 0 c).arrAt 8 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h.1.1 c).1 6, (h.1.1 c).1 7, (h.1.1 c).1 8, h.2.1 c⟩)
    (θ_run_and (run_quiet m ρ) (AttnDat.frame m ρ))

end Kernel

section Derivative
open Cert.AttnBwdRefIdeal Cert.AttnBwdRefIdeal.Gen Cert.AttnBwdRefIdeal.Read

variable (m : (ℓ : Loc nD τ sig) → Buf (Elt Ideal) ℓ) (ρ : Dev nD → PrngReg)

/-- The derivative's run. -/
theorem derivative : θ_run defs (onTc (τ := τ) (main (F := Ideal))) ⟨m, fun _ => 0, ρ⟩ fun r => ∀ c : Dev nD,
    r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v63) = val_main_v63 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v65) = val_main_v65 (F := Ideal) (m ((c.tc : Thread nD τ).loc main_arg0)) (m ((c.tc : Thread nD τ).loc main_arg1)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => by
    obtain ⟨r0, r1, r2, kept⟩ := h c
    exact ⟨r0.trans (val_main_v61_eq _ _), r1.trans (val_main_v63_eq _ _), r2.trans (val_main_v65_eq _ _ _), kept⟩) (Cert.AttnBwdRefIdeal.Value.run m ρ)

end Derivative

/-- The derivative's program keeps its arguments; it has no semaphore. -/
theorem frame : Cert.quiescent_AttnBwdRefIdeal := fun m ρ _ =>
  (θ_run Cert.AttnBwdRefIdeal.defs _ _).mono (fun r h => ⟨fun c => (h c).2.2.2, sem_eq_zero_of_no_sems (by decide) r.2⟩) (derivative m ρ)

/-- The kernel's three arrays are the derivative's. -/
theorem value : Cert.algebraic_AttnBwdIdeal_AttnBwdRefIdeal_pre_attn_bwd_finite := by
  intro m ρ m' ρ' hpre hagree
  refine ⟨_, _, _, kernel m ρ, (θ_run Cert.AttnBwdRefIdeal.defs _ _).mono (fun r h c => ?_) (derivative m' ρ')⟩
  obtain ⟨r0, r1, r2, kept⟩ := h c
  obtain ⟨e0, e1, e2, e3⟩ := hagree c
  obtain ⟨p0, p1, p2, p3⟩ := hpre c
  obtain ⟨a, h0⟩ := Finite.real3 p0
  obtain ⟨b, h1⟩ := Finite.real3 p1
  obtain ⟨v, h2⟩ := Finite.real3 p2
  obtain ⟨w, h3⟩ := Finite.real2 p3
  have k0 := fun i j z => (congrFun e0 (ix3 i j z)).trans (h0 i j z)
  have k1 := fun i j z => (congrFun e1 (ix3 i j z)).trans (h1 i j z)
  have k2 := fun i j z => (congrFun e2 (ix3 i j z)).trans (h2 i j z)
  have k3 := fun i j => (congrFun e3 (ix2 i j)).trans (h3 i j)
  obtain ⟨u, hu⟩ := AttnRef.top_at k0 k1
  refine ⟨r0.trans ?_, r1.trans ?_, r2.trans ?_, kept⟩
  · refine Eq.trans (funext fun j => ?_) (AttnArray.final6 h0 h1 h2 h3).symm
    rw [eq_ix2 j]; exact AttnRef.dq_at k0 k1 hu k2 k3 _ _
  · refine Eq.trans (funext fun j => ?_) (AttnArray.final7 h0 h1 h2 h3).symm
    rw [eq_ix2 j]; exact AttnRef.dk_at k0 k1 hu k2 k3 _ _
  · refine Eq.trans (funext fun j => ?_) (AttnArray.final8 h0 h1 h3).symm
    rw [eq_ix2 j]; exact AttnRef.dv_at k0 k1 hu k2 k3 _ _

end Cert.AttnClaim
-- ==== Proof.MlpSpec.lean ====
/- The channel mixer's backward over real numbers. -/
module

public import proofs.«01_k».proof.Proof.Reals
public import Idealize.ShloMosaic.Lib.Pointwise

@[expose] public section

noncomputable section

open Cert.Reals

namespace Cert.MlpSpec

variable {n : ℕ}

/-- The `l`-th of the `k`-th 512 hidden lanes. -/
abbrev lane (k : Fin 8) (l : Fin 512) : Fin 4096 := ⟨k * 512 + l, by omega⟩

/-- The normed rows. -/
def hid (x : Fin n → Fin 1024 → ℝ) (g : Fin 1024 → ℝ) (i : Fin n) (c : Fin 1024) : ℝ := x i c * inv 1024 (x i) * g c

/-- The hidden lanes' positive part. -/
def act (x : Fin n → Fin 1024 → ℝ) (g : Fin 1024 → ℝ) (up : Fin 1024 → Fin 4096 → ℝ) (i : Fin n) (f : Fin 4096) : ℝ :=
  max (∑ k, hid x g i k * up k f) 0

/-- The cotangent of the squares. -/
def cotSq (dx : Fin n → Fin 1024 → ℝ) (down : Fin 4096 → Fin 1024 → ℝ) (i : Fin n) (f : Fin 4096) : ℝ := ∑ k, dx i k * down f k

/-- The cotangent of the hidden lanes. -/
def cotAct (dx x : Fin n → Fin 1024 → ℝ) (g : Fin 1024 → ℝ) (up : Fin 1024 → Fin 4096 → ℝ) (down : Fin 4096 → Fin 1024 → ℝ)
    (i : Fin n) (f : Fin 4096) : ℝ := cotSq dx down i f * (2 * act x g up i f)

/-- What 512 hidden lanes add to the cotangent of the normed rows. -/
def part (dx x : Fin n → Fin 1024 → ℝ) (g : Fin 1024 → ℝ) (up : Fin 1024 → Fin 4096 → ℝ) (down : Fin 4096 → Fin 1024 → ℝ)
    (k : Fin 8) (i : Fin n) (c : Fin 1024) : ℝ := ∑ l, cotAct dx x g up down i (lane k l) * up c (lane k l)

/-- The cotangent of the normed rows. -/
def cotHid (dx x : Fin n → Fin 1024 → ℝ) (g : Fin 1024 → ℝ) (up : Fin 1024 → Fin 4096 → ℝ) (down : Fin 4096 → Fin 1024 → ℝ)
    (i : Fin n) (c : Fin 1024) : ℝ := ∑ f, cotAct dx x g up down i f * up c f

/-- The lanes' eight parts make the whole cotangent. -/
theorem sum_parts (dx x : Fin n → Fin 1024 → ℝ) (g : Fin 1024 → ℝ) (up : Fin 1024 → Fin 4096 → ℝ) (down : Fin 4096 → Fin 1024 → ℝ)
    (i : Fin n) (c : Fin 1024) : ∑ k, part dx x g up down k i c = cotHid dx x g up down i c :=
  (Idealize.ShloMosaic.Fin.sum_univ_tiles 8 512 rfl fun f => cotAct dx x g up down i f * up c f).symm

/-- The gradient of the rows: the cotangent handed on and the norm's. -/
def cotRow (dx x : Fin n → Fin 1024 → ℝ) (g : Fin 1024 → ℝ) (up : Fin 1024 → Fin 4096 → ℝ) (down : Fin 4096 → Fin 1024 → ℝ)
    (i : Fin n) (c : Fin 1024) : ℝ := dx i c + normBwd 1024 (x i) g (cotHid dx x g up down i) c

/-- The gain's gradient: the sum over the rows. -/
def gain (dx x : Fin n → Fin 1024 → ℝ) (g : Fin 1024 → ℝ) (up : Fin 1024 → Fin 4096 → ℝ) (down : Fin 4096 → Fin 1024 → ℝ) (c : Fin 1024) : ℝ :=
  ∑ i, cotHid dx x g up down i c * (x i c * inv 1024 (x i))

end Cert.MlpSpec
-- ==== Proof.MlpRef.lean ====
/- The derivative of the channel mixer's lines, read at an index over real numbers. -/
module

public import proofs.«01_k».proof.Proof.Gen.MlpBwdRefIdeal.Read
public import proofs.«01_k».proof.Proof.MlpSpec

@[expose] public section

set_option maxRecDepth 16384

noncomputable section

open Idealize.ShloMosaic Idealize.ShloMosaic.TcCoe Idealize.SL.Sem
open Cert.Reals Cert.MlpSpec

namespace Cert.MlpRef

open Cert.MlpBwdRefIdeal Cert.MlpBwdRefIdeal.Gen Cert.MlpBwdRefIdeal.Read

variable {x0 x1 : FVec Ideal S4096x1024 .f32} {x2 : FVec Ideal S1024 .f32} {x3 : FVec Ideal S1024x4096 .f32} {x4 : FVec Ideal S4096x1024 .f32}
variable {dx x : Fin 4096 → Fin 1024 → ℝ} {g : Fin 1024 → ℝ} {up : Fin 1024 → Fin 4096 → ℝ} {down : Fin 4096 → Fin 1024 → ℝ}

/-- The norm's factor. -/
theorem factor (h1 : ∀ i c, x1 (ix2 i c) = x i c) (i : Fin 4096) (z : Fin 1) :
    val_main_v7 (F := Ideal) x1 (ix2 i z) = inv 1024 (x i) := by
  pointwise [val_main_v7, val_main_v6, val_main_v5, val_main_v4, val_main_v3, val_main_v2, val_main_v1, val_main_v0, val_main_cst, val_main_cst_0,
    val_main_cst_1, h1, word_1024, word_eps]
  simp only [← EReal.coe_mul, sum_real, ← EReal.coe_add, div_1024, rsqrt_meanSq pos_1024]

/-- Half the factor over the mean square, negated. -/
theorem slope (h1 : ∀ i c, x1 (ix2 i c) = x i c) (i : Fin 4096) (z : Fin 1) :
    val_main_v10 (F := Ideal) x1 (ix2 i z) = ((-(1 / 2) * (inv 1024 (x i) / meanSq 1024 (x i)) : ℝ) : EReal) := by
  pointwise [val_main_v10, val_main_v9, val_main_cst_2, val_main_v8, factor h1, val_main_v6, val_main_v5, val_main_v4, val_main_v3, val_main_v2,
    val_main_v1, val_main_v0, val_main_cst, val_main_cst_0, val_main_cst_1, h1, word_1024, word_eps, word_neg_half]
  simp only [← EReal.coe_mul, sum_real, ← EReal.coe_add, div_1024, div_meanSq pos_1024]

/-- The normed rows. -/
theorem hid_at (h1 : ∀ i c, x1 (ix2 i c) = x i c) (h2 : ∀ c, x2 (ix1 c) = g c) (i : Fin 4096) (c : Fin 1024) :
    val_main_v15 (F := Ideal) x1 x2 (ix2 i c) = hid x g i c := by
  pointwise [val_main_v15, val_main_v14, val_main_v13, val_main_v12, val_main_v11, factor h1, h1, h2]
  simp only [← EReal.coe_mul, hid]

theorem hid_out (h1 : ∀ i c, x1 (ix2 i c) = x i c) (h2 : ∀ c, x2 (ix1 c) = g c) (i : Fin 4096) (c : Fin 1024) :
    val_main_v53 (F := Ideal) x1 x2 (ix2 i c) = hid x g i c := by
  pointwise [val_main_v53, hid_at h1 h2]

/-- The hidden lanes. -/
theorem pre (h1 : ∀ i c, x1 (ix2 i c) = x i c) (h2 : ∀ c, x2 (ix1 c) = g c) (h3 : ∀ k f, x3 (ix2 k f) = up k f) (i : Fin 4096) (f : Fin 4096) :
    val_main_v16 (F := Ideal) x1 x2 x3 (ix2 i f) = ((∑ k, hid x g i k * up k f : ℝ) : EReal) := by
  pointwise [val_main_v16, hid_at h1 h2, h3]
  simp only [← EReal.coe_mul, sum_real]

/-- Their positive part. -/
theorem act_at (h1 : ∀ i c, x1 (ix2 i c) = x i c) (h2 : ∀ c, x2 (ix1 c) = g c) (h3 : ∀ k f, x3 (ix2 k f) = up k f) (i : Fin 4096) (f : Fin 4096) :
    val_main_v17 (F := Ideal) x1 x2 x3 (ix2 i f) = act x g up i f := by
  pointwise [val_main_v17, val_main_call0_v0, val_main_call0_cst, pre h1 h2 h3]
  simp only [max_real, act]

/-- The squares. -/
theorem squares (h1 : ∀ i c, x1 (ix2 i c) = x i c) (h2 : ∀ c, x2 (ix1 c) = g c) (h3 : ∀ k f, x3 (ix2 k f) = up k f) (i : Fin 4096) (f : Fin 4096) :
    val_main_v51 (F := Ideal) x1 x2 x3 (ix2 i f) = ((act x g up i f * act x g up i f : ℝ) : EReal) := by
  pointwise [val_main_v51, val_main_v21, act_at h1 h2 h3]
  simp only [← EReal.coe_mul]

/-- The cotangent of the hidden lanes: the derivative keeps it where a lane is positive. -/
theorem cot_at (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (i : Fin 4096) (f : Fin 4096) :
    val_main_v28 (F := Ideal) x0 x1 x2 x3 x4 (ix2 i f) = cotAct dx x g up down i f := by
  have e : val_main_v26 (F := Ideal) x0 x1 x2 x3 x4 (ix2 i f) = cotAct dx x g up down i f := by
    pointwise [val_main_v26, val_main_v25, val_main_v23, val_main_v22, val_main_cst_5, act_at h1 h2 h3, h0, h4, word_two]
    simp only [← EReal.coe_mul, sum_real, cotAct, cotSq]
  pointwise [val_main_v28, val_main_v27, val_main_cst_6, val_main_v19, val_main_v18, val_main_cst_3, e, pre h1 h2 h3]
  have r : cotAct dx x g up down i f = if 0 < ∑ k, hid x g i k * up k f then cotAct dx x g up down i f else 0 := by
    split_ifs with h
    · rfl
    · rw [cotAct, act, max_eq_right (not_lt.1 h), mul_zero, mul_zero]
  rw [r]
  simp only [EReal.coe_pos]
  split_ifs <;> rfl

/-- The cotangent of the normed rows. -/
theorem cotHid_at (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (i : Fin 4096) (c : Fin 1024) :
    val_main_v29 (F := Ideal) x0 x1 x2 x3 x4 (ix2 i c) = cotHid dx x g up down i c := by
  pointwise [val_main_v29, cot_at h0 h1 h2 h3 h4, h3]
  simp only [← EReal.coe_mul, sum_real, cotHid]

theorem cot_out (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (i : Fin 4096) (f : Fin 4096) :
    val_main_v52 (F := Ideal) x0 x1 x2 x3 x4 (ix2 i f) = cotAct dx x g up down i f := by
  pointwise [val_main_v52, cot_at h0 h1 h2 h3 h4]

/-- The cotangent of the norm, times its gain. -/
theorem gained (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (i : Fin 4096) (c : Fin 1024) :
    val_main_v34 (F := Ideal) x0 x1 x2 x3 x4 (ix2 i c) = ((cotHid dx x g up down i c * g c : ℝ) : EReal) := by
  pointwise [val_main_v34, val_main_v33, val_main_v13, cotHid_at h0 h1 h2 h3 h4, h2]
  simp only [← EReal.coe_mul]

/-- The row's sum in the derivative of the norm. -/
theorem dot (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (i : Fin 4096) :
    val_main_v44 (F := Ideal) x0 x1 x2 x3 x4 (ix1 i) = normDot 1024 (x i) g (cotHid dx x g up down i) := by
  pointwise [val_main_v44, val_main_v43, val_main_v42, val_main_v41, val_main_v38, val_main_v37, val_main_v36, gained h0 h1 h2 h3 h4, slope h1,
    val_main_cst_9, val_main_cst_10, val_main_cst_11, h1, word_1024]
  simp only [← EReal.coe_mul, sum_real, ← EReal.coe_add, div_1024, normDot, Fin.sum_univ_one]

/-- The derivative with respect to the rows, and the cotangent handed on. -/
theorem row_at (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (i : Fin 4096) (c : Fin 1024) :
    val_main_v50 (F := Ideal) x0 x1 x2 x3 x4 (ix2 i c) = cotRow dx x g up down i c := by
  pointwise [val_main_v50, val_main_v49, val_main_v48, val_main_v47, val_main_v46, val_main_v45, val_main_v40, val_main_v39,
    gained h0 h1 h2 h3 h4, factor h1, dot h0 h1 h2 h3 h4, h0, h1]
  rw [cotRow, normBwd_eq pos_1024]
  simp only [← EReal.coe_mul, ← EReal.coe_add, EReal.coe_eq_coe_iff]
  ring

/-- The derivative with respect to the gain. -/
theorem gain_at (h0 : ∀ i c, x0 (ix2 i c) = dx i c) (h1 : ∀ i c, x1 (ix2 i c) = x i c) (h2 : ∀ c, x2 (ix1 c) = g c)
    (h3 : ∀ k f, x3 (ix2 k f) = up k f) (h4 : ∀ f k, x4 (ix2 f k) = down f k) (z : Fin 1) (c : Fin 1024) :
    val_main_v54 (F := Ideal) x0 x1 x2 x3 x4 (ix2 z c) = gain dx x g up down c := by
  pointwise [val_main_v54, val_main_v35, val_main_v32, val_main_v31, val_main_v30, val_main_v12, val_main_v11, factor h1, cotHid_at h0 h1 h2 h3 h4,
    h1, val_main_cst_7, val_main_cst_8]
  simp only [← EReal.coe_mul, sum_real, Fin.sum_univ_one, EReal.coe_eq_coe_iff]
  exact Finset.sum_congr rfl fun i _ => mul_comm _ _

end Cert.MlpRef
-- ==== Proof.MlpBlock.lean ====
/- What one block of the channel mixer's backward stores, over real numbers. -/
module

public import proofs.«01_k».proof.Proof.Gen.MlpBwdIdeal.Skeleton
public import proofs.«01_k».proof.Proof.MlpSpec

@[expose] public section

set_option maxRecDepth 16384

noncomputable section

open Idealize.ShloMosaic Idealize.ShloMosaic.TcCoe Idealize.SL.Sem
open Cert.Reals Cert.MlpSpec

namespace Cert.MlpBlock

open Cert.MlpBwdIdeal Cert.MlpBwdIdeal.Gen

variable {x0 x1 : FVec Ideal S256x1024 .f32} {x2 : FVec Ideal S1x1024 .f32} {u u0 u1 u2 u3 u4 u5 u6 u7 : FVec Ideal S1x1024x512 .bf16}
variable {d d0 d1 d2 d3 d4 d5 d6 d7 : FVec Ideal S1x512x1024 .bf16}
variable {dx x : Fin 256 → Fin 1024 → ℝ} {g : Fin 1024 → ℝ} {up : Fin 1024 → Fin 4096 → ℝ} {down : Fin 4096 → Fin 1024 → ℝ}

/-- The norm's factor of a block's row. -/
theorem factor (h1 : ∀ i c, x1 (ix2 i c) = x i c) (i : Fin 256) (z : Fin 1) : k0_pay1 (F := Ideal) (k0_pay47 x1) (ix2 i z) = inv 1024 (x i) := by
  pointwise [k0_pay1, k0_pay47, h1, word_1024, word_eps]
  simp only [← EReal.coe_mul, sum_real, ← EReal.coe_add, div_1024, rsqrt_meanSq pos_1024]

/-- A block's normed rows. -/
theorem hid_at (h1 : ∀ i c, x1 (ix2 i c) = x i c) (h2 : ∀ z c, x2 (ix2 z c) = g c) (i : Fin 256) (c : Fin 1024) :
    k0_pay6 (F := Ideal) x1 x2 (ix2 i c) = hid x g i c := by
  pointwise [k0_pay6, h1, h2, word_1024, word_eps]
  simp only [← EReal.coe_mul, sum_real, ← EReal.coe_add, div_1024, rsqrt_meanSq pos_1024, hid]

/-- The positive part of a hidden lane. -/
theorem act_at (h1 : ∀ i c, x1 (ix2 i c) = x i c) (h2 : ∀ z c, x2 (ix2 z c) = g c) (i : Fin 256) (l : Fin 512) {f : Fin 4096}
    (hu : ∀ z k, u (ix3 z k l) = up k f) : k0_pay14 (F := Ideal) (k0_pay6 x1 x2) u (ix2 i l) = act x g up i f := by
  pointwise [k0_pay14, hid_at h1 h2, hu]
  simp only [← EReal.coe_mul, sum_real, max_real, act]

/-- Its square. -/
theorem square (h1 : ∀ i c, x1 (ix2 i c) = x i c) (h2 : ∀ z c, x2 (ix2 z c) = g c) (i : Fin 256) (l : Fin 512) {f : Fin 4096}
    (hu : ∀ z k, u (ix3 z k l) = up k f) : k0_pay15 (F := Ideal) (k0_pay6 x1 x2) u (ix2 i l) = ((act x g up i f * act x g up i f : ℝ) : EReal) := by
  pointwise [k0_pay15, act_at h1 h2 i l hu]
  simp only [← EReal.coe_mul]

/-- Its cotangent. -/
theorem cot_at (h0 : ∀ i c, x0 (ix2 i c) = dx i c) (h1 : ∀ i c, x1 (ix2 i c) = x i c) (h2 : ∀ z c, x2 (ix2 z c) = g c) (i : Fin 256) (l : Fin 512)
    {f : Fin 4096} (hu : ∀ z k, u (ix3 z k l) = up k f) (hd : ∀ z k, d (ix3 z l k) = down f k) :
    k0_pay16 (F := Ideal) (k0_pay6 x1 x2) (k0_pay7 x0) u d (ix2 i l) = cotAct dx x g up down i f := by
  pointwise [k0_pay16, k0_pay7, act_at h1 h2 i l hu, hd, h0, word_two]
  simp only [← EReal.coe_mul, sum_real, cotAct, cotSq]

/-- What 512 hidden lanes add to the cotangent of the normed rows. -/
def step (x0 x1 : FVec Ideal S256x1024 .f32) (x2 : FVec Ideal S1x1024 .f32) (acc : FVec Ideal S256x1024 .f32) (u : FVec Ideal S1x1024x512 .bf16)
    (d : FVec Ideal S1x512x1024 .bf16) : FVec Ideal S256x1024 .f32 :=
  k0_pay22 (k0_pay6 x1 x2) (k0_pay7 x0) acc (k0_pay18 u) (constant S256x512 .f32 0x00000000#32) d u

theorem cot_step : k0_pay21 (F := Ideal) (k0_pay6 x1 x2) (k0_pay7 x0) (k0_pay18 u) (constant S256x512 .f32 0x00000000#32) d
    = k0_pay16 (k0_pay6 x1 x2) (k0_pay7 x0) u d := rfl

theorem step_at (h0 : ∀ i c, x0 (ix2 i c) = dx i c) (h1 : ∀ i c, x1 (ix2 i c) = x i c) (h2 : ∀ z c, x2 (ix2 z c) = g c) {n : Fin 8}
    (hu : ∀ z k l, u (ix3 z k l) = up k (lane n l)) (hd : ∀ z l k, d (ix3 z l k) = down (lane n l) k) {acc : FVec Ideal S256x1024 .f32}
    {a : Fin 256 → Fin 1024 → ℝ} (ha : ∀ i c, acc (ix2 i c) = a i c) (i : Fin 256) (c : Fin 1024) :
    step x0 x1 x2 acc u d (ix2 i c) = ((a i c + part dx x g up down n i c : ℝ) : EReal) := by
  pointwise [step, k0_pay22, cot_step, fun i l => cot_at h0 h1 h2 i l (fun z k => hu z k l) fun z k => hd z l k, hu, ha]
  simp only [← EReal.coe_mul, sum_real, ← EReal.coe_add, part]

/-- The blocks of the two weights a point loads. -/
structure Loads (up : Fin 1024 → Fin 4096 → ℝ) (down : Fin 4096 → Fin 1024 → ℝ) (u0 u1 u2 u3 u4 u5 u6 u7 : FVec Ideal S1x1024x512 .bf16)
    (d0 d1 d2 d3 d4 d5 d6 d7 : FVec Ideal S1x512x1024 .bf16) : Prop where
  u0 : ∀ z k l, u0 (ix3 z k l) = up k (lane 0 l)
  u1 : ∀ z k l, u1 (ix3 z k l) = up k (lane 1 l)
  u2 : ∀ z k l, u2 (ix3 z k l) = up k (lane 2 l)
  u3 : ∀ z k l, u3 (ix3 z k l) = up k (lane 3 l)
  u4 : ∀ z k l, u4 (ix3 z k l) = up k (lane 4 l)
  u5 : ∀ z k l, u5 (ix3 z k l) = up k (lane 5 l)
  u6 : ∀ z k l, u6 (ix3 z k l) = up k (lane 6 l)
  u7 : ∀ z k l, u7 (ix3 z k l) = up k (lane 7 l)
  d0 : ∀ z l k, d0 (ix3 z l k) = down (lane 0 l) k
  d1 : ∀ z l k, d1 (ix3 z l k) = down (lane 1 l) k
  d2 : ∀ z l k, d2 (ix3 z l k) = down (lane 2 l) k
  d3 : ∀ z l k, d3 (ix3 z l k) = down (lane 3 l) k
  d4 : ∀ z l k, d4 (ix3 z l k) = down (lane 4 l) k
  d5 : ∀ z l k, d5 (ix3 z l k) = down (lane 5 l) k
  d6 : ∀ z l k, d6 (ix3 z l k) = down (lane 6 l) k
  d7 : ∀ z l k, d7 (ix3 z l k) = down (lane 7 l) k

/-- The cotangent of a block's normed rows, as it is stored. -/
def acc (x0 x1 : FVec Ideal S256x1024 .f32) (x2 : FVec Ideal S1x1024 .f32) (u0 u1 u2 u3 u4 u5 u6 u7 : FVec Ideal S1x1024x512 .bf16)
    (d0 d1 d2 d3 d4 d5 d6 d7 : FVec Ideal S1x512x1024 .bf16) : FVec Ideal S256x1024 .f32 :=
  k0_pay45 (k0_pay6 x1 x2) (k0_pay7 x0) (k0_pay36 (k0_pay6 x1 x2) (k0_pay7 x0) (k0_pay31 (k0_pay6 x1 x2) (k0_pay7 x0)
    (k0_pay22 (k0_pay6 x1 x2) (k0_pay7 x0) (k0_pay17 (k0_pay6 x1 x2) (k0_pay7 x0) k0_pay8 (k0_pay11 x0 d0) (k0_pay12 x1 x2 u0) u0 u1 d1 u1)
      (k0_pay18 u2) (constant S256x512 .f32 0x00000000#32) d2 u2)
    (k0_pay25 (k0_pay7 x0) d3) (k0_pay26 (k0_pay6 x1 x2) u3) u3 u4 d4 u4)
    (k0_pay32 u5) (constant S256x512 .f32 0x00000000#32) d5 u5)
    (k0_pay39 (k0_pay7 x0) d6) (k0_pay40 (k0_pay6 x1 x2) u6) u6 u7 d7 u7

/-- It is eight steps from zero. -/
theorem acc_eq : acc x0 x1 x2 u0 u1 u2 u3 u4 u5 u6 u7 d0 d1 d2 d3 d4 d5 d6 d7
    = step x0 x1 x2 (step x0 x1 x2 (step x0 x1 x2 (step x0 x1 x2 (step x0 x1 x2 (step x0 x1 x2 (step x0 x1 x2 (step x0 x1 x2 k0_pay8
      u0 d0) u1 d1) u2 d2) u3 d3) u4 d4) u5 d5) u6 d6) u7 d7 := rfl

theorem zero_acc (i c) : k0_pay8 (F := Ideal) (ix2 i c) = ((0 : ℝ) : EReal) := by pointwise [k0_pay8]; rfl

theorem acc_at (h0 : ∀ i c, x0 (ix2 i c) = dx i c) (h1 : ∀ i c, x1 (ix2 i c) = x i c) (h2 : ∀ z c, x2 (ix2 z c) = g c)
    (h : Loads up down u0 u1 u2 u3 u4 u5 u6 u7 d0 d1 d2 d3 d4 d5 d6 d7) (i : Fin 256) (c : Fin 1024) :
    acc x0 x1 x2 u0 u1 u2 u3 u4 u5 u6 u7 d0 d1 d2 d3 d4 d5 d6 d7 (ix2 i c) = cotHid dx x g up down i c := by
  have e := step_at h0 h1 h2 h.u7 h.d7 (step_at h0 h1 h2 h.u6 h.d6 (step_at h0 h1 h2 h.u5 h.d5 (step_at h0 h1 h2 h.u4 h.d4
    (step_at h0 h1 h2 h.u3 h.d3 (step_at h0 h1 h2 h.u2 h.d2 (step_at h0 h1 h2 h.u1 h.d1 (step_at h0 h1 h2 h.u0 h.d0 zero_acc)))))))
  rw [acc_eq]
  refine (e i c).trans (congrArg ((↑) : ℝ → EReal) ?_)
  rw [← sum_parts, Fin.sum_univ_eight]
  ring

/-- The gradient of a block's rows. -/
theorem row_at (h0 : ∀ i c, x0 (ix2 i c) = dx i c) (h1 : ∀ i c, x1 (ix2 i c) = x i c) (h2 : ∀ z c, x2 (ix2 z c) = g c)
    (h : Loads up down u0 u1 u2 u3 u4 u5 u6 u7 d0 d1 d2 d3 d4 d5 d6 d7) (i : Fin 256) (c : Fin 1024) :
    k0_pay3 (F := Ideal) x1 x0 (acc x0 x1 x2 u0 u1 u2 u3 u4 u5 u6 u7 d0 d1 d2 d3 d4 d5 d6 d7) (k0_pay46 x2) (k0_pay47 x1) (ix2 i c)
      = cotRow dx x g up down i c := by
  pointwise [k0_pay3, k0_pay2, k0_pay46, acc_at h0 h1 h2 h, factor h1, h0, h1, h2, word_1024]
  simp only [← EReal.coe_mul, ← EReal.coe_sub, ← EReal.coe_add, sum_real, div_1024, cotRow, normBwd]

/-- What a block adds to the gain's gradient. -/
theorem gain_at (h0 : ∀ i c, x0 (ix2 i c) = dx i c) (h1 : ∀ i c, x1 (ix2 i c) = x i c) (h2 : ∀ z c, x2 (ix2 z c) = g c)
    (h : Loads up down u0 u1 u2 u3 u4 u5 u6 u7 d0 d1 d2 d3 d4 d5 d6 d7) (s : FVec Ideal S1x1024 .f32) (z : Fin 1) (c : Fin 1024) :
    k0_pay5 (F := Ideal) x1 (acc x0 x1 x2 u0 u1 u2 u3 u4 u5 u6 u7 d0 d1 d2 d3 d4 d5 d6 d7) (k0_pay47 x1) s (ix2 z c)
      = s (ix2 z c) + (gain dx x g up down c : EReal) := by
  pointwise [k0_pay5, k0_pay2, acc_at h0 h1 h2 h, factor h1, h1]
  simp only [← EReal.coe_mul, sum_real, gain]

theorem zero (j) : k0_pay4 (F := Ideal) j = 0 := by pointwise [k0_pay4]

end Cert.MlpBlock
-- ==== Proof.MlpArray.lean ====
/- The arrays the channel mixer's backward leaves, over real numbers. -/
module

public import proofs.«01_k».proof.Proof.Gen.MlpBwdIdeal.Value
public import proofs.«01_k».proof.Proof.MlpBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.MlpSpec

namespace Cert.MlpArray

open Cert.MlpBwdIdeal Cert.MlpBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0, 0]
    ∧ win0_4.index t = ![0, 0, 0] ∧ win0_5.index t = ![t.val, 0] ∧ win0_6.index t = ![t.val, 0] ∧ win0_7.index t = ![t.val, 0] ∧ win0_8.index t = ![t.val, 0]
    ∧ win0_9.index t = ![0, 0] ∧ t.val < 16 :=
  (by decide +kernel : ∀ t : Fin grid0.N, _)

/-- A row of a block, as a row of its array. -/
abbrev row (t : Fin cfg0.N) (i : Fin 256) : Fin 4096 := ⟨t.val * 256 + i, by have := (idx t).2.2.2.2.2.2.2.2.2.2; omega⟩

variable {m} {c : Dev nD}
variable {dx x : Fin 4096 → Fin 1024 → ℝ} {g : Fin 1024 → ℝ} {up : Fin 1024 → Fin 4096 → ℝ} {down : Fin 4096 → Fin 1024 → ℝ}

/-- The arguments' arrays are real. -/
structure Args (m : (ℓ : Loc nD τ sig) → Buf (Elt Ideal) ℓ) (c : Dev nD) (dx x : Fin 4096 → Fin 1024 → ℝ) (g : Fin 1024 → ℝ)
    (up : Fin 1024 → Fin 4096 → ℝ) (down : Fin 4096 → Fin 1024 → ℝ) : Prop where
  h0 : ∀ i k, m ((c : Thread nD τ).loc main_arg0) (ix2 i k) = (dx i k : EReal)
  h1 : ∀ i k, m ((c : Thread nD τ).loc main_arg1) (ix2 i k) = (x i k : EReal)
  h2 : ∀ k, m ((c : Thread nD τ).loc main_arg2) (ix1 k) = (g k : EReal)
  h3 : ∀ i k, m ((c : Thread nD τ).loc main_arg3) (ix2 i k) = (up i k : EReal)
  h4 : ∀ i k, m ((c : Thread nD τ).loc main_arg4) (ix2 i k) = (down i k : EReal)

theorem blk0 (h : Args m c dx x g up down) (t : Fin cfg0.N) (i k) : (show FVec Ideal S256x1024 .f32 from iblk m c 0 t) (ix2 i k) = dx (row t i) k := by
  rw [← h.h0]; blk_ext [iblk, V, idx t]

theorem blk1 (h : Args m c dx x g up down) (t : Fin cfg0.N) (i k) : (show FVec Ideal S256x1024 .f32 from iblk m c 1 t) (ix2 i k) = x (row t i) k := by
  rw [← h.h1]; blk_ext [iblk, V, idx t]

theorem blk2 (h : Args m c dx x g up down) (t : Fin cfg0.N) (z k) : (show FVec Ideal S1x1024 .f32 from iblk m c 2 t) (ix2 z k) = g k := by
  rw [← h.h2]; blk_point [iblk, V, idx t]

theorem blk3 (h : Args m c dx x g up down) (t : Fin cfg0.N) (n : Fin 8) (k l) :
    (show FVec Ideal S8x1024x512 .bf16 from iblk m c 3 t) (ix3 n k l) = up k (lane n l) := by
  rw [← h.h3]; blk_point [iblk, V, idx t]

theorem blk4 (h : Args m c dx x g up down) (t : Fin cfg0.N) (n : Fin 8) (l k) :
    (show FVec Ideal S8x512x1024 .bf16 from iblk m c 4 t) (ix3 n l k) = down (lane n l) k := by
  rw [← h.h4]; blk_point [iblk, V, idx t]

/-- The gradient of the rows. -/
theorem final5 (h : Args m c dx x g up down) : (dats m 0 c).arrAt 5 (cfgs 0).N = fun j => (cotRow dx x g up down (j 0) (j 1) : EReal) := by
  refine (dats m 0 c).arrAt_eq_of_covers 5 _ (by decide +kernel) fun t _ y => ?_
  have e : (win0_5.blk t).view.emb y = ix2 (row t (y 0)) (y 1) := by blk_ext [idx t]
  blk_simp
  rw [after0_5, e, eq_ix2 y]
  have p3 := blk3 h t
  have p4 := blk4 h t
  by_cases ht : t.val % 16 = 0
  · rw [outsAt0_A m c t ht]; frame_out
    exact MlpBlock.row_at (blk0 h t) (blk1 h t) (blk2 h t)
      (by constructor <;> intro z k l <;> pointwise [p3, p4]) (y 0) (y 1)
  · rw [outsAt0_B m c t ht]; frame_out
    exact MlpBlock.row_at (blk0 h t) (blk1 h t) (blk2 h t)
      (by constructor <;> intro z k l <;> pointwise [p3, p4]) (y 0) (y 1)

/-- The squares of the hidden lanes. -/
theorem final6 (h : Args m c dx x g up down) :
    (dats m 0 c).arrAt 6 (cfgs 0).N = fun j => ((act x g up (j 0) (j 1) * act x g up (j 0) (j 1) : ℝ) : EReal) := by
  refine (dats m 0 c).arrAt_eq_of_covers 6 _ (by decide +kernel) fun t _ y => ?_
  have e : (win0_6.blk t).view.emb y = ix2 (row t (y 0)) (y 1) := by blk_ext [idx t]
  blk_simp
  rw [after0_6, e]
  have p3 := blk3 h t
  by_cases ht : t.val % 16 = 0
  on_goal 1 => rw [outsAt0_A m c t ht]
  on_goal 2 => rw [outsAt0_B m c t ht]
  all_goals
    frame_out
    canon_tiles v q
  all_goals
    have e0 : (y 0 : Fin 256) = v 0 := Fin.ext q0
    rw [eq_ix2 v]
    refine (MlpBlock.square (blk1 h t) (blk2 h t) (v 0) (v 1) (f := y 1) fun z k => ?_).trans (by rw [e0]; rfl)
    pointwise [p3]
    exact congrArg (fun f => (up k f : EReal)) (Fin.ext (by first | exact q1.symm | exact (Nat.zero_add _).trans q1.symm))

/-- The cotangent of the hidden lanes. -/
theorem final7 (h : Args m c dx x g up down) : (dats m 0 c).arrAt 7 (cfgs 0).N = fun j => (cotAct dx x g up down (j 0) (j 1) : EReal) := by
  refine (dats m 0 c).arrAt_eq_of_covers 7 _ (by decide +kernel) fun t _ y => ?_
  have e : (win0_7.blk t).view.emb y = ix2 (row t (y 0)) (y 1) := by blk_ext [idx t]
  blk_simp
  rw [after0_7, e]
  have p3 := blk3 h t
  have p4 := blk4 h t
  by_cases ht : t.val % 16 = 0
  on_goal 1 => rw [outsAt0_A m c t ht]
  on_goal 2 => rw [outsAt0_B m c t ht]
  all_goals
    frame_out
    canon_tiles v q
  all_goals
    have e0 : (y 0 : Fin 256) = v 0 := Fin.ext q0
    rw [eq_ix2 v]
    refine (MlpBlock.cot_at (blk0 h t) (blk1 h t) (blk2 h t) (v 0) (v 1) (f := y 1) (fun z k => ?_) fun z k => ?_).trans (by rw [e0]; rfl)
    · pointwise [p3]
      exact congrArg (fun f => (up k f : EReal)) (Fin.ext (by first | exact q1.symm | exact (Nat.zero_add _).trans q1.symm))
    · pointwise [p4]
      exact congrArg (fun f => (down f k : EReal)) (Fin.ext (by first | exact q1.symm | exact (Nat.zero_add _).trans q1.symm))

/-- The normed rows. -/
theorem final8 (h : Args m c dx x g up down) : (dats m 0 c).arrAt 8 (cfgs 0).N = fun j => (hid x g (j 0) (j 1) : EReal) := by
  refine (dats m 0 c).arrAt_eq_of_covers 8 _ (by decide +kernel) fun t _ y => ?_
  have e : (win0_8.blk t).view.emb y = ix2 (row t (y 0)) (y 1) := by blk_ext [idx t]
  blk_simp
  rw [after0_8, e, eq_ix2 y]
  by_cases ht : t.val % 16 = 0
  on_goal 1 => rw [outsAt0_A m c t ht]
  on_goal 2 => rw [outsAt0_B m c t ht]
  all_goals
    frame_out
    exact MlpBlock.hid_at (blk1 h t) (blk2 h t) (y 0) (y 1)

/-- The sixteen points' sums over their rows are the sum over all rows. -/
theorem sum_points (k : Fin 1024) :
    ∑ p : Fin cfg0.N, (gain (fun i => dx (row p i)) (fun i => x (row p i)) g up down k : EReal) = gain dx x g up down k := by
  rw [sum_real, EReal.coe_eq_coe_iff]
  exact Fin.sum_mul_add_congr fun s k hl => rfl

/-- The gain's gradient. -/
theorem final9 (h : Args m c dx x g up down) : (dats m 0 c).arrAt 9 (cfgs 0).N = fun j => (gain dx x g up down (j 1) : EReal) := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0)
    (fun p j => (gain (fun i => dx (row p i)) (fun i => x (row p i)) g up down (j 1) : EReal))
    (fun t e j => by
      have p3 := blk3 h t
      have p4 := blk4 h t
      rw [outsAt0_A m c t e, eq_ix2 j]; frame_out
      exact (MlpBlock.gain_at (up := up) (down := down) (blk0 h t) (blk1 h t) (blk2 h t) (by constructor <;> intro z k l <;> pointwise [p3, p4]) k0_pay4 (j 0) (j 1)).trans
        (by rw [MlpBlock.zero]; rfl))
    (fun t e j => by
      have p3 := blk3 h t
      have p4 := blk4 h t
      rw [outsAt0_B m c t e, eq_ix2 j]; frame_out
      exact MlpBlock.gain_at (blk0 h t) (blk1 h t) (blk2 h t) (by constructor <;> intro z k l <;> pointwise [p3, p4]) _ (j 0) (j 1))
    (le_of_eq N_0) t0_15 rfl j, zero_add]
  exact sum_points (j 1)

end Cert.MlpArray
-- ==== Proof.MlpClaim.lean ====
/- The channel mixer's backward against the derivative of the problem's lines: the same arrays on finite arguments. -/
module

public import proofs.«01_k».proof.Defs
public import proofs.«01_k».proof.Proof.Gen.MlpBwdIdeal
public import proofs.«01_k».proof.Proof.Gen.MlpBwdRefIdeal
public import proofs.«01_k».proof.Proof.Gen.Pre_mlp_bwd_finite
public import proofs.«01_k».proof.Proof.MlpRef
public import proofs.«01_k».proof.Proof.MlpArray
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.MlpClaim

open Cert.MlpBwdRefIdeal Cert.MlpBwdRefIdeal.Gen Cert.MlpBwdRefIdeal.Read in
/-- The derivative's run: its results are its composed values, its arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v50) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v51) = val_main_v51 (F := Ideal) (m ((c.tc : Thread nD τ).loc main_arg1)) (m ((c.tc : Thread nD τ).loc main_arg2)) (m ((c.tc : Thread nD τ).loc main_arg3))
    ∧ r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v53) = val_main_v53 (F := Ideal) (m ((c.tc : Thread nD τ).loc main_arg1)) (m ((c.tc : Thread nD τ).loc main_arg2))
    ∧ r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => by
    obtain ⟨r0, r1, r2, r3, r4, kept⟩ := h c
    exact ⟨r0.trans (val_main_v50_eq _ _), r1.trans (val_main_v51_eq _ _ _), r2.trans (val_main_v52_eq _ _ _ _ _), r3.trans (val_main_v53_eq _ _), r4.trans (val_main_v54_eq _ _ _ _ _), kept⟩) (Cert.MlpBwdRefIdeal.Value.run m ρ)

/-- The derivative's program keeps its arguments; it has no semaphore. -/
theorem frame : Cert.quiescent_MlpBwdRefIdeal := fun m ρ _ =>
  (θ_run Cert.MlpBwdRefIdeal.defs _ _).mono (fun r h => ⟨fun c => (h c).2.2.2.2.2, sem_eq_zero_of_no_sems (by decide) r.2⟩) (run m ρ)

/-- The kernel's five arrays are the derivative's. -/
theorem value : Cert.algebraic_MlpBwdIdeal_MlpBwdRefIdeal_pre_mlp_bwd_finite := by
  intro m ρ m' ρ' hpre hagree
  refine ⟨_, _, _, _, _, Cert.MlpBwdIdeal.Value.run_blocks (F := Ideal) m ρ, (θ_run Cert.MlpBwdRefIdeal.defs _ _).mono (fun r h c => ?_) (run m' ρ')⟩
  obtain ⟨r0, r1, r2, r3, r4, kept⟩ := h c
  obtain ⟨e0, e1, e2, e3, e4⟩ := hagree c
  obtain ⟨p0, p1, p2, p3, p4⟩ := hpre c
  obtain ⟨dx, h0⟩ := Finite.real2 p0
  obtain ⟨x, h1⟩ := Finite.real2 p1
  obtain ⟨g, h2⟩ := Finite.real1 p2
  obtain ⟨up, h3⟩ := Finite.real2 p3
  obtain ⟨down, h4⟩ := Finite.real2 p4
  have k0 := fun i j => (congrFun e0 (ix2 i j)).trans (h0 i j)
  have k1 := fun i j => (congrFun e1 (ix2 i j)).trans (h1 i j)
  have k2 := fun i => (congrFun e2 (ix1 i)).trans (h2 i)
  have k3 := fun i j => (congrFun e3 (ix2 i j)).trans (h3 i j)
  have k4 := fun i j => (congrFun e4 (ix2 i j)).trans (h4 i j)
  have A : MlpArray.Args m c dx x g up down := ⟨h0, h1, h2, h3, h4⟩
  refine ⟨r0.trans ?_, r1.trans ?_, r2.trans ?_, r3.trans ?_, r4.trans ?_, kept⟩
  · refine Eq.trans (funext fun j => ?_) (MlpArray.final5 A).symm
    rw [eq_ix2 j]; exact MlpRef.row_at k0 k1 k2 k3 k4 _ _
  · refine Eq.trans (funext fun j => ?_) (MlpArray.final6 A).symm
    rw [eq_ix2 j]; exact MlpRef.squares k1 k2 k3 _ _
  · refine Eq.trans (funext fun j => ?_) (MlpArray.final7 A).symm
    rw [eq_ix2 j]; exact MlpRef.cot_out k0 k1 k2 k3 k4 _ _
  · refine Eq.trans (funext fun j => ?_) (MlpArray.final8 A).symm
    rw [eq_ix2 j]; exact MlpRef.hid_out k1 k2 _ _
  · refine Eq.trans (funext fun j => ?_) (MlpArray.final9 A).symm
    rw [eq_ix2 j]; exact MlpRef.gain_at k0 k1 k2 k3 k4 _ _

end Cert.MlpClaim
-- ==== Proof.PleSpec.lean ====
/- The gated embedding's backward over real numbers. -/
module

public import proofs.«01_k».proof.Proof.Reals
public import proofs.«01_k».proof.Proof.MlpSpec
public import Idealize.ShloMosaic.Lib.Pointwise

@[expose] public section

noncomputable section

open Cert.Reals
open Cert.MlpSpec (hid)

namespace Cert.PleSpec

variable {n : ℕ}

/-- The `l`-th of the `k`-th 128 lanes. -/
abbrev lane (k : Fin 8) (l : Fin 128) : Fin 1024 := ⟨k * 128 + l, by omega⟩

/-- The gate of a lane. -/
def opening (x : Fin n → Fin 1024 → ℝ) (g : Fin 1024 → ℝ) (wg : Fin 1024 → Fin 1024 → ℝ) (i : Fin n) (c : Fin 1024) : ℝ :=
  gate (∑ k, hid x g i k * wg k c)

/-- The embedding of a lane. -/
def emb (p : Fin n → Fin 256 → ℝ) (we : Fin 256 → Fin 1024 → ℝ) (i : Fin n) (c : Fin 1024) : ℝ := ∑ k, p i k * we k c

/-- The cotangent of the embedding. -/
def cotEmb (dx x : Fin n → Fin 1024 → ℝ) (g : Fin 1024 → ℝ) (wg : Fin 1024 → Fin 1024 → ℝ) (i : Fin n) (c : Fin 1024) : ℝ :=
  dx i c * opening x g wg i c

/-- The cotangent of what the gate is of. -/
def cotPre (dx x : Fin n → Fin 1024 → ℝ) (p : Fin n → Fin 256 → ℝ) (g : Fin 1024 → ℝ) (wg : Fin 1024 → Fin 1024 → ℝ) (we : Fin 256 → Fin 1024 → ℝ)
    (i : Fin n) (c : Fin 1024) : ℝ := dx i c * emb p we i c * opening x g wg i c * (1 - opening x g wg i c)

/-- The cotangent of the normed rows. -/
def cotHid (dx x : Fin n → Fin 1024 → ℝ) (p : Fin n → Fin 256 → ℝ) (g : Fin 1024 → ℝ) (wg : Fin 1024 → Fin 1024 → ℝ) (we : Fin 256 → Fin 1024 → ℝ)
    (i : Fin n) (c : Fin 1024) : ℝ := ∑ k, cotPre dx x p g wg we i k * wg c k

/-- The gradient of the rows: the cotangent handed on and the norm's. -/
def cotRow (dx x : Fin n → Fin 1024 → ℝ) (p : Fin n → Fin 256 → ℝ) (g : Fin 1024 → ℝ) (wg : Fin 1024 → Fin 1024 → ℝ) (we : Fin 256 → Fin 1024 → ℝ)
    (i : Fin n) (c : Fin 1024) : ℝ := dx i c + normBwd 1024 (x i) g (cotHid dx x p g wg we i) c

/-- The gain's gradient: the sum over the rows. -/
def gain (dx x : Fin n → Fin 1024 → ℝ) (p : Fin n → Fin 256 → ℝ) (g : Fin 1024 → ℝ) (wg : Fin 1024 → Fin 1024 → ℝ) (we : Fin 256 → Fin 1024 → ℝ)
    (c : Fin 1024) : ℝ := ∑ i, cotHid dx x p g wg we i c * (x i c * inv 1024 (x i))

end Cert.PleSpec
-- ==== Proof.PleRef.lean ====
/- The derivative of the gated embedding's lines, read at an index over real numbers. -/
module

public import proofs.«01_k».proof.Proof.Gen.PleBwdRefIdeal.Read
public import proofs.«01_k».proof.Proof.PleSpec

@[expose] public section

set_option maxRecDepth 16384

noncomputable section

open Idealize.ShloMosaic Idealize.ShloMosaic.TcCoe Idealize.SL.Sem
open Cert.Reals Cert.PleSpec
open Cert.MlpSpec (hid)

namespace Cert.PleRef

open Cert.PleBwdRefIdeal Cert.PleBwdRefIdeal.Gen Cert.PleBwdRefIdeal.Read

variable {x0 x1 : FVec Ideal S4096x1024 .f32} {x2 : FVec Ideal S4096x256 .f32} {x3 : FVec Ideal S1024 .f32} {x4 : FVec Ideal S1024x1024 .f32}
variable {x5 : FVec Ideal S256x1024 .f32}
variable {dx x : Fin 4096 → Fin 1024 → ℝ} {p : Fin 4096 → Fin 256 → ℝ} {g : Fin 1024 → ℝ} {wg : Fin 1024 → Fin 1024 → ℝ} {we : Fin 256 → Fin 1024 → ℝ}

/-- The norm's factor. -/
theorem factor (h1 : ∀ i c, x1 (ix2 i c) = x i c) (i : Fin 4096) (z : Fin 1) :
    val_main_v7 (F := Ideal) x1 (ix2 i z) = inv 1024 (x i) := by
  pointwise [val_main_v7, val_main_v6, val_main_v5, val_main_v4, val_main_v3, val_main_v2, val_main_v1, val_main_v0, val_main_cst, val_main_cst_0,
    val_main_cst_1, h1, word_1024, word_eps]
  simp only [← EReal.coe_mul, sum_real, ← EReal.coe_add, div_1024, rsqrt_meanSq pos_1024]

/-- Half the factor over the mean square, negated. -/
theorem slope (h1 : ∀ i c, x1 (ix2 i c) = x i c) (i : Fin 4096) (z : Fin 1) :
    val_main_v10 (F := Ideal) x1 (ix2 i z) = ((-(1 / 2) * (inv 1024 (x i) / meanSq 1024 (x i)) : ℝ) : EReal) := by
  pointwise [val_main_v10, val_main_v9, val_main_cst_2, val_main_v8, factor h1, val_main_v6, val_main_v5, val_main_v4, val_main_v3, val_main_v2,
    val_main_v1, val_main_v0, val_main_cst, val_main_cst_0, val_main_cst_1, h1, word_1024, word_eps, word_neg_half]
  simp only [← EReal.coe_mul, sum_real, ← EReal.coe_add, div_1024, div_meanSq pos_1024]

/-- The normed rows. -/
theorem hid_at (h1 : ∀ i c, x1 (ix2 i c) = x i c) (h3 : ∀ c, x3 (ix1 c) = g c) (i : Fin 4096) (c : Fin 1024) :
    val_main_v15 (F := Ideal) x1 x3 (ix2 i c) = hid x g i c := by
  pointwise [val_main_v15, val_main_v14, val_main_v13, val_main_v12, val_main_v11, factor h1, h1, h3]
  simp only [← EReal.coe_mul, hid]

theorem hid_out (h1 : ∀ i c, x1 (ix2 i c) = x i c) (h3 : ∀ c, x3 (ix1 c) = g c) (i : Fin 4096) (c : Fin 1024) :
    val_main_v54 (F := Ideal) x1 x3 (ix2 i c) = hid x g i c := by
  pointwise [val_main_v54, hid_at h1 h3]

/-- The gate. -/
theorem open_at (h1 : ∀ i c, x1 (ix2 i c) = x i c) (h3 : ∀ c, x3 (ix1 c) = g c) (h4 : ∀ k c, x4 (ix2 k c) = wg k c) (i : Fin 4096) (c : Fin 1024) :
    val_main_v23 (F := Ideal) x1 x3 x4 (ix2 i c) = opening x g wg i c := by
  pointwise [val_main_v23, val_main_v22, val_main_cst_4, val_main_v21, val_main_v20, val_main_cst_3, val_main_v19, val_main_v18, val_main_v16,
    hid_at h1 h3, h4]
  simp only [← EReal.coe_mul, sum_real, gate_lines, opening]

/-- The embedding. -/
theorem emb_at (h2 : ∀ i c, x2 (ix2 i c) = p i c) (h5 : ∀ k c, x5 (ix2 k c) = we k c) (i : Fin 4096) (c : Fin 1024) : val_main_v17 (F := Ideal) x2 x5 (ix2 i c) = emb p we i c := by
  pointwise [val_main_v17, h2, h5]
  simp only [← EReal.coe_mul, sum_real, emb]

/-- The cotangent of the embedding. -/
theorem cot_emb (h0 : ∀ i c, x0 (ix2 i c) = dx i c) (h1 : ∀ i c, x1 (ix2 i c) = x i c) (h3 : ∀ c, x3 (ix1 c) = g c) (h4 : ∀ k c, x4 (ix2 k c) = wg k c)
    (i : Fin 4096) (c : Fin 1024) : val_main_v53 (F := Ideal) x0 x1 x3 x4 (ix2 i c) = cotEmb dx x g wg i c := by
  pointwise [val_main_v53, val_main_v28, open_at h1 h3 h4, h0]
  simp only [← EReal.coe_mul, cotEmb, mul_comm]

/-- What the gate is of, its cotangent. -/
theorem pre_at (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (i : Fin 4096) (c : Fin 1024) : val_main_v30 (F := Ideal) x0 x1 x2 x3 x4 x5 (ix2 i c) = cotPre dx x p g wg we i c := by
  pointwise [val_main_v30, val_main_v29, val_main_v26, val_main_v25, val_main_v24, val_main_cst_5, open_at h1 h3 h4, emb_at h2 h5, h0]
  rw [← EReal.coe_one]
  simp only [← EReal.coe_mul, ← EReal.coe_sub, cotPre, mul_assoc]

theorem pre_out (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (i : Fin 4096) (c : Fin 1024) : val_main_v55 (F := Ideal) x0 x1 x2 x3 x4 x5 (ix2 i c) = cotPre dx x p g wg we i c := by
  pointwise [val_main_v55, pre_at h0 h1 h2 h3 h4 h5]

/-- The cotangent of the normed rows. -/
theorem cotHid_at (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (i : Fin 4096) (c : Fin 1024) : val_main_v31 (F := Ideal) x0 x1 x2 x3 x4 x5 (ix2 i c) = cotHid dx x p g wg we i c := by
  pointwise [val_main_v31, pre_at h0 h1 h2 h3 h4 h5, h4]
  simp only [← EReal.coe_mul, sum_real, cotHid]

/-- The cotangent of the norm, times its gain. -/
theorem gained (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (i : Fin 4096) (c : Fin 1024) : val_main_v36 (F := Ideal) x0 x1 x2 x3 x4 x5 (ix2 i c) = ((cotHid dx x p g wg we i c * g c : ℝ) : EReal) := by
  pointwise [val_main_v36, val_main_v35, val_main_v13, cotHid_at h0 h1 h2 h3 h4 h5, h3]
  simp only [← EReal.coe_mul]

/-- The row's sum in the derivative of the norm. -/
theorem dot (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (i : Fin 4096) : val_main_v46 (F := Ideal) x0 x1 x2 x3 x4 x5 (ix1 i) = normDot 1024 (x i) g (cotHid dx x p g wg we i) := by
  pointwise [val_main_v46, val_main_v45, val_main_v44, val_main_v43, val_main_v40, val_main_v39, val_main_v38, gained h0 h1 h2 h3 h4 h5, slope h1,
    val_main_cst_8, val_main_cst_9, val_main_cst_10, h1, word_1024]
  simp only [← EReal.coe_mul, sum_real, ← EReal.coe_add, div_1024, normDot, Fin.sum_univ_one]

/-- The gradient of the rows. -/
theorem row_at (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (i : Fin 4096) (c : Fin 1024) : val_main_v52 (F := Ideal) x0 x1 x2 x3 x4 x5 (ix2 i c) = cotRow dx x p g wg we i c := by
  pointwise [val_main_v52, val_main_v51, val_main_v50, val_main_v49, val_main_v48, val_main_v47, val_main_v42, val_main_v41,
    gained h0 h1 h2 h3 h4 h5, factor h1, dot h0 h1 h2 h3 h4 h5, h0, h1]
  rw [cotRow, normBwd_eq pos_1024]
  simp only [← EReal.coe_mul, ← EReal.coe_add, EReal.coe_eq_coe_iff]
  ring

/-- The gain's gradient. -/
theorem gain_at (h0 : ∀ i c, x0 (ix2 i c) = dx i c) (h1 : ∀ i c, x1 (ix2 i c) = x i c) (h2 : ∀ i c, x2 (ix2 i c) = p i c) (h3 : ∀ c, x3 (ix1 c) = g c) (h4 : ∀ k c, x4 (ix2 k c) = wg k c) (h5 : ∀ k c, x5 (ix2 k c) = we k c)
    (z : Fin 1) (c : Fin 1024) : val_main_v56 (F := Ideal) x0 x1 x2 x3 x4 x5 (ix2 z c) = gain dx x p g wg we c := by
  pointwise [val_main_v56, val_main_v37, val_main_v34, val_main_v33, val_main_v32, val_main_v12, val_main_v11, factor h1, cotHid_at h0 h1 h2 h3 h4 h5,
    h1, val_main_cst_6, val_main_cst_7]
  simp only [← EReal.coe_mul, sum_real, Fin.sum_univ_one, EReal.coe_eq_coe_iff]
  exact Finset.sum_congr rfl fun i _ => mul_comm _ _

end Cert.PleRef
-- ==== Proof.PleBlock.lean ====
/- What one block of the gated embedding's backward stores, over real numbers. -/
module

public import proofs.«01_k».proof.Proof.Gen.PleBwdIdeal.Skeleton
public import proofs.«01_k».proof.Proof.PleSpec

@[expose] public section

set_option maxRecDepth 16384

noncomputable section

open Idealize.ShloMosaic Idealize.ShloMosaic.TcCoe Idealize.SL.Sem
open Cert.Reals Cert.PleSpec
open Cert.MlpSpec (hid)

namespace Cert.PleBlock

open Cert.PleBwdIdeal Cert.PleBwdIdeal.Gen

variable {x0 x1 : FVec Ideal S512x1024 .f32} {x2 : FVec Ideal S512x256 .f32} {x3 : FVec Ideal S1x1024 .f32} {x4 : FVec Ideal S8x128x1024 .bf16}
variable {d0 d1 d2 d3 d4 d5 d6 d7 : FVec Ideal S1x256x128 .bf16}
variable {dx x : Fin 512 → Fin 1024 → ℝ} {p : Fin 512 → Fin 256 → ℝ} {g : Fin 1024 → ℝ} {wg : Fin 1024 → Fin 1024 → ℝ} {we : Fin 256 → Fin 1024 → ℝ}

/-- The norm's factor of a block's row. -/
theorem factor (h1 : ∀ i c, x1 (ix2 i c) = x i c) (i : Fin 512) (z : Fin 1) : k0_pay2 (F := Ideal) x1 (ix2 i z) = inv 1024 (x i) := by
  pointwise [k0_pay2, h1, word_1024, word_eps]
  simp only [← EReal.coe_mul, sum_real, ← EReal.coe_add, div_1024, rsqrt_meanSq pos_1024]

/-- A block's normed rows. -/
theorem hid_at (h1 : ∀ i c, x1 (ix2 i c) = x i c) (h3 : ∀ z c, x3 (ix2 z c) = g c) (i : Fin 512) (c : Fin 1024) :
    k0_pay7 (F := Ideal) x1 x3 (ix2 i c) = hid x g i c := by
  pointwise [k0_pay7, h1, h3, word_1024, word_eps]
  simp only [← EReal.coe_mul, sum_real, ← EReal.coe_add, div_1024, rsqrt_meanSq pos_1024, hid]

/-- The gate's weight, its eight parts joined. -/
theorem weight (h4 : ∀ n l c, x4 (ix3 n l c) = wg (lane n l) c) (k c : Fin 1024) : k0_pay8 (F := Ideal) x4 (ix2 k c) = wg k c := by
  pointwise [k0_pay8, h4]
  exact congrArg (fun k => (wg k c : EReal)) (Fin.ext (Nat.div_add_mod' _ _))

/-- The gate. -/
theorem open_at (h1 : ∀ i c, x1 (ix2 i c) = x i c) (h3 : ∀ z c, x3 (ix2 z c) = g c) (h4 : ∀ n l c, x4 (ix3 n l c) = wg (lane n l) c)
    (i : Fin 512) (c : Fin 1024) : k0_pay9 (F := Ideal) x1 x3 x4 (ix2 i c) = opening x g wg i c := by
  pointwise [k0_pay9, hid_at h1 h3, weight h4]
  simp only [← EReal.coe_mul, sum_real, logistic_real, opening]

/-- The cotangent of the embedding. -/
theorem emb_at (h0 : ∀ i c, x0 (ix2 i c) = dx i c) (h1 : ∀ i c, x1 (ix2 i c) = x i c) (h3 : ∀ z c, x3 (ix2 z c) = g c)
    (h4 : ∀ n l c, x4 (ix3 n l c) = wg (lane n l) c) (i : Fin 512) (c : Fin 1024) :
    k0_pay13 (F := Ideal) x0 (k0_pay9 x1 x3 x4) (ix2 i c) = cotEmb dx x g wg i c := by
  pointwise [k0_pay13, h0, open_at h1 h3 h4]
  simp only [← EReal.coe_mul, cotEmb]

/-- The eight parts of the embedding's weight a point loads. -/
structure Loads (we : Fin 256 → Fin 1024 → ℝ) (d0 d1 d2 d3 d4 d5 d6 d7 : FVec Ideal S1x256x128 .bf16) : Prop where
  d0 : ∀ z r l, d0 (ix3 z r l) = we r (lane 0 l)
  d1 : ∀ z r l, d1 (ix3 z r l) = we r (lane 1 l)
  d2 : ∀ z r l, d2 (ix3 z r l) = we r (lane 2 l)
  d3 : ∀ z r l, d3 (ix3 z r l) = we r (lane 3 l)
  d4 : ∀ z r l, d4 (ix3 z r l) = we r (lane 4 l)
  d5 : ∀ z r l, d5 (ix3 z r l) = we r (lane 5 l)
  d6 : ∀ z r l, d6 (ix3 z r l) = we r (lane 6 l)
  d7 : ∀ z r l, d7 (ix3 z r l) = we r (lane 7 l)

/-- The cotangent before the gate, at a lane of a part. -/
theorem lane_at {i : Fin 512} {c : Fin 1024} (f : Fin 1024) (h : f.val = c.val) :
    (dx i c : EReal) * ((∑ k, p i k * we k f : ℝ) : EReal) * (opening x g wg i c : EReal) * (1 - (opening x g wg i c : EReal))
      = (cotPre dx x p g wg we i c : EReal) := by
  obtain rfl := Fin.ext h
  rw [← EReal.coe_one]
  simp only [← EReal.coe_mul, ← EReal.coe_sub, cotPre, emb]

/-- What the gate is of, its cotangent. -/
theorem pre_at (h0 : ∀ i c, x0 (ix2 i c) = dx i c) (h1 : ∀ i c, x1 (ix2 i c) = x i c) (h2 : ∀ i c, x2 (ix2 i c) = p i c)
    (h3 : ∀ z c, x3 (ix2 z c) = g c) (h4 : ∀ n l c, x4 (ix3 n l c) = wg (lane n l) c) (h5 : Loads we d0 d1 d2 d3 d4 d5 d6 d7)
    (i : Fin 512) (c : Fin 1024) :
    k0_pay14 (F := Ideal) x0 (k0_pay9 x1 x3 x4) (k0_pay10 x2) (k0_pay11 x2 d0) (k0_pay12 x2 d1) d2 d3 d4 d5 d6 d7 (ix2 i c)
      = cotPre dx x p g wg we i c := by
  pointwise [k0_pay14, k0_pay10, k0_pay11, k0_pay12, h0, h2, open_at h1 h3 h4, h5.d0, h5.d1, h5.d2, h5.d3, h5.d4, h5.d5, h5.d6, h5.d7]
  simp only [← EReal.coe_mul, sum_real]
  split_ifs <;> exact lane_at _ (by show _ * 128 + _ = c.val; simp only [Fin.isValue, Fin.val_ofNat]; omega)

/-- The cotangent of the normed rows. -/
theorem cotHid_at {v : FVec Ideal S512x1024 .bf16} (h4 : ∀ n l c, x4 (ix3 n l c) = wg (lane n l) c) (hv : ∀ i c, v (ix2 i c) = cotPre dx x p g wg we i c)
    (i : Fin 512) (c : Fin 1024) : k0_pay1 (F := Ideal) (k0_pay8 x4) v (ix2 i c) = cotHid dx x p g wg we i c := by
  pointwise [k0_pay1, weight h4, hv]
  simp only [← EReal.coe_mul, sum_real, cotHid]

/-- The gradient of a block's rows. -/
theorem row_at {v : FVec Ideal S512x1024 .bf16} (h0 : ∀ i c, x0 (ix2 i c) = dx i c) (h1 : ∀ i c, x1 (ix2 i c) = x i c)
    (h3 : ∀ z c, x3 (ix2 z c) = g c) (h4 : ∀ n l c, x4 (ix3 n l c) = wg (lane n l) c) (hv : ∀ i c, v (ix2 i c) = cotPre dx x p g wg we i c)
    (i : Fin 512) (c : Fin 1024) : k0_pay4 (F := Ideal) x1 x0 (k0_pay8 x4) v x3 (ix2 i c) = cotRow dx x p g wg we i c := by
  pointwise [k0_pay4, k0_pay3, cotHid_at h4 hv, factor h1, h0, h1, h3, word_1024]
  simp only [← EReal.coe_mul, ← EReal.coe_sub, ← EReal.coe_add, sum_real, div_1024, cotRow, normBwd]

/-- What a block adds to the gain's gradient. -/
theorem gain_at {v : FVec Ideal S512x1024 .bf16} (h1 : ∀ i c, x1 (ix2 i c) = x i c) (h4 : ∀ n l c, x4 (ix3 n l c) = wg (lane n l) c)
    (hv : ∀ i c, v (ix2 i c) = cotPre dx x p g wg we i c) (s : FVec Ideal S1x1024 .f32) (z : Fin 1) (c : Fin 1024) :
    k0_pay6 (F := Ideal) x1 (k0_pay8 x4) v s (ix2 z c) = s (ix2 z c) + (gain dx x p g wg we c : EReal) := by
  pointwise [k0_pay6, k0_pay3, cotHid_at h4 hv, factor h1, h1]
  simp only [← EReal.coe_mul, sum_real, gain]

theorem zero (j) : k0_pay5 (F := Ideal) j = 0 := by pointwise [k0_pay5]

end Cert.PleBlock
-- ==== Proof.PleArray.lean ====
/- The arrays the gated embedding's backward leaves, over real numbers. -/
module

public import proofs.«01_k».proof.Proof.Gen.PleBwdIdeal.Value
public import proofs.«01_k».proof.Proof.PleBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.PleSpec
open Cert.MlpSpec (hid)

namespace Cert.PleArray

open Cert.PleBwdIdeal Cert.PleBwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0, 0] ∧ win0_5.index t = ![0, 0, 0] ∧ win0_6.index t = ![t.val, 0] ∧ win0_7.index t = ![t.val, 0] ∧ win0_8.index t = ![t.val, 0]
    ∧ win0_9.index t = ![t.val, 0] ∧ win0_10.index t = ![0, 0] ∧ t.val < 8 :=
  (by decide +kernel : ∀ t : Fin grid0.N, _)

/-- A row of a block, as a row of its array. -/
abbrev row (t : Fin cfg0.N) (i : Fin 512) : Fin 4096 := ⟨t.val * 512 + i, by have := (idx t).2.2.2.2.2.2.2.2.2.2.2; omega⟩

variable {m} {c : Dev nD}
variable {dx x : Fin 4096 → Fin 1024 → ℝ} {p : Fin 4096 → Fin 256 → ℝ} {g : Fin 1024 → ℝ} {wg : Fin 1024 → Fin 1024 → ℝ} {we : Fin 256 → Fin 1024 → ℝ}

/-- The arguments' arrays are real. -/
structure Args (m : (ℓ : Loc nD τ sig) → Buf (Elt Ideal) ℓ) (c : Dev nD) (dx x : Fin 4096 → Fin 1024 → ℝ) (p : Fin 4096 → Fin 256 → ℝ)
    (g : Fin 1024 → ℝ) (wg : Fin 1024 → Fin 1024 → ℝ) (we : Fin 256 → Fin 1024 → ℝ) : Prop where
  h0 : ∀ i k, m ((c : Thread nD τ).loc main_arg0) (ix2 i k) = (dx i k : EReal)
  h1 : ∀ i k, m ((c : Thread nD τ).loc main_arg1) (ix2 i k) = (x i k : EReal)
  h2 : ∀ i k, m ((c : Thread nD τ).loc main_arg2) (ix2 i k) = (p i k : EReal)
  h3 : ∀ k, m ((c : Thread nD τ).loc main_arg3) (ix1 k) = (g k : EReal)
  h4 : ∀ i k, m ((c : Thread nD τ).loc main_arg4) (ix2 i k) = (wg i k : EReal)
  h5 : ∀ i k, m ((c : Thread nD τ).loc main_arg5) (ix2 i k) = (we i k : EReal)

theorem blk0 (h : Args m c dx x p g wg we) (t : Fin cfg0.N) (i k) : (show FVec Ideal S512x1024 .f32 from iblk m c 0 t) (ix2 i k) = dx (row t i) k := by
  rw [← h.h0]; blk_ext [iblk, V, idx t]

theorem blk1 (h : Args m c dx x p g wg we) (t : Fin cfg0.N) (i k) : (show FVec Ideal S512x1024 .f32 from iblk m c 1 t) (ix2 i k) = x (row t i) k := by
  rw [← h.h1]; blk_ext [iblk, V, idx t]

theorem blk2 (h : Args m c dx x p g wg we) (t : Fin cfg0.N) (i k) : (show FVec Ideal S512x256 .f32 from iblk m c 2 t) (ix2 i k) = p (row t i) k := by
  rw [← h.h2]; blk_ext [iblk, V, idx t]

theorem blk3 (h : Args m c dx x p g wg we) (t : Fin cfg0.N) (z k) : (show FVec Ideal S1x1024 .f32 from iblk m c 3 t) (ix2 z k) = g k := by
  rw [← h.h3]; blk_point [iblk, V, idx t]

theorem blk4 (h : Args m c dx x p g wg we) (t : Fin cfg0.N) (n : Fin 8) (l k) :
    (show FVec Ideal S8x128x1024 .bf16 from iblk m c 4 t) (ix3 n l k) = wg (lane n l) k := by
  rw [← h.h4]; blk_point [iblk, V, idx t]

theorem blk5 (h : Args m c dx x p g wg we) (t : Fin cfg0.N) (n : Fin 8) (k l) :
    (show FVec Ideal S8x256x128 .bf16 from iblk m c 5 t) (ix3 n k l) = we k (lane n l) := by
  rw [← h.h5]; blk_point [iblk, V, idx t]

/-- The gradient of the rows. -/
theorem final6 (h : Args m c dx x p g wg we) : (dats m 0 c).arrAt 6 (cfgs 0).N = fun j => (cotRow dx x p g wg we (j 0) (j 1) : EReal) := by
  refine (dats m 0 c).arrAt_eq_of_covers 6 _ (by decide +kernel) fun t _ y => ?_
  have e : (win0_6.blk t).view.emb y = ix2 (row t (y 0)) (y 1) := by blk_ext [idx t]
  blk_simp
  rw [after0_6, e, eq_ix2 y]
  have p5 := blk5 h t
  by_cases ht : t.val % 8 = 0
  on_goal 1 => rw [outsAt0_A m c t ht]
  on_goal 2 => rw [outsAt0_B m c t ht]
  all_goals
    frame_out
    exact PleBlock.row_at (blk0 h t) (blk1 h t) (blk3 h t) (blk4 h t)
      (PleBlock.pre_at (blk0 h t) (blk1 h t) (blk2 h t) (blk3 h t) (blk4 h t) (by constructor <;> intro z k l <;> pointwise [p5])) (y 0) (y 1)

/-- The cotangent of the embedding. -/
theorem final7 (h : Args m c dx x p g wg we) : (dats m 0 c).arrAt 7 (cfgs 0).N = fun j => (cotEmb dx x g wg (j 0) (j 1) : EReal) := by
  refine (dats m 0 c).arrAt_eq_of_covers 7 _ (by decide +kernel) fun t _ y => ?_
  have e : (win0_7.blk t).view.emb y = ix2 (row t (y 0)) (y 1) := by blk_ext [idx t]
  blk_simp
  rw [after0_7, e, eq_ix2 y]
  have p5 := blk5 h t
  by_cases ht : t.val % 8 = 0
  on_goal 1 => rw [outsAt0_A m c t ht]
  on_goal 2 => rw [outsAt0_B m c t ht]
  all_goals
    frame_out
    exact PleBlock.emb_at (blk0 h t) (blk1 h t) (blk3 h t) (blk4 h t) (y 0) (y 1)

/-- The normed rows. -/
theorem final8 (h : Args m c dx x p g wg we) : (dats m 0 c).arrAt 8 (cfgs 0).N = fun j => (hid x g (j 0) (j 1) : EReal) := by
  refine (dats m 0 c).arrAt_eq_of_covers 8 _ (by decide +kernel) fun t _ y => ?_
  have e : (win0_8.blk t).view.emb y = ix2 (row t (y 0)) (y 1) := by blk_ext [idx t]
  blk_simp
  rw [after0_8, e, eq_ix2 y]
  have p5 := blk5 h t
  by_cases ht : t.val % 8 = 0
  on_goal 1 => rw [outsAt0_A m c t ht]
  on_goal 2 => rw [outsAt0_B m c t ht]
  all_goals
    frame_out
    exact PleBlock.hid_at (blk1 h t) (blk3 h t) (y 0) (y 1)

/-- What the gate is of, its cotangent. -/
theorem final9 (h : Args m c dx x p g wg we) : (dats m 0 c).arrAt 9 (cfgs 0).N = fun j => (cotPre dx x p g wg we (j 0) (j 1) : EReal) := by
  refine (dats m 0 c).arrAt_eq_of_covers 9 _ (by decide +kernel) fun t _ y => ?_
  have e : (win0_9.blk t).view.emb y = ix2 (row t (y 0)) (y 1) := by blk_ext [idx t]
  blk_simp
  rw [after0_9, e, eq_ix2 y]
  have p5 := blk5 h t
  by_cases ht : t.val % 8 = 0
  on_goal 1 => rw [outsAt0_A m c t ht]
  on_goal 2 => rw [outsAt0_B m c t ht]
  all_goals
    frame_out
    exact PleBlock.pre_at (blk0 h t) (blk1 h t) (blk2 h t) (blk3 h t) (blk4 h t) (by constructor <;> intro z k l <;> pointwise [p5]) (y 0) (y 1)

/-- The eight points' sums over their rows are the sum over all rows. -/
theorem sum_points (k : Fin 1024) :
    ∑ q : Fin cfg0.N, (gain (fun i => dx (row q i)) (fun i => x (row q i)) (fun i => p (row q i)) g wg we k : EReal) = gain dx x p g wg we k := by
  rw [sum_real, EReal.coe_eq_coe_iff]
  exact Fin.sum_mul_add_congr fun s k hl => rfl

/-- The gain's gradient. -/
theorem final10 (h : Args m c dx x p g wg we) : (dats m 0 c).arrAt 10 (cfgs 0).N = fun j => (gain dx x p g wg we (j 1) : EReal) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0)
    (fun q j => (gain (fun i => dx (row q i)) (fun i => x (row q i)) (fun i => p (row q i)) g wg we (j 1) : EReal))
    (fun t e j => by
      have p5 := blk5 h t
      rw [outsAt0_A m c t e, eq_ix2 j]; frame_out
      exact (PleBlock.gain_at (we := we) (blk1 h t) (blk4 h t) (PleBlock.pre_at (blk0 h t) (blk1 h t) (blk2 h t) (blk3 h t) (blk4 h t) (by constructor <;> intro z k l <;> pointwise [p5]))
        k0_pay5 (j 0) (j 1)).trans (by rw [PleBlock.zero]; rfl))
    (fun t e j => by
      have p5 := blk5 h t
      rw [outsAt0_B m c t e, eq_ix2 j]; frame_out
      exact PleBlock.gain_at (we := we) (blk1 h t) (blk4 h t) (PleBlock.pre_at (blk0 h t) (blk1 h t) (blk2 h t) (blk3 h t) (blk4 h t) (by constructor <;> intro z k l <;> pointwise [p5])) _ (j 0) (j 1))
    (le_of_eq N_0) t0_7 rfl j, zero_add]
  exact sum_points (j 1)

end Cert.PleArray
-- ==== Proof.PleClaim.lean ====
/- The gated embedding's backward against the derivative of the problem's lines: the same arrays on finite arguments. -/
module

public import proofs.«01_k».proof.Defs
public import proofs.«01_k».proof.Proof.Gen.PleBwdIdeal
public import proofs.«01_k».proof.Proof.Gen.PleBwdRefIdeal
public import proofs.«01_k».proof.Proof.Gen.Pre_ple_bwd_finite
public import proofs.«01_k».proof.Proof.PleRef
public import proofs.«01_k».proof.Proof.PleArray
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.PleClaim

open Cert.PleBwdRefIdeal Cert.PleBwdRefIdeal.Gen Cert.PleBwdRefIdeal.Read in
/-- The derivative's run: its results are its composed values, its arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v52) = val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v53) = val_main_v53 (F := Ideal) (m ((c.tc : Thread nD τ).loc main_arg0)) (m ((c.tc : Thread nD τ).loc main_arg1)) (m ((c.tc : Thread nD τ).loc main_arg3)) (m ((c.tc : Thread nD τ).loc main_arg4))
    ∧ r.2.mem ((c.tc : Thread nD τ).loc main_v54) = val_main_v54 (F := Ideal) (m ((c.tc : Thread nD τ).loc main_arg1)) (m ((c.tc : Thread nD τ).loc main_arg3))
    ∧ r.2.mem ((c.tc : Thread nD τ).loc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => by
    obtain ⟨r0, r1, r2, r3, r4, kept⟩ := h c
    exact ⟨r0.trans (val_main_v52_eq _ _), r1.trans (val_main_v53_eq _ _ _ _), r2.trans (val_main_v54_eq _ _), r3.trans (val_main_v55_eq _ _ _ _ _ _), r4.trans (val_main_v56_eq _ _ _ _ _ _), kept⟩) (Cert.PleBwdRefIdeal.Value.run m ρ)

/-- The derivative's program keeps its arguments; it has no semaphore. -/
theorem frame : Cert.quiescent_PleBwdRefIdeal := fun m ρ _ =>
  (θ_run Cert.PleBwdRefIdeal.defs _ _).mono (fun r h => ⟨fun c => (h c).2.2.2.2.2, sem_eq_zero_of_no_sems (by decide) r.2⟩) (run m ρ)

/-- The kernel's five arrays are the derivative's. -/
theorem value : Cert.algebraic_PleBwdIdeal_PleBwdRefIdeal_pre_ple_bwd_finite := by
  intro m ρ m' ρ' hpre hagree
  refine ⟨_, _, _, _, _, Cert.PleBwdIdeal.Value.run_blocks (F := Ideal) m ρ, (θ_run Cert.PleBwdRefIdeal.defs _ _).mono (fun r h c => ?_) (run m' ρ')⟩
  obtain ⟨r0, r1, r2, r3, r4, kept⟩ := h c
  obtain ⟨e0, e1, e2, e3, e4, e5⟩ := hagree c
  obtain ⟨p0, p1, p2, p3, p4, p5⟩ := hpre c
  obtain ⟨dx, h0⟩ := Finite.real2 p0
  obtain ⟨x, h1⟩ := Finite.real2 p1
  obtain ⟨p, h2⟩ := Finite.real2 p2
  obtain ⟨g, h3⟩ := Finite.real1 p3
  obtain ⟨wg, h4⟩ := Finite.real2 p4
  obtain ⟨we, h5⟩ := Finite.real2 p5
  have k0 := fun i j => (congrFun e0 (ix2 i j)).trans (h0 i j)
  have k1 := fun i j => (congrFun e1 (ix2 i j)).trans (h1 i j)
  have k2 := fun i j => (congrFun e2 (ix2 i j)).trans (h2 i j)
  have k3 := fun i => (congrFun e3 (ix1 i)).trans (h3 i)
  have k4 := fun i j => (congrFun e4 (ix2 i j)).trans (h4 i j)
  have k5 := fun i j => (congrFun e5 (ix2 i j)).trans (h5 i j)
  have A : PleArray.Args m c dx x p g wg we := ⟨h0, h1, h2, h3, h4, h5⟩
  refine ⟨r0.trans ?_, r1.trans ?_, r2.trans ?_, r3.trans ?_, r4.trans ?_, kept⟩
  · refine Eq.trans (funext fun j => ?_) (PleArray.final6 A).symm
    rw [eq_ix2 j]; exact PleRef.row_at k0 k1 k2 k3 k4 k5 _ _
  · refine Eq.trans (funext fun j => ?_) (PleArray.final7 A).symm
    rw [eq_ix2 j]; exact PleRef.cot_emb k0 k1 k3 k4 _ _
  · refine Eq.trans (funext fun j => ?_) (PleArray.final8 A).symm
    rw [eq_ix2 j]; exact PleRef.hid_out k1 k3 _ _
  · refine Eq.trans (funext fun j => ?_) (PleArray.final9 A).symm
    rw [eq_ix2 j]; exact PleRef.pre_out k0 k1 k2 k3 k4 k5 _ _
  · refine Eq.trans (funext fun j => ?_) (PleArray.final10 A).symm
    rw [eq_ix2 j]; exact PleRef.gain_at k0 k1 k2 k3 k4 k5 _ _

end Cert.PleClaim
-- ==== Proof.LossSpec.lean ====
/- The loss's derivative over extended real numbers. -/
module

public import proofs.«01_k».proof.Proof.Reals
public import Idealize.ShloMosaic.Lib.Pointwise

@[expose] public section

noncomputable section

open Idealize.ShloMosaic

namespace Cert.LossSpec

variable {n : ℕ}

/-- The derivative of the loss at an element. -/
def grad (y t : Fin n → Fin 1024 → EReal) (i : Fin n) (c : Fin 1024) : EReal := (y i c - t i c) * ((1 / 1024 : ℝ) : EReal)

/-- The sum of the squares of the errors. -/
def squares (y t : Fin n → Fin 1024 → EReal) : EReal := ∑ i, ∑ c, (y i c - t i c) * (y i c - t i c)

end Cert.LossSpec
-- ==== Proof.LossRef.lean ====
/- The derivative of the channel mixer's lines, read at an index over extended real numbers. -/
module

public import proofs.«01_k».proof.Proof.Gen.LossGradRefIdeal.Read
public import proofs.«01_k».proof.Proof.LossSpec

@[expose] public section

set_option maxRecDepth 16384

noncomputable section

open Idealize.ShloMosaic Idealize.ShloMosaic.TcCoe Idealize.SL.Sem
open Cert.Reals Cert.LossSpec

namespace Cert.LossRef

open Cert.LossGradRefIdeal Cert.LossGradRefIdeal.Gen Cert.LossGradRefIdeal.Read

variable {x0 x1 : FVec Ideal S4096x1024 .f32} {y t : Fin 4096 → Fin 1024 → EReal}

/-- The derivative. -/
theorem grad_at (h0 : ∀ i c, x0 (ix2 i c) = y i c) (h1 : ∀ i c, x1 (ix2 i c) = t i c) (i : Fin 4096) (c : Fin 1024) :
    val_main_v15 (F := Ideal) x0 x1 (ix2 i c) = grad y t i c := by
  pointwise [val_main_v15, val_main_v14, val_main_v13, val_main_v12, val_main_v11, val_main_v10, val_main_cst_5, val_main_cst_6, val_main_cst_7,
    val_main_v3, val_main_v2, val_main_cst, val_main_v0, h0, h1, word_1024, word_half, word_two]
  rw [div_1024, ← mul_assoc, ← EReal.coe_mul, mul_comm, grad]
  norm_num

/-- The sum of squares. -/
theorem squares (h0 : ∀ i c, x0 (ix2 i c) = y i c) (h1 : ∀ i c, x1 (ix2 i c) = t i c) (a : Fin 8) (b : Fin 128) :
    val_main_v16 (F := Ideal) x0 x1 (ix2 a b) = LossSpec.squares y t := by
  pointwise [val_main_v16, val_main_v9, val_main_cst_4, val_main_v1, val_main_v0, h0, h1]
  rw [LossSpec.squares]

end Cert.LossRef
-- ==== Proof.LossBlock.lean ====
/- What one block of the loss's derivative stores, over extended real numbers. -/
module

public import proofs.«01_k».proof.Proof.Gen.LossGradIdeal.Skeleton
public import proofs.«01_k».proof.Proof.LossSpec

@[expose] public section

set_option maxRecDepth 16384

noncomputable section

open Idealize.ShloMosaic Idealize.ShloMosaic.TcCoe Idealize.SL.Sem
open Cert.Reals Cert.LossSpec

namespace Cert.LossBlock

open Cert.LossGradIdeal Cert.LossGradIdeal.Gen

variable {x0 x1 : FVec Ideal S256x1024 .f32} {y t : Fin 256 → Fin 1024 → EReal}

/-- The derivative. -/
theorem grad_at (h0 : ∀ i c, x0 (ix2 i c) = y i c) (h1 : ∀ i c, x1 (ix2 i c) = t i c) (i : Fin 256) (c : Fin 1024) :
    k0_pay2 (F := Ideal) x0 x1 (ix2 i c) = grad y t i c := by
  pointwise [k0_pay2, k0_pay1, h0, h1, word_1024]
  rw [Ideal.div_coe pos_1024.ne', grad]

/-- What a block adds to the sum of squares. -/
theorem squares_at (h0 : ∀ i c, x0 (ix2 i c) = y i c) (h1 : ∀ i c, x1 (ix2 i c) = t i c) (s : FVec Ideal S8x128 .f32) (a : Fin 8) (b : Fin 128) :
    k0_pay4 (F := Ideal) x0 x1 s (ix2 a b) = s (ix2 a b) + squares y t := by
  pointwise [k0_pay4, k0_pay1, h0, h1]
  rw [squares, Finset.sum_comm]

theorem zero (j) : k0_pay3 (F := Ideal) j = 0 := by pointwise [k0_pay3]

end Cert.LossBlock
-- ==== Proof.LossArray.lean ====
/- The arrays the loss's derivative leaves, over extended real numbers. -/
module

public import proofs.«01_k».proof.Proof.Gen.LossGradIdeal.Value
public import proofs.«01_k».proof.Proof.LossBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.LossSpec

namespace Cert.LossArray

open Cert.LossGradIdeal Cert.LossGradIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0]
    ∧ t.val < 16 :=
  (by decide +kernel : ∀ t : Fin grid0.N, _)

/-- A row of a block, as a row of its array. -/
abbrev row (t : Fin cfg0.N) (i : Fin 256) : Fin 4096 := ⟨t.val * 256 + i, by have := (idx t).2.2.2.2; omega⟩

/-- The first argument by row and lane. -/
abbrev y (c : Dev nD) (i : Fin 4096) (k : Fin 1024) : EReal := m ((c : Thread nD τ).loc main_arg0) (ix2 i k)

/-- The second argument by row and lane. -/
abbrev t (c : Dev nD) (i : Fin 4096) (k : Fin 1024) : EReal := m ((c : Thread nD τ).loc main_arg1) (ix2 i k)

variable (c : Dev nD)

theorem blk0 (p : Fin cfg0.N) (i k) : (show FVec Ideal S256x1024 .f32 from iblk m c 0 p) (ix2 i k) = y m c (row p i) k := by
  unfold y; blk_ext [iblk, V, idx p]

theorem blk1 (p : Fin cfg0.N) (i k) : (show FVec Ideal S256x1024 .f32 from iblk m c 1 p) (ix2 i k) = t m c (row p i) k := by
  unfold t; blk_ext [iblk, V, idx p]

/-- The derivative. -/
theorem final3 : (dats m 0 c).arrAt 3 (cfgs 0).N = fun j => grad (y m c) (t m c) (j 0) (j 1) := by
  refine (dats m 0 c).arrAt_eq_of_covers 3 _ (by decide +kernel) fun p _ v => ?_
  have e : (win0_3.blk p).view.emb v = ix2 (row p (v 0)) (v 1) := by blk_ext [idx p]
  blk_simp
  rw [after0_3, e, eq_ix2 v]
  by_cases ht : p.val % 16 = 0
  on_goal 1 => rw [outsAt0_A m c p ht]
  on_goal 2 => rw [outsAt0_B m c p ht]
  all_goals
    frame_out
    exact LossBlock.grad_at (blk0 m c p) (blk1 m c p) (v 0) (v 1)

/-- The sixteen points' sums are the whole sum. -/
theorem sum_points :
    ∑ p : Fin cfg0.N, squares (fun i => y m c (row p i)) (fun i => t m c (row p i)) = squares (y m c) (t m c) :=
  Fin.sum_mul_add_congr fun s k hl => rfl

/-- The sum of squares. -/
theorem final2 : (dats m 0 c).arrAt 2 (cfgs 0).N = fun j => squares (y m c) (t m c) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0)
    (fun p j => squares (fun i => y m c (row p i)) (fun i => t m c (row p i)))
    (fun p e j => by
      rw [outsAt0_A m c p e, eq_ix2 j]; frame_out
      exact (LossBlock.squares_at (blk0 m c p) (blk1 m c p) k0_pay3 (j 0) (j 1)).trans (by rw [LossBlock.zero]))
    (fun p e j => by
      rw [outsAt0_B m c p e, eq_ix2 j]; frame_out
      exact LossBlock.squares_at (blk0 m c p) (blk1 m c p) _ (j 0) (j 1))
    (le_of_eq N_0) t0_15 rfl j, zero_add]
  exact sum_points m c

end Cert.LossArray
-- ==== Proof.LossClaim.lean ====
/- The loss's derivative and its sum of squares against the derivative of the problem's lines: the same arrays on all arguments. -/
module

public import proofs.«01_k».proof.Defs
public import proofs.«01_k».proof.Proof.Gen.LossGradIdeal
public import proofs.«01_k».proof.Proof.Gen.LossGradRefIdeal
public import proofs.«01_k».proof.Proof.LossRef
public import proofs.«01_k».proof.Proof.LossArray
public import proofs.«01_k».proof.Proof.Finite
public import Idealize.ShloMosaic.Lib.Claim

@[expose] public section

set_option maxRecDepth 16384

noncomputable section

open Idealize.ShloMosaic Idealize.ShloMosaic.TcCoe Idealize.SL.Sem

namespace Cert.LossClaim

open Cert.LossGradRefIdeal Cert.LossGradRefIdeal.Gen Cert.LossGradRefIdeal.Read in
/-- The derivative's run: its results are its composed values, its arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v16) = val_main_v16 (F := Ideal) (m ((c.tc : Thread nD τ).loc main_arg0)) (m ((c.tc : Thread nD τ).loc main_arg1))
    ∧ r.2.mem ((c.tc : Thread nD τ).loc main_v15) = val_main_v15 (F := Ideal) (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => by
    obtain ⟨r0, r1, kept⟩ := h c
    exact ⟨r0.trans (val_main_v16_eq _ _), r1.trans (val_main_v15_eq _ _), kept⟩) (Cert.LossGradRefIdeal.Value.run m ρ)

/-- The derivative's program keeps its arguments; it has no semaphore. -/
theorem frame : Cert.quiescent_LossGradRefIdeal := fun m ρ _ =>
  (θ_run Cert.LossGradRefIdeal.defs _ _).mono (fun r h => ⟨fun c => (h c).2.2, sem_eq_zero_of_no_sems (by decide) r.2⟩) (run m ρ)

/-- The kernel's two arrays are the derivative's. -/
theorem value : Cert.algebraic_LossGradIdeal_LossGradRefIdeal := by
  intro m ρ m' ρ' hpre hagree
  refine ⟨_, _, Cert.LossGradIdeal.Value.run_blocks (F := Ideal) m ρ, (θ_run Cert.LossGradRefIdeal.defs _ _).mono (fun r h c => ?_) (run m' ρ')⟩
  obtain ⟨r0, r1, kept⟩ := h c
  obtain ⟨e0, e1⟩ := hagree c
  have k0 := fun i j => congrFun e0 (ix2 i j)
  have k1 := fun i j => congrFun e1 (ix2 i j)
  refine ⟨r0.trans ?_, r1.trans ?_, kept⟩
  · refine Eq.trans (funext fun j => ?_) (LossArray.final2 m c).symm
    rw [eq_ix2 j]; exact LossRef.squares k0 k1 _ _
  · refine Eq.trans (funext fun j => ?_) (LossArray.final3 m c).symm
    rw [eq_ix2 j]; exact LossRef.grad_at k0 k1 _ _

end Cert.LossClaim
-- ==== Proof.FrontOut.lean ====
module

public import proofs.«01_k».proof.Proof.Gen.FrontBwdIdeal.Frame.Runs

@[expose] public section

set_option maxRecDepth 16384

noncomputable section

namespace Cert.FrontOut

open Cert.FrontBwdIdeal Cert.FrontBwdIdeal.Gen
open Idealize.ShloMosaic Idealize.ShloMosaic.TcCoe

variable {F : FTy → Type} [FloatOps F]

/-! # What a grid point of the front's backward kernel computes from its input blocks -/

/-- The blocks of a grid point's inputs. -/
structure Ins (F : FTy → Type) where
  x0 : Vec F S256x1024 .f32
  x1 : Vec F S256x2304 .f32
  x2 : Vec F S8x2304 .f32
  x3 : Vec F S8x2304 .f32
  x4 : Vec F S256x1024 .f32
  x5 : Vec F S256x1024 .f32
  x6 : Vec F S256x1024 .f32
  x7 : Vec F S256x1024 .f32
  x8 : Vec F S256x512 .f32
  x9 : Vec F S8x512 .f32
  x10 : Vec F S1x1024 .f32
  x11 : Vec F S1024x2304 .bf16
  x12 : Vec F S1x384 .f32
  x13 : Vec F S4x384x256 .bf16
  x14 : Vec F S1x256 .f32
  x15 : Vec F S4x256x256 .bf16
  x16 : Vec F S1x256 .f32
  x17 : Vec F S1x256 .f32
  x18 : Vec F S8x512 .f32
  x19 : Vec F S256x256 .bf16
  x20 : Vec F S256x128 .f32
  x21 : Vec F S256x128 .f32

/-- The rows loaded from the two scratch buffers, one and two rows back, then one and two rows on. -/
structure Shifted (F : FTy → Type) where
  l703 : Vec F S256x512 .f32
  l704 : Vec F S256x512 .f32
  l720 : Vec F S256x512 .f32
  l725 : Vec F S256x512 .f32

def v1 (X : Ins F) : Vec F S256x1024 .f32 := View.ld X.x0 (Rect.unit (s := S256x1024) ![0, 0] S256x1024.size inb_S256x1024_S256x1024_0_0)
def v4 (X : Ins F) : Vec F S1x1024 .f32 := View.ld X.x10 (Rect.unit (s := S1x1024) ![0, 0] S1x1024.size inb_S1x1024_S1x1024_0_0)
/-- The normalised input's rows. -/
def hOut (X : Ins F) : Vec F S256x1024 .bf16 := (k0_pay4 (v1 (F := F) X) (v4 (F := F) X))
def v2 (X : Ins F) : Vec F S256x2304 .f32 := View.ld X.x1 (Rect.unit (s := S256x2304) ![0, 0] S256x2304.size inb_S256x2304_S256x2304_0_0)
def v22 (X : Ins F) : Vec F S1x384 .f32 := View.ld X.x12 (Rect.unit (s := S1x384) ![0, 0] S1x384.size inb_S1x384_S1x384_0_0)
/-- The query latent's. -/
def qnOut (X : Ins F) : Vec F S256x384 .bf16 := (k0_pay7 (v2 (F := F) X) (v22 (F := F) X))
def v21 (X : Ins F) : FVec F S256x256 .f32 := k0_pay6 (v2 (F := F) X)
def v38 (X : Ins F) : Vec F S1x256 .f32 := View.ld X.x14 (Rect.unit (s := S1x256) ![0, 0] S1x256.size inb_S1x256_S1x256_0_0)
/-- The key and value latent's. -/
def kvnOut (X : Ins F) : Vec F S256x256 .bf16 := (k0_pay8 (v21 (F := F) X) (v38 (F := F) X))
def v62 (X : Ins F) : Vec F S256x256 .bf16 := View.ld X.x19 (Rect.unit (s := S256x256) ![0, 0] S256x256.size inb_S256x256_S256x256_0_0)
def v63 (X : Ins F) : FVec F S256x256 .bf16 := k0_pay12 (v62 (F := F) X)
def v82 (X : Ins F) : Vec F S1x256 .f32 := View.ld X.x16 (Rect.unit (s := S1x256) ![0, 0] S1x256.size inb_S1x256_S1x256_0_0)
def v83 (X : Ins F) : FVec F S1x256 .f32 := k0_pay22 (v82 (F := F) X)
def v36 (X : Ins F) : FVec F S256x384 .bf16 := k0_pay7 (v2 (F := F) X) (v22 (F := F) X)
def v79 (X : Ins F) : Vec F S1x384x256 .bf16 := View.ld X.x13 (Rect.unit (s := S4x384x256) ![0, 0, 0] S1x384x256.size inb_S4x384x256_S1x384x256_0_0_0)
def v98 (X : Ins F) : FVec F S256x256 .f32 := k0_pay23 (v36 (F := F) X) (v63 (F := F) X) (v79 (F := F) X)
def v99 (X : Ins F) : FVec F S256x256 .f32 := k0_pay24 (v36 (F := F) X) (v63 (F := F) X) (v79 (F := F) X)
def v56 (X : Ins F) : Vec F S256x128 .f32 := View.ld X.x20 (Rect.unit (s := S256x128) ![0, 0] S256x128.size inb_S256x128_S256x128_0_0)
def v58 (X : Ins F) : FVec F S256x256 .f32 := k0_pay10 (v56 (F := F) X)
def v59 (X : Ins F) : Vec F S256x128 .f32 := View.ld X.x21 (Rect.unit (s := S256x128) ![0, 0] S256x128.size inb_S256x128_S256x128_0_0)
def v61 (X : Ins F) : FVec F S256x256 .f32 := k0_pay11 (v59 (F := F) X)
def v66 : IVec S256x256 32 := k0_pay13
def v84 (X : Ins F) : Vec F S256x256 .f32 := View.ld X.x5 (Rect.unit (s := S256x1024) ![0, 0] S256x256.size inb_S256x1024_S256x256_0_0)
def v114 (X : Ins F) : FVec F S256x256 .f32 := k0_pay25 (v58 (F := F) X) (v61 (F := F) X) v66 (v84 (F := F) X)
def v207 (X : Ins F) : Vec F S1x256 .f32 := View.ld X.x16 (Rect.unit (s := S1x256) ![0, 0] S1x256.size inb_S1x256_S1x256_0_0)
def v208 (X : Ins F) : FVec F S1x256 .f32 := k0_pay45 (v207 (F := F) X)
def v204 (X : Ins F) : Vec F S1x384x256 .bf16 := View.ld X.x13 (Rect.unit (s := S4x384x256) ![1, 0, 0] S1x384x256.size inb_S4x384x256_S1x384x256_1_0_0)
def v223 (X : Ins F) : FVec F S256x256 .f32 := k0_pay47 (v36 (F := F) X) (v63 (F := F) X) (v204 (F := F) X)
def v224 (X : Ins F) : FVec F S256x256 .f32 := k0_pay48 (v36 (F := F) X) (v63 (F := F) X) (v204 (F := F) X)
def v209 (X : Ins F) : Vec F S256x256 .f32 := View.ld X.x5 (Rect.unit (s := S256x1024) ![0, 256] S256x256.size inb_S256x1024_S256x256_0_256)
def v225 (X : Ins F) : FVec F S256x256 .f32 := k0_pay49 (v58 (F := F) X) (v209 (F := F) X)
def v231 (X : Ins F) : FVec F S256x256 .f32 := k0_pay50 (v61 (F := F) X) v66 (v209 (F := F) X)
def v236 : IVec S256x256 1 := k0_pay51 v66
def v237 : FVec F S256x256 .f32 := k0_pay52 (F := F)
def v332 (X : Ins F) : Vec F S1x256 .f32 := View.ld X.x16 (Rect.unit (s := S1x256) ![0, 0] S1x256.size inb_S1x256_S1x256_0_0)
def v333 (X : Ins F) : FVec F S1x256 .f32 := k0_pay73 (v332 (F := F) X)
def v329 (X : Ins F) : Vec F S1x384x256 .bf16 := View.ld X.x13 (Rect.unit (s := S4x384x256) ![2, 0, 0] S1x384x256.size inb_S4x384x256_S1x384x256_2_0_0)
def v348 (X : Ins F) : FVec F S256x256 .f32 := k0_pay75 (v36 (F := F) X) (v63 (F := F) X) (v329 (F := F) X)
def v349 (X : Ins F) : FVec F S256x256 .f32 := k0_pay76 (v36 (F := F) X) (v63 (F := F) X) (v329 (F := F) X)
def v334 (X : Ins F) : Vec F S256x256 .f32 := View.ld X.x5 (Rect.unit (s := S256x1024) ![0, 512] S256x256.size inb_S256x1024_S256x256_0_512)
def v350 (X : Ins F) : FVec F S256x256 .f32 := k0_pay77 (v58 (F := F) X) (v334 (F := F) X)
def v356 (X : Ins F) : FVec F S256x256 .f32 := k0_pay78 (v61 (F := F) X) v66 (v334 (F := F) X)
def v358 : IVec S256x256 1 := k0_pay79 v66
def v359 : IVec S256x256 32 := k0_pay80
def v457 (X : Ins F) : Vec F S1x256 .f32 := View.ld X.x16 (Rect.unit (s := S1x256) ![0, 0] S1x256.size inb_S1x256_S1x256_0_0)
def v458 (X : Ins F) : FVec F S1x256 .f32 := k0_pay100 (v457 (F := F) X)
def v454 (X : Ins F) : Vec F S1x384x256 .bf16 := View.ld X.x13 (Rect.unit (s := S4x384x256) ![3, 0, 0] S1x384x256.size inb_S4x384x256_S1x384x256_3_0_0)
def v473 (X : Ins F) : FVec F S256x256 .f32 := k0_pay102 (v36 (F := F) X) (v63 (F := F) X) (v454 (F := F) X)
def v474 (X : Ins F) : FVec F S256x256 .f32 := k0_pay103 (v36 (F := F) X) (v63 (F := F) X) (v454 (F := F) X)
def v459 (X : Ins F) : Vec F S256x256 .f32 := View.ld X.x5 (Rect.unit (s := S256x1024) ![0, 768] S256x256.size inb_S256x1024_S256x256_0_768)
def v475 (X : Ins F) : FVec F S256x256 .f32 := k0_pay104 (v58 (F := F) X) (v459 (F := F) X)
def v481 (X : Ins F) : FVec F S256x256 .f32 := k0_pay105 (v61 (F := F) X) v66 (v459 (F := F) X)
def c64_i32_212 : BitVec 32 := 64#32
def dqPieces (X : Ins F) : List (View.Piece (Elt F) S256x1024 .bf16) :=
  [⟨(Rect.unit (s := S256x1024) ![0, 768] S256x256.size inb_S256x1024_S256x256_0_768), (k0_pay107 (v63 (F := F) X) v66 (v458 (F := F) X) (v473 (F := F) X) (v474 (F := F) X) (v475 (F := F) X) (v481 (F := F) X) c64_i32_212)⟩,
    ⟨(Rect.unit (s := S256x1024) ![0, 512] S256x256.size inb_S256x1024_S256x256_0_512), (k0_pay82 (v63 (F := F) X) v66 (v333 (F := F) X) (v348 (F := F) X) (v349 (F := F) X) (v350 (F := F) X) (v356 (F := F) X) v358 v359)⟩,
    ⟨(Rect.unit (s := S256x1024) ![0, 256] S256x256.size inb_S256x1024_S256x256_0_256), (k0_pay54 (v63 (F := F) X) (v208 (F := F) X) (v223 (F := F) X) (v224 (F := F) X) (v225 (F := F) X) (v231 (F := F) X) v236 (v237 (F := F)))⟩,
    ⟨(Rect.unit (s := S256x1024) ![0, 0] S256x256.size inb_S256x1024_S256x256_0_0), (k0_pay27 (v63 (F := F) X) (v83 (F := F) X) (v98 (F := F) X) (v99 (F := F) X) (v114 (F := F) X))⟩]
/-- The raw query's cotangent, a pair of heads at a time. -/
def dqOut (X : Ins F) : Vec F S256x1024 .bf16 := View.canon (dqPieces (F := F) X)
def v68 : IVec S256x256 1 := k0_pay14
def v52 (X : Ins F) : FVec F S256x256 .bf16 := k0_pay8 (v21 (F := F) X) (v38 (F := F) X)
def v3 (X : Ins F) : FVec F S256x2304 .f32 := k0_pay3 (v2 (F := F) X)
def v55 (X : Ins F) : FVec F S256x256 .f32 := k0_pay9 (v3 (F := F) X)
def v138 (X : Ins F) : Vec F S1x256x256 .bf16 := View.ld X.x15 (Rect.unit (s := S4x256x256) ![0, 0, 0] S1x256x256.size inb_S4x256x256_S1x256x256_0_0_0)
def v143 (X : Ins F) : FVec F S256x256 .f32 := k0_pay30 (v52 (F := F) X) (v55 (F := F) X) v68 (v138 (F := F) X)
def v144 (X : Ins F) : Vec F S1x256 .f32 := View.ld X.x17 (Rect.unit (s := S1x256) ![0, 0] S1x256.size inb_S1x256_S1x256_0_0)
def v145 (X : Ins F) : FVec F S1x256 .f32 := k0_pay31 (v144 (F := F) X)
def v146 (X : Ins F) : Vec F S256x256 .f32 := View.ld X.x6 (Rect.unit (s := S256x1024) ![0, 0] S256x256.size inb_S256x1024_S256x256_0_0)
def v147 (X : Ins F) : FVec F S256x256 .f32 := k0_pay32 (v146 (F := F) X)
def v155 (X : Ins F) : FVec F S256x256 .f32 := k0_pay33 (v52 (F := F) X) (v55 (F := F) X) (v63 (F := F) X) v68 (v138 (F := F) X)
def v191 (X : Ins F) : Vec F S256x256 .f32 := View.ld X.x7 (Rect.unit (s := S256x1024) ![0, 0] S256x256.size inb_S256x1024_S256x256_0_0)
def v263 (X : Ins F) : Vec F S1x256x256 .bf16 := View.ld X.x15 (Rect.unit (s := S4x256x256) ![1, 0, 0] S1x256x256.size inb_S4x256x256_S1x256x256_1_0_0)
def v268 (X : Ins F) : FVec F S256x256 .f32 := k0_pay57 (v52 (F := F) X) (v55 (F := F) X) v68 (v263 (F := F) X)
def v269 (X : Ins F) : Vec F S1x256 .f32 := View.ld X.x17 (Rect.unit (s := S1x256) ![0, 0] S1x256.size inb_S1x256_S1x256_0_0)
def v270 (X : Ins F) : FVec F S1x256 .f32 := k0_pay58 (v269 (F := F) X)
def v271 (X : Ins F) : Vec F S256x256 .f32 := View.ld X.x6 (Rect.unit (s := S256x1024) ![0, 256] S256x256.size inb_S256x1024_S256x256_0_256)
def v272 (X : Ins F) : FVec F S256x256 .f32 := k0_pay59 (v271 (F := F) X)
def v274 (X : Ins F) : FVec F S256x256 .bf16 := k0_pay61 (v52 (F := F) X) (v55 (F := F) X) v68 (v263 (F := F) X)
def v277 (X : Ins F) : FVec F S256x256 .bf16 := k0_pay62 (v52 (F := F) X) (v55 (F := F) X) v68 (v263 (F := F) X)
def cst_123 : FVec F S256x256 .f32 := constant S256x256 .f32 0x00000000#32
def v316 (X : Ins F) : Vec F S256x256 .f32 := View.ld X.x7 (Rect.unit (s := S256x1024) ![0, 256] S256x256.size inb_S256x1024_S256x256_0_256)
def v388 (X : Ins F) : Vec F S1x256x256 .bf16 := View.ld X.x15 (Rect.unit (s := S4x256x256) ![2, 0, 0] S1x256x256.size inb_S4x256x256_S1x256x256_2_0_0)
def v393 (X : Ins F) : FVec F S256x256 .f32 := k0_pay85 (v52 (F := F) X) (v55 (F := F) X) v68 (v388 (F := F) X)
def v394 (X : Ins F) : Vec F S1x256 .f32 := View.ld X.x17 (Rect.unit (s := S1x256) ![0, 0] S1x256.size inb_S1x256_S1x256_0_0)
def v395 (X : Ins F) : FVec F S1x256 .f32 := k0_pay86 (v394 (F := F) X)
def v396 (X : Ins F) : Vec F S256x256 .f32 := View.ld X.x6 (Rect.unit (s := S256x1024) ![0, 512] S256x256.size inb_S256x1024_S256x256_0_512)
def v397 (X : Ins F) : FVec F S256x256 .f32 := k0_pay87 (v396 (F := F) X)
def v398 (X : Ins F) : FVec F S256x256 .f32 := k0_pay88 (v52 (F := F) X) (v55 (F := F) X) v68 (v388 (F := F) X)
def v399 (X : Ins F) : FVec F S256x256 .bf16 := k0_pay89 (v52 (F := F) X) (v55 (F := F) X) v68 (v388 (F := F) X)
def v441 (X : Ins F) : Vec F S256x256 .f32 := View.ld X.x7 (Rect.unit (s := S256x1024) ![0, 512] S256x256.size inb_S256x1024_S256x256_0_512)
def v444 (X : Ins F) : FVec F S256x256 .bf16 := k0_pay95 (v58 (F := F) X) (v61 (F := F) X) (v63 (F := F) X) v66 v68 (v393 (F := F) X) (v395 (F := F) X) (v397 (F := F) X) (v398 (F := F) X) (v399 (F := F) X) (v441 (F := F) X)
def v513 (X : Ins F) : Vec F S1x256x256 .bf16 := View.ld X.x15 (Rect.unit (s := S4x256x256) ![3, 0, 0] S1x256x256.size inb_S4x256x256_S1x256x256_3_0_0)
def v518 (X : Ins F) : FVec F S256x256 .f32 := k0_pay110 (v52 (F := F) X) (v55 (F := F) X) v68 (v513 (F := F) X)
def v519 (X : Ins F) : Vec F S1x256 .f32 := View.ld X.x17 (Rect.unit (s := S1x256) ![0, 0] S1x256.size inb_S1x256_S1x256_0_0)
def v520 (X : Ins F) : FVec F S1x256 .f32 := k0_pay111 (v519 (F := F) X)
def v521 (X : Ins F) : Vec F S256x256 .f32 := View.ld X.x6 (Rect.unit (s := S256x1024) ![0, 768] S256x256.size inb_S256x1024_S256x256_0_768)
def v565 (X : Ins F) : FVec F S256x256 .f32 := k0_pay116 (v58 (F := F) X) (v61 (F := F) X) (v63 (F := F) X) v66 (v518 (F := F) X) (v520 (F := F) X) (v521 (F := F) X)
def v566 (X : Ins F) : Vec F S256x256 .f32 := View.ld X.x7 (Rect.unit (s := S256x1024) ![0, 768] S256x256.size inb_S256x1024_S256x256_0_768)
def dkvPieces (X : Ins F) : List (View.Piece (Elt F) S256x1024 .bf16) :=
  [⟨(Rect.unit (s := S256x1024) ![0, 768] S256x256.size inb_S256x1024_S256x256_0_768), (k0_pay117 v68 (v565 (F := F) X) (v566 (F := F) X))⟩,
    ⟨(Rect.unit (s := S256x1024) ![0, 512] S256x256.size inb_S256x1024_S256x256_0_512), (v444 (F := F) X)⟩,
    ⟨(Rect.unit (s := S256x1024) ![0, 256] S256x256.size inb_S256x1024_S256x256_0_256), (k0_pay68 (v58 (F := F) X) (v61 (F := F) X) (v63 (F := F) X) v66 v68 (v268 (F := F) X) (v270 (F := F) X) (v272 (F := F) X) (v274 (F := F) X) (v277 (F := F) X) (cst_123 (F := F)) (v316 (F := F) X))⟩,
    ⟨(Rect.unit (s := S256x1024) ![0, 0] S256x256.size inb_S256x1024_S256x256_0_0), (k0_pay39 (v58 (F := F) X) (v61 (F := F) X) (v63 (F := F) X) v66 v68 (v143 (F := F) X) (v145 (F := F) X) (v147 (F := F) X) (v155 (F := F) X) (v191 (F := F) X))⟩]
/-- The raw key's and value's. -/
def dkvOut (X : Ins F) : Vec F S256x1024 .bf16 := View.canon (dkvPieces (F := F) X)
def v20 (X : Ins F) : FVec F S256x384 .f32 := k0_pay5 (v2 (F := F) X)
def v77 : FVec F S256x384 .f32 := k0_pay19 (F := F)
def v133 (X : Ins F) : Vec F S1x384x256 .bf16 := View.ld X.x13 (Rect.unit (s := S4x384x256) ![0, 0, 0] S1x384x256.size inb_S4x384x256_S1x384x256_0_0_0)
def v136 (X : Ins F) : FVec F S256x384 .f32 := k0_pay28 (v63 (F := F) X) (v77 (F := F)) (v83 (F := F) X) (v98 (F := F) X) (v99 (F := F) X) (v114 (F := F) X) (v133 (F := F) X)
def v258 (X : Ins F) : Vec F S1x384x256 .bf16 := View.ld X.x13 (Rect.unit (s := S4x384x256) ![1, 0, 0] S1x384x256.size inb_S4x384x256_S1x384x256_1_0_0)
def v261 (X : Ins F) : FVec F S256x384 .f32 := k0_pay55 (v63 (F := F) X) (v136 (F := F) X) (v208 (F := F) X) (v223 (F := F) X) (v224 (F := F) X) (v225 (F := F) X) (v231 (F := F) X) v236 (v237 (F := F)) (v258 (F := F) X)
def v383 (X : Ins F) : Vec F S1x384x256 .bf16 := View.ld X.x13 (Rect.unit (s := S4x384x256) ![2, 0, 0] S1x384x256.size inb_S4x384x256_S1x384x256_2_0_0)
def v386 (X : Ins F) : FVec F S256x384 .f32 := k0_pay83 (v63 (F := F) X) v66 (v261 (F := F) X) (v333 (F := F) X) (v348 (F := F) X) (v349 (F := F) X) (v350 (F := F) X) (v356 (F := F) X) v358 v359 (v383 (F := F) X)
def v508 (X : Ins F) : Vec F S1x384x256 .bf16 := View.ld X.x13 (Rect.unit (s := S4x384x256) ![3, 0, 0] S1x384x256.size inb_S4x384x256_S1x384x256_3_0_0)
def v511 (X : Ins F) : FVec F S256x384 .f32 := k0_pay108 (v63 (F := F) X) v66 (v386 (F := F) X) (v458 (F := F) X) (v473 (F := F) X) (v474 (F := F) X) (v475 (F := F) X) (v481 (F := F) X) c64_i32_212 (v508 (F := F) X)
def v600 (X : Ins F) : Vec F S1x384 .f32 := View.ld X.x12 (Rect.unit (s := S1x384) ![0, 0] S1x384.size inb_S1x384_S1x384_0_0)
def v601 (X : Ins F) : FVec F S1x384 .f32 := k0_pay124 (v600 (F := F) X)
def v602 (X : Ins F) : FVec F S256x384 .f32 := k0_pay125 (v20 (F := F) X)
def v626 (X : Ins F) : FVec F S256x384 .f32 := k0_pay128 (v20 (F := F) X) (v511 (F := F) X) (v601 (F := F) X) (v602 (F := F) X)
def v78 : FVec F S256x256 .f32 := k0_pay20 (F := F)
def v194 (X : Ins F) : FVec F S256x256 .bf16 := k0_pay39 (v58 (F := F) X) (v61 (F := F) X) (v63 (F := F) X) v66 v68 (v143 (F := F) X) (v145 (F := F) X) (v147 (F := F) X) (v155 (F := F) X) (v191 (F := F) X)
def v196 (X : Ins F) : Vec F S1x256x256 .bf16 := View.ld X.x15 (Rect.unit (s := S4x256x256) ![0, 0, 0] S1x256x256.size inb_S4x256x256_S1x256x256_0_0_0)
def v197 (X : Ins F) : FVec F S256x256 .bf16 := k0_pay40 (v196 (F := F) X)
def v199 (X : Ins F) : FVec F S256x256 .f32 := k0_pay41 (v78 (F := F)) (v194 (F := F) X) (v197 (F := F) X)
def v319 (X : Ins F) : FVec F S256x256 .bf16 := k0_pay68 (v58 (F := F) X) (v61 (F := F) X) (v63 (F := F) X) v66 v68 (v268 (F := F) X) (v270 (F := F) X) (v272 (F := F) X) (v274 (F := F) X) (v277 (F := F) X) (cst_123 (F := F)) (v316 (F := F) X)
def v321 (X : Ins F) : Vec F S1x256x256 .bf16 := View.ld X.x15 (Rect.unit (s := S4x256x256) ![1, 0, 0] S1x256x256.size inb_S4x256x256_S1x256x256_1_0_0)
def v324 (X : Ins F) : FVec F S256x256 .f32 := k0_pay69 (v199 (F := F) X) (v319 (F := F) X) (v321 (F := F) X)
def v446 (X : Ins F) : Vec F S1x256x256 .bf16 := View.ld X.x15 (Rect.unit (s := S4x256x256) ![2, 0, 0] S1x256x256.size inb_S4x256x256_S1x256x256_2_0_0)
def v449 (X : Ins F) : FVec F S256x256 .f32 := k0_pay96 (v324 (F := F) X) (v444 (F := F) X) (v446 (F := F) X)
def v571 (X : Ins F) : Vec F S1x256x256 .bf16 := View.ld X.x15 (Rect.unit (s := S4x256x256) ![3, 0, 0] S1x256x256.size inb_S4x256x256_S1x256x256_3_0_0)
def v574 (X : Ins F) : FVec F S256x256 .f32 := k0_pay118 v68 (v449 (F := F) X) (v565 (F := F) X) (v566 (F := F) X) (v571 (F := F) X)
def v633 (X : Ins F) : Vec F S1x256 .f32 := View.ld X.x14 (Rect.unit (s := S1x256) ![0, 0] S1x256.size inb_S1x256_S1x256_0_0)
def v634 (X : Ins F) : FVec F S1x256 .f32 := k0_pay131 (v633 (F := F) X)
def v642 (X : Ins F) : FVec F S256x1 .f32 := k0_pay132 (v21 (F := F) X)
def v644 (X : Ins F) : FVec F S256x256 .f32 := k0_pay133 (v21 (F := F) X)
def v659 (X : Ins F) : FVec F S256x256 .f32 := k0_pay134 (v574 (F := F) X) (v634 (F := F) X) (v642 (F := F) X) (v644 (F := F) X)
def v670 (X : Ins F) : Vec F S256x512 .f32 := View.ld X.x8 (Rect.unit (s := S256x512) ![0, 0] S256x512.size inb_S256x512_S256x512_0_0)
def v669 (X : Ins F) : FVec F S256x512 .f32 := k0_pay139 (v3 (F := F) X)
def v701 (X : Ins F) : Vec F S8x512 .f32 := View.ld X.x18 (Rect.unit (s := S8x512) ![0, 0] S8x512.size inb_S8x512_S8x512_0_0)
def arg0 (i : grid0.Coords) : BitVec 32 := BitVec.ofNat 32 (i 0).val
def v0 (i : grid0.Coords) : BitVec 1 := Scalar.cmpi .eq (arg0 i) 0#32
def v672 (X : Ins F) : Vec F S8x2304 .f32 := View.ld X.x2 (Rect.unit (s := S8x2304) ![0, 0] S8x2304.size inb_S8x2304_S8x2304_0_0)
def v684 (i : grid0.Coords) (X : Ins F) : FVec F S8x512 .f32 := k0_pay142 (v0 i) (v672 (F := F) X)
def uPieces (i : grid0.Coords) (X : Ins F) : List (View.Piece (Elt F) S264x512 .f32) :=
  [⟨(Rect.unit (s := S264x512) ![8, 0] S256x512.size inb_S264x512_S256x512_8_0), (k0_pay143 (v669 (F := F) X))⟩,
    ⟨(Rect.unit (s := S264x512) ![0, 0] S8x512.size inb_S264x512_S8x512_0_0), (v684 (F := F) i X)⟩]
def v703 (W : Shifted F) : Vec F S256x512 .f32 := W.l703
def v704 (W : Shifted F) : Vec F S256x512 .f32 := W.l704
def v715 (X : Ins F) (W : Shifted F) : FVec F S256x512 .f32 := k0_pay147 (v669 (F := F) X) (v701 (F := F) X) (v703 (F := F) W) (v704 (F := F) W)
def v668 (X : Ins F) : FVec F S256x512 .f32 := k0_pay138 (v3 (F := F) X)
def v702 (X : Ins F) : FVec F S8x512 .f32 := k0_pay146 (v701 (F := F) X)
def v671 (X : Ins F) : FVec F S256x512 .f32 := k0_pay140 (v3 (F := F) X) (v670 (F := F) X)
def v718 (X : Ins F) : FVec F S256x512 .f32 := k0_pay148 (v671 (F := F) X) (v701 (F := F) X)
def v674 (X : Ins F) : Vec F S8x2304 .f32 := View.ld X.x3 (Rect.unit (s := S8x2304) ![0, 0] S8x2304.size inb_S8x2304_S8x2304_0_0)
def v675 (X : Ins F) : FVec F S8x2304 .f32 := k0_pay141 (v674 (F := F) X)
def v691 (X : Ins F) : Vec F S8x512 .f32 := View.ld X.x9 (Rect.unit (s := S8x512) ![0, 0] S8x512.size inb_S8x512_S8x512_0_0)
def dyPieces (i : grid0.Coords) (X : Ins F) : List (View.Piece (Elt F) S264x512 .f32) :=
  [⟨(Rect.unit (s := S264x512) ![256, 0] S8x512.size inb_S264x512_S8x512_256_0), (k0_pay145 (arg0 i) (v675 (F := F) X) (v691 (F := F) X))⟩,
    ⟨(Rect.unit (s := S264x512) ![0, 0] S256x512.size inb_S264x512_S256x512_0_0), (k0_pay144 (v671 (F := F) X))⟩]
def v720 (W : Shifted F) : Vec F S256x512 .f32 := W.l720
def v721 (X : Ins F) : FVec F S256x512 .f32 := k0_pay149 (v701 (F := F) X)
def v725 (W : Shifted F) : Vec F S256x512 .f32 := W.l725
def v667 (X : Ins F) : FVec F S256x512 .f32 := k0_pay137 (v3 (F := F) X)
def v756 (X : Ins F) (W : Shifted F) : FVec F S256x512 .f32 := (k0_pay157 (v667 (F := F) X) (v702 (F := F) X) (v718 (F := F) X) (v720 (F := F) W) (v721 (F := F) X) (v725 (F := F) W))
def v73 : IVec S256x256 1 := k0_pay15
def v74 : FVec F S256x256 .f32 := k0_pay16 (F := F)
def v190 (X : Ins F) : FVec F S256x256 .f32 := k0_pay38 (v58 (F := F) X) (v61 (F := F) X) (v63 (F := F) X) v66 (v143 (F := F) X) (v145 (F := F) X) (v147 (F := F) X) (v155 (F := F) X)
def v202 (X : Ins F) : FVec F S256x256 .f32 := k0_pay42 v73 (v74 (F := F)) (v190 (F := F) X)
def v315 (X : Ins F) : FVec F S256x256 .f32 := k0_pay67 (v58 (F := F) X) (v61 (F := F) X) (v63 (F := F) X) v66 (v268 (F := F) X) (v270 (F := F) X) (v272 (F := F) X) (v274 (F := F) X) (v277 (F := F) X) (cst_123 (F := F))
def v327 (X : Ins F) : FVec F S256x256 .f32 := k0_pay70 v73 (v202 (F := F) X) (v315 (F := F) X)
def v440 (X : Ins F) : FVec F S256x256 .f32 := k0_pay94 (v58 (F := F) X) (v61 (F := F) X) (v63 (F := F) X) v66 (v393 (F := F) X) (v395 (F := F) X) (v397 (F := F) X) (v398 (F := F) X) (v399 (F := F) X)
def v452 (X : Ins F) : FVec F S256x256 .f32 := k0_pay97 v73 (v327 (F := F) X) (v440 (F := F) X)
def v581 (X : Ins F) : FVec F S256x128 .f32 := k0_pay119 v73 (v452 (F := F) X) (v565 (F := F) X)
def dzPieces (X : Ins F) (W : Shifted F) : List (View.Piece (Elt F) S256x2304 .bf16) :=
  [⟨(Rect.unit (s := S256x2304) ![0, 2176] S256x128.size inb_S256x2304_S256x128_0_2176), (k0_pay159 (v581 (F := F) X))⟩,
    ⟨(Rect.unit (s := S256x2304) ![0, 1664] S256x512.size inb_S256x2304_S256x512_0_1664), (k0_pay158 (v756 (F := F) X W))⟩,
    ⟨(Rect.unit (s := S256x2304) ![0, 1152] S256x512.size inb_S256x2304_S256x512_0_1152), (k0_pay156 (v668 (F := F) X) (v702 (F := F) X) (v718 (F := F) X) (v720 (F := F) W) (v721 (F := F) X) (v725 (F := F) W))⟩,
    ⟨(Rect.unit (s := S256x2304) ![0, 640] S256x512.size inb_S256x2304_S256x512_0_640), (k0_pay155 (v670 (F := F) X) (v715 (F := F) X W))⟩,
    ⟨(Rect.unit (s := S256x2304) ![0, 384] S256x256.size inb_S256x2304_S256x256_0_384), (k0_pay154 (v659 (F := F) X))⟩,
    ⟨(Rect.unit (s := S256x2304) ![0, 0] S256x384.size inb_S256x2304_S256x384_0_0), (k0_pay153 (v626 (F := F) X))⟩]
/-- The shifted rows as the body loads them from its two scratch buffers. -/
def shifted (i : grid0.Coords) (X : Ins F) : Shifted F where
  l703 := fun j => View.canon (uPieces (F := F) i X) ((Rect.unit (s := S264x512) ![7, 0] S256x512.size inb_S264x512_S256x512_7_0).toLoadRect.idx j)
  l704 := fun j => View.canon (uPieces (F := F) i X) ((Rect.unit (s := S264x512) ![6, 0] S256x512.size inb_S264x512_S256x512_6_0).toLoadRect.idx j)
  l720 := fun j => View.canon (dyPieces (F := F) i X) ((Rect.unit (s := S264x512) ![1, 0] S256x512.size inb_S264x512_S256x512_1_0).toLoadRect.idx j)
  l725 := fun j => View.canon (dyPieces (F := F) i X) ((Rect.unit (s := S264x512) ![2, 0] S256x512.size inb_S264x512_S256x512_2_0).toLoadRect.idx j)
/-- The projected input's, in six groups of columns. -/
def dzOut (i : grid0.Coords) (X : Ins F) : Vec F S256x2304 .bf16 := View.canon (dzPieces (F := F) X (shifted i X))
def v761 (X : Ins F) : Vec F S1x1024 .f32 := View.ld X.x10 (Rect.unit (s := S1x1024) ![0, 0] S1x1024.size inb_S1x1024_S1x1024_0_0)
def v763 (Z : Vec F S256x2304 .bf16) : Vec F S256x2304 .bf16 := Z
def v765 (X : Ins F) : Vec F S1024x2304 .bf16 := View.ld X.x11 (Rect.unit (s := S1024x2304) ![0, 0] S1024x2304.size inb_S1024x2304_S1024x2304_0_0)
def v793 (X : Ins F) : Vec F S256x1024 .f32 := View.ld X.x4 (Rect.unit (s := S256x1024) ![0, 0] S256x1024.size inb_S256x1024_S256x1024_0_0)
def v794 (X : Ins F) (Z : Vec F S256x2304 .bf16) : FVec F S256x1024 .f32 := k0_pay164 (v1 (F := F) X) (v761 (F := F) X) (v763 (F := F) Z) (v765 (F := F) X) (v793 (F := F) X)
/-- The projected input's cotangent, loaded whole. -/
def dzRows (X : Ins F) (W : Shifted F) : Vec F S256x2304 .bf16 := fun j => View.canon (dzPieces (F := F) X W) ((Rect.unit (s := S256x2304) ![0, 0] S256x2304.size inb_S256x2304_S256x2304_0_0).toLoadRect.idx j)
/-- The input's. -/
def dxOut (i : grid0.Coords) (X : Ins F) : Vec F S256x1024 .f32 := v794 X (dzRows X (shifted i X))
def v780 (X : Ins F) (Z : Vec F S256x2304 .bf16) : FVec F S1x1024 .f32 := k0_pay163 (v1 (F := F) X) (v763 (F := F) Z) (v765 (F := F) X)
def gmixStep (X : Ins F) (Z : Vec F S256x2304 .bf16) (s : Vec F S1x1024 .f32) : Vec F S1x1024 .f32 := (k0_pay2 (v780 (F := F) X Z) s)
/-- What is left of `a`: at the first point the sum starts from zero. -/
def gmixOut (i : grid0.Coords) (X : Ins F) (a : Vec F S1x1024 .f32) : Vec F S1x1024 .f32 :=
  gmixStep X (dzRows X (shifted i X)) (if cond0_0 i then (k0_pay1 (F := F)) else View.ld a (Rect.unit (s := S1x1024) ![0, 0] S1x1024.size inb_S1x1024_S1x1024_0_0))
def gqStep (X : Ins F) (s : Vec F S1x384 .f32) : Vec F S1x384 .f32 := (k0_pay130 (v20 (F := F) X) (v511 (F := F) X) (v602 (F := F) X) s)
/-- What is left of `a`: at the first point the sum starts from zero. -/
def gqOut (i : grid0.Coords) (X : Ins F) (a : Vec F S1x384 .f32) : Vec F S1x384 .f32 :=
  gqStep X (if cond0_0 i then (k0_pay129 (F := F)) else View.ld a (Rect.unit (s := S1x384) ![0, 0] S1x384.size inb_S1x384_S1x384_0_0))
def gkvStep (X : Ins F) (s : Vec F S1x256 .f32) : Vec F S1x256 .f32 := (k0_pay136 (v574 (F := F) X) (v644 (F := F) X) s)
/-- What is left of `a`: at the first point the sum starts from zero. -/
def gkvOut (i : grid0.Coords) (X : Ins F) (a : Vec F S1x256 .f32) : Vec F S1x256 .f32 :=
  gkvStep X (if cond0_0 i then (k0_pay135 (F := F)) else View.ld a (Rect.unit (s := S1x256) ![0, 0] S1x256.size inb_S1x256_S1x256_0_0))
def v75 : FVec F S1x256 .f32 := k0_pay17 (F := F)
def v115 (X : Ins F) : FVec F S256x256 .f32 := k0_pay26 (v36 (F := F) X) (v58 (F := F) X) (v61 (F := F) X) (v63 (F := F) X) v66 (v79 (F := F) X) (v84 (F := F) X)
def v137 (X : Ins F) : FVec F S1x256 .f32 := k0_pay29 (v75 (F := F)) (v115 (F := F) X)
def v262 (X : Ins F) : FVec F S1x256 .f32 := k0_pay56 (v137 (F := F) X) (v224 (F := F) X) (v225 (F := F) X) (v231 (F := F) X) v236 (v237 (F := F))
def v387 (X : Ins F) : FVec F S1x256 .f32 := k0_pay84 v66 (v262 (F := F) X) (v349 (F := F) X) (v350 (F := F) X) (v356 (F := F) X) v358 v359
def v512 (X : Ins F) : FVec F S1x256 .f32 := k0_pay109 v66 (v387 (F := F) X) (v474 (F := F) X) (v475 (F := F) X) (v481 (F := F) X) c64_i32_212
def gqnStep (X : Ins F) (s : Vec F S1x128 .f32) : Vec F S1x128 .f32 := (k0_pay121 (v512 (F := F) X) s)
/-- What is left of `a`: at the first point the sum starts from zero. -/
def gqnOut (i : grid0.Coords) (X : Ins F) (a : Vec F S1x128 .f32) : Vec F S1x128 .f32 :=
  gqnStep X (if cond0_0 i then (k0_pay120 (F := F)) else View.ld a (Rect.unit (s := S1x128) ![0, 0] S1x128.size inb_S1x128_S1x128_0_0))
def v76 : FVec F S1x256 .f32 := k0_pay18 (F := F)
def v177 (X : Ins F) : FVec F S1x256 .f32 := k0_pay37 (v58 (F := F) X) (v61 (F := F) X) v66 (v143 (F := F) X) (v147 (F := F) X) (v155 (F := F) X)
def v203 (X : Ins F) : FVec F S1x256 .f32 := k0_pay43 (v76 (F := F)) (v177 (F := F) X)
def v302 (X : Ins F) : FVec F S1x256 .f32 := k0_pay66 (v58 (F := F) X) (v61 (F := F) X) (v63 (F := F) X) v66 (v268 (F := F) X) (v272 (F := F) X) (v274 (F := F) X) (v277 (F := F) X) (cst_123 (F := F))
def v328 (X : Ins F) : FVec F S1x256 .f32 := k0_pay71 (v203 (F := F) X) (v302 (F := F) X)
def v427 (X : Ins F) : FVec F S1x256 .f32 := k0_pay93 (v58 (F := F) X) (v61 (F := F) X) (v63 (F := F) X) v66 (v393 (F := F) X) (v397 (F := F) X) (v398 (F := F) X) (v399 (F := F) X)
def v453 (X : Ins F) : FVec F S1x256 .f32 := k0_pay98 (v328 (F := F) X) (v427 (F := F) X)
def v552 (X : Ins F) : FVec F S1x256 .f32 := k0_pay115 (v58 (F := F) X) (v61 (F := F) X) (v63 (F := F) X) v66 (v518 (F := F) X) (v521 (F := F) X)
def gknStep (X : Ins F) (s : Vec F S1x128 .f32) : Vec F S1x128 .f32 := (k0_pay123 (v453 (F := F) X) (v552 (F := F) X) s)
/-- What is left of `a`: at the first point the sum starts from zero. -/
def gknOut (i : grid0.Coords) (X : Ins F) (a : Vec F S1x128 .f32) : Vec F S1x128 .f32 :=
  gknStep X (if cond0_0 i then (k0_pay122 (F := F)) else View.ld a (Rect.unit (s := S1x128) ![0, 0] S1x128.size inb_S1x128_S1x128_0_0))
def convStep (X : Ins F) (W : Shifted F) (s : Vec F S8x512 .f32) : Vec F S8x512 .f32 := (k0_pay152 (v669 (F := F) X) (v671 (F := F) X) (v703 (F := F) W) (v704 (F := F) W) s)
/-- What is left of `a`: at the first point the sum starts from zero. -/
def convOut (i : grid0.Coords) (X : Ins F) (a : Vec F S8x512 .f32) : Vec F S8x512 .f32 :=
  convStep X (shifted i X) (if cond0_0 i then (k0_pay151 (F := F)) else View.ld a (Rect.unit (s := S8x512) ![0, 0] S8x512.size inb_S8x512_S8x512_0_0))

end Cert.FrontOut

end
-- ==== Proof.FrontRun.lean ====
module

public import proofs.«01_k».proof.Proof.FrontOut
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.FrontRun

open Cert.FrontBwdIdeal Cert.FrontBwdIdeal.Gen Cert.FrontOut
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem dq_cover (X : Ins F) : ∀ y, ∃ p ∈ dqPieces X, y ∈ p.1.set := View.cover_of_tiledBy _ ![256, 256] (by sl_kernel_rfl)
theorem dkv_cover (X : Ins F) : ∀ y, ∃ p ∈ dkvPieces X, y ∈ p.1.set := View.cover_of_tiledBy _ ![256, 256] (by sl_kernel_rfl)
theorem dz_cover (X : Ins F) (W : Shifted F) : ∀ y, ∃ p ∈ dzPieces X W, y ∈ p.1.set := View.cover_of_tiledBy _ ![256, 128] (by sl_kernel_rfl)

/-- The shifted rows as loads from the two scratch buffers. -/
def loadedRows (v w : View sig .tc .vmem S264x512 .f32) (i : grid0.Coords) (X : Ins F) : Shifted F := ⟨v.readCov (uPieces i X) (Rect.unit (s := S264x512) ![7, 0] S256x512.size inb_S264x512_S256x512_7_0).toLoadRect, v.readCov (uPieces i X) (Rect.unit (s := S264x512) ![6, 0] S256x512.size inb_S264x512_S256x512_6_0).toLoadRect, w.readCov (dyPieces i X) (Rect.unit (s := S264x512) ![1, 0] S256x512.size inb_S264x512_S256x512_1_0).toLoadRect, w.readCov (dyPieces i X) (Rect.unit (s := S264x512) ![2, 0] S256x512.size inb_S264x512_S256x512_2_0).toLoadRect⟩

theorem loadedRows_eq (v w : View sig .tc .vmem S264x512 .f32) (i : grid0.Coords) (X : Ins F) : loadedRows v w i X = shifted i X := by
  unfold loadedRows shifted; rw [View.readCov_eq_canon' v, View.readCov_eq_canon' v, View.readCov_eq_canon' w, View.readCov_eq_canon' w]; rfl

/-- The projected input's cotangent as a load of what was stored. -/
def loadedDz (v : View sig .tc .vmem S256x2304 .bf16) (X : Ins F) (W : Shifted F) : Vec F S256x2304 .bf16 := v.readCov (dzPieces X W) (Rect.unit (s := S256x2304) ![0, 0] S256x2304.size inb_S256x2304_S256x2304_0_0).toLoadRect

theorem loadedDz_eq (v : View sig .tc .vmem S256x2304 .bf16) (X : Ins F) (W : Shifted F) : loadedDz v X W = dzRows X W := by
  unfold loadedDz dzRows; exact View.readCov_eq_canon' _ _ _

/-- The input blocks of a grid point, each held by its buffer. -/
def holds (c : Dev nD) (arg1 : Memref sig .tc .vmem S256x1024 .f32) (arg2 : Memref sig .tc .vmem S256x2304 .f32) (arg3 : Memref sig .tc .vmem S8x2304 .f32) (arg4 : Memref sig .tc .vmem S8x2304 .f32) (arg5 : Memref sig .tc .vmem S256x1024 .f32) (arg6 : Memref sig .tc .vmem S256x1024 .f32) (arg7 : Memref sig .tc .vmem S256x1024 .f32) (arg8 : Memref sig .tc .vmem S256x1024 .f32) (arg9 : Memref sig .tc .vmem S256x512 .f32) (arg10 : Memref sig .tc .vmem S8x512 .f32) (arg11 : Memref sig .tc .vmem S1x1024 .f32) (arg12 : Memref sig .tc .vmem S1024x2304 .bf16) (arg13 : Memref sig .tc .vmem S1x384 .f32) (arg14 : Memref sig .tc .vmem S4x384x256 .bf16) (arg15 : Memref sig .tc .vmem S1x256 .f32) (arg16 : Memref sig .tc .vmem S4x256x256 .bf16) (arg17 : Memref sig .tc .vmem S1x256 .f32) (arg18 : Memref sig .tc .vmem S1x256 .f32) (arg19 : Memref sig .tc .vmem S8x512 .f32) (arg20 : Memref sig .tc .vmem S256x256 .bf16) (arg21 : Memref sig .tc .vmem S256x128 .f32) (arg22 : Memref sig .tc .vmem S256x128 .f32) (X : Ins F) : sProp 𝕄 :=
  iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.x10 ∗ owns (c : Thread nD τ) arg12 fullShare X.x11 ∗ owns (c : Thread nD τ) arg13 fullShare X.x12 ∗ owns (c : Thread nD τ) arg14 fullShare X.x13 ∗ owns (c : Thread nD τ) arg15 fullShare X.x14 ∗ owns (c : Thread nD τ) arg16 fullShare X.x15 ∗ owns (c : Thread nD τ) arg17 fullShare X.x16 ∗ owns (c : Thread nD τ) arg18 fullShare X.x17 ∗ owns (c : Thread nD τ) arg19 fullShare X.x18 ∗ owns (c : Thread nD τ) arg20 fullShare X.x19 ∗ owns (c : Thread nD τ) arg21 fullShare X.x20 ∗ owns (c : Thread nD τ) arg22 fullShare X.x21)

set_option maxHeartbeats 8000000 in
/-- A grid point leaves its inputs, and its outputs at what they are computed to be. -/
theorem run (c : Dev nD) (i : grid0.Coords) (arg1 : Memref sig .tc .vmem S256x1024 .f32) (harg1 : arg1.IsWhole) (arg2 : Memref sig .tc .vmem S256x2304 .f32) (harg2 : arg2.IsWhole) (arg3 : Memref sig .tc .vmem S8x2304 .f32) (harg3 : arg3.IsWhole) (arg4 : Memref sig .tc .vmem S8x2304 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x512 .f32) (harg9 : arg9.IsWhole) (arg10 : Memref sig .tc .vmem S8x512 .f32) (harg10 : arg10.IsWhole) (arg11 : Memref sig .tc .vmem S1x1024 .f32) (harg11 : arg11.IsWhole) (arg12 : Memref sig .tc .vmem S1024x2304 .bf16) (harg12 : arg12.IsWhole) (arg13 : Memref sig .tc .vmem S1x384 .f32) (harg13 : arg13.IsWhole) (arg14 : Memref sig .tc .vmem S4x384x256 .bf16) (harg14 : arg14.IsWhole) (arg15 : Memref sig .tc .vmem S1x256 .f32) (harg15 : arg15.IsWhole) (arg16 : Memref sig .tc .vmem S4x256x256 .bf16) (harg16 : arg16.IsWhole) (arg17 : Memref sig .tc .vmem S1x256 .f32) (harg17 : arg17.IsWhole) (arg18 : Memref sig .tc .vmem S1x256 .f32) (harg18 : arg18.IsWhole) (arg19 : Memref sig .tc .vmem S8x512 .f32) (harg19 : arg19.IsWhole) (arg20 : Memref sig .tc .vmem S256x256 .bf16) (harg20 : arg20.IsWhole) (arg21 : Memref sig .tc .vmem S256x128 .f32) (harg21 : arg21.IsWhole) (arg22 : Memref sig .tc .vmem S256x128 .f32) (harg22 : arg22.IsWhole) (arg23 : Memref sig .tc .vmem S256x1024 .f32) (harg23 : arg23.IsWhole) (arg24 : Memref sig .tc .vmem S256x2304 .bf16) (harg24 : arg24.IsWhole) (arg25 : Memref sig .tc .vmem S256x1024 .bf16) (harg25 : arg25.IsWhole) (arg26 : Memref sig .tc .vmem S256x384 .bf16) (harg26 : arg26.IsWhole) (arg27 : Memref sig .tc .vmem S256x256 .bf16) (harg27 : arg27.IsWhole) (arg28 : Memref sig .tc .vmem S256x1024 .bf16) (harg28 : arg28.IsWhole) (arg29 : Memref sig .tc .vmem S256x1024 .bf16) (harg29 : arg29.IsWhole) (arg30 : Memref sig .tc .vmem S1x1024 .f32) (harg30 : arg30.IsWhole) (arg31 : Memref sig .tc .vmem S1x384 .f32) (harg31 : arg31.IsWhole) (arg32 : Memref sig .tc .vmem S1x256 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S8x512 .f32) (harg35 : arg35.IsWhole) (arg36 : Memref sig .tc .vmem S264x512 .f32) (harg36 : arg36.IsWhole) (arg37 : Memref sig .tc .vmem S264x512 .f32) (harg37 : arg37.IsWhole)
    (X : Ins F) (a29 : Vec F S1x1024 .f32) (a30 : Vec F S1x384 .f32) (a31 : Vec F S1x256 .f32) (a32 : Vec F S1x128 .f32) (a33 : Vec F S1x128 .f32) (a34 : Vec F S8x512 .f32) :
      ∀ (E : Set ℕ) (K : PUnit → sProp 𝕄),
        iprop(holds c arg1 arg2 arg3 arg4 arg5 arg6 arg7 arg8 arg9 arg10 arg11 arg12 arg13 arg14 arg15 arg16 arg17 arg18 arg19 arg20 arg21 arg22 X
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ (∃ d, owns (c : Thread nD τ) arg27 fullShare d)
          ∗ (∃ d, owns (c : Thread nD τ) arg28 fullShare d)
          ∗ (∃ d, owns (c : Thread nD τ) arg29 fullShare d)
          ∗ owns (c : Thread nD τ) arg30 fullShare a29
          ∗ owns (c : Thread nD τ) arg31 fullShare a30
          ∗ owns (c : Thread nD τ) arg32 fullShare a31
          ∗ owns (c : Thread nD τ) arg33 fullShare a32
          ∗ owns (c : Thread nD τ) arg34 fullShare a33
          ∗ owns (c : Thread nD τ) arg35 fullShare a34
          ∗ (∃ d, owns (c : Thread nD τ) arg36 fullShare d)
          ∗ (∃ d, owns (c : Thread nD τ) arg37 fullShare d)
          ∗ (iprop(holds c arg1 arg2 arg3 arg4 arg5 arg6 arg7 arg8 arg9 arg10 arg11 arg12 arg13 arg14 arg15 arg16 arg17 arg18 arg19 arg20 arg21 arg22 X
              ∗ owns (c : Thread nD τ) arg23 fullShare (dxOut i X)
              ∗ owns (c : Thread nD τ) arg24 fullShare (dzOut i X)
              ∗ owns (c : Thread nD τ) arg25 fullShare (hOut X)
              ∗ owns (c : Thread nD τ) arg26 fullShare (qnOut X)
              ∗ owns (c : Thread nD τ) arg27 fullShare (kvnOut X)
              ∗ owns (c : Thread nD τ) arg28 fullShare (dqOut X)
              ∗ owns (c : Thread nD τ) arg29 fullShare (dkvOut X)
              ∗ owns (c : Thread nD τ) arg30 fullShare (gmixOut i X a29)
              ∗ owns (c : Thread nD τ) arg31 fullShare (gqOut i X a30)
              ∗ owns (c : Thread nD τ) arg32 fullShare (gkvOut i X a31)
              ∗ owns (c : Thread nD τ) arg33 fullShare (gqnOut i X a32)
              ∗ owns (c : Thread nD τ) arg34 fullShare (gknOut i X a33)
              ∗ owns (c : Thread nD τ) arg35 fullShare (convOut i X a34)
              ∗ (∃ d, owns (c : Thread nD τ) arg36 fullShare d)
              ∗ (∃ d, owns (c : Thread nD τ) arg37 fullShare d)) -∗ K ⟨⟩))
          ⊢ wp frame (wpE (defs₀ (F := F)) Variants.none c none) E (cc0_front_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K := by
    intro E K
    obtain ⟨x0, x1, x2, x3, x4, x5, x6, x7, x8, x9, x10, x11, x12, x13, x14, x15, x16, x17, x18, x19, x20, x21⟩ := X
    simp only [cc0_front_bwd_eq_skeleton]; unfold cc0_front_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold holds owns
    dsimp only
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%ds0, %fs0, -, HS0⟩, ⟨%ds1, %fs1, -, HS1⟩, Hk⟩
    subst hf0 hf1 hf2 hf3 hf4 hf5 hf6 hf7 hf8 hf9 hf10 hf11 hf12 hf13 hf14 hf15 hf16 hf17 hf18 hf19 hf20 hf21 hf29 hf30 hf31 hf32 hf33 hf34
    by_cases hc0 : cond0_0 i
    all_goals
      sl_exec (disch := first | sl_exact hc0)
      sl_step
      iapply Hk
      isplitl [H0 H1 H2 H3 H4 H5 H6 H7 H8 H9 H10 H11 H12 H13 H14 H15 H16 H17 H18 H19 H20 H21]
      · isplitl [H0]
        · iexists f0; isplitr; · ipureintro; rfl
          iexact H0
        isplitl [H1]
        · iexists f1; isplitr; · ipureintro; rfl
          iexact H1
        isplitl [H2]
        · iexists f2; isplitr; · ipureintro; rfl
          iexact H2
        isplitl [H3]
        · iexists f3; isplitr; · ipureintro; rfl
          iexact H3
        isplitl [H4]
        · iexists f4; isplitr; · ipureintro; rfl
          iexact H4
        isplitl [H5]
        · iexists f5; isplitr; · ipureintro; rfl
          iexact H5
        isplitl [H6]
        · iexists f6; isplitr; · ipureintro; rfl
          iexact H6
        isplitl [H7]
        · iexists f7; isplitr; · ipureintro; rfl
          iexact H7
        isplitl [H8]
        · iexists f8; isplitr; · ipureintro; rfl
          iexact H8
        isplitl [H9]
        · iexists f9; isplitr; · ipureintro; rfl
          iexact H9
        isplitl [H10]
        · iexists f10; isplitr; · ipureintro; rfl
          iexact H10
        isplitl [H11]
        · iexists f11; isplitr; · ipureintro; rfl
          iexact H11
        isplitl [H12]
        · iexists f12; isplitr; · ipureintro; rfl
          iexact H12
        isplitl [H13]
        · iexists f13; isplitr; · ipureintro; rfl
          iexact H13
        isplitl [H14]
        · iexists f14; isplitr; · ipureintro; rfl
          iexact H14
        isplitl [H15]
        · iexists f15; isplitr; · ipureintro; rfl
          iexact H15
        isplitl [H16]
        · iexists f16; isplitr; · ipureintro; rfl
          iexact H16
        isplitl [H17]
        · iexists f17; isplitr; · ipureintro; rfl
          iexact H17
        isplitl [H18]
        · iexists f18; isplitr; · ipureintro; rfl
          iexact H18
        isplitl [H19]
        · iexists f19; isplitr; · ipureintro; rfl
          iexact H19
        isplitl [H20]
        · iexists f20; isplitr; · ipureintro; rfl
          iexact H20
        iexists f21; isplitr; · ipureintro; rfl
        iexact H21
      isplitl [H22]
      · iexists _; isplitr; swap; · iexact H22
        ipureintro
        refine (View.read_writes_full _ _ _ _ _).trans ?_
        refine Eq.trans (b := v794 ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ (loadedDz arg24.view ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ (loadedRows arg36.view arg37.view i ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩))) (by sl_kernel_rfl) ?_
        rw [loadedDz_eq, loadedRows_eq]; rfl
      isplitl [H23]
      · iexists _; isplitr; swap; · iexact H23
        ipureintro
        refine Eq.trans (b := View.read (Elt F) arg24.view (arg24.view.writes (Elt F) f23 (dzPieces ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ (loadedRows arg36.view arg37.view i ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩)))) (by sl_kernel_rfl) ?_
        rw [loadedRows_eq]
        exact View.read_writes_eq_canon arg24.view f23 _ (dz_cover _ _)
      isplitl [H24]
      · iexists _; isplitr; swap; · iexact H24
        ipureintro
        refine (View.read_writes_full _ _ _ _ _).trans ?_
        sl_kernel_rfl
      isplitl [H25]
      · iexists _; isplitr; swap; · iexact H25
        ipureintro
        refine (View.read_writes_full _ _ _ _ _).trans ?_
        sl_kernel_rfl
      isplitl [H26]
      · iexists _; isplitr; swap; · iexact H26
        ipureintro
        refine (View.read_writes_full _ _ _ _ _).trans ?_
        sl_kernel_rfl
      isplitl [H27]
      · iexists _; isplitr; swap; · iexact H27
        ipureintro
        refine Eq.trans (b := View.read (Elt F) arg28.view (arg28.view.writes (Elt F) f27 (dqPieces ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ ))) (by sl_kernel_rfl) ?_
        exact View.read_writes_eq_canon arg28.view f27 _ (dq_cover _)
      isplitl [H28]
      · iexists _; isplitr; swap; · iexact H28
        ipureintro
        refine Eq.trans (b := View.read (Elt F) arg29.view (arg29.view.writes (Elt F) f28 (dkvPieces ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ ))) (by sl_kernel_rfl) ?_
        exact View.read_writes_eq_canon arg29.view f28 _ (dkv_cover _)
      isplitl [H29]
      · iexists _; isplitr; swap; · iexact H29
        ipureintro
        refine (View.read_writes_full _ _ _ _ _).trans ?_
        unfold gmixOut
        by_cases h : cond0_0 i
        · first
            | exact absurd h hc0
            | (rw [if_pos h]
               refine Eq.trans (b := gmixStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (loadedDz arg24.view ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ (loadedRows arg36.view arg37.view i ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩)) (arg30.view.readCov [⟨(Rect.unit (s := S1x1024) ![0, 0] S1x1024.size inb_S1x1024_S1x1024_0_0), (k0_pay1 (F := F))⟩] (Rect.unit (s := S1x1024) ![0, 0] S1x1024.size inb_S1x1024_S1x1024_0_0).toLoadRect)) (by sl_kernel_rfl) ?_
               rw [View.readCov_full]
               rw [loadedDz_eq, loadedRows_eq])
        · first
            | exact absurd hc0 h
            | (rw [if_neg h]
               refine Eq.trans (b := gmixStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (loadedDz arg24.view ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩ (loadedRows arg36.view arg37.view i ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩)) (View.ld (arg30.view.read (Elt F) f29) (Rect.unit (s := S1x1024) ![0, 0] S1x1024.size inb_S1x1024_S1x1024_0_0))) (by sl_kernel_rfl) ?_
               rw [loadedDz_eq, loadedRows_eq])
      isplitl [H30]
      · iexists _; isplitr; swap; · iexact H30
        ipureintro
        refine (View.read_writes_full _ _ _ _ _).trans ?_
        unfold gqOut
        by_cases h : cond0_0 i
        · first
            | exact absurd h hc0
            | (rw [if_pos h]
               refine Eq.trans (b := gqStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (arg31.view.readCov [⟨(Rect.unit (s := S1x384) ![0, 0] S1x384.size inb_S1x384_S1x384_0_0), (k0_pay129 (F := F))⟩] (Rect.unit (s := S1x384) ![0, 0] S1x384.size inb_S1x384_S1x384_0_0).toLoadRect)) (by sl_kernel_rfl) ?_
               rw [View.readCov_full])
        · first
            | exact absurd hc0 h
            | (rw [if_neg h]
               sl_kernel_rfl)
      isplitl [H31]
      · iexists _; isplitr; swap; · iexact H31
        ipureintro
        refine (View.read_writes_full _ _ _ _ _).trans ?_
        unfold gkvOut
        by_cases h : cond0_0 i
        · first
            | exact absurd h hc0
            | (rw [if_pos h]
               refine Eq.trans (b := gkvStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (arg32.view.readCov [⟨(Rect.unit (s := S1x256) ![0, 0] S1x256.size inb_S1x256_S1x256_0_0), (k0_pay135 (F := F))⟩] (Rect.unit (s := S1x256) ![0, 0] S1x256.size inb_S1x256_S1x256_0_0).toLoadRect)) (by sl_kernel_rfl) ?_
               rw [View.readCov_full])
        · first
            | exact absurd hc0 h
            | (rw [if_neg h]
               sl_kernel_rfl)
      isplitl [H32]
      · iexists _; isplitr; swap; · iexact H32
        ipureintro
        refine (View.read_writes_full _ _ _ _ _).trans ?_
        unfold gqnOut
        by_cases h : cond0_0 i
        · first
            | exact absurd h hc0
            | (rw [if_pos h]
               refine Eq.trans (b := gqnStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (arg33.view.readCov [⟨(Rect.unit (s := S1x128) ![0, 0] S1x128.size inb_S1x128_S1x128_0_0), (k0_pay120 (F := F))⟩] (Rect.unit (s := S1x128) ![0, 0] S1x128.size inb_S1x128_S1x128_0_0).toLoadRect)) (by sl_kernel_rfl) ?_
               rw [View.readCov_full])
        · first
            | exact absurd hc0 h
            | (rw [if_neg h]
               sl_kernel_rfl)
      isplitl [H33]
      · iexists _; isplitr; swap; · iexact H33
        ipureintro
        refine (View.read_writes_full _ _ _ _ _).trans ?_
        unfold gknOut
        by_cases h : cond0_0 i
        · first
            | exact absurd h hc0
            | (rw [if_pos h]
               refine Eq.trans (b := gknStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (arg34.view.readCov [⟨(Rect.unit (s := S1x128) ![0, 0] S1x128.size inb_S1x128_S1x128_0_0), (k0_pay122 (F := F))⟩] (Rect.unit (s := S1x128) ![0, 0] S1x128.size inb_S1x128_S1x128_0_0).toLoadRect)) (by sl_kernel_rfl) ?_
               rw [View.readCov_full])
        · first
            | exact absurd hc0 h
            | (rw [if_neg h]
               sl_kernel_rfl)
      isplitl [H34]
      · iexists _; isplitr; swap; · iexact H34
        ipureintro
        refine (View.read_writes_full _ _ _ _ _).trans ?_
        unfold convOut
        by_cases h : cond0_0 i
        · first
            | exact absurd h hc0
            | (rw [if_pos h]
               refine Eq.trans (b := convStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (loadedRows arg36.view arg37.view i ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩) (arg35.view.readCov [⟨(Rect.unit (s := S8x512) ![0, 0] S8x512.size inb_S8x512_S8x512_0_0), (k0_pay151 (F := F))⟩] (Rect.unit (s := S8x512) ![0, 0] S8x512.size inb_S8x512_S8x512_0_0).toLoadRect)) (by sl_kernel_rfl) ?_
               rw [View.readCov_full]
               rw [loadedRows_eq])
        · first
            | exact absurd hc0 h
            | (rw [if_neg h]
               refine Eq.trans (b := convStep ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩  (loadedRows arg36.view arg37.view i ⟨arg1.view.read (Elt F) f0, arg2.view.read (Elt F) f1, arg3.view.read (Elt F) f2, arg4.view.read (Elt F) f3, arg5.view.read (Elt F) f4, arg6.view.read (Elt F) f5, arg7.view.read (Elt F) f6, arg8.view.read (Elt F) f7, arg9.view.read (Elt F) f8, arg10.view.read (Elt F) f9, arg11.view.read (Elt F) f10, arg12.view.read (Elt F) f11, arg13.view.read (Elt F) f12, arg14.view.read (Elt F) f13, arg15.view.read (Elt F) f14, arg16.view.read (Elt F) f15, arg17.view.read (Elt F) f16, arg18.view.read (Elt F) f17, arg19.view.read (Elt F) f18, arg20.view.read (Elt F) f19, arg21.view.read (Elt F) f20, arg22.view.read (Elt F) f21⟩) (View.ld (arg35.view.read (Elt F) f34) (Rect.unit (s := S8x512) ![0, 0] S8x512.size inb_S8x512_S8x512_0_0))) (by sl_kernel_rfl) ?_
               rw [loadedRows_eq])
      isplitl [HS0]
      · iexists _; iexists _; isplitr; swap; · iexact HS0
        ipureintro; rfl
      iexists _; iexists _; isplitr; swap; · iexact HS1
      ipureintro; rfl

end Cert.FrontRun

end
-- ==== Proof.FrontDat.lean ====
module

public import proofs.«01_k».proof.Proof.FrontRun
public import Idealize.ShloMosaic.Lib.Claim

@[expose] public section

set_option maxRecDepth 16384

noncomputable section

namespace Cert.FrontDat

open Cert.FrontBwdIdeal Cert.FrontBwdIdeal.Gen Cert.FrontOut Cert.FrontRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The launch of the front's backward kernel -/

/-- A sum carried over the grid's points. -/
def carried {α : Type} (f : Fin cfg0.N → α → α) (z : α) : (n : ℕ) → n < cfg0.N → α
  | 0, h => f ⟨0, h⟩ z
  | n + 1, h => f ⟨n + 1, h⟩ (carried f z n (Nat.lt_of_succ_lt h))

/-- It goes on from what the point before left, and starts from anything. -/
theorem carried_step {α : Type} (f : Fin cfg0.N → α → α) (z : α) (h0 : ∀ t : Fin cfg0.N, t.val % 16 = 0 → ∀ a b, f t a = f t b)
    (t : Fin cfg0.N) (d : α) (hd : ¬t.val % 16 = 0 → d = carried f z (t.val - 1) (Nat.lt_of_le_of_lt (Nat.sub_le _ _) t.isLt)) :
    f t d = carried f z t.val t.isLt := by
  obtain ⟨n, hn⟩ := t
  cases n with
  | zero => exact h0 _ rfl _ _
  | succ n =>
    have hN : n + 1 < 16 := lt_of_lt_of_eq hn (show cfg0.N = 16 from N_0)
    rw [hd (by dsimp only; omega)]; rfl

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks a grid point reads. -/
def insAt (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t, iblk m c 21 t⟩

theorem gmixOut_first (t : Fin cfg0.N) (X : Ins F) (h : t.val % 16 = 0) (a b) : gmixOut (grid0.coords t) X a = gmixOut (grid0.coords t) X b := by
  unfold gmixOut; rw [if_pos ((hcond0_0 t).2 h), if_pos ((hcond0_0 t).2 h)]
theorem gqOut_first (t : Fin cfg0.N) (X : Ins F) (h : t.val % 16 = 0) (a b) : gqOut (grid0.coords t) X a = gqOut (grid0.coords t) X b := by
  unfold gqOut; rw [if_pos ((hcond0_0 t).2 h), if_pos ((hcond0_0 t).2 h)]
theorem gkvOut_first (t : Fin cfg0.N) (X : Ins F) (h : t.val % 16 = 0) (a b) : gkvOut (grid0.coords t) X a = gkvOut (grid0.coords t) X b := by
  unfold gkvOut; rw [if_pos ((hcond0_0 t).2 h), if_pos ((hcond0_0 t).2 h)]
theorem gqnOut_first (t : Fin cfg0.N) (X : Ins F) (h : t.val % 16 = 0) (a b) : gqnOut (grid0.coords t) X a = gqnOut (grid0.coords t) X b := by
  unfold gqnOut; rw [if_pos ((hcond0_0 t).2 h), if_pos ((hcond0_0 t).2 h)]
theorem gknOut_first (t : Fin cfg0.N) (X : Ins F) (h : t.val % 16 = 0) (a b) : gknOut (grid0.coords t) X a = gknOut (grid0.coords t) X b := by
  unfold gknOut; rw [if_pos ((hcond0_0 t).2 h), if_pos ((hcond0_0 t).2 h)]
theorem convOut_first (t : Fin cfg0.N) (X : Ins F) (h : t.val % 16 = 0) (a b) : convOut (grid0.coords t) X a = convOut (grid0.coords t) X b := by
  unfold convOut; rw [if_pos ((hcond0_0 t).2 h), if_pos ((hcond0_0 t).2 h)]

/-- The sum that `gmixOut` carries, after a point. -/
def gmixAt (c : Dev nD) (t : Fin cfg0.N) : Vec F S1x1024 .f32 :=
  carried (fun t a => gmixOut (grid0.coords t) (insAt m c t) a) (fun _ => FloatOps.ofBits .f32 0#32) t.val t.isLt
/-- The sum that `gqOut` carries, after a point. -/
def gqAt (c : Dev nD) (t : Fin cfg0.N) : Vec F S1x384 .f32 :=
  carried (fun t a => gqOut (grid0.coords t) (insAt m c t) a) (fun _ => FloatOps.ofBits .f32 0#32) t.val t.isLt
/-- The sum that `gkvOut` carries, after a point. -/
def gkvAt (c : Dev nD) (t : Fin cfg0.N) : Vec F S1x256 .f32 :=
  carried (fun t a => gkvOut (grid0.coords t) (insAt m c t) a) (fun _ => FloatOps.ofBits .f32 0#32) t.val t.isLt
/-- The sum that `gqnOut` carries, after a point. -/
def gqnAt (c : Dev nD) (t : Fin cfg0.N) : Vec F S1x128 .f32 :=
  carried (fun t a => gqnOut (grid0.coords t) (insAt m c t) a) (fun _ => FloatOps.ofBits .f32 0#32) t.val t.isLt
/-- The sum that `gknOut` carries, after a point. -/
def gknAt (c : Dev nD) (t : Fin cfg0.N) : Vec F S1x128 .f32 :=
  carried (fun t a => gknOut (grid0.coords t) (insAt m c t) a) (fun _ => FloatOps.ofBits .f32 0#32) t.val t.isLt
/-- The sum that `convOut` carries, after a point. -/
def convAt (c : Dev nD) (t : Fin cfg0.N) : Vec F S8x512 .f32 :=
  carried (fun t a => convOut (grid0.coords t) (insAt m c t) a) (fun _ => FloatOps.ofBits .f32 0#32) t.val t.isLt

/-- The arrays as the launch finds them, and what every grid point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => dxOut (grid0.coords t) (insAt m c t)
    | ⟨23, _⟩ => dzOut (grid0.coords t) (insAt m c t)
    | ⟨24, _⟩ => hOut (insAt m c t)
    | ⟨25, _⟩ => qnOut (insAt m c t)
    | ⟨26, _⟩ => kvnOut (insAt m c t)
    | ⟨27, _⟩ => dqOut (insAt m c t)
    | ⟨28, _⟩ => dkvOut (insAt m c t)
    | ⟨29, _⟩ => gmixAt m c t
    | ⟨30, _⟩ => gqAt m c t
    | ⟨31, _⟩ => gkvAt m c t
    | ⟨32, _⟩ => gqnAt m c t
    | ⟨33, _⟩ => gknAt m c t
    | ⟨34, _⟩ => convAt m c t
    | ⟨_ + 35, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = dxOut (grid0.coords t) (insAt m c t) := by dsimp only [dats]
theorem after_23 (c : Dev nD) (t : Fin cfg0.N) : (dats m 0 c).after 23 t = dzOut (grid0.coords t) (insAt m c t) := by dsimp only [dats]
theorem after_24 (c : Dev nD) (t : Fin cfg0.N) : (dats m 0 c).after 24 t = hOut (insAt m c t) := by dsimp only [dats]
theorem after_25 (c : Dev nD) (t : Fin cfg0.N) : (dats m 0 c).after 25 t = qnOut (insAt m c t) := by dsimp only [dats]
theorem after_26 (c : Dev nD) (t : Fin cfg0.N) : (dats m 0 c).after 26 t = kvnOut (insAt m c t) := by dsimp only [dats]
theorem after_27 (c : Dev nD) (t : Fin cfg0.N) : (dats m 0 c).after 27 t = dqOut (insAt m c t) := by dsimp only [dats]
theorem after_28 (c : Dev nD) (t : Fin cfg0.N) : (dats m 0 c).after 28 t = dkvOut (insAt m c t) := by dsimp only [dats]
theorem after_29 (c : Dev nD) (t : Fin cfg0.N) : (dats m 0 c).after 29 t = gmixAt m c t := by dsimp only [dats]
theorem after_30 (c : Dev nD) (t : Fin cfg0.N) : (dats m 0 c).after 30 t = gqAt m c t := by dsimp only [dats]
theorem after_31 (c : Dev nD) (t : Fin cfg0.N) : (dats m 0 c).after 31 t = gkvAt m c t := by dsimp only [dats]
theorem after_32 (c : Dev nD) (t : Fin cfg0.N) : (dats m 0 c).after 32 t = gqnAt m c t := by dsimp only [dats]
theorem after_33 (c : Dev nD) (t : Fin cfg0.N) : (dats m 0 c).after 33 t = gknAt m c t := by dsimp only [dats]
theorem after_34 (c : Dev nD) (t : Fin cfg0.N) : (dats m 0 c).after 34 t = convAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem before_14 (c : Dev nD) (t : Fin cfg0.N) (d) : (dats m 0 c).before 14 t d = iblk m c 14 t := before0_14_of m (dats m 0 c) (A_eq m c 14) (after_14 m c) t d
theorem before_15 (c : Dev nD) (t : Fin cfg0.N) (d) : (dats m 0 c).before 15 t d = iblk m c 15 t := before0_15_of m (dats m 0 c) (A_eq m c 15) (after_15 m c) t d
theorem before_16 (c : Dev nD) (t : Fin cfg0.N) (d) : (dats m 0 c).before 16 t d = iblk m c 16 t := before0_16_of m (dats m 0 c) (A_eq m c 16) (after_16 m c) t d
theorem before_17 (c : Dev nD) (t : Fin cfg0.N) (d) : (dats m 0 c).before 17 t d = iblk m c 17 t := before0_17_of m (dats m 0 c) (A_eq m c 17) (after_17 m c) t d
theorem before_18 (c : Dev nD) (t : Fin cfg0.N) (d) : (dats m 0 c).before 18 t d = iblk m c 18 t := before0_18_of m (dats m 0 c) (A_eq m c 18) (after_18 m c) t d
theorem before_19 (c : Dev nD) (t : Fin cfg0.N) (d) : (dats m 0 c).before 19 t d = iblk m c 19 t := before0_19_of m (dats m 0 c) (A_eq m c 19) (after_19 m c) t d
theorem before_20 (c : Dev nD) (t : Fin cfg0.N) (d) : (dats m 0 c).before 20 t d = iblk m c 20 t := before0_20_of m (dats m 0 c) (A_eq m c 20) (after_20 m c) t d
theorem before_21 (c : Dev nD) (t : Fin cfg0.N) (d) : (dats m 0 c).before 21 t d = iblk m c 21 t := before0_21_of m (dats m 0 c) (A_eq m c 21) (after_21 m c) t d

theorem gmix_step (c : Dev nD) (t : Fin cfg0.N) (d) : gmixOut (grid0.coords t) (insAt m c t) ((dats m 0 c).before 29 t d) = (dats m 0 c).after 29 t := by
  rw [after_29]
  refine carried_step (fun t a => gmixOut (grid0.coords t) (insAt m c t) a) _ (fun t h a b => gmixOut_first t _ h a b) t _ fun h => ?_
  have hN : t.val < 16 := lt_of_lt_of_eq t.isLt (show cfg0.N = 16 from N_0)
  rw [Dat.before_out_kept _ 29 rfl t (by omega) (Bool.eq_false_iff.mpr fun e => by have := (flush0_29 _).mp e; dsimp only at this; omega)
    (fun _ => rfl) (fun _ _ => rfl), after_29]
  rfl
theorem gq_step (c : Dev nD) (t : Fin cfg0.N) (d) : gqOut (grid0.coords t) (insAt m c t) ((dats m 0 c).before 30 t d) = (dats m 0 c).after 30 t := by
  rw [after_30]
  refine carried_step (fun t a => gqOut (grid0.coords t) (insAt m c t) a) _ (fun t h a b => gqOut_first t _ h a b) t _ fun h => ?_
  have hN : t.val < 16 := lt_of_lt_of_eq t.isLt (show cfg0.N = 16 from N_0)
  rw [Dat.before_out_kept _ 30 rfl t (by omega) (Bool.eq_false_iff.mpr fun e => by have := (flush0_30 _).mp e; dsimp only at this; omega)
    (fun _ => rfl) (fun _ _ => rfl), after_30]
  rfl
theorem gkv_step (c : Dev nD) (t : Fin cfg0.N) (d) : gkvOut (grid0.coords t) (insAt m c t) ((dats m 0 c).before 31 t d) = (dats m 0 c).after 31 t := by
  rw [after_31]
  refine carried_step (fun t a => gkvOut (grid0.coords t) (insAt m c t) a) _ (fun t h a b => gkvOut_first t _ h a b) t _ fun h => ?_
  have hN : t.val < 16 := lt_of_lt_of_eq t.isLt (show cfg0.N = 16 from N_0)
  rw [Dat.before_out_kept _ 31 rfl t (by omega) (Bool.eq_false_iff.mpr fun e => by have := (flush0_31 _).mp e; dsimp only at this; omega)
    (fun _ => rfl) (fun _ _ => rfl), after_31]
  rfl
theorem gqn_step (c : Dev nD) (t : Fin cfg0.N) (d) : gqnOut (grid0.coords t) (insAt m c t) ((dats m 0 c).before 32 t d) = (dats m 0 c).after 32 t := by
  rw [after_32]
  refine carried_step (fun t a => gqnOut (grid0.coords t) (insAt m c t) a) _ (fun t h a b => gqnOut_first t _ h a b) t _ fun h => ?_
  have hN : t.val < 16 := lt_of_lt_of_eq t.isLt (show cfg0.N = 16 from N_0)
  rw [Dat.before_out_kept _ 32 rfl t (by omega) (Bool.eq_false_iff.mpr fun e => by have := (flush0_32 _).mp e; dsimp only at this; omega)
    (fun _ => rfl) (fun _ _ => rfl), after_32]
  rfl
theorem gkn_step (c : Dev nD) (t : Fin cfg0.N) (d) : gknOut (grid0.coords t) (insAt m c t) ((dats m 0 c).before 33 t d) = (dats m 0 c).after 33 t := by
  rw [after_33]
  refine carried_step (fun t a => gknOut (grid0.coords t) (insAt m c t) a) _ (fun t h a b => gknOut_first t _ h a b) t _ fun h => ?_
  have hN : t.val < 16 := lt_of_lt_of_eq t.isLt (show cfg0.N = 16 from N_0)
  rw [Dat.before_out_kept _ 33 rfl t (by omega) (Bool.eq_false_iff.mpr fun e => by have := (flush0_33 _).mp e; dsimp only at this; omega)
    (fun _ => rfl) (fun _ _ => rfl), after_33]
  rfl
theorem conv_step (c : Dev nD) (t : Fin cfg0.N) (d) : convOut (grid0.coords t) (insAt m c t) ((dats m 0 c).before 34 t d) = (dats m 0 c).after 34 t := by
  rw [after_34]
  refine carried_step (fun t a => convOut (grid0.coords t) (insAt m c t) a) _ (fun t h a b => convOut_first t _ h a b) t _ fun h => ?_
  have hN : t.val < 16 := lt_of_lt_of_eq t.isLt (show cfg0.N = 16 from N_0)
  rw [Dat.before_out_kept _ 34 rfl t (by omega) (Bool.eq_false_iff.mpr fun e => by have := (flush0_34 _).mp e; dsimp only at this; omega)
    (fun _ => rfl) (fun _ _ => rfl), after_34]
  rfl

/-- What a grid point's body is called with. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))

/-- What it returns. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t))

set_option maxHeartbeats 4000000 in
/-- The body at any grid point. -/
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, before_16, before_17, before_18, before_19, before_20, before_21]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
  have hr := run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) scM0_0 (Memref.isWhole_whole _) scM0_1 (Memref.isWhole_whole _) (insAt m c t)
    ((dats m 0 c).before 29 t d29) ((dats m 0 c).before 30 t d30) ((dats m 0 c).before 31 t d31) ((dats m 0 c).before 32 t d32) ((dats m 0 c).before 33 t d33) ((dats m 0 c).before 34 t d34)
  rw [gmix_step, gq_step, gkv_step, gqn_step, gkn_step, conv_step] at hr
  unfold holds at hr
  iapply (hr Set.univ _)
  isplitl [H0 H1 H2 H3 H4 H5 H6 H7 H8 H9 H10 H11 H12 H13 H14 H15 H16 H17 H18 H19 H20 H21]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexact H29
  isplitl [H30]; · iexact H30
  isplitl [H31]; · iexact H31
  isplitl [H32]; · iexact H32
  isplitl [H33]; · iexact H33
  isplitl [H34]; · iexact H34
  isplitl [HS0]; · iexact HS0
  isplitl [HS1]; · iexact HS1
  iintro ⟨⟨H0, H1, H2, H3, H4, H5, H6, H7, H8, H9, H10, H11, H12, H13, H14, H15, H16, H17, H18, H19, H20, H21⟩, H22, H23, H24, H25, H26, H27, H28, H29, H30, H31, H32, H33, H34, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

theorem body_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- Every run ends, with the arrays at what the grid points leave and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.FrontDat

end
-- ==== Proof.FwdSpec.lean ====
/- The forward lines of a layer's calls, over the extended reals: nothing is asked of the arguments. -/
module

public import proofs.«01_k».proof.Proof.Reals
public import Idealize.ShloMosaic.Lib.Pointwise

@[expose] public section

set_option maxRecDepth 16384

noncomputable section

open Idealize.ShloMosaic Idealize.ShloMosaic.TcCoe Idealize.SL.Sem
open Cert.Reals

namespace Cert.FwdSpec

variable {n : ℕ}

/-- A row over its root mean square, times a gain. -/
def normed {N : ℕ} (d : ℝ) (x g : Fin N → EReal) (c : Fin N) : EReal := x c * Ideal.rsqrt (Ideal.div (∑ k, x k * x k) (d : EReal) + (eps : EReal)) * g c

/-- The output projection of two norms side by side, added to the residual: each norm meets its half of the weight's rows. -/
def mix (x : Fin n → Fin 1024 → EReal) (a b : Fin n → Fin 512 → EReal) (g h : Fin 512 → EReal) (w : Fin 1024 → Fin 1024 → EReal)
    (i : Fin n) (c : Fin 1024) : EReal :=
  x i c + (∑ k : Fin 512, normed 512 (a i) g k * w ⟨k, by omega⟩ c + ∑ k : Fin 512, normed 512 (b i) h k * w ⟨512 + k, by omega⟩ c)

/-- The gated embedding, added to the residual. -/
def ple (x : Fin n → Fin 1024 → EReal) (p : Fin n → Fin 256 → EReal) (g : Fin 1024 → EReal) (wg : Fin 1024 → Fin 1024 → EReal)
    (we : Fin 256 → Fin 1024 → EReal) (i : Fin n) (c : Fin 1024) : EReal :=
  x i c + Ideal.logistic (∑ k, normed 1024 (x i) g k * wg k c) * ∑ k, p i k * we k c

/-- The positive part of a hidden lane. -/
def act (x : Fin n → Fin 1024 → EReal) (g : Fin 1024 → EReal) (up : Fin 1024 → Fin 4096 → EReal) (i : Fin n) (f : Fin 4096) : EReal :=
  max (∑ k, normed 1024 (x i) g k * up k f) 0

/-- The `l`-th of the `k`-th 512 lanes. -/
abbrev lane (k : Fin 8) (l : Fin 512) : Fin 4096 := ⟨k * 512 + l, by omega⟩

/-- What 512 hidden lanes add to a row. -/
def part (x : Fin n → Fin 1024 → EReal) (g : Fin 1024 → EReal) (up : Fin 1024 → Fin 4096 → EReal) (down : Fin 4096 → Fin 1024 → EReal)
    (k : Fin 8) (i : Fin n) (c : Fin 1024) : EReal := ∑ l, act x g up i (lane k l) * act x g up i (lane k l) * down (lane k l) c

/-- The squared positive part's mixer, added to the residual. -/
def mlp (x : Fin n → Fin 1024 → EReal) (g : Fin 1024 → EReal) (up : Fin 1024 → Fin 4096 → EReal) (down : Fin 4096 → Fin 1024 → EReal)
    (i : Fin n) (c : Fin 1024) : EReal := x i c + ∑ f, act x g up i f * act x g up i f * down f c

/-- The lanes' eight parts make the whole product. -/
theorem sum_parts (x : Fin n → Fin 1024 → EReal) (g : Fin 1024 → EReal) (up : Fin 1024 → Fin 4096 → EReal) (down : Fin 4096 → Fin 1024 → EReal)
    (i : Fin n) (c : Fin 1024) : x i c + ∑ k, part x g up down k i c = mlp x g up down i c :=
  congrArg (x i c + ·) (Fin.sum_univ_tiles 8 512 rfl fun f => act x g up i f * act x g up i f * down f c).symm

end Cert.FwdSpec
-- ==== Proof.FrontSpec.lean ====
/- What the front's backward leaves of its norms and of the convolution's weights, over the extended reals. -/
module

public import proofs.«01_k».proof.Proof.FwdSpec

@[expose] public section

set_option maxRecDepth 16384

noncomputable section

open Idealize.ShloMosaic Idealize.ShloMosaic.TcCoe Idealize.SL.Sem
open Cert.Reals Cert.FwdSpec

namespace Cert.FrontSpec

theorem word_384 : Ideal.ofBits .f32 0x43C00000#32 = ((384 : ℝ) : EReal) := by
  simp [Ideal.ofBits, Ideal.ieee, -EReal.coe_mul]
  norm_num
theorem word_256 : Ideal.ofBits .f32 0x43800000#32 = ((256 : ℝ) : EReal) := by
  simp [Ideal.ofBits, Ideal.ieee, -EReal.coe_mul]
  norm_num

/-- The front's projection of the normed input. -/
def proj (x : Fin 4096 → Fin 1024 → EReal) (g : Fin 1024 → EReal) (w : Fin 1024 → Fin 2208 → EReal) (i : Fin 4096) (c : Fin 2208) : EReal :=
  ∑ k, normed 1024 (x i) g k * w k c

section
variable (z : Fin 4096 → Fin 2208 → EReal)

/-- The convolution's outer gate, its input, and the cotangent of the convolved rows. -/
def outer (i : Fin 4096) (k : Fin 512) : EReal := z i ⟨672 + k, by omega⟩
def fed (i : Fin 4096) (k : Fin 512) : EReal := z i ⟨1184 + k, by omega⟩ * z i ⟨1696 + k, by omega⟩
def cot (d : Fin 4096 → Fin 512 → EReal) (i : Fin 4096) (k : Fin 512) : EReal := d i k * outer z i k

/-- The convolution's input some rows back. -/
def back (n : ℕ) (i : Fin 4096) (k : Fin 512) : EReal := if h : n ≤ i.val then fed z ⟨i - n, by omega⟩ k else 0

/-- The gradient of the convolution's weights, three rows of it. -/
def taps (d : Fin 4096 → Fin 512 → EReal) (j : Fin 8) (k : Fin 512) : EReal := if j.val < 3 then ∑ i, cot z d i k * back z j.val i k else 0
end

end Cert.FrontSpec
-- ==== Proof.FrontRef.lean ====
/- The problem's lines of the front, and the derivative of its convolution, read at an index. -/
module

public import proofs.«01_k».proof.Proof.Gen.FrontBwdRefIdeal.Read
public import proofs.«01_k».proof.Proof.FrontSpec

@[expose] public section

set_option maxRecDepth 16384

noncomputable section

open Idealize.ShloMosaic Idealize.ShloMosaic.TcCoe Idealize.SL.Sem
open Cert.Reals Cert.FwdSpec Cert.FrontSpec

namespace Cert.FrontRef

open Cert.FrontBwdRefIdeal Cert.FrontBwdRefIdeal.Gen Cert.FrontBwdRefIdeal.Read

variable {x0 : FVec Ideal S4096x1024 .f32} {x6 : FVec Ideal S4096x512 .f32} {x7 : FVec Ideal S1024 .f32} {x8 : FVec Ideal S1024x2208 .f32}
  {x9 : FVec Ideal S384 .f32} {x11 : FVec Ideal S256 .f32}

/-- The projection of these arrays. -/
abbrev zed (x0 : FVec Ideal S4096x1024 .f32) (x7 : FVec Ideal S1024 .f32) (x8 : FVec Ideal S1024x2208 .f32) : Fin 4096 → Fin 2208 → EReal :=
  proj (fun i k => x0 (ix2 i k)) (fun k => x7 (ix1 k)) (fun i k => x8 (ix2 i k))

theorem norm_at (i : Fin 4096) (c : Fin 1024) : val_main_v12 (F := Ideal) x0 x7 (ix2 i c) = normed 1024 (fun k => x0 (ix2 i k)) (fun k => x7 (ix1 k)) c := by
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, word_1024, word_eps]
  simp only [normed]

theorem h_at (i : Fin 4096) (c : Fin 1024) : val_main_v92 (F := Ideal) x0 x7 (ix2 i c) = normed 1024 (fun k => x0 (ix2 i k)) (fun k => x7 (ix1 k)) c := by
  pointwise [val_main_v92, norm_at]

theorem z_at (i : Fin 4096) (c : Fin 2208) : val_main_v13 (F := Ideal) x0 x7 x8 (ix2 i c) = zed x0 x7 x8 i c := by
  pointwise [val_main_v13, norm_at]
  simp only [proj]

theorem qn_at (i : Fin 4096) (c : Fin 384) : val_main_v93 (F := Ideal) x0 x7 x8 x9 (ix2 i c)
    = normed 384 (fun k : Fin 384 => zed x0 x7 x8 i ⟨k, by omega⟩) (fun k => x9 (ix1 k)) c := by
  pointwise [val_main_v93, val_main_v27, val_main_v26, val_main_v25, val_main_v24, val_main_v23, val_main_v22, val_main_v21, val_main_v20, val_main_v19, val_main_v18,
    val_main_v17, val_main_v16, val_main_v15, val_main_v14, val_main_cst_2, val_main_cst_3, val_main_cst_4, z_at, word_384, word_eps]
  simp only [normed]

theorem kvn_at (i : Fin 4096) (c : Fin 256) : val_main_v94 (F := Ideal) x0 x7 x8 x11 (ix2 i c)
    = normed 256 (fun k : Fin 256 => zed x0 x7 x8 i ⟨384 + k, by omega⟩) (fun k => x11 (ix1 k)) c := by
  pointwise [val_main_v94, val_main_v41, val_main_v40, val_main_v39, val_main_v38, val_main_v37, val_main_v36, val_main_v35, val_main_v34, val_main_v33, val_main_v32,
    val_main_v31, val_main_v30, val_main_v29, val_main_v28, val_main_cst_5, val_main_cst_6, val_main_cst_7, z_at, word_256, word_eps]
  simp only [normed]

theorem up_at (i : Fin 4098) (k : Fin 512) : val_main_v47 (F := Ideal) x0 x7 x8 (ix2 i k) = if h : 2 ≤ i.val then fed (zed x0 x7 x8) ⟨i - 2, by omega⟩ k else 0 := by
  pointwise [val_main_v47, val_main_v46, val_main_v45, val_main_v44, val_main_v43, val_main_cst_8, z_at]
  by_cases h : i.val < 2
  · rw [dif_pos h, dif_neg (by omega)]
  · rw [dif_neg h, dif_pos (by omega), fed]

theorem dy_at (i : Fin 4096) (k : Fin 512) : val_main_v71 (F := Ideal) x0 x6 x7 x8 (ix2 i k) = cot (zed x0 x7 x8) (fun i k => x6 (ix2 i k)) i k := by
  pointwise [val_main_v71, val_main_v42, z_at]
  rw [cot, outer, mul_comm]

theorem back2_at (i : Fin 4096) (k : Fin 512) : val_main_v65 (F := Ideal) x0 x7 x8 (ix2 i k) = back (zed x0 x7 x8) 2 i k := by
  pointwise [val_main_v65, up_at]
  rfl

theorem back1_at (i : Fin 4096) (k : Fin 512) : val_main_v58 (F := Ideal) x0 x7 x8 (ix2 i k) = back (zed x0 x7 x8) 1 i k := by
  pointwise [val_main_v58, up_at]
  rw [back]
  by_cases h : 1 ≤ i.val
  · rw [dif_pos h, dif_pos (by omega)]
    exact congrArg (fun r => fed _ r k) (Fin.ext (by show 1 + i.val - 2 = i.val - 1; omega))
  · rw [dif_neg h, dif_neg (by omega)]

theorem back0_at (i : Fin 4096) (k : Fin 512) : val_main_v50 (F := Ideal) x0 x7 x8 (ix2 i k) = back (zed x0 x7 x8) 0 i k := by
  pointwise [val_main_v50, up_at]
  rfl

theorem taps_at (j : Fin 8) (k : Fin 512) : val_main_v95 (F := Ideal) x0 x6 x7 x8 (ix2 j k) = taps (zed x0 x7 x8) (fun i k => x6 (ix2 i k)) j k := by
  pointwise [val_main_v95, val_main_v91, val_main_v90, val_main_v89, val_main_v88, val_main_v87, val_main_v86, val_main_v85, val_main_v84, val_main_v83, val_main_v82,
    val_main_v81, val_main_v80, val_main_v79, val_main_v78, val_main_v77, val_main_v76, val_main_v75, val_main_v74, val_main_v73, val_main_v72,
    val_main_cst_10, val_main_cst_11, val_main_cst_12, val_main_cst_13, val_main_cst_14, val_main_cst_15, val_main_cst_16, val_main_cst_17, val_main_cst_18, val_main_c, val_main_call0_v0, back0_at, back1_at, back2_at, dy_at]
  rw [taps]
  by_cases h : j.val < 3
  · rw [dif_pos h, if_pos h]
    obtain h | h | h : j.val = 0 ∨ j.val = 1 ∨ j.val = 2 := by omega
    all_goals simp [h]
  · rw [dif_neg h, if_neg h]
    exact (congrArg ((↑) : ℝ → EReal) (by norm_num)).trans EReal.coe_zero

end Cert.FrontRef
-- ==== Proof.FrontHost.lean ====
/- What the host line hands the front's backward kernel: the projection, in the kernel's order of columns. -/
module

public import proofs.«01_k».proof.Proof.FrontDat
public import proofs.«01_k».proof.Proof.FrontRef
public import Idealize.ShloMosaic.Lib.Pipeline.ValueKit

@[expose] public section

set_option maxRecDepth 16384

noncomputable section

open Idealize.ShloMosaic Idealize.ShloMosaic.TcCoe Idealize.ShloMosaic.StableHlo Idealize.SL.Sem
open Cert.Reals Cert.FwdSpec Cert.FrontSpec

namespace Cert.FrontHost

open Cert.FrontBwdIdeal Cert.FrontBwdIdeal.Gen

section
variable (w : FVec Ideal S1024x2208 .f32)

/-- The weights by shards, and the columns of one. -/
def shards : FVec Ideal S8x1024x276 .f32 := transpose S8x1024x276 [1, 0, 2] (shapeCast S1024x8x276 w shapeCasts_S1024x2208_S1024x8x276) transposes_S1024x8x276_S8x1024x276_1_0_2
def third : FVec Ideal S1024x276 .f32 :=
  shapeCast S1024x276 (extractStridedSlice S1x1024x276 ![2, 0, 0] (shards w) slices_S8x1024x276_S1x1024x276_2_0_0) shapeCasts_S1x1024x276_S1024x276
def none64 : FVec Ideal S1024x64 .f32 := broadcastInDim S1024x64 ![] bcast_S_S1024x64 (constant (F := Ideal) S_ .f32 0x00000000#32)

/-- The weights in the kernel's order of columns. -/
def placed : FVec Ideal S1024x2304 .f32 := concatenate S1024x2304 1
  [⟨S1024x276, shapeCast S1024x276 (extractStridedSlice S1x1024x276 ![0, 0, 0] (shards w) slices_S8x1024x276_S1x1024x276_0_0_0) shapeCasts_S1x1024x276_S1024x276⟩,
   ⟨S1024x276, shapeCast S1024x276 (extractStridedSlice S1x1024x276 ![1, 0, 0] (shards w) slices_S8x1024x276_S1x1024x276_1_0_0) shapeCasts_S1x1024x276_S1024x276⟩,
   ⟨S1024x88, extractStridedSlice S1024x88 ![0, 0] (third w) slices_S1024x276_S1024x88_0_0⟩,
   ⟨S1024x156, extractStridedSlice S1024x156 ![0, 120] (third w) slices_S1024x276_S1024x156_0_120⟩,
   ⟨S1024x276, shapeCast S1024x276 (extractStridedSlice S1x1024x276 ![3, 0, 0] (shards w) slices_S8x1024x276_S1x1024x276_3_0_0) shapeCasts_S1x1024x276_S1024x276⟩,
   ⟨S1024x276, shapeCast S1024x276 (extractStridedSlice S1x1024x276 ![4, 0, 0] (shards w) slices_S8x1024x276_S1x1024x276_4_0_0) shapeCasts_S1x1024x276_S1024x276⟩,
   ⟨S1024x276, shapeCast S1024x276 (extractStridedSlice S1x1024x276 ![5, 0, 0] (shards w) slices_S8x1024x276_S1x1024x276_5_0_0) shapeCasts_S1x1024x276_S1024x276⟩,
   ⟨S1024x276, shapeCast S1024x276 (extractStridedSlice S1x1024x276 ![6, 0, 0] (shards w) slices_S8x1024x276_S1x1024x276_6_0_0) shapeCasts_S1x1024x276_S1024x276⟩,
   ⟨S1024x276, shapeCast S1024x276 (extractStridedSlice S1x1024x276 ![7, 0, 0] (shards w) slices_S8x1024x276_S1x1024x276_7_0_0) shapeCasts_S1x1024x276_S1024x276⟩,
   ⟨S1024x64, none64⟩, ⟨S1024x32, extractStridedSlice S1024x32 ![0, 88] (third w) slices_S1024x276_S1024x32_0_88⟩,
   ⟨S1024x32, extractStridedSlice S1024x32 ![0, 0] none64 slices_S1024x64_S1024x32_0_0⟩]
  concatenates_S1024x276_S1024x276_S1024x88_S1024x156_S1024x276_S1024x276_S1024x276_S1024x276_S1024x276_S1024x64_S1024x32_S1024x32_S1024x2304_d1

theorem shards_at (s : Fin 8) (k : Fin 1024) (j : Fin 276) : shards w (ix3 s k j) = w (ix2 k ⟨s * 276 + j, by omega⟩) := by
  pointwise [shards]

omit w in
theorem pick {p : Prop} [Decidable p] {a : p → EReal} {b : ¬p → EReal} {v : EReal} (ha : ∀ h, a h = v) (hb : ∀ h, b h = v) : dite p a b = v := by
  by_cases h : p
  · rw [dif_pos h, ha]
  · rw [dif_neg h, hb]

theorem placed_low (k : Fin 1024) (c : Fin 640) : placed w (ix2 k ⟨c, by omega⟩) = w (ix2 k ⟨c, by omega⟩) := by
  pointwise [placed, third, shards_at]
  iterate 11 refine pick (fun _ => by first | (exfalso; omega) | exact congrArg (fun e => w (ix2 k e)) (Fin.ext (by dsimp only <;> omega))) fun _ => ?_
  exfalso; omega

theorem placed_high (k : Fin 1024) (c : Fin 2304) (h : 640 ≤ c.val) (h' : c.val < 2176) : placed w (ix2 k c) = w (ix2 k ⟨c + 32, by omega⟩) := by
  pointwise [placed, third, shards_at]
  iterate 11 refine pick (fun _ => by first | (exfalso; omega) | exact congrArg (fun e => w (ix2 k e)) (Fin.ext (by dsimp only <;> omega))) fun _ => ?_
  exfalso; omega
end

section
variable (m : (ℓ : Loc nD τ sig) → Buf (Elt Ideal) ℓ) (c : Dev nD)

/-- The projection the host line makes. -/
def made (x : FVec Ideal S4096x1024 .f32) (g : FVec Ideal S1024 .f32) (w : FVec Ideal S1024x2208 .f32) : FVec Ideal S4096x2304 .f32 :=
  Host.dotGeneral (φ₁ := .f32) (φ₂ := .f32) dot_S4096x1024_S1024x2304_S4096x2304_1_0_0_1_n_n none (Cert.FrontBwdRefIdeal.Read.val_main_v12 (F := Ideal) x g) (placed w)

theorem V_z : V m c main_v67 = made (m ((c.tc : Thread nD τ).loc main_arg0)) (m ((c.tc : Thread nD τ).loc main_arg7)) (m ((c.tc : Thread nD τ).loc main_arg8)) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22, hostOps0_23,
    hostOps0_24, List.flatten_cons, List.flatten_nil,
    List.append_nil, List.cons_append, List.nil_append, TRef.binary, TRef.nullary, TRef.ternary, TRef.unary, TRef.toBuf, TRef.ofBuf, cast_eq]
  after_results_simp
  rfl

theorem V_mix : V m c main_v35 = (shapeCast S1x1024 (m ((c.tc : Thread nD τ).loc main_arg7)) shapeCasts_S1024_S1x1024 : FVec Ideal S1x1024 .f32) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22, hostOps0_23,
    hostOps0_24, List.flatten_cons, List.flatten_nil,
    List.append_nil, List.cons_append, List.nil_append, TRef.binary, TRef.nullary, TRef.ternary, TRef.unary, TRef.toBuf, TRef.ofBuf, cast_eq]
  after_results_simp
  rfl
theorem V_q : V m c main_v37 = (shapeCast S1x384 (m ((c.tc : Thread nD τ).loc main_arg9)) shapeCasts_S384_S1x384 : FVec Ideal S1x384 .f32) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22, hostOps0_23,
    hostOps0_24, List.flatten_cons, List.flatten_nil,
    List.append_nil, List.cons_append, List.nil_append, TRef.binary, TRef.nullary, TRef.ternary, TRef.unary, TRef.toBuf, TRef.ofBuf, cast_eq]
  after_results_simp
  rfl
theorem V_kv : V m c main_v41 = (shapeCast S1x256 (m ((c.tc : Thread nD τ).loc main_arg11)) shapeCasts_S256_S1x256 : FVec Ideal S1x256 .f32) := by
  simp only [V, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22, hostOps0_23,
    hostOps0_24, List.flatten_cons, List.flatten_nil,
    List.append_nil, List.cons_append, List.nil_append, TRef.binary, TRef.nullary, TRef.ternary, TRef.unary, TRef.toBuf, TRef.ofBuf, cast_eq]
  after_results_simp
  rfl
end

variable {x : FVec Ideal S4096x1024 .f32} {g : FVec Ideal S1024 .f32} {w : FVec Ideal S1024x2208 .f32}

theorem made_at (i : Fin 4096) (k : Fin 2304) : made x g w (ix2 i k) = ∑ l, normed 1024 (fun k => x (ix2 i k)) (fun k => g (ix1 k)) l * placed w (ix2 l k) := by
  pointwise [made, FrontRef.norm_at]

theorem made_low (i : Fin 4096) (k : Fin 640) : made x g w (ix2 i ⟨k, by omega⟩) = FrontRef.zed x g w i ⟨k, by omega⟩ := by
  rw [made_at]
  unfold FrontRef.zed proj
  exact Finset.sum_congr rfl fun l _ => congrArg (_ * ·) (placed_low w l k)

theorem made_high (i : Fin 4096) (k : Fin 2304) (h : 640 ≤ k.val) (h' : k.val < 2176) : made x g w (ix2 i k) = FrontRef.zed x g w i ⟨k + 32, by omega⟩ := by
  rw [made_at]
  unfold FrontRef.zed proj
  exact Finset.sum_congr rfl fun l _ => congrArg (_ * ·) (placed_high w l k h h')

end Cert.FrontHost
-- ==== Proof.FrontBlock.lean ====
/- What one grid point of the front's backward kernel leaves of the norms and adds to the convolution's weights. -/
module

public import proofs.«01_k».proof.Proof.FrontOut
public import proofs.«01_k».proof.Proof.FrontSpec
public import Idealize.ShloMosaic.Lib.Pipeline.ValueKit

@[expose] public section

set_option maxRecDepth 16384

noncomputable section

open Idealize.ShloMosaic Idealize.ShloMosaic.TcCoe Idealize.SL.Sem
open Cert.Reals Cert.FwdSpec Cert.FrontSpec

namespace Cert.FrontBlock

open Cert.FrontBwdIdeal Cert.FrontBwdIdeal.Gen Cert.FrontOut

variable {X : Ins Ideal} {x : Fin 256 → Fin 1024 → EReal} {z : Fin 4096 → Fin 2208 → EReal} {g : Fin 1024 → EReal} {q : Fin 384 → EReal} {p : Fin 256 → EReal}

/-- The normed input. -/
theorem h_at (h0 : ∀ i c, X.x0 (ix2 i c) = x i c) (hg : ∀ r c, X.x10 (ix2 r c) = g c) (i : Fin 256) (c : Fin 1024) :
    hOut X (ix2 i c) = normed 1024 (x i) g c := by
  have e1 : v1 X = X.x0 := View.ld_unit_lit inb_S256x1024_S256x1024_0_0 X.x0 (by decide)
  have e4 : v4 X = X.x10 := View.ld_unit_lit inb_S1x1024_S1x1024_0_0 X.x10 (by decide)
  rw [hOut, e1, e4]
  pointwise [k0_pay4, h0, hg, word_1024, word_eps]
  simp only [normed]

section
variable {u : Fin 256 → Fin 2304 → EReal} (h1 : ∀ i c, X.x1 (ix2 i c) = u i c)
include h1

theorem v2_at (i : Fin 256) (c : Fin 2304) : v2 X (ix2 i c) = u i c := by
  have e2 : v2 X = X.x1 := View.ld_unit_lit inb_S256x2304_S256x2304_0_0 X.x1 (by decide)
  rw [e2, h1]

/-- The normed query latent. -/
theorem qn_at (hq : ∀ r c, X.x12 (ix2 r c) = q c) (i : Fin 256) (c : Fin 384) :
    qnOut X (ix2 i c) = normed 384 (fun k : Fin 384 => u i ⟨k, by omega⟩) q c := by
  have e : v22 X = X.x12 := View.ld_unit_lit inb_S1x384_S1x384_0_0 X.x12 (by decide)
  rw [qnOut, e]
  pointwise [k0_pay7, k0_pay5, k0_pay3, v2_at h1, hq, word_384, word_eps]
  simp only [normed]

/-- The normed key and value latent. -/
theorem kvn_at (hp : ∀ r c, X.x14 (ix2 r c) = p c) (i : Fin 256) (c : Fin 256) :
    kvnOut X (ix2 i c) = normed 256 (fun k : Fin 256 => u i ⟨384 + k, by omega⟩) p c := by
  have e : v38 X = X.x14 := View.ld_unit_lit inb_S1x256_S1x256_0_0 X.x14 (by decide)
  rw [kvnOut, e, v21]
  pointwise [k0_pay8, k0_pay6, k0_pay3, v2_at h1, hp, word_256, word_eps]
  simp only [normed]

/-- The convolution's input rows. -/
theorem fed_at (i : Fin 256) (k : Fin 512) : v669 X (ix2 i k) = u i ⟨1152 + k, by omega⟩ * u i ⟨1664 + k, by omega⟩ := by
  rw [v669, v3]
  pointwise [k0_pay139, k0_pay138, k0_pay137, k0_pay3, v2_at h1]

/-- The cotangent of the convolved rows. -/
theorem cot_at {d : Fin 256 → Fin 512 → EReal} (h8 : ∀ i c, X.x8 (ix2 i c) = d i c) (i : Fin 256) (k : Fin 512) : v671 X (ix2 i k) = d i k * u i ⟨640 + k, by omega⟩ := by
  have e : v670 X = X.x8 := View.ld_unit_lit inb_S256x512_S256x512_0_0 X.x8 (by decide)
  rw [v671, v3, e]
  pointwise [k0_pay140, k0_pay3, v2_at h1, h8]
end

/-- The scratch buffer of the convolution's input: eight rows of the tile before, then the tile's own. -/
def rows (i : grid0.Coords) (X : Ins Ideal) : FVec Ideal S264x512 .f32 := View.canon (uPieces (F := Ideal) i X)

theorem rows_high (i : grid0.Coords) (r : Fin 256) (k : Fin 512) : rows i X (ix2 ⟨8 + r, by omega⟩ k) = v669 X (ix2 r k) := by
  have e : (ix2 ⟨8 + r, by omega⟩ k : S264x512.Idx) = (Rect.unit (s := S264x512) ![8, 0] S256x512.size inb_S264x512_S256x512_8_0).emb (ix2 r k) := by
    funext a; refine Fin.ext ((Rect.idx_unit_val _ _ _ _ _).trans ?_).symm
    fin_cases a
    · rfl
    · exact Nat.zero_add _
  rw [rows, uPieces, e, View.canon_cons_emb]
  pointwise [k0_pay143]

theorem low_idx (r : Fin 8) (k : Fin 512) : (Rect.unit (s := S264x512) ![0, 0] S8x512.size inb_S264x512_S8x512_0_0).emb (ix2 r k) = ix2 ⟨r, by omega⟩ k := by
  funext a; refine Fin.ext ((Rect.idx_unit_val _ _ _ _ _).trans ?_)
  fin_cases a
  · exact Nat.zero_add r.val
  · exact Nat.zero_add k.val

theorem low_off (r : Fin 8) (k : Fin 512) : (ix2 ⟨r, by omega⟩ k : S264x512.Idx) ∉ (Rect.unit (s := S264x512) ![8, 0] S256x512.size inb_S264x512_S256x512_8_0).set := fun hm => by
  have h0 : 8 ≤ r.val := (Rect.mem_set_unit.1 hm (0 : Fin 2)).1
  omega

theorem rows_low (i : grid0.Coords) (r : Fin 8) (k : Fin 512) : rows i X (ix2 ⟨r, by omega⟩ k) = v684 i X (ix2 r k) := by
  unfold rows uPieces
  refine (View.canon_cons_of_not_mem _ _ ?_).trans ?_
  · exact low_off r k
  · rw [← low_idx]
    exact View.canon_cons_emb _ _ _ _

theorem one_idx (r : Fin 256) (k : Fin 512) : (Rect.unit (s := S264x512) ![7, 0] S256x512.size inb_S264x512_S256x512_7_0).toLoadRect.idx (ix2 r k) = ix2 ⟨7 + r, by omega⟩ k := by
  funext a; refine Fin.ext ((Rect.idx_unit_val _ _ _ _ _).trans ?_)
  fin_cases a
  · rfl
  · exact Nat.zero_add k.val

theorem two_idx (r : Fin 256) (k : Fin 512) : (Rect.unit (s := S264x512) ![6, 0] S256x512.size inb_S264x512_S256x512_6_0).toLoadRect.idx (ix2 r k) = ix2 ⟨6 + r, by omega⟩ k := by
  funext a; refine Fin.ext ((Rect.idx_unit_val _ _ _ _ _).trans ?_)
  fin_cases a
  · rfl
  · exact Nat.zero_add k.val

theorem one_back (i : grid0.Coords) (r : Fin 256) (k : Fin 512) : v703 (shifted i X) (ix2 r k) = rows i X (ix2 ⟨7 + r, by omega⟩ k) := by
  rw [← one_idx, v703, shifted, rows]

theorem two_back (i : grid0.Coords) (r : Fin 256) (k : Fin 512) : v704 (shifted i X) (ix2 r k) = rows i X (ix2 ⟨6 + r, by omega⟩ k) := by
  rw [← two_idx, v704, shifted, rows]

/-- A row of a tile, as a row of its array. -/
abbrev row (t : Fin cfg0.N) (i : Fin 256) : Fin 4096 := ⟨t.val * 256 + i, by have := lt_of_lt_of_eq t.isLt (show cfg0.N = 16 from N_0); omega⟩

/-- What a grid point reads of the projection, in the kernel's order of columns. -/
structure Point (t : Fin cfg0.N) (X : Ins Ideal) (y : Fin 4096 → Fin 2304 → EReal) (z : Fin 4096 → Fin 2208 → EReal) (d : Fin 4096 → Fin 512 → EReal) : Prop where
  own : ∀ i c, X.x1 (ix2 i c) = y (row t i) c
  before : ∀ i c (h : 0 < t.val), X.x2 (ix2 i c) = y ⟨t.val * 256 - 8 + i, by have := lt_of_lt_of_eq t.isLt (show cfg0.N = 16 from N_0); omega⟩ c
  conv : ∀ i k, X.x8 (ix2 i k) = d (row t i) k
  outer : ∀ i (k : Fin 512), y i ⟨640 + k, by omega⟩ = z i ⟨672 + k, by omega⟩
  inner : ∀ i (k : Fin 512), y i ⟨1152 + k, by omega⟩ = z i ⟨1184 + k, by omega⟩
  input : ∀ i (k : Fin 512), y i ⟨1664 + k, by omega⟩ = z i ⟨1696 + k, by omega⟩

variable {t : Fin cfg0.N} {y : Fin 4096 → Fin 2304 → EReal} {d : Fin 4096 → Fin 512 → EReal} (P : Point t X y z d)
include P

theorem own_at (i : Fin 256) (k : Fin 512) : v669 X (ix2 i k) = fed z (row t i) k := by
  rw [fed_at P.own, fed]
  exact congrArg₂ (· * ·) (P.inner (row t i) k) (P.input (row t i) k)

theorem dy_at (i : Fin 256) (k : Fin 512) : v671 X (ix2 i k) = cot z d (row t i) k := by
  rw [cot_at P.own P.conv, cot, outer]
  exact congrArg (_ * ·) (P.outer (row t i) k)

/-- The rows before the tile's own: zeros before the first. -/
theorem halo_at (i : Fin 8) (k : Fin 512) :
    v684 (grid0.coords t) X (ix2 i k) = if h : 0 < t.val then fed z ⟨t.val * 256 - 8 + i, by have := lt_of_lt_of_eq t.isLt (show cfg0.N = 16 from N_0); omega⟩ k else 0 := by
  have e : v672 X = X.x2 := View.ld_unit_lit inb_S8x2304_S8x2304_0_0 X.x2 (by decide)
  have hv : ∀ t : Fin cfg0.N, v0 (grid0.coords t) = if 0 < t.val then 0#1 else 1#1 := (by decide +kernel : ∀ t : Fin grid0.N, _)
  rw [v684, e, hv]
  have take : ∀ x y : EReal, Scalar.select 1#1 x y = x := fun _ _ => rfl
  have drop : ∀ x y : EReal, Scalar.select 0#1 x y = y := fun _ _ => rfl
  by_cases h : 0 < t.val
  · rw [dif_pos h, if_pos h]
    pointwise [k0_pay142, drop, P.before _ _ h]
    exact congrArg₂ (· * ·) (P.inner _ k) (P.input _ k)
  · rw [dif_neg h, if_neg h]
    pointwise [k0_pay142, take]
    exact mul_zero _

theorem back_at (n : ℕ) (hn : n ≤ 8) (i : Fin 256) (k : Fin 512) : rows (grid0.coords t) X (ix2 ⟨8 - n + i, by omega⟩ k) = back z n (row t i) k := by
  have hb := lt_of_lt_of_eq t.isLt (show cfg0.N = 16 from N_0)
  by_cases h : n ≤ i.val
  · have e : (⟨8 - n + i, by omega⟩ : Fin 264) = ⟨8 + (⟨i - n, by omega⟩ : Fin 256).val, by omega⟩ := Fin.ext (by show 8 - n + i.val = 8 + (i.val - n); omega)
    rw [e, rows_high, own_at P, back, dif_pos (by show n ≤ t.val * 256 + i.val; omega)]
    exact congrArg (fun r => fed z r k) (Fin.ext (by show t.val * 256 + (i.val - n) = t.val * 256 + i.val - n; omega))
  · have e : (⟨8 - n + i, by omega⟩ : Fin 264) = ⟨(⟨8 - n + i, by omega⟩ : Fin 8).val, by omega⟩ := rfl
    rw [e, rows_low, halo_at P, back]
    by_cases h0 : 0 < t.val
    · rw [dif_pos h0, dif_pos (by show n ≤ t.val * 256 + i.val; omega)]
      exact congrArg (fun r => fed z r k) (Fin.ext (by show t.val * 256 - 8 + (8 - n + i.val) = t.val * 256 + i.val - n; omega))
    · rw [dif_neg h0, dif_neg (by show ¬n ≤ t.val * 256 + i.val; omega)]

/-- A point adds its rows' part of the gradient. -/
theorem step_at (s : FVec Ideal S8x512 .f32) (j : Fin 8) (k : Fin 512) : convStep X (shifted (grid0.coords t) X) s (ix2 j k)
    = s (ix2 j k) + if j.val < 3 then ∑ i : Fin 256, cot z d (row t i) k * back z j.val (row t i) k else 0 := by
  have b0 : ∀ i k, v669 X (ix2 i k) = back z 0 (row t i) k := fun i k => own_at P i k
  have b1 : ∀ i k, v703 (shifted (grid0.coords t) X) (ix2 i k) = back z 1 (row t i) k := fun i k => (one_back _ i k).trans (back_at P 1 (by omega) i k)
  have b2 : ∀ i k, v704 (shifted (grid0.coords t) X) (ix2 i k) = back z 2 (row t i) k := fun i k => (two_back _ i k).trans (back_at P 2 (by omega) i k)
  rw [convStep]
  pointwise [k0_pay152, b0, b1, b2, dy_at P]
  by_cases h : j.val < 3
  · rw [if_pos h]
    obtain h | h | h : j.val = 0 ∨ j.val = 1 ∨ j.val = 2 := by omega
    all_goals simp [h]
  · rw [if_neg h, dif_neg (by omega), dif_neg (by omega), dif_neg (by omega)]

omit P in
theorem zero_at (j : Fin 8) (k : Fin 512) : k0_pay151 (F := Ideal) (ix2 j k) = 0 := by
  pointwise [k0_pay151]

end Cert.FrontBlock
-- ==== Proof.FrontArray.lean ====
/- The arrays the front's backward kernel leaves of its norms and of the convolution's weights. -/
module

public import proofs.«01_k».proof.Proof.FrontHost
public import proofs.«01_k».proof.Proof.FrontBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.FwdSpec Cert.FrontSpec

namespace Cert.FrontArray

open Cert.FrontBwdIdeal Cert.FrontBwdIdeal.Gen Cert.FrontDat Cert.FrontOut Cert.FrontBlock

theorem idx : ∀ t : Fin cfg0.N, win0_0.index t = ![t.val, 0] ∧ win0_1.index t = ![t.val, 0] ∧ win0_2.index t = ![32 * t.val - 1, 0] ∧ win0_8.index t = ![t.val, 0]
    ∧ win0_10.index t = ![0, 0] ∧ win0_12.index t = ![0, 0] ∧ win0_14.index t = ![0, 0] ∧ win0_24.index t = ![t.val, 0] ∧ win0_25.index t = ![t.val, 0]
    ∧ win0_26.index t = ![t.val, 0] ∧ win0_34.index t = ![0, 0] ∧ t.val < 16 :=
  (by decide +kernel : ∀ t : Fin grid0.N, _)

section
theorem read0 (A : FVec Ideal S4096x1024 .f32) (t : Fin cfg0.N) (i k) : (show FVec Ideal S256x1024 .f32 from (win0_0.blk t).view.read (Elt Ideal) A) (ix2 i k) = A (ix2 (row t i) k) := by
  blk_ext [idx t]

theorem read1 (A : FVec Ideal S4096x2304 .f32) (t : Fin cfg0.N) (i k) : (show FVec Ideal S256x2304 .f32 from (win0_1.blk t).view.read (Elt Ideal) A) (ix2 i k) = A (ix2 (row t i) k) := by
  blk_ext [idx t]

theorem read2 (A : FVec Ideal S4096x2304 .f32) (t : Fin cfg0.N) (h : 0 < t.val) (i k) : (show FVec Ideal S8x2304 .f32 from (win0_2.blk t).view.read (Elt Ideal) A) (ix2 i k)
    = A (ix2 ⟨t.val * 256 - 8 + i, by have := (idx t).2.2.2.2.2.2.2.2.2.2.2; omega⟩ k) := by
  blk_ext [idx t]

theorem read8 (A : FVec Ideal S4096x512 .f32) (t : Fin cfg0.N) (i k) : (show FVec Ideal S256x512 .f32 from (win0_8.blk t).view.read (Elt Ideal) A) (ix2 i k) = A (ix2 (row t i) k) := by
  blk_ext [idx t]

theorem read10 (A : FVec Ideal S1x1024 .f32) (t : Fin cfg0.N) (i k) : (show FVec Ideal S1x1024 .f32 from (win0_10.blk t).view.read (Elt Ideal) A) (ix2 i k) = A (ix2 i k) := by
  blk_ext [idx t]

theorem read12 (A : FVec Ideal S1x384 .f32) (t : Fin cfg0.N) (i k) : (show FVec Ideal S1x384 .f32 from (win0_12.blk t).view.read (Elt Ideal) A) (ix2 i k) = A (ix2 i k) := by
  blk_ext [idx t]

theorem read14 (A : FVec Ideal S1x256 .f32) (t : Fin cfg0.N) (i k) : (show FVec Ideal S1x256 .f32 from (win0_14.blk t).view.read (Elt Ideal) A) (ix2 i k) = A (ix2 i k) := by
  blk_ext [idx t]
end

variable (m : (ℓ : Loc nD τ sig) → Buf (Elt Ideal) ℓ) (c : Dev nD)

/-- The launch's arguments: the projection's rows in the problem's columns, in the kernel's columns, and the cotangent. -/
abbrev z : Fin 4096 → Fin 2208 → EReal := FrontRef.zed (m ((c : Thread nD τ).loc main_arg0)) (m ((c : Thread nD τ).loc main_arg7)) (m ((c : Thread nD τ).loc main_arg8))
abbrev y : FVec Ideal S4096x2304 .f32 :=
  FrontHost.made (m ((c : Thread nD τ).loc main_arg0)) (m ((c : Thread nD τ).loc main_arg7)) (m ((c : Thread nD τ).loc main_arg8))
abbrev d : Fin 4096 → Fin 512 → EReal := fun i k => m ((c : Thread nD τ).loc main_arg6) (ix2 i k)

theorem blk0 (t : Fin cfg0.N) (i k) : (insAt m c t).x0 (ix2 i k) = m ((c : Thread nD τ).loc main_arg0) (ix2 (row t i) k) := read0 (V m c main_arg0) t i k

theorem blk1 (t : Fin cfg0.N) (i k) : (insAt m c t).x1 (ix2 i k) = y m c (ix2 (row t i) k) :=
  (read1 (V m c main_v67) t i k).trans (congrFun (FrontHost.V_z m c) _)

theorem blk2 (t : Fin cfg0.N) (i k) (h : 0 < t.val) : (insAt m c t).x2 (ix2 i k) = y m c (ix2 ⟨t.val * 256 - 8 + i, by have := (idx t).2.2.2.2.2.2.2.2.2.2.2; omega⟩ k) :=
  (read2 (V m c main_v67) t h i k).trans (congrFun (FrontHost.V_z m c) _)

theorem blk8 (t : Fin cfg0.N) (i k) : (insAt m c t).x8 (ix2 i k) = d m c (row t i) k := read8 (V m c main_arg6) t i k

theorem gain10 (A : FVec Ideal S1024 .f32) (i : Fin 1) (k : Fin 1024) : (shapeCast S1x1024 A shapeCasts_S1024_S1x1024 : FVec Ideal S1x1024 .f32) (ix2 i k) = A (ix1 k) := by
  pointwise []

theorem gain12 (A : FVec Ideal S384 .f32) (i : Fin 1) (k : Fin 384) : (shapeCast S1x384 A shapeCasts_S384_S1x384 : FVec Ideal S1x384 .f32) (ix2 i k) = A (ix1 k) := by
  pointwise []

theorem gain14 (A : FVec Ideal S256 .f32) (i : Fin 1) (k : Fin 256) : (shapeCast S1x256 A shapeCasts_S256_S1x256 : FVec Ideal S1x256 .f32) (ix2 i k) = A (ix1 k) := by
  pointwise []

theorem blk10 (t : Fin cfg0.N) (i k) : (insAt m c t).x10 (ix2 i k) = m ((c : Thread nD τ).loc main_arg7) (ix1 k) :=
  (read10 (V m c main_v35) t i k).trans ((congrFun (FrontHost.V_mix m c) _).trans (gain10 _ i k))

theorem blk12 (t : Fin cfg0.N) (i k) : (insAt m c t).x12 (ix2 i k) = m ((c : Thread nD τ).loc main_arg9) (ix1 k) :=
  (read12 (V m c main_v37) t i k).trans ((congrFun (FrontHost.V_q m c) _).trans (gain12 _ i k))

theorem blk14 (t : Fin cfg0.N) (i k) : (insAt m c t).x14 (ix2 i k) = m ((c : Thread nD τ).loc main_arg11) (ix1 k) :=
  (read14 (V m c main_v41) t i k).trans ((congrFun (FrontHost.V_kv m c) _).trans (gain14 _ i k))

/-- A grid point finds its rows of these. -/
theorem point (t : Fin cfg0.N) : Point t (insAt m c t) (fun i k => y m c (ix2 i k)) (z m c) (d m c) where
  own := blk1 m c t
  before i k h := blk2 m c t i k h
  conv := blk8 m c t
  outer i k := (FrontHost.made_high i ⟨640 + k, by omega⟩ (by dsimp only; omega) (by dsimp only; omega)).trans (congrArg (z m c i) (Fin.ext (by dsimp only; omega)))
  inner i k := (FrontHost.made_high i ⟨1152 + k, by omega⟩ (by dsimp only; omega) (by dsimp only; omega)).trans (congrArg (z m c i) (Fin.ext (by dsimp only; omega)))
  input i k := (FrontHost.made_high i ⟨1664 + k, by omega⟩ (by dsimp only; omega) (by dsimp only; omega)).trans (congrArg (z m c i) (Fin.ext (by dsimp only; omega)))

set_option maxHeartbeats 4000000 in
/-- The normed input. -/
theorem final24 : (dats m 0 c).arrAt 24 cfg0.N
    = fun j => normed 1024 (fun k => m ((c : Thread nD τ).loc main_arg0) (ix2 (j 0) k)) (fun k => m ((c : Thread nD τ).loc main_arg7) (ix1 k)) (j 1) := by
  refine (dats m 0 c).arrAt_eq_of_covers 24 _ (by decide +kernel) fun t _ v => ?_
  have e : (win0_24.blk t).view.emb v = ix2 (row t (v 0)) (v 1) := by blk_ext [idx t]
  blk_simp
  rw [after_24, e, eq_ix2 v]
  exact FrontBlock.h_at (x := fun i k => m ((c : Thread nD τ).loc main_arg0) (ix2 (row t i) k)) (blk0 m c t) (blk10 m c t) (v 0) (v 1)

set_option maxHeartbeats 4000000 in
/-- The normed query latent. -/
theorem final25 : (dats m 0 c).arrAt 25 cfg0.N
    = fun j => normed 384 (fun k : Fin 384 => z m c (j 0) ⟨k, by omega⟩) (fun k => m ((c : Thread nD τ).loc main_arg9) (ix1 k)) (j 1) := by
  refine (dats m 0 c).arrAt_eq_of_covers 25 _ (by decide +kernel) fun t _ v => ?_
  have e : (win0_25.blk t).view.emb v = ix2 (row t (v 0)) (v 1) := by blk_ext [idx t]
  blk_simp
  rw [after_25, e, eq_ix2 v]
  refine (FrontBlock.qn_at (u := fun i k => y m c (ix2 (row t i) k)) (blk1 m c t) (blk12 m c t) (v 0) (v 1)).trans ?_
  exact congrArg (fun f => normed 384 f _ _) (funext fun k : Fin 384 => FrontHost.made_low (row t (v 0)) ⟨k, by omega⟩)

set_option maxHeartbeats 4000000 in
/-- The normed key and value latent. -/
theorem final26 : (dats m 0 c).arrAt 26 cfg0.N
    = fun j => normed 256 (fun k : Fin 256 => z m c (j 0) ⟨384 + k, by omega⟩) (fun k => m ((c : Thread nD τ).loc main_arg11) (ix1 k)) (j 1) := by
  refine (dats m 0 c).arrAt_eq_of_covers 26 _ (by decide +kernel) fun t _ v => ?_
  have e : (win0_26.blk t).view.emb v = ix2 (row t (v 0)) (v 1) := by blk_ext [idx t]
  blk_simp
  rw [after_26, e, eq_ix2 v]
  refine (FrontBlock.kvn_at (u := fun i k => y m c (ix2 (row t i) k)) (blk1 m c t) (blk14 m c t) (v 0) (v 1)).trans ?_
  exact congrArg (fun f => normed 256 f _ _) (funext fun k : Fin 256 => FrontHost.made_low (row t (v 0)) ⟨384 + k, by omega⟩)

/-- Where the carried sum starts. -/
abbrev nought : FVec Ideal S8x512 .f32 := fun _ => FloatOps.ofBits (F := Ideal) .f32 0#32

/-- A point's part of the convolution's gradient. -/
def part (p : Fin cfg0.N) (j : S8x512.Idx) : EReal :=
  if (j 0).val < 3 then ∑ i : Fin 256, cot (z m c) (d m c) (row p i) (j 1) * back (z m c) (j 0).val (row p i) (j 1) else 0

theorem conv_first (p : Fin cfg0.N) (e : p.val % 16 = 0) (j : S8x512.Idx) : convAt m c p j = 0 + part m c p j := by
  have h := carried_step (fun t a => convOut (grid0.coords t) (insAt m c t) a) nought (fun t ht => convOut_first t (insAt m c t) ht) p
    nought (fun hn => absurd e hn)
  rw [convAt, ← h]
  unfold convOut
  rw [if_pos ((hcond0_0 p).2 e), eq_ix2 j]
  refine (FrontBlock.step_at (point m c p) _ (j 0) (j 1)).trans ?_
  refine (congrArg (· + _) (FrontBlock.zero_at (j 0) (j 1))).trans ?_
  rfl

theorem conv_next (p : Fin cfg0.N) (e : ¬p.val % 16 = 0) (j : S8x512.Idx) :
    convAt m c p j = convAt m c ⟨p.val - 1, Nat.lt_of_le_of_lt (Nat.sub_le _ _) p.isLt⟩ j + part m c p j := by
  have h := carried_step (fun t a => convOut (grid0.coords t) (insAt m c t) a) nought (fun t ht => convOut_first t (insAt m c t) ht) p
    (convAt m c ⟨p.val - 1, Nat.lt_of_le_of_lt (Nat.sub_le _ _) p.isLt⟩) (fun _ => rfl)
  have hl : ∀ a : Vec Ideal S8x512 .f32, (View.ld a (Rect.unit (s := S8x512) ![0, 0] S8x512.size inb_S8x512_S8x512_0_0) : Vec Ideal S8x512 .f32) = a := fun a =>
    View.ld_unit_lit inb_S8x512_S8x512_0_0 a (by decide)
  rw [show convAt m c p = _ from h.symm]
  unfold convOut
  rw [if_neg fun hc => e ((hcond0_0 p).1 hc), hl, eq_ix2 j]
  exact FrontBlock.step_at (point m c p) _ (j 0) (j 1)

/-- The sixteen points' parts are the whole gradient. -/
theorem sum_points (j : S8x512.Idx) : ∑ p, part m c p j = taps (z m c) (d m c) (j 0) (j 1) := by
  unfold part taps
  by_cases h : (j 0).val < 3
  · simp only [if_pos h]
    exact Fin.sum_mul_add_congr fun s k hl => rfl
  · simp only [if_neg h, Finset.sum_const_zero]

/-- The last grid point. -/
abbrev last : Fin cfg0.N := ⟨15, by decide⟩

set_option maxHeartbeats 4000000 in
/-- The convolution's weights' gradient. -/
theorem final34 : (dats m 0 c).arrAt 34 cfg0.N = fun j => taps (z m c) (d m c) (j 0) (j 1) := by
  refine (dats m 0 c).arrAt_eq_of_after_last 34 last (by decide +kernel) _ fun j => ?_
  blk_simp
  rw [after_34, Pipeline.eq_sum_fin_of_reset_step_apply_last (fun n h => convAt m c ⟨n, h⟩) 16 (fun _ => 0) (part m c) (conv_first m c) (conv_next m c)
    (le_of_eq N_0) last rfl j, zero_add]
  exact sum_points m c j

end Cert.FrontArray
-- ==== Proof.FrontClaim.lean ====
/- The front's backward: four of its kernel's arrays against the problem's lines and the derivative. -/
module

public import proofs.«01_k».proof.Defs
public import proofs.«01_k».proof.Proof.Gen.FrontBwdRefIdeal.Run
public import proofs.«01_k».proof.Proof.FrontArray
public import Idealize.ShloMosaic.Init

@[expose] public section

set_option maxRecDepth 16384

noncomputable section

open Idealize.ShloMosaic Idealize.ShloMosaic.TcCoe Idealize.SL.Sem

namespace Cert.FrontClaim

section Kernel
open Cert.FrontBwdIdeal Cert.FrontBwdIdeal.Gen Cert.FrontDat

variable (m : (ℓ : Loc nD τ sig) → Buf (Elt Ideal) ℓ) (ρ : Dev nD → PrngReg)

/-- The kernel's run, with the four arrays claimed. -/
theorem kernel : θ_run defs (onTc (τ := τ) (main (F := Ideal))) ⟨m, fun _ => 0, ρ⟩ fun r => ∀ c : Dev nD,
    r.2.mem ((c.tc : Thread nD τ).loc main_v127_2) = (dats m 0 c).arrAt 24 cfg0.N
    ∧ r.2.mem ((c.tc : Thread nD τ).loc main_v127_3) = (dats m 0 c).arrAt 25 cfg0.N
    ∧ r.2.mem ((c.tc : Thread nD τ).loc main_v127_4) = (dats m 0 c).arrAt 26 cfg0.N
    ∧ r.2.mem ((c.tc : Thread nD τ).loc main_v127_12) = (dats m 0 c).arrAt 34 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17) :=
  (θ_run defs _ _).mono (fun r h c => ⟨(h.1.1 c).1 24, (h.1.1 c).1 25, (h.1.1 c).1 26, (h.1.1 c).1 34, h.2.1 c⟩)
    (θ_run_and (run_quiet m ρ) (FrontDat.frame m ρ))

end Kernel

section Derivative
open Cert.FrontBwdRefIdeal Cert.FrontBwdRefIdeal.Gen Cert.FrontBwdRefIdeal.Read

variable (m : (ℓ : Loc nD τ sig) → Buf (Elt Ideal) ℓ) (ρ : Dev nD → PrngReg)

/-- The lines' run, with the convolution's derivative. -/
theorem derivative : θ_run defs (onTc (τ := τ) (main (F := Ideal))) ⟨m, fun _ => 0, ρ⟩ fun r => ∀ c : Dev nD,
    r.2.mem ((c.tc : Thread nD τ).loc main_v92) = val_main_v92 (F := Ideal) (m ((c.tc : Thread nD τ).loc main_arg0)) (m ((c.tc : Thread nD τ).loc main_arg7))
    ∧ r.2.mem ((c.tc : Thread nD τ).loc main_v93) = val_main_v93 (F := Ideal) (m ((c.tc : Thread nD τ).loc main_arg0)) (m ((c.tc : Thread nD τ).loc main_arg7)) (m ((c.tc : Thread nD τ).loc main_arg8)) (m ((c.tc : Thread nD τ).loc main_arg9))
    ∧ r.2.mem ((c.tc : Thread nD τ).loc main_v94) = val_main_v94 (F := Ideal) (m ((c.tc : Thread nD τ).loc main_arg0)) (m ((c.tc : Thread nD τ).loc main_arg7)) (m ((c.tc : Thread nD τ).loc main_arg8)) (m ((c.tc : Thread nD τ).loc main_arg11))
    ∧ r.2.mem ((c.tc : Thread nD τ).loc main_v95) = val_main_v95 (F := Ideal) (m ((c.tc : Thread nD τ).loc main_arg0)) (m ((c.tc : Thread nD τ).loc main_arg6)) (m ((c.tc : Thread nD τ).loc main_arg7)) (m ((c.tc : Thread nD τ).loc main_arg8))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17) :=
  (θ_run defs _ _).mono (fun r h c => by
    obtain ⟨r0, r1, r2, r3, kept⟩ := h c
    exact ⟨r0.trans (val_main_v92_eq _ _), r1.trans (val_main_v93_eq _ _ _ _), r2.trans (val_main_v94_eq _ _ _ _), r3.trans (val_main_v95_eq _ _), kept⟩)
    (Cert.FrontBwdRefIdeal.Value.run m ρ)

end Derivative

/-- The lines' program keeps its arguments; it has no semaphore. -/
theorem frame : Cert.quiescent_FrontBwdRefIdeal := fun m ρ _ =>
  (θ_run Cert.FrontBwdRefIdeal.defs _ _).mono (fun r h => ⟨fun c => (h c).2.2.2.2, sem_eq_zero_of_no_sems (by decide) r.2⟩) (derivative m ρ)

/-- The kernel's four arrays are theirs, on any arguments. -/
theorem value : Cert.algebraic_FrontBwdIdeal_FrontBwdRefIdeal := by
  intro m ρ m' ρ' hpre hagree
  refine ⟨_, _, _, _, kernel m ρ, (θ_run Cert.FrontBwdRefIdeal.defs _ _).mono (fun r h c => ?_) (derivative m' ρ')⟩
  obtain ⟨r0, r1, r2, r3, kept⟩ := h c
  obtain ⟨e0, e1, e2, e3, e4, e5, e6, e7, e8, e9, e10, e11, e12, e13, e14, e15, e16, e17⟩ := hagree c
  rw [e0, e7] at r0
  rw [e0, e7, e8, e9] at r1
  rw [e0, e7, e8, e11] at r2
  rw [e0, e6, e7, e8] at r3
  refine ⟨r0.trans ?_, r1.trans ?_, r2.trans ?_, r3.trans ?_, kept⟩
  · refine Eq.trans (funext fun j => ?_) (FrontArray.final24 m c).symm
    rw [eq_ix2 j]; exact FrontRef.h_at _ _
  · refine Eq.trans (funext fun j => ?_) (FrontArray.final25 m c).symm
    rw [eq_ix2 j]; exact FrontRef.qn_at _ _
  · refine Eq.trans (funext fun j => ?_) (FrontArray.final26 m c).symm
    rw [eq_ix2 j]; exact FrontRef.kvn_at _ _
  · refine Eq.trans (funext fun j => ?_) (FrontArray.final34 m c).symm
    rw [eq_ix2 j]; exact FrontRef.taps_at _ _

end Cert.FrontClaim
-- ==== Proof.MixFwdRef.lean ====
/- The problem's lines of the output projection, read at an index. -/
module

public import proofs.«01_k».proof.Proof.Gen.MixFwdRefIdeal.Read
public import proofs.«01_k».proof.Proof.FwdSpec

@[expose] public section

set_option maxRecDepth 16384

noncomputable section

open Idealize.ShloMosaic Idealize.ShloMosaic.TcCoe Idealize.SL.Sem
open Cert.Reals Cert.FwdSpec

namespace Cert.MixFwdRef

open Cert.MixFwdRefIdeal Cert.MixFwdRefIdeal.Gen Cert.MixFwdRefIdeal.Read

variable {x0 : FVec Ideal S4096x1024 .f32} {x1 : FVec Ideal S4096x512 .f32} {x2 : FVec Ideal S4096x512 .f32} {x3 : FVec Ideal S512 .f32} {x4 : FVec Ideal S512 .f32} {x5 : FVec Ideal S1024x1024 .f32}

theorem out_at (i : Fin 4096) (c : Fin 1024) : val_main_v28 (F := Ideal) x0 x1 x2 x3 x4 x5 (ix2 i c)
    = mix (fun i k => x0 (ix2 i k)) (fun i k => x1 (ix2 i k)) (fun i k => x2 (ix2 i k)) (fun k => x3 (ix1 k)) (fun k => x4 (ix1 k)) (fun i k => x5 (ix2 i k)) i c := by
  pointwise [val_main_v28, val_main_v27, val_main_v26, val_main_v25, val_main_v24, val_main_v23, val_main_v22, val_main_v21, val_main_v20, val_main_v19, val_main_v18, val_main_cst_4, val_main_v17, val_main_v16, val_main_cst_3, val_main_v15, val_main_v14, val_main_cst_2, val_main_v13, val_main_v12, val_main_v11, val_main_v10, val_main_v9, val_main_v8, val_main_v7, val_main_v6, val_main_v5, val_main_cst_1, val_main_v4, val_main_v3, val_main_cst_0, val_main_v2, val_main_v1, val_main_v0, val_main_cst, word_512, word_eps]
  simp only [mix, normed]

end Cert.MixFwdRef
-- ==== Proof.MixFwdBlock.lean ====
/- What one block of the output projection stores. -/
module

public import proofs.«01_k».proof.Proof.Gen.MixFwdIdeal.Skeleton
public import proofs.«01_k».proof.Proof.FwdSpec

@[expose] public section

set_option maxRecDepth 16384

noncomputable section

open Idealize.ShloMosaic Idealize.ShloMosaic.TcCoe Idealize.SL.Sem
open Cert.Reals Cert.FwdSpec

namespace Cert.MixFwdBlock

open Cert.MixFwdIdeal Cert.MixFwdIdeal.Gen

variable {x0 : FVec Ideal S512x1024 .f32} {x1 x2 : FVec Ideal S512x512 .f32} {x3 x4 : FVec Ideal S1x512 .f32} {x5 : FVec Ideal S8x128x1024 .bf16}
variable {x : Fin 512 → Fin 1024 → EReal} {a b : Fin 512 → Fin 512 → EReal} {g h : Fin 512 → EReal} {w : Fin 1024 → Fin 1024 → EReal}

/-- A block's rows: the residual and the product with the weight, whose rows come as eight stacked groups. -/
theorem out_at (h0 : ∀ i c, x0 (ix2 i c) = x i c) (h1 : ∀ i c, x1 (ix2 i c) = a i c) (h2 : ∀ i c, x2 (ix2 i c) = b i c)
    (h3 : ∀ z c, x3 (ix2 z c) = g c) (h4 : ∀ z c, x4 (ix2 z c) = h c)
    (h5 : ∀ (n : Fin 8) (r : Fin 128) c, x5 (ix3 n r c) = w ⟨128 * n + r, by omega⟩ c) (i : Fin 512) (c : Fin 1024) :
    k0_pay1 (F := Ideal) x1 x3 x2 x4 x0 x5 (ix2 i c) = mix x a b g h w i c := by
  have hc : ∀ (k : Fin 1024) c, x5 (ix3 ⟨k / 128, by omega⟩ ⟨k % 128, by omega⟩ c) = w k c := fun k c => by
    rw [h5]
    exact congrArg (fun e => w e c) (Fin.ext (Nat.div_add_mod _ _))
  pointwise [k0_pay1, h0, h1, h2, h3, h4, hc, word_512, word_eps]
  simp only [mix, normed]

end Cert.MixFwdBlock
-- ==== Proof.MixFwdArray.lean ====
/- The array the output projection leaves. -/
module

public import proofs.«01_k».proof.Proof.Gen.MixFwdIdeal.Value
public import proofs.«01_k».proof.Proof.MixFwdBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.FwdSpec

namespace Cert.MixFwdArray

open Cert.MixFwdIdeal Cert.MixFwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0, 0] ∧ win0_6.index t = ![t.val, 0] ∧ t.val < 8 :=
  (by decide +kernel : ∀ t : Fin grid0.N, _)

/-- A row of a block, as a row of its array. -/
abbrev row (t : Fin cfg0.N) (i : Fin 512) : Fin 4096 := ⟨t.val * 512 + i, by have := (idx t).2.2.2.2.2.2.2; omega⟩

variable (c : Dev nD)

theorem blk0 (t : Fin cfg0.N) (i : Fin 512) (k : Fin 1024) : (show FVec Ideal S512x1024 .f32 from iblk m c 0 t) (ix2 i k) = m ((c : Thread nD τ).loc main_arg0) (ix2 (row t i) k) := by
  blk_ext [iblk, V, idx t]

theorem blk1 (t : Fin cfg0.N) (i : Fin 512) (k : Fin 512) : (show FVec Ideal S512x512 .f32 from iblk m c 1 t) (ix2 i k) = m ((c : Thread nD τ).loc main_arg1) (ix2 (row t i) k) := by
  blk_ext [iblk, V, idx t]

theorem blk2 (t : Fin cfg0.N) (i : Fin 512) (k : Fin 512) : (show FVec Ideal S512x512 .f32 from iblk m c 2 t) (ix2 i k) = m ((c : Thread nD τ).loc main_arg2) (ix2 (row t i) k) := by
  blk_ext [iblk, V, idx t]

theorem blk3 (t : Fin cfg0.N) (z : Fin 1) (k : Fin 512) : (show FVec Ideal S1x512 .f32 from iblk m c 3 t) (ix2 z k) = m ((c : Thread nD τ).loc main_arg3) (ix1 k) := by
  blk_point [iblk, V, idx t]

theorem blk4 (t : Fin cfg0.N) (z : Fin 1) (k : Fin 512) : (show FVec Ideal S1x512 .f32 from iblk m c 4 t) (ix2 z k) = m ((c : Thread nD τ).loc main_arg4) (ix1 k) := by
  blk_point [iblk, V, idx t]

theorem blk5 (t : Fin cfg0.N) (n : Fin 8) (r : Fin 128) (k : Fin 1024) : (show FVec Ideal S8x128x1024 .bf16 from iblk m c 5 t) (ix3 n r k) = m ((c : Thread nD τ).loc main_arg5) (ix2 ⟨128 * n + r, by omega⟩ k) := by
  blk_point [iblk, V, idx t]

set_option maxHeartbeats 4000000 in
/-- The array: every block is its rows of the lines. -/
theorem final : (dats m 0 c).arrAt 6 (cfgs 0).N = fun j => mix (fun i k => (m ((c : Thread nD τ).loc main_arg0)) (ix2 i k)) (fun i k => (m ((c : Thread nD τ).loc main_arg1)) (ix2 i k)) (fun i k => (m ((c : Thread nD τ).loc main_arg2)) (ix2 i k)) (fun k => (m ((c : Thread nD τ).loc main_arg3)) (ix1 k)) (fun k => (m ((c : Thread nD τ).loc main_arg4)) (ix1 k)) (fun i k => (m ((c : Thread nD τ).loc main_arg5)) (ix2 i k)) (j 0) (j 1) := by
  refine (dats m 0 c).arrAt_eq_of_covers 6 _ (by decide +kernel) fun t _ y => ?_
  have e : (win0_6.blk t).view.emb y = ix2 (row t (y 0)) (y 1) := by blk_ext [idx t]
  blk_simp
  rw [after0_6, e, eq_ix2 y]
  unfold out0_6
  frame_out
  exact MixFwdBlock.out_at (x := fun i k => m ((c : Thread nD τ).loc main_arg0) (ix2 (row t i) k)) (a := fun i k => m ((c : Thread nD τ).loc main_arg1) (ix2 (row t i) k)) (b := fun i k => m ((c : Thread nD τ).loc main_arg2) (ix2 (row t i) k)) (g := fun k => m ((c : Thread nD τ).loc main_arg3) (ix1 k)) (h := fun k => m ((c : Thread nD τ).loc main_arg4) (ix1 k)) (w := fun i k => m ((c : Thread nD τ).loc main_arg5) (ix2 i k))
    (blk0 m c t) (blk1 m c t) (blk2 m c t) (blk3 m c t) (blk4 m c t) (blk5 m c t) (y 0) (y 1)

end Cert.MixFwdArray
-- ==== Proof.MixFwdClaim.lean ====
/- The output projection against the problem's lines: the same array on any arguments. -/
module

public import proofs.«01_k».proof.Defs
public import proofs.«01_k».proof.Proof.Gen.MixFwdIdeal
public import proofs.«01_k».proof.Proof.Gen.MixFwdRefIdeal
public import proofs.«01_k».proof.Proof.MixFwdRef
public import proofs.«01_k».proof.Proof.MixFwdArray
public import Idealize.ShloMosaic.Lib.Claim

@[expose] public section

set_option maxRecDepth 16384

noncomputable section

open Idealize.ShloMosaic Idealize.ShloMosaic.TcCoe Idealize.SL.Sem

namespace Cert.MixFwdClaim

open Cert.MixFwdRefIdeal Cert.MixFwdRefIdeal.Gen Cert.MixFwdRefIdeal.Read in
/-- The run of the problem's lines: their result is its composed value, their arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun r h c => by
    obtain ⟨r0, kept⟩ := h c
    exact ⟨r0.trans (val_main_v28_eq _ _ _ _ _ _), kept⟩) (Cert.MixFwdRefIdeal.Value.run m ρ)

/-- The lines' program keeps its arguments; it has no semaphore. -/
theorem frame : Cert.quiescent_MixFwdRefIdeal := fun m ρ _ =>
  (θ_run Cert.MixFwdRefIdeal.defs _ _).mono (fun r h => ⟨fun c => (h c).2, sem_eq_zero_of_no_sems (by decide) r.2⟩) (run m ρ)

/-- The kernel's array is theirs. -/
theorem value : Cert.algebraic_MixFwdIdeal_MixFwdRefIdeal := by
  intro m ρ m' ρ' hpre hagree
  refine ⟨_, Cert.MixFwdIdeal.Value.run_blocks (F := Ideal) m ρ, (θ_run Cert.MixFwdRefIdeal.defs _ _).mono (fun r h c => ?_) (run m' ρ')⟩
  obtain ⟨r0, kept⟩ := h c
  obtain ⟨e0, e1, e2, e3, e4, e5⟩ := hagree c
  refine ⟨r0.trans ?_, kept⟩
  rw [e0, e1, e2, e3, e4, e5]
  refine Eq.trans (funext fun j => ?_) (MixFwdArray.final m c).symm
  rw [eq_ix2 j]; exact MixFwdRef.out_at _ _

end Cert.MixFwdClaim
-- ==== Proof.MlpFwdRef.lean ====
/- The problem's lines of the channel mixer, read at an index. -/
module

public import proofs.«01_k».proof.Proof.Gen.MlpFwdRefIdeal.Read
public import proofs.«01_k».proof.Proof.FwdSpec

@[expose] public section

set_option maxRecDepth 16384

noncomputable section

open Idealize.ShloMosaic Idealize.ShloMosaic.TcCoe Idealize.SL.Sem
open Cert.Reals Cert.FwdSpec

namespace Cert.MlpFwdRef

open Cert.MlpFwdRefIdeal Cert.MlpFwdRefIdeal.Gen Cert.MlpFwdRefIdeal.Read

variable {x0 : FVec Ideal S4096x1024 .f32} {x1 : FVec Ideal S1024 .f32} {x2 : FVec Ideal S1024x4096 .f32} {x3 : FVec Ideal S4096x1024 .f32}

theorem out_at (i : Fin 4096) (c : Fin 1024) : val_main_v17 (F := Ideal) x0 x1 x2 x3 (ix2 i c)
    = mlp (fun i k => x0 (ix2 i k)) (fun k => x1 (ix1 k)) (fun i k => x2 (ix2 i k)) (fun i k => x3 (ix2 i k)) i c := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_cst, val_main_call0_v0, val_main_cst, val_main_cst_0, val_main_cst_1, word_1024, word_eps]
  simp only [mlp, act, normed]

end Cert.MlpFwdRef
-- ==== Proof.MlpFwdBlock.lean ====
/- What one block of the channel mixer stores. -/
module

public import proofs.«01_k».proof.Proof.Gen.MlpFwdIdeal.Skeleton
public import proofs.«01_k».proof.Proof.FwdSpec

@[expose] public section

set_option maxRecDepth 16384

noncomputable section

open Idealize.ShloMosaic Idealize.ShloMosaic.TcCoe Idealize.SL.Sem
open Cert.Reals Cert.FwdSpec

namespace Cert.MlpFwdBlock

open Cert.MlpFwdIdeal Cert.MlpFwdIdeal.Gen

variable {x0 : FVec Ideal S256x1024 .f32} {x1 : FVec Ideal S1x1024 .f32} {u u0 u1 u2 u3 u4 u5 u6 u7 : FVec Ideal S1x1024x512 .bf16} {d d0 d1 d2 d3 d4 d5 d6 d7 : FVec Ideal S1x512x1024 .bf16}
variable {x : Fin 256 → Fin 1024 → EReal} {g : Fin 1024 → EReal} {up : Fin 1024 → Fin 4096 → EReal} {down : Fin 4096 → Fin 1024 → EReal}

/-- A block's normed rows. -/
theorem norm_at (h0 : ∀ i c, x0 (ix2 i c) = x i c) (h1 : ∀ z c, x1 (ix2 z c) = g c) (i : Fin 256) (c : Fin 1024) :
    k0_pay2 (F := Ideal) x0 x1 (ix2 i c) = normed 1024 (x i) g c := by
  pointwise [k0_pay2, h0, h1, word_1024, word_eps]
  simp only [normed]

/-- One step over 512 hidden lanes. -/
def step (x0 : FVec Ideal S256x1024 .f32) (x1 : FVec Ideal S1x1024 .f32) (acc : FVec Ideal S256x1024 .f32) (u : FVec Ideal S1x1024x512 .bf16)
    (d : FVec Ideal S1x512x1024 .bf16) : FVec Ideal S256x1024 .f32 := k0_pay1 acc (k0_pay8 (k0_pay2 x0 x1) u) d

theorem step_at (h0 : ∀ i c, x0 (ix2 i c) = x i c) (h1 : ∀ z c, x1 (ix2 z c) = g c) {n : Fin 8} (hu : ∀ z k l, u (ix3 z k l) = up k (lane n l))
    (hd : ∀ z l k, d (ix3 z l k) = down (lane n l) k) {acc : FVec Ideal S256x1024 .f32} {a : Fin 256 → Fin 1024 → EReal}
    (ha : ∀ i c, acc (ix2 i c) = a i c) (i : Fin 256) (c : Fin 1024) : step x0 x1 acc u d (ix2 i c) = a i c + part x g up down n i c := by
  pointwise [step, k0_pay1, k0_pay8, norm_at h0 h1, hu, hd, ha]
  simp only [part, act]

/-- The blocks of the two weights a point loads. -/
structure Parts (up : Fin 1024 → Fin 4096 → EReal) (down : Fin 4096 → Fin 1024 → EReal) (u0 u1 u2 u3 u4 u5 u6 u7 : FVec Ideal S1x1024x512 .bf16)
    (d0 d1 d2 d3 d4 d5 d6 d7 : FVec Ideal S1x512x1024 .bf16) : Prop where
  u0 : ∀ z k l, u0 (ix3 z k l) = up k (lane 0 l)
  u1 : ∀ z k l, u1 (ix3 z k l) = up k (lane 1 l)
  u2 : ∀ z k l, u2 (ix3 z k l) = up k (lane 2 l)
  u3 : ∀ z k l, u3 (ix3 z k l) = up k (lane 3 l)
  u4 : ∀ z k l, u4 (ix3 z k l) = up k (lane 4 l)
  u5 : ∀ z k l, u5 (ix3 z k l) = up k (lane 5 l)
  u6 : ∀ z k l, u6 (ix3 z k l) = up k (lane 6 l)
  u7 : ∀ z k l, u7 (ix3 z k l) = up k (lane 7 l)
  d0 : ∀ z l k, d0 (ix3 z l k) = down (lane 0 l) k
  d1 : ∀ z l k, d1 (ix3 z l k) = down (lane 1 l) k
  d2 : ∀ z l k, d2 (ix3 z l k) = down (lane 2 l) k
  d3 : ∀ z l k, d3 (ix3 z l k) = down (lane 3 l) k
  d4 : ∀ z l k, d4 (ix3 z l k) = down (lane 4 l) k
  d5 : ∀ z l k, d5 (ix3 z l k) = down (lane 5 l) k
  d6 : ∀ z l k, d6 (ix3 z l k) = down (lane 6 l) k
  d7 : ∀ z l k, d7 (ix3 z l k) = down (lane 7 l) k

/-- A block's rows, as they are stored. -/
def rows (x0 : FVec Ideal S256x1024 .f32) (x1 : FVec Ideal S1x1024 .f32) (u0 u1 u2 u3 u4 u5 u6 u7 : FVec Ideal S1x1024x512 .bf16)
    (d0 d1 d2 d3 d4 d5 d6 d7 : FVec Ideal S1x512x1024 .bf16) : FVec Ideal S256x1024 .f32 :=
  k0_pay1 (k0_pay7 (k0_pay2 x0 x1) (k0_pay5 (k0_pay2 x0 x1) (k0_pay3 x0 x1 u0 d0) (k0_pay4 x0 x1 u1) d1 u2 d2 u3 d3) (k0_pay6 (k0_pay2 x0 x1) u4) d4 u5 d5 u6 d6)
    (k0_pay8 (k0_pay2 x0 x1) u7) d7

/-- They are eight steps from the residual. -/
theorem rows_eq : rows x0 x1 u0 u1 u2 u3 u4 u5 u6 u7 d0 d1 d2 d3 d4 d5 d6 d7
    = step x0 x1 (step x0 x1 (step x0 x1 (step x0 x1 (step x0 x1 (step x0 x1 (step x0 x1 (step x0 x1 x0 u0 d0) u1 d1) u2 d2) u3 d3) u4 d4) u5 d5) u6 d6) u7 d7 := rfl

theorem out_at (h0 : ∀ i c, x0 (ix2 i c) = x i c) (h1 : ∀ z c, x1 (ix2 z c) = g c) (h : Parts up down u0 u1 u2 u3 u4 u5 u6 u7 d0 d1 d2 d3 d4 d5 d6 d7) (i : Fin 256) (c : Fin 1024) :
    rows x0 x1 u0 u1 u2 u3 u4 u5 u6 u7 d0 d1 d2 d3 d4 d5 d6 d7 (ix2 i c) = mlp x g up down i c := by
  rw [rows_eq, (step_at h0 h1 h.u7 h.d7 (step_at h0 h1 h.u6 h.d6 (step_at h0 h1 h.u5 h.d5 (step_at h0 h1 h.u4 h.d4 (step_at h0 h1 h.u3 h.d3 (step_at h0 h1 h.u2 h.d2 (step_at h0 h1 h.u1 h.d1 (step_at h0 h1 h.u0 h.d0 h0)))))))) i c, ← sum_parts, Fin.sum_univ_eight]
  simp only [add_assoc]

end Cert.MlpFwdBlock
-- ==== Proof.MlpFwdArray.lean ====
/- The array the channel mixer leaves. -/
module

public import proofs.«01_k».proof.Proof.Gen.MlpFwdIdeal.Value
public import proofs.«01_k».proof.Proof.MlpFwdBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.FwdSpec

namespace Cert.MlpFwdArray

open Cert.MlpFwdIdeal Cert.MlpFwdIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0, 0] ∧ win0_3.index t = ![0, 0, 0] ∧ win0_4.index t = ![t.val, 0] ∧ t.val < 16 :=
  (by decide +kernel : ∀ t : Fin grid0.N, _)

/-- A row of a block, as a row of its array. -/
abbrev row (t : Fin cfg0.N) (i : Fin 256) : Fin 4096 := ⟨t.val * 256 + i, by have := (idx t).2.2.2.2.2; omega⟩

variable (c : Dev nD)

theorem blk0 (t : Fin cfg0.N) (i : Fin 256) (k : Fin 1024) : (show FVec Ideal S256x1024 .f32 from iblk m c 0 t) (ix2 i k) = m ((c : Thread nD τ).loc main_arg0) (ix2 (row t i) k) := by
  blk_ext [iblk, V, idx t]

theorem blk1 (t : Fin cfg0.N) (z : Fin 1) (k : Fin 1024) : (show FVec Ideal S1x1024 .f32 from iblk m c 1 t) (ix2 z k) = m ((c : Thread nD τ).loc main_arg1) (ix1 k) := by
  blk_point [iblk, V, idx t]

theorem blk2 (t : Fin cfg0.N) (n : Fin 8) (k : Fin 1024) (l : Fin 512) : (show FVec Ideal S8x1024x512 .bf16 from iblk m c 2 t) (ix3 n k l) = m ((c : Thread nD τ).loc main_arg2) (ix2 k (lane n l)) := by
  blk_point [iblk, V, idx t]

theorem blk3 (t : Fin cfg0.N) (n : Fin 8) (l : Fin 512) (k : Fin 1024) : (show FVec Ideal S8x512x1024 .bf16 from iblk m c 3 t) (ix3 n l k) = m ((c : Thread nD τ).loc main_arg3) (ix2 (lane n l) k) := by
  blk_point [iblk, V, idx t]

set_option maxHeartbeats 1000000 in
/-- The array: every block is its rows of the lines. -/
theorem final : (dats m 0 c).arrAt 4 (cfgs 0).N = fun j => mlp (fun i k => (m ((c : Thread nD τ).loc main_arg0)) (ix2 i k)) (fun k => (m ((c : Thread nD τ).loc main_arg1)) (ix1 k)) (fun i k => (m ((c : Thread nD τ).loc main_arg2)) (ix2 i k)) (fun i k => (m ((c : Thread nD τ).loc main_arg3)) (ix2 i k)) (j 0) (j 1) := by
  refine (dats m 0 c).arrAt_eq_of_covers 4 _ (by decide +kernel) fun t _ y => ?_
  have e : (win0_4.blk t).view.emb y = ix2 (row t (y 0)) (y 1) := by blk_ext [idx t]
  blk_simp
  rw [after0_4, e, eq_ix2 y]
  have p2 := blk2 m c t
  have p3 := blk3 m c t
  unfold out0_4 k0_pay9
  frame_out
  exact MlpFwdBlock.out_at (x := fun i k => m ((c : Thread nD τ).loc main_arg0) (ix2 (row t i) k)) (g := fun k => m ((c : Thread nD τ).loc main_arg1) (ix1 k)) (up := fun i k => m ((c : Thread nD τ).loc main_arg2) (ix2 i k)) (down := fun i k => m ((c : Thread nD τ).loc main_arg3) (ix2 i k))
    (blk0 m c t) (blk1 m c t) (by constructor <;> intro z k l <;> pointwise [p2, p3]) (y 0) (y 1)

end Cert.MlpFwdArray
-- ==== Proof.MlpFwdClaim.lean ====
/- The channel mixer against the problem's lines: the same array on any arguments. -/
module

public import proofs.«01_k».proof.Defs
public import proofs.«01_k».proof.Proof.Gen.MlpFwdIdeal
public import proofs.«01_k».proof.Proof.Gen.MlpFwdRefIdeal
public import proofs.«01_k».proof.Proof.MlpFwdRef
public import proofs.«01_k».proof.Proof.MlpFwdArray
public import Idealize.ShloMosaic.Lib.Claim

@[expose] public section

set_option maxRecDepth 16384

noncomputable section

open Idealize.ShloMosaic Idealize.ShloMosaic.TcCoe Idealize.SL.Sem

namespace Cert.MlpFwdClaim

open Cert.MlpFwdRefIdeal Cert.MlpFwdRefIdeal.Gen Cert.MlpFwdRefIdeal.Read in
/-- The run of the problem's lines: their result is its composed value, their arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v17) = val_main_v17 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => by
    obtain ⟨r0, kept⟩ := h c
    exact ⟨r0.trans (val_main_v17_eq _ _ _ _), kept⟩) (Cert.MlpFwdRefIdeal.Value.run m ρ)

/-- The lines' program keeps its arguments; it has no semaphore. -/
theorem frame : Cert.quiescent_MlpFwdRefIdeal := fun m ρ _ =>
  (θ_run Cert.MlpFwdRefIdeal.defs _ _).mono (fun r h => ⟨fun c => (h c).2, sem_eq_zero_of_no_sems (by decide) r.2⟩) (run m ρ)

/-- The kernel's array is theirs. -/
theorem value : Cert.algebraic_MlpFwdIdeal_MlpFwdRefIdeal := by
  intro m ρ m' ρ' hpre hagree
  refine ⟨_, Cert.MlpFwdIdeal.Value.run_blocks (F := Ideal) m ρ, (θ_run Cert.MlpFwdRefIdeal.defs _ _).mono (fun r h c => ?_) (run m' ρ')⟩
  obtain ⟨r0, kept⟩ := h c
  obtain ⟨e0, e1, e2, e3⟩ := hagree c
  refine ⟨r0.trans ?_, kept⟩
  rw [e0, e1, e2, e3]
  refine Eq.trans (funext fun j => ?_) (MlpFwdArray.final m c).symm
  rw [eq_ix2 j]; exact MlpFwdRef.out_at _ _

end Cert.MlpFwdClaim
-- ==== Proof.PleFwdRef.lean ====
/- The problem's lines of the gated embedding, read at an index. -/
module

public import proofs.«01_k».proof.Proof.Gen.PleFwdRefIdeal.Read
public import proofs.«01_k».proof.Proof.FwdSpec

@[expose] public section

set_option maxRecDepth 16384

noncomputable section

open Idealize.ShloMosaic Idealize.ShloMosaic.TcCoe Idealize.SL.Sem
open Cert.Reals Cert.FwdSpec

namespace Cert.PleFwdRef

open Cert.PleFwdRefIdeal Cert.PleFwdRefIdeal.Gen Cert.PleFwdRefIdeal.Read

variable {x0 : FVec Ideal S4096x1024 .f32} {x1 : FVec Ideal S4096x256 .f32} {x2 : FVec Ideal S1024 .f32} {x3 : FVec Ideal S1024x1024 .f32} {x4 : FVec Ideal S256x1024 .f32}

theorem out_at (i : Fin 4096) (c : Fin 1024) : val_main_v22 (F := Ideal) x0 x1 x2 x3 x4 (ix2 i c)
    = ple (fun i k => x0 (ix2 i k)) (fun i k => x1 (ix2 i k)) (fun k => x2 (ix1 k)) (fun i k => x3 (ix2 i k)) (fun i k => x4 (ix2 i k)) i c := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, word_1024, word_eps]
  simp only [ple, normed]
  rfl

end Cert.PleFwdRef
-- ==== Proof.PleFwdBlock.lean ====
/- What one block of the gated embedding stores. -/
module

public import proofs.«01_k».proof.Proof.Gen.PleFwdIdeal.Skeleton
public import proofs.«01_k».proof.Proof.FwdSpec

@[expose] public section

set_option maxRecDepth 16384

noncomputable section

open Idealize.ShloMosaic Idealize.ShloMosaic.TcCoe Idealize.SL.Sem
open Cert.Reals Cert.FwdSpec

namespace Cert.PleFwdBlock

open Cert.PleFwdIdeal Cert.PleFwdIdeal.Gen

variable {x0 : FVec Ideal S512x1024 .f32} {x1 : FVec Ideal S512x256 .f32} {x2 : FVec Ideal S1x1024 .f32} {x3 : FVec Ideal S8x128x1024 .bf16}
variable {d0 d1 d2 d3 d4 d5 d6 d7 : FVec Ideal S1x256x128 .bf16}
variable {x : Fin 512 → Fin 1024 → EReal} {p : Fin 512 → Fin 256 → EReal} {g : Fin 1024 → EReal} {wg : Fin 1024 → Fin 1024 → EReal} {we : Fin 256 → Fin 1024 → EReal}

/-- The gate of a block's rows. -/
theorem open_at (h0 : ∀ i c, x0 (ix2 i c) = x i c) (h2 : ∀ z c, x2 (ix2 z c) = g c)
    (h3 : ∀ (n : Fin 8) (r : Fin 128) c, x3 (ix3 n r c) = wg ⟨128 * n + r, by omega⟩ c) (i : Fin 512) (c : Fin 1024) :
    k0_pay2 (F := Ideal) x0 x2 x3 (ix2 i c) = Ideal.logistic (∑ k, normed 1024 (x i) g k * wg k c) := by
  have hc : ∀ (k : Fin 1024) c, x3 (ix3 ⟨k / 128, by omega⟩ ⟨k % 128, by omega⟩ c) = wg k c := fun k c => by
    rw [h3]
    exact congrArg (fun e => wg e c) (Fin.ext (Nat.div_add_mod _ _))
  pointwise [k0_pay2, h0, h2, hc, word_1024, word_eps]
  simp only [normed]

/-- The `l`-th of the `k`-th 128 lanes. -/
abbrev lane (k : Fin 8) (l : Fin 128) : Fin 1024 := ⟨k * 128 + l, by omega⟩

/-- The eight parts of the embedding's weight a point loads. -/
structure Parts (we : Fin 256 → Fin 1024 → EReal) (d0 d1 d2 d3 d4 d5 d6 d7 : FVec Ideal S1x256x128 .bf16) : Prop where
  w0 : ∀ z r l, d0 (ix3 z r l) = we r (lane 0 l)
  w1 : ∀ z r l, d1 (ix3 z r l) = we r (lane 1 l)
  w2 : ∀ z r l, d2 (ix3 z r l) = we r (lane 2 l)
  w3 : ∀ z r l, d3 (ix3 z r l) = we r (lane 3 l)
  w4 : ∀ z r l, d4 (ix3 z r l) = we r (lane 4 l)
  w5 : ∀ z r l, d5 (ix3 z r l) = we r (lane 5 l)
  w6 : ∀ z r l, d6 (ix3 z r l) = we r (lane 6 l)
  w7 : ∀ z r l, d7 (ix3 z r l) = we r (lane 7 l)

theorem lane_at {s q : EReal} {i : Fin 512} {c : Fin 1024} (f : Fin 1024) (h : f.val = c.val) :
    s + q * (∑ k, p i k * we k f) = s + q * ∑ k, p i k * we k c := by rw [Fin.ext h]

/-- A block's rows. -/
theorem out_at (h0 : ∀ i c, x0 (ix2 i c) = x i c) (h1 : ∀ i c, x1 (ix2 i c) = p i c) (h2 : ∀ z c, x2 (ix2 z c) = g c)
    (h3 : ∀ (n : Fin 8) (r : Fin 128) c, x3 (ix3 n r c) = wg ⟨128 * n + r, by omega⟩ c) (h4 : Parts we d0 d1 d2 d3 d4 d5 d6 d7) (i : Fin 512) (c : Fin 1024) :
    k0_pay1 (F := Ideal) x0 (k0_pay2 x0 x2 x3) (k0_pay3 x1) (k0_pay4 x1 d0) (k0_pay5 x1 d1) (k0_pay6 x1 d2) d3 d4 d5 d6 d7 (ix2 i c) = ple x p g wg we i c := by
  pointwise [k0_pay1, k0_pay3, k0_pay4, k0_pay5, k0_pay6, h0, h1, open_at h0 h2 h3, h4.w0, h4.w1, h4.w2, h4.w3, h4.w4, h4.w5, h4.w6, h4.w7]
  unfold ple
  split_ifs <;> exact lane_at _ (by show _ * 128 + _ = c.val; simp only [Fin.isValue, Fin.val_ofNat]; omega)

end Cert.PleFwdBlock
-- ==== Proof.PleFwdArray.lean ====
/- The array the gated embedding leaves. -/
module

public import proofs.«01_k».proof.Proof.Gen.PleFwdIdeal.Value
public import proofs.«01_k».proof.Proof.PleFwdBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Reals Cert.FwdSpec

namespace Cert.PleFwdArray

open Cert.PleFwdIdeal Cert.PleFwdIdeal.Gen

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0, 0] ∧ win0_4.index t = ![0, 0, 0] ∧ win0_5.index t = ![t.val, 0] ∧ t.val < 8 :=
  (by decide +kernel : ∀ t : Fin grid0.N, _)

/-- A row of a block, as a row of its array. -/
abbrev row (t : Fin cfg0.N) (i : Fin 512) : Fin 4096 := ⟨t.val * 512 + i, by have := (idx t).2.2.2.2.2.2; omega⟩

variable (c : Dev nD)

theorem blk0 (t : Fin cfg0.N) (i : Fin 512) (k : Fin 1024) : (show FVec Ideal S512x1024 .f32 from iblk m c 0 t) (ix2 i k) = m ((c : Thread nD τ).loc main_arg0) (ix2 (row t i) k) := by
  blk_ext [iblk, V, idx t]

theorem blk1 (t : Fin cfg0.N) (i : Fin 512) (k : Fin 256) : (show FVec Ideal S512x256 .f32 from iblk m c 1 t) (ix2 i k) = m ((c : Thread nD τ).loc main_arg1) (ix2 (row t i) k) := by
  blk_ext [iblk, V, idx t]

theorem blk2 (t : Fin cfg0.N) (z : Fin 1) (k : Fin 1024) : (show FVec Ideal S1x1024 .f32 from iblk m c 2 t) (ix2 z k) = m ((c : Thread nD τ).loc main_arg2) (ix1 k) := by
  blk_point [iblk, V, idx t]

theorem blk3 (t : Fin cfg0.N) (n : Fin 8) (r : Fin 128) (k : Fin 1024) : (show FVec Ideal S8x128x1024 .bf16 from iblk m c 3 t) (ix3 n r k) = m ((c : Thread nD τ).loc main_arg3) (ix2 ⟨128 * n + r, by omega⟩ k) := by
  blk_point [iblk, V, idx t]

theorem blk4 (t : Fin cfg0.N) (n : Fin 8) (r : Fin 256) (l : Fin 128) : (show FVec Ideal S8x256x128 .bf16 from iblk m c 4 t) (ix3 n r l) = m ((c : Thread nD τ).loc main_arg4) (ix2 r (PleFwdBlock.lane n l)) := by
  blk_point [iblk, V, idx t]

set_option maxHeartbeats 4000000 in
/-- The array: every block is its rows of the lines. -/
theorem final : (dats m 0 c).arrAt 5 (cfgs 0).N = fun j => ple (fun i k => (m ((c : Thread nD τ).loc main_arg0)) (ix2 i k)) (fun i k => (m ((c : Thread nD τ).loc main_arg1)) (ix2 i k)) (fun k => (m ((c : Thread nD τ).loc main_arg2)) (ix1 k)) (fun i k => (m ((c : Thread nD τ).loc main_arg3)) (ix2 i k)) (fun i k => (m ((c : Thread nD τ).loc main_arg4)) (ix2 i k)) (j 0) (j 1) := by
  refine (dats m 0 c).arrAt_eq_of_covers 5 _ (by decide +kernel) fun t _ y => ?_
  have e : (win0_5.blk t).view.emb y = ix2 (row t (y 0)) (y 1) := by blk_ext [idx t]
  blk_simp
  rw [after0_5, e, eq_ix2 y]
  have p4 := blk4 m c t
  unfold out0_5
  frame_out
  exact PleFwdBlock.out_at (x := fun i k => m ((c : Thread nD τ).loc main_arg0) (ix2 (row t i) k)) (p := fun i k => m ((c : Thread nD τ).loc main_arg1) (ix2 (row t i) k)) (g := fun k => m ((c : Thread nD τ).loc main_arg2) (ix1 k)) (wg := fun i k => m ((c : Thread nD τ).loc main_arg3) (ix2 i k)) (we := fun i k => m ((c : Thread nD τ).loc main_arg4) (ix2 i k))
    (blk0 m c t) (blk1 m c t) (blk2 m c t) (blk3 m c t) (by constructor <;> intro z k l <;> pointwise [p4]) (y 0) (y 1)

end Cert.PleFwdArray
-- ==== Proof.PleFwdClaim.lean ====
/- The gated embedding against the problem's lines: the same array on any arguments. -/
module

public import proofs.«01_k».proof.Defs
public import proofs.«01_k».proof.Proof.Gen.PleFwdIdeal
public import proofs.«01_k».proof.Proof.Gen.PleFwdRefIdeal
public import proofs.«01_k».proof.Proof.PleFwdRef
public import proofs.«01_k».proof.Proof.PleFwdArray
public import Idealize.ShloMosaic.Lib.Claim

@[expose] public section

set_option maxRecDepth 16384

noncomputable section

open Idealize.ShloMosaic Idealize.ShloMosaic.TcCoe Idealize.SL.Sem

namespace Cert.PleFwdClaim

open Cert.PleFwdRefIdeal Cert.PleFwdRefIdeal.Gen Cert.PleFwdRefIdeal.Read in
/-- The run of the problem's lines: their result is its composed value, their arguments stay. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v22) = val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun r h c => by
    obtain ⟨r0, kept⟩ := h c
    exact ⟨r0.trans (val_main_v22_eq _ _ _ _ _), kept⟩) (Cert.PleFwdRefIdeal.Value.run m ρ)

/-- The lines' program keeps its arguments; it has no semaphore. -/
theorem frame : Cert.quiescent_PleFwdRefIdeal := fun m ρ _ =>
  (θ_run Cert.PleFwdRefIdeal.defs _ _).mono (fun r h => ⟨fun c => (h c).2, sem_eq_zero_of_no_sems (by decide) r.2⟩) (run m ρ)

/-- The kernel's array is theirs. -/
theorem value : Cert.algebraic_PleFwdIdeal_PleFwdRefIdeal := by
  intro m ρ m' ρ' hpre hagree
  refine ⟨_, Cert.PleFwdIdeal.Value.run_blocks (F := Ideal) m ρ, (θ_run Cert.PleFwdRefIdeal.defs _ _).mono (fun r h c => ?_) (run m' ρ')⟩
  obtain ⟨r0, kept⟩ := h c
  obtain ⟨e0, e1, e2, e3, e4⟩ := hagree c
  refine ⟨r0.trans ?_, kept⟩
  rw [e0, e1, e2, e3, e4]
  refine Eq.trans (funext fun j => ?_) (PleFwdArray.final m c).symm
  rw [eq_ix2 j]; exact PleFwdRef.out_at _ _

end Cert.PleFwdClaim
-- ==== Proof.AttnBits.lean ====
/- The float program of the attention's backward is the idealized one read at floats: its frame is the same theorem. -/
module

public import proofs.«01_k».proof.Proof.AttnDat
public import proofs.«01_k».proof.Proof.Gen.AttnBwd.Frame

@[expose] public section

set_option maxRecDepth 16384

noncomputable section

open Idealize.ShloMosaic Idealize.ShloMosaic.TcCoe Idealize.SL.Sem

namespace Cert.AttnBits

/-- Equal programs under equal definitions have the same runs. -/
theorem run_eq {F : FTy → Type} {Λ : Labels} {d d' : Defs Cert.AttnBwd.nD Cert.AttnBwd.τ Cert.AttnBwd.sig (Elt F) Λ}
    {p p' : Dev Cert.AttnBwd.nD → Prog (TpuEff Cert.AttnBwd.nD Cert.AttnBwd.τ Cert.AttnBwd.sig (Elt F) Λ .tc) PUnit}
    (hd : d = d') (hp : p = p') {s} {Q} (h : θ_run d' (onTc p') s Q) : θ_run d (onTc p) s Q := by
  subst hd hp; exact h

variable {F : FTy → Type} [FloatOps F]

set_option maxHeartbeats 4000000 in
theorem body_eq : Cert.AttnBwd.cc0_attn_bwd (F := F) = Cert.AttnBwdIdeal.cc0_attn_bwd (F := F) := rfl

set_option maxHeartbeats 4000000 in
/-- One kernel function, called by its grid point and its staging buffers. -/
theorem kernels_eq : Cert.AttnBwd.defs₀ (F := F) = Cert.AttnBwdIdeal.defs₀ (F := F) := by
  unfold Cert.AttnBwd.defs₀ Cert.AttnBwdIdeal.defs₀
  refine congrArg Defs.onTc (funext fun l => ?_)
  obtain ⟨l, hl⟩ := l
  obtain rfl : l = 0 := Nat.lt_one_iff.1 hl
  funext x
  obtain ⟨t, s⟩ := x
  dsimp only
  rw [body_eq]
  rfl

theorem defs_eq : Cert.AttnBwd.defs (F := F) = Cert.AttnBwdIdeal.defs (F := F) := congrArg (Pipeline.defs _) kernels_eq

set_option maxHeartbeats 4000000 in
theorem host_eq : Cert.AttnBwd.main_part0 (F := F) = Cert.AttnBwdIdeal.main_part0 (F := F) := by
  funext c
  unfold Cert.AttnBwd.main_part0 Cert.AttnBwdIdeal.main_part0
  rfl

set_option maxHeartbeats 4000000 in
theorem main_eq : Cert.AttnBwd.main (F := F) = Cert.AttnBwdIdeal.main (F := F) := by
  funext c
  unfold Cert.AttnBwd.main Cert.AttnBwdIdeal.main
  rw [host_eq]
  rfl

open Cert.AttnBwd Cert.AttnBwd.Gen

variable (m : (ℓ : Loc nD τ sig) → Buf (Elt Bits) ℓ) (ρ : Dev nD → PrngReg)

set_option maxHeartbeats 4000000 in
theorem frame : θ_run defs (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) := run_eq defs_eq main_eq (Cert.AttnDat.frame (F := Bits) m ρ)

end Cert.AttnBits
-- ==== Proof.FrontBits.lean ====
/- The float program of the front's backward is the idealized one read at floats: its frame is the same theorem. -/
module

public import proofs.«01_k».proof.Proof.FrontDat
public import proofs.«01_k».proof.Proof.Gen.FrontBwd.Points
public import Idealize.ShloMosaic.PureOps.BitExact

@[expose] public section

set_option maxRecDepth 16384

noncomputable section

open Idealize.ShloMosaic Idealize.ShloMosaic.TcCoe Idealize.SL.Sem

namespace Cert.FrontBits

/-- Equal programs under equal definitions have the same runs. -/
theorem run_eq {F : FTy → Type} {Λ : Labels} {d d' : Defs Cert.FrontBwd.nD Cert.FrontBwd.τ Cert.FrontBwd.sig (Elt F) Λ}
    {p p' : Dev Cert.FrontBwd.nD → Prog (TpuEff Cert.FrontBwd.nD Cert.FrontBwd.τ Cert.FrontBwd.sig (Elt F) Λ .tc) PUnit}
    (hd : d = d') (hp : p = p') {s} {Q} (h : θ_run d' (onTc p') s Q) : θ_run d (onTc p) s Q := by
  subst hd hp; exact h

variable {F : FTy → Type} [FloatOps F]

set_option maxHeartbeats 4000000 in
theorem body_eq : Cert.FrontBwd.cc0_front_bwd (F := F) = Cert.FrontBwdIdeal.cc0_front_bwd (F := F) := rfl

set_option maxHeartbeats 4000000 in
/-- One kernel function, called by its grid point and its staging buffers. -/
theorem kernels_eq : Cert.FrontBwd.defs₀ (F := F) = Cert.FrontBwdIdeal.defs₀ (F := F) := by
  unfold Cert.FrontBwd.defs₀ Cert.FrontBwdIdeal.defs₀
  refine congrArg Defs.onTc (funext fun l => ?_)
  obtain ⟨l, hl⟩ := l
  obtain rfl : l = 0 := Nat.lt_one_iff.1 hl
  funext x
  obtain ⟨t, s⟩ := x
  dsimp only
  rw [body_eq]
  rfl

set_option maxHeartbeats 4000000 in
theorem defs_eq : Cert.FrontBwd.defs (F := F) = Cert.FrontBwdIdeal.defs (F := F) := by
  unfold Cert.FrontBwd.defs Cert.FrontBwdIdeal.defs
  rw [kernels_eq]
  sl_kernel_rfl

set_option maxHeartbeats 4000000 in
theorem host_eq0 : Cert.FrontBwd.main_part0 (F := F) = Cert.FrontBwdIdeal.main_part0 (F := F) := by
  funext c
  unfold Cert.FrontBwd.main_part0 Cert.FrontBwdIdeal.main_part0
  rfl

set_option maxHeartbeats 4000000 in
theorem host_eq1 : Cert.FrontBwd.main_part1 (F := F) = Cert.FrontBwdIdeal.main_part1 (F := F) := by
  funext c
  unfold Cert.FrontBwd.main_part1 Cert.FrontBwdIdeal.main_part1
  rfl

set_option maxHeartbeats 4000000 in
theorem host_eq2 : Cert.FrontBwd.main_part2 (F := F) = Cert.FrontBwdIdeal.main_part2 (F := F) := by
  funext c
  unfold Cert.FrontBwd.main_part2 Cert.FrontBwdIdeal.main_part2
  rfl

set_option maxHeartbeats 4000000 in
theorem main_eq : Cert.FrontBwd.main (F := F) = Cert.FrontBwdIdeal.main (F := F) := by
  funext c
  unfold Cert.FrontBwd.main Cert.FrontBwdIdeal.main
  rw [host_eq0, host_eq1, host_eq2]
  rfl

open Cert.FrontBwd Cert.FrontBwd.Gen

variable (m : (ℓ : Loc nD τ sig) → Buf (Elt Bits) ℓ) (ρ : Dev nD → PrngReg)

set_option maxHeartbeats 4000000 in
theorem frame : θ_run defs (onTc (τ := τ) (main (F := Bits))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17))
    ∧ r.2.sem = fun _ => 0) := run_eq defs_eq main_eq (Cert.FrontDat.frame (F := Bits) m ρ)

end Cert.FrontBits
-- ==== Proof.lean ====
/- Every claim about the backward calls, from its own module. -/
module

public import proofs.«01_k».proof.Proof.MixClaim
public import proofs.«01_k».proof.Proof.AttnClaim
public import proofs.«01_k».proof.Proof.MlpClaim
public import proofs.«01_k».proof.Proof.PleClaim
public import proofs.«01_k».proof.Proof.LossClaim
public import proofs.«01_k».proof.Proof.FrontClaim
public import proofs.«01_k».proof.Proof.MixFwdClaim
public import proofs.«01_k».proof.Proof.MlpFwdClaim
public import proofs.«01_k».proof.Proof.PleFwdClaim
public import proofs.«01_k».proof.Proof.AttnBits
public import proofs.«01_k».proof.Proof.FrontBits
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdRefIdeal
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Gen.MlpBwd
public import proofs.«01_k».proof.Proof.Gen.MlpBwd.Frame
public import proofs.«01_k».proof.Proof.Gen.MlpBwdIdeal
public import proofs.«01_k».proof.Proof.Gen.MlpBwdIdeal.Frame
public import proofs.«01_k».proof.Proof.Gen.MlpBwdRefIdeal
public import proofs.«01_k».proof.Proof.Gen.PleBwd
public import proofs.«01_k».proof.Proof.Gen.PleBwd.Frame
public import proofs.«01_k».proof.Proof.Gen.PleBwdIdeal
public import proofs.«01_k».proof.Proof.Gen.PleBwdIdeal.Frame
public import proofs.«01_k».proof.Proof.Gen.PleBwdRefIdeal
public import proofs.«01_k».proof.Proof.Gen.LossGrad
public import proofs.«01_k».proof.Proof.Gen.LossGrad.Frame
public import proofs.«01_k».proof.Proof.Gen.LossGradIdeal
public import proofs.«01_k».proof.Proof.Gen.LossGradIdeal.Frame
public import proofs.«01_k».proof.Proof.Gen.LossGradRefIdeal
public import proofs.«01_k».proof.Proof.Gen.FrontBwd
public import proofs.«01_k».proof.Proof.Gen.FrontBwdIdeal
public import proofs.«01_k».proof.Proof.Gen.FrontBwdRefIdeal
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdRefIdeal
public import proofs.«01_k».proof.Proof.Gen.MlpFwd
public import proofs.«01_k».proof.Proof.Gen.MlpFwd.Frame
public import proofs.«01_k».proof.Proof.Gen.MlpFwdIdeal
public import proofs.«01_k».proof.Proof.Gen.MlpFwdIdeal.Frame
public import proofs.«01_k».proof.Proof.Gen.MlpFwdRefIdeal
public import proofs.«01_k».proof.Proof.Gen.PleFwd
public import proofs.«01_k».proof.Proof.Gen.PleFwd.Frame
public import proofs.«01_k».proof.Proof.Gen.PleFwdIdeal
public import proofs.«01_k».proof.Proof.Gen.PleFwdIdeal.Frame
public import proofs.«01_k».proof.Proof.Gen.PleFwdRefIdeal
public import proofs.«01_k».proof.Proof.Gen.Pre_mix_bwd_finite
public import proofs.«01_k».proof.Proof.Gen.Pre_attn_bwd_finite
public import proofs.«01_k».proof.Proof.Gen.Pre_mlp_bwd_finite
public import proofs.«01_k».proof.Proof.Gen.Pre_ple_bwd_finite
public import proofs.«01_k».proof.Proof.Gen.MixBwdRefIdeal.Run
public import proofs.«01_k».proof.Proof.Gen.MixBwdRefIdeal.Read
public import proofs.«01_k».proof.Proof.Gen.MixFwdRefIdeal.Run
public import proofs.«01_k».proof.Proof.Gen.MixFwdRefIdeal.Read
public import proofs.«01_k».proof.Proof.Gen.MixBwdIdeal.Value
public import proofs.«01_k».proof.Proof.Gen.MixFwdIdeal.Value
public import proofs.«01_k».proof.Proof.Gen.AttnBwdRefIdeal.Run
public import proofs.«01_k».proof.Proof.Gen.AttnBwdRefIdeal.Read
public import proofs.«01_k».proof.Proof.Gen.MlpBwdRefIdeal.Run
public import proofs.«01_k».proof.Proof.Gen.MlpBwdRefIdeal.Read
public import proofs.«01_k».proof.Proof.Gen.MlpFwdRefIdeal.Run
public import proofs.«01_k».proof.Proof.Gen.MlpFwdRefIdeal.Read
public import proofs.«01_k».proof.Proof.Gen.MlpBwdIdeal.Value
public import proofs.«01_k».proof.Proof.Gen.MlpFwdIdeal.Value
public import proofs.«01_k».proof.Proof.Gen.PleBwdRefIdeal.Run
public import proofs.«01_k».proof.Proof.Gen.PleBwdRefIdeal.Read
public import proofs.«01_k».proof.Proof.Gen.PleFwdRefIdeal.Run
public import proofs.«01_k».proof.Proof.Gen.PleFwdRefIdeal.Read
public import proofs.«01_k».proof.Proof.Gen.PleBwdIdeal.Value
public import proofs.«01_k».proof.Proof.Gen.PleFwdIdeal.Value
public import proofs.«01_k».proof.Proof.Gen.LossGradRefIdeal.Run
public import proofs.«01_k».proof.Proof.Gen.LossGradRefIdeal.Read
public import proofs.«01_k».proof.Proof.Gen.LossGradIdeal.Value
public import proofs.«01_k».proof.Proof.Gen.FrontBwdRefIdeal.Run
public import proofs.«01_k».proof.Proof.Gen.FrontBwdRefIdeal.Read
public import proofs.«01_k».proof.Defs
public import Idealize.ShloMosaic.Adequacy
public import Idealize.ShloMosaic.Init

@[expose] public section

noncomputable section

namespace Cert.Proof

open Idealize.ShloMosaic Idealize.SL.Sem

/-- Frames and equations of all the calls. -/
theorem claim : Cert.Claim := ⟨Cert.MixBwd.Gen.facts, Cert.MixBwdIdeal.Gen.facts, Cert.MixBwdRefIdeal.Gen.facts, Cert.AttnBwd.Gen.facts, Cert.AttnBwdIdeal.Gen.facts, Cert.AttnBwdRefIdeal.Gen.facts, Cert.MlpBwd.Gen.facts, Cert.MlpBwdIdeal.Gen.facts, Cert.MlpBwdRefIdeal.Gen.facts, Cert.PleBwd.Gen.facts, Cert.PleBwdIdeal.Gen.facts, Cert.PleBwdRefIdeal.Gen.facts, Cert.LossGrad.Gen.facts, Cert.LossGradIdeal.Gen.facts, Cert.LossGradRefIdeal.Gen.facts, Cert.FrontBwd.Gen.facts, Cert.FrontBwdIdeal.Gen.facts, Cert.FrontBwdRefIdeal.Gen.facts, Cert.MixFwd.Gen.facts, Cert.MixFwdIdeal.Gen.facts, Cert.MixFwdRefIdeal.Gen.facts, Cert.MlpFwd.Gen.facts, Cert.MlpFwdIdeal.Gen.facts, Cert.MlpFwdRefIdeal.Gen.facts, Cert.PleFwd.Gen.facts, Cert.PleFwdIdeal.Gen.facts, Cert.PleFwdRefIdeal.Gen.facts, Cert.Pre_mix_bwd_finite.Gen.facts, Cert.Pre_attn_bwd_finite.Gen.facts, Cert.Pre_mlp_bwd_finite.Gen.facts, Cert.Pre_ple_bwd_finite.Gen.facts,
  fun m ρ _ => Cert.MixBwd.Gen.frame m ρ,
  fun m ρ _ => Cert.MixBwdIdeal.Gen.frame m ρ,
  fun m ρ _ => Cert.MixBwdIdeal.Gen.frame m ρ,
  Cert.MixClaim.frame,
  fun m ρ _ => Cert.MixClaim.frame m ρ trivial,
  fun m ρ _ => Cert.AttnBits.frame m ρ,
  fun m ρ _ => Cert.AttnDat.frame m ρ,
  fun m ρ _ => Cert.AttnDat.frame m ρ,
  Cert.AttnClaim.frame,
  fun m ρ _ => Cert.AttnClaim.frame m ρ trivial,
  fun m ρ _ => Cert.MlpBwd.Gen.frame m ρ,
  fun m ρ _ => Cert.MlpBwdIdeal.Gen.frame m ρ,
  fun m ρ _ => Cert.MlpBwdIdeal.Gen.frame m ρ,
  Cert.MlpClaim.frame,
  fun m ρ _ => Cert.MlpClaim.frame m ρ trivial,
  fun m ρ _ => Cert.PleBwd.Gen.frame m ρ,
  fun m ρ _ => Cert.PleBwdIdeal.Gen.frame m ρ,
  fun m ρ _ => Cert.PleBwdIdeal.Gen.frame m ρ,
  Cert.PleClaim.frame,
  fun m ρ _ => Cert.PleClaim.frame m ρ trivial,
  fun m ρ _ => Cert.LossGrad.Gen.frame m ρ,
  fun m ρ _ => Cert.LossGradIdeal.Gen.frame m ρ,
  Cert.LossClaim.frame,
  fun m ρ _ => Cert.FrontBits.frame m ρ,
  fun m ρ _ => Cert.FrontDat.frame m ρ,
  Cert.FrontClaim.frame,
  fun m ρ _ => Cert.MixFwd.Gen.frame m ρ,
  fun m ρ _ => Cert.MixFwdIdeal.Gen.frame m ρ,
  Cert.MixFwdClaim.frame,
  fun m ρ _ => Cert.MlpFwd.Gen.frame m ρ,
  fun m ρ _ => Cert.MlpFwdIdeal.Gen.frame m ρ,
  Cert.MlpFwdClaim.frame,
  fun m ρ _ => Cert.PleFwd.Gen.frame m ρ,
  fun m ρ _ => Cert.PleFwdIdeal.Gen.frame m ρ,
  Cert.PleFwdClaim.frame,
  trivial,
  Cert.MixClaim.value,
  trivial,
  Cert.AttnClaim.value,
  trivial,
  Cert.MlpClaim.value,
  trivial,
  Cert.PleClaim.value,
  trivial,
  Cert.LossClaim.value,
  trivial,
  Cert.FrontClaim.value,
  trivial,
  Cert.MixFwdClaim.value,
  trivial,
  Cert.MlpFwdClaim.value,
  trivial,
  Cert.PleFwdClaim.value⟩

end Cert.Proof

end
